-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v316) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel) (hPre_drawn := hPre_drawn)
    ∧ quiescent_KernelIdeal (hKernelIdeal := hKernelIdeal) (hPre_drawn := hPre_drawn)
    ∧ quiescent_ReferenceIdeal (hReferenceIdeal := hReferenceIdeal) (hPre_drawn := hPre_drawn)
    ∧ preserves_Kernel_KernelIdeal
    ∧ algebraic_KernelIdeal_ReferenceIdeal (hKernelIdeal := hKernelIdeal) (hReferenceIdeal := hReferenceIdeal) (hPre_drawn := hPre_drawn)
-- ==== Pre_drawn.lean ====
abbrev S8192x128 : Shape := ⟨2, ![8192, 128]⟩
abbrev S20000x128 : Shape := ⟨2, ![20000, 128]⟩
abbrev S256x256 : Shape := ⟨2, ![256, 256]⟩
abbrev S256 : Shape := ⟨1, ![256]⟩
abbrev S125x32 : Shape := ⟨2, ![125, 32]⟩
abbrev S10x32 : Shape := ⟨2, ![10, 32]⟩
abbrev S192x128 : Shape := ⟨2, ![192, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S256x128 : Shape := ⟨2, ![256, 128]⟩
abbrev S128x200 : Shape := ⟨2, ![128, 200]⟩
abbrev S200 : Shape := ⟨1, ![200]⟩
abbrev S_ : Shape := ⟨0, ![]⟩

class Facts : Prop where
  bcast_S_S256x256 : S_.BroadcastsInDim S256x256 (![] : Fin 0 → Fin S256x256.rank)
  bcast_S_S256 : S_.BroadcastsInDim S256 (![] : Fin 0 → Fin S256.rank)
  reducesTo_S256x256_S_d0_1 : S256x256.ReducesTo [0, 1] S_
  h_S_ : 0 < S_.numel
  reducesTo_S256_S_d0 : S256.ReducesTo [0] S_

variable [Facts]

def fn_part1 {F : FTy → Type} [FloatOps F] (main_arg4 : IVec S256x256 32) (main_arg5 : IVec S256 32) (main_v13 : IVec S256x256 1) (main_v15 : IVec S256x256 1) (main_v17 : IVec S256x256 1) : IVec S_ 1 :=
  let main_v18 : IVec S256x256 1 := andi main_v15 main_v17
  let main_c_5 : IVec S_ 32 := constantI S_ 32 0#32
  let main_v19 : IVec S256x256 32 := broadcastInDim S256x256 ![] bcast_S_S256x256 main_c_5
  let main_v20 : IVec S256x256 1 := cmpi .sge main_arg4 main_v19
  let main_c_6 : IVec S_ 32 := constantI S_ 32 10#32
  let main_v21 : IVec S256x256 32 := broadcastInDim S256x256 ![] bcast_S_S256x256 main_c_6
  let main_v22 : IVec S256x256 1 := cmpi .slt main_arg4 main_v21
  let main_v23 : IVec S256x256 1 := andi main_v20 main_v22
  let main_c_7 : IVec S_ 32 := constantI S_ 32 0#32
  let main_v24 : IVec S256 32 := broadcastInDim S256 ![] bcast_S_S256 main_c_7
  let main_v25 : IVec S256 1 := cmpi .sge main_arg5 main_v24
  let main_c_8 : IVec S_ 32 := constantI S_ 32 20000#32
  let main_v26 : IVec S256 32 := broadcastInDim S256 ![] bcast_S_S256 main_c_8
  let main_v27 : IVec S256 1 := cmpi .slt main_arg5 main_v26
  let main_v28 : IVec S256 1 := andi main_v25 main_v27
  let main_v29 : IVec S256x256 1 := andi main_v13 main_v18
  let main_v30 : IVec S256x256 1 := andi main_v29 main_v23
  let main_c_9 : IVec S_ 1 := constantI S_ 1 1#1
  let main_v31 : IVec S_ 1 := (fun x v => Host.reduce IntOp.andi x v reducesTo_S256x256_S_d0_1 h_S_) main_v30 main_c_9
  let main_c_10 : IVec S_ 1 := constantI S_ 1 1#1
  let main_v32 : IVec S_ 1 := (fun x v => Host.reduce IntOp.andi x v reducesTo_S256_S_d0 h_S_) main_v28 main_c_10
  let main_v33 : IVec S_ 1 := andi main_v31 main_v32
  main_v33

def fn {F : FTy → Type} [FloatOps F] (main_arg0 : FVec F S8192x128 .f32) (main_arg1 : FVec F S20000x128 .f32) (main_arg2 : IVec S256x256 32) (main_arg3 : IVec S256x256 32) (main_arg4 : IVec S256x256 32) (main_arg5 : IVec S256 32) (main_arg6 : FVec F S125x32 .f32) (main_arg7 : FVec F S10x32 .f32) (main_arg8 : FVec F S192x128 .f32) (main_arg9 : FVec F S128 .f32) (main_arg10 : FVec F S2x128x128 .f32) (main_arg11 : FVec F S2x128x128 .f32) (main_arg12 : FVec F S2x128x128 .f32) (main_arg13 : FVec F S2x128x128 .f32) (main_arg14 : FVec F S2x128 .f32) (main_arg15 : FVec F S2x128 .f32) (main_arg16 : FVec F S2x128x512 .f32) (main_arg17 : FVec F S2x512 .f32) (main_arg18 : FVec F S2x512x128 .f32) (main_arg19 : FVec F S2x128 .f32) (main_arg20 : FVec F S2x128 .f32) (main_arg21 : FVec F S2x128 .f32) (main_arg22 : FVec F S256x128 .f32) (main_arg23 : FVec F S128 .f32) (main_arg24 : FVec F S128x200 .f32) (main_arg25 : FVec F S200 .f32) : IVec S_ 1 :=
  let main_v0 : IVec S256x256 32 := iotaInDim S256x256 32 1
  let main_c : IVec S_ 32 := constantI S_ 32 192#32
  let main_v1 : IVec S256x256 32 := broadcastInDim S256x256 ![] bcast_S_S256x256 main_c
  let main_v2 : IVec S256x256 1 := cmpi .sge main_v0 main_v1
  let main_c_0 : IVec S_ 32 := constantI S_ 32 0#32
  let main_v3 : IVec S256x256 32 := broadcastInDim S256x256 ![] bcast_S_S256x256 main_c_0
  let main_v4 : IVec S256x256 1 := cmpi .sge main_arg2 main_v3
  let main_c_1 : IVec S_ 32 := constantI S_ 32 8192#32
  let main_v5 : IVec S256x256 32 := broadcastInDim S256x256 ![] bcast_S_S256x256 main_c_1
  let main_v6 : IVec S256x256 1 := cmpi .slt main_arg2 main_v5
  let main_v7 : IVec S256x256 1 := andi main_v4 main_v6
  let main_c_2 : IVec S_ 32 := constantI S_ 32 0#32
  let main_v8 : IVec S256x256 32 := broadcastInDim S256x256 ![] bcast_S_S256x256 main_c_2
  let main_v9 : IVec S256x256 1 := cmpi .slt main_arg2 main_v8
  let main_v10 : IVec S256x256 1 := andi main_v2 main_v9
  let main_v11 : IVec S256x256 1 := noti main_v2
  let main_v12 : IVec S256x256 1 := andi main_v11 main_v7
  let main_v13 : IVec S256x256 1 := ori main_v10 main_v12
  let main_c_3 : IVec S_ 32 := constantI S_ 32 0#32
  let main_v14 : IVec S256x256 32 := broadcastInDim S256x256 ![] bcast_S_S256x256 main_c_3
  let main_v15 : IVec S256x256 1 := cmpi .sge main_arg3 main_v14
  let main_c_4 : IVec S_ 32 := constantI S_ 32 125#32
  let main_v16 : IVec S256x256 32 := broadcastInDim S256x256 ![] bcast_S_S256x256 main_c_4
  let main_v17 : IVec S256x256 1 := cmpi .slt main_arg3 main_v16
  fn_part1 (F := F) main_arg4 main_arg5 main_v13 main_v15 main_v17
-- ==== Kernel.lean ====
abbrev S8192x128 : Shape := ⟨2, ![8192, 128]⟩
abbrev S20000x128 : Shape := ⟨2, ![20000, 128]⟩
abbrev S256x256 : Shape := ⟨2, ![256, 256]⟩
abbrev S256 : Shape := ⟨1, ![256]⟩
abbrev S125x32 : Shape := ⟨2, ![125, 32]⟩
abbrev S10x32 : Shape := ⟨2, ![10, 32]⟩
abbrev S192x128 : Shape := ⟨2, ![192, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S256x128 : Shape := ⟨2, ![256, 128]⟩
abbrev S128x200 : Shape := ⟨2, ![128, 200]⟩
abbrev S200 : Shape := ⟨1, ![200]⟩
abbrev S_ : Shape := ⟨0, ![]⟩
abbrev S125x10x32 : Shape := ⟨3, ![125, 10, 32]⟩
abbrev S1250x32 : Shape := ⟨2, ![1250, 32]⟩
abbrev S1x10x1x32 : Shape := ⟨4, ![1, 10, 1, 32]⟩
abbrev S125x10x1x32 : Shape := ⟨4, ![125, 10, 1, 32]⟩
abbrev S1250x64 : Shape := ⟨2, ![1250, 64]⟩
abbrev S1256x64 : Shape := ⟨2, ![1256, 64]⟩
abbrev S2x128x384 : Shape := ⟨3, ![2, 128, 384]⟩
abbrev S128x128 : Shape := ⟨2, ![128, 128]⟩
abbrev S64x128 : Shape := ⟨2, ![64, 128]⟩
abbrev S1x128 : Shape := ⟨2, ![1, 128]⟩
abbrev S2x1x128 : Shape := ⟨3, ![2, 1, 128]⟩
abbrev S2x1x512 : Shape := ⟨3, ![2, 1, 512]⟩
abbrev S8x128 : Shape := ⟨2, ![8, 128]⟩
abbrev S2048x128 : Shape := ⟨2, ![2048, 128]⟩
abbrev S2048x64 : Shape := ⟨2, ![2048, 64]⟩
abbrev S8x64 : Shape := ⟨2, ![8, 64]⟩
abbrev S1x1 : Shape := ⟨2, ![1, 1]⟩
abbrev S256x64 : Shape := ⟨2, ![256, 64]⟩
abbrev S1x128x384 : Shape := ⟨3, ![1, 128, 384]⟩
abbrev S128x384 : Shape := ⟨2, ![128, 384]⟩
abbrev S256x384 : Shape := ⟨2, ![256, 384]⟩
abbrev S192x64 : Shape := ⟨2, ![192, 64]⟩
abbrev S256x192 : Shape := ⟨2, ![256, 192]⟩
abbrev S256x1 : Shape := ⟨2, ![256, 1]⟩
abbrev S1x128x128 : Shape := ⟨3, ![1, 128, 128]⟩
abbrev S1x1x128 : Shape := ⟨3, ![1, 1, 128]⟩
abbrev S1x128x512 : Shape := ⟨3, ![1, 128, 512]⟩
abbrev S128x512 : Shape := ⟨2, ![128, 512]⟩
abbrev S256x512 : Shape := ⟨2, ![256, 512]⟩
abbrev S1x1x512 : Shape := ⟨3, ![1, 1, 512]⟩
abbrev S1x512 : Shape := ⟨2, ![1, 512]⟩
abbrev S1x512x128 : Shape := ⟨3, ![1, 512, 128]⟩
abbrev S512x128 : Shape := ⟨2, ![512, 128]⟩
abbrev S20480x128 : Shape := ⟨2, ![20480, 128]⟩
abbrev S1x200 : Shape := ⟨2, ![1, 200]⟩
abbrev S256x200 : Shape := ⟨2, ![256, 200]⟩
abbrev S1 : Shape := ⟨1, ![1]⟩
abbrev S128x1 : Shape := ⟨2, ![128, 1]⟩
abbrev S1024x128 : Shape := ⟨2, ![1024, 128]⟩
abbrev S128x1024 : Shape := ⟨2, ![128, 1024]⟩
abbrev S128x256 : Shape := ⟨2, ![128, 256]⟩

abbrev nBuf : Space → Nat
  | .hbm => 68
  | .vmem => 31
  | .smem => 2
  | _ => 0

abbrev bufTy : (tb : Table) → Fin (tcTables nBuf tb) → BufTy
  | .hbm, ⟨0, _⟩ => ⟨S8192x128, .f32⟩
  | .hbm, ⟨1, _⟩ => ⟨S20000x128, .f32⟩
  | .hbm, ⟨2, _⟩ => ⟨S256x256, .i32⟩
  | .hbm, ⟨3, _⟩ => ⟨S256x256, .i32⟩
  | .hbm, ⟨4, _⟩ => ⟨S256x256, .i32⟩
  | .hbm, ⟨5, _⟩ => ⟨S256, .i32⟩
  | .hbm, ⟨6, _⟩ => ⟨S125x32, .f32⟩
  | .hbm, ⟨7, _⟩ => ⟨S10x32, .f32⟩
  | .hbm, ⟨8, _⟩ => ⟨S192x128, .f32⟩
  | .hbm, ⟨9, _⟩ => ⟨S128, .f32⟩
  | .hbm, ⟨10, _⟩ => ⟨S2x128x128, .f32⟩
  | .hbm, ⟨11, _⟩ => ⟨S2x128x128, .f32⟩
  | .hbm, ⟨12, _⟩ => ⟨S2x128x128, .f32⟩
  | .hbm, ⟨13, _⟩ => ⟨S2x128x128, .f32⟩
  | .hbm, ⟨14, _⟩ => ⟨S2x128, .f32⟩
  | .hbm, ⟨15, _⟩ => ⟨S2x128, .f32⟩
  | .hbm, ⟨16, _⟩ => ⟨S2x128x512, .f32⟩
  | .hbm, ⟨17, _⟩ => ⟨S2x512, .f32⟩
  | .hbm, ⟨18, _⟩ => ⟨S2x512x128, .f32⟩
  | .hbm, ⟨19, _⟩ => ⟨S2x128, .f32⟩
  | .hbm, ⟨20, _⟩ => ⟨S2x128, .f32⟩
  | .hbm, ⟨21, _⟩ => ⟨S2x128, .f32⟩
  | .hbm, ⟨22, _⟩ => ⟨S256x128, .f32⟩
  | .hbm, ⟨23, _⟩ => ⟨S128, .f32⟩
  | .hbm, ⟨24, _⟩ => ⟨S128x200, .f32⟩
  | .hbm, ⟨25, _⟩ => ⟨S200, .f32⟩
  | .hbm, ⟨26, _⟩ => ⟨S256x128, .f32⟩
  | .hbm, ⟨27, _⟩ => ⟨S_, .i32⟩
  | .hbm, ⟨28, _⟩ => ⟨S256x256, .i32⟩
  | .hbm, ⟨29, _⟩ => ⟨S256x256, .i1⟩
  | .hbm, ⟨30, _⟩ => ⟨S_, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S_, .i32⟩
  | .hbm, ⟨35, _⟩ => ⟨S256x256, .i32⟩
  | .hbm, ⟨36, _⟩ => ⟨S256x256, .i32⟩
  | .hbm, ⟨37, _⟩ => ⟨S_, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S125x10x32, .f32⟩
  | .hbm, ⟨43, _⟩ => ⟨S1250x32, .f32⟩
  | .hbm, ⟨44, _⟩ => ⟨S1x10x1x32, .f32⟩
  | .hbm, ⟨45, _⟩ => ⟨S125x10x1x32, .f32⟩
  | .hbm, ⟨46, _⟩ => ⟨S1250x32, .f32⟩
  | .hbm, ⟨47, _⟩ => ⟨S1250x64, .f32⟩
  | .hbm, ⟨48, _⟩ => ⟨S_, .i32⟩
  | .hbm, ⟨49, _⟩ => ⟨S_, .f32⟩
  | .hbm, ⟨50, _⟩ => ⟨S1256x64, .f32⟩
  | .hbm, ⟨51, _⟩ => ⟨S2x128x384, .f32⟩
  | .hbm, ⟨52, _⟩ => ⟨S128x128, .f32⟩
  | .hbm, ⟨53, _⟩ => ⟨S64x128, .f32⟩
  | .hbm, ⟨54, _⟩ => ⟨S1x128, .f32⟩
  | .hbm, ⟨55, _⟩ => ⟨S2x1x128, .f32⟩
  | .hbm, ⟨56, _⟩ => ⟨S2x1x128, .f32⟩
  | .hbm, ⟨57, _⟩ => ⟨S2x1x512, .f32⟩
  | .hbm, ⟨58, _⟩ => ⟨S2x1x128, .f32⟩
  | .hbm, ⟨59, _⟩ => ⟨S2x1x128, .f32⟩
  | .hbm, ⟨60, _⟩ => ⟨S2x1x128, .f32⟩
  | .hbm, ⟨61, _⟩ => ⟨S256x128, .f32⟩
  | .hbm, ⟨62, _⟩ => ⟨S_, .i32⟩
  | .hbm, ⟨63, _⟩ => ⟨S_, .f32⟩
  | .hbm, ⟨64, _⟩ => ⟨S20480x128, .f32⟩
  | .hbm, ⟨65, _⟩ => ⟨S1x128, .f32⟩
  | .hbm, ⟨66, _⟩ => ⟨S1x200, .f32⟩
  | .hbm, ⟨67, _⟩ => ⟨S256x200, .f32⟩
  | .local _ .vmem, ⟨0, _⟩ => ⟨S8192x128, .f32⟩
  | .local _ .vmem, ⟨1, _⟩ => ⟨S1256x64, .f32⟩
  | .local _ .vmem, ⟨2, _⟩ => ⟨S256x128, .f32⟩
  | .local _ .vmem, ⟨3, _⟩ => ⟨S128x128, .f32⟩
  | .local _ .vmem, ⟨4, _⟩ => ⟨S64x128, .f32⟩
  | .local _ .vmem, ⟨5, _⟩ => ⟨S1x128, .f32⟩
  | .local _ .vmem, ⟨6, _⟩ => ⟨S2x128x384, .f32⟩
  | .local _ .vmem, ⟨7, _⟩ => ⟨S2x128x128, .f32⟩
  | .local _ .vmem, ⟨8, _⟩ => ⟨S2x1x128, .f32⟩
  | .local _ .vmem, ⟨9, _⟩ => ⟨S2x1x128, .f32⟩
  | .local _ .vmem, ⟨10, _⟩ => ⟨S2x128x512, .f32⟩
  | .local _ .vmem, ⟨11, _⟩ => ⟨S2x1x512, .f32⟩
  | .local _ .vmem, ⟨12, _⟩ => ⟨S2x512x128, .f32⟩
  | .local _ .vmem, ⟨13, _⟩ => ⟨S2x1x128, .f32⟩
  | .local _ .vmem, ⟨14, _⟩ => ⟨S2x1x128, .f32⟩
  | .local _ .vmem, ⟨15, _⟩ => ⟨S2x1x128, .f32⟩
  | .local _ .vmem, ⟨16, _⟩ => ⟨S8x128, .f32⟩
  | .local _ .vmem, ⟨17, _⟩ => ⟨S8x128, .f32⟩
  | .local _ .vmem, ⟨18, _⟩ => ⟨S2048x128, .f32⟩
  | .local _ .vmem, ⟨19, _⟩ => ⟨S2048x64, .f32⟩
  | .local _ .vmem, ⟨20, _⟩ => ⟨S2048x128, .f32⟩
  | .local _ .vmem, ⟨21, _⟩ => ⟨S20480x128, .f32⟩
  | .local _ .vmem, ⟨22, _⟩ => ⟨S128x128, .f32⟩
  | .local _ .vmem, ⟨23, _⟩ => ⟨S128x128, .f32⟩
  | .local _ .vmem, ⟨24, _⟩ => ⟨S256x128, .f32⟩
  | .local _ .vmem, ⟨25, _⟩ => ⟨S1x128, .f32⟩
  | .local _ .vmem, ⟨26, _⟩ => ⟨S128x200, .f32⟩
  | .local _ .vmem, ⟨27, _⟩ => ⟨S1x200, .f32⟩
  | .local _ .vmem, ⟨28, _⟩ => ⟨S128x200, .f32⟩
  | .local _ .vmem, ⟨29, _⟩ => ⟨S128x200, .f32⟩
  | .local _ .vmem, ⟨30, _⟩ => ⟨S128x128, .f32⟩
  | .local _ .smem, ⟨0, _⟩ => ⟨S256x256, .i32⟩
  | .local _ .smem, ⟨1, _⟩ => ⟨S256, .i32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_c_0 : Ref sig .tc := ⟨.hbm, 30, rfl⟩
abbrev main_call0_v0 : Ref sig .tc := ⟨.hbm, 31, rfl⟩
abbrev main_call0_v1 : Ref sig .tc := ⟨.hbm, 32, rfl⟩
abbrev main_v2 : Ref sig .tc := ⟨.hbm, 33, rfl⟩
abbrev main_c_1 : Ref sig .tc := ⟨.hbm, 34, rfl⟩
abbrev main_v3 : Ref sig .tc := ⟨.hbm, 35, rfl⟩
abbrev main_v4 : Ref sig .tc := ⟨.hbm, 36, rfl⟩
abbrev main_c_2 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_3 : Ref sig .tc := ⟨.hbm, 48, rfl⟩
abbrev main_call1_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c_4 : Ref sig .tc := ⟨.hbm, 62, rfl⟩
abbrev main_call2_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg17_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem17_1 : DmaSem sig := 18
abbrev cc1_sem0_0 : DmaSem sig := 19
abbrev cc1_sem1_0 : DmaSem sig := 20
abbrev cc1_sem2_0 : DmaSem sig := 21
abbrev cc1_sem2_1 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_0 : BitVec 32 := 0#32
  let c24_i32 : BitVec 32 := 24#32
  let v4 : BitVec 32 := Scalar.addi c0_i32_0 c24_i32
  let c1_i32 : BitVec 32 := 1#32
  ⟨c0_i32_0, v4, c1_i32⟩
def k0_off1 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v1982 : Index := Scalar.indexCast v3
  let c0_i32_0 : BitVec 32 := 0#32
  let c1_i32 : BitVec 32 := 1#32
  let arg22 : BitVec 32 := Scf.iv c0_i32_0 c1_i32 k0_t1
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult1 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off2 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult2 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off3 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk1 (v1984 : BitVec 32) : Prop :=
  (8 ∣ (k0_mult1 v1984).toNat) ∧
  (∀ a, (k0_off2 v1984) a + S8x64.size a ≤ S1256x64.size a) ∧
  (8 ∣ (k0_mult2 v1984).toNat) ∧
  (∀ a, (k0_off3 v1984) a + S8x128.size a ≤ S8192x128.size a)
theorem k0_mult1_dvd : ∀ (v1984 : BitVec 32) (k0_hw1 : k0_chk1 v1984), 8 ∣ (k0_mult1 v1984).toNat := fun v1984 k0_hw1 => k0_hw1.1
theorem k0_off2_inb : ∀ (v1984 : BitVec 32) (k0_hw1 : k0_chk1 v1984), ∀ a, (k0_off2 v1984) a + S8x64.size a ≤ S1256x64.size a := fun v1984 k0_hw1 => k0_hw1.2.1
theorem k0_mult2_dvd : ∀ (v1984 : BitVec 32) (k0_hw1 : k0_chk1 v1984), 8 ∣ (k0_mult2 v1984).toNat := fun v1984 k0_hw1 => k0_hw1.2.2.1
theorem k0_off3_inb : ∀ (v1984 : BitVec 32) (k0_hw1 : k0_chk1 v1984), ∀ a, (k0_off3 v1984) a + S8x128.size a ≤ S8192x128.size a := fun v1984 k0_hw1 => k0_hw1.2.2.2

def k0_off4 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2012 : Index := Scalar.indexCast v3
  let c0_i32_0 : BitVec 32 := 0#32
  let c1_i32 : BitVec 32 := 1#32
  let arg22 : BitVec 32 := Scf.iv c0_i32_0 c1_i32 k0_t1
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult3 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off5 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult4 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off6 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk2 (v2014 : BitVec 32) : Prop :=
  (8 ∣ (k0_mult3 v2014).toNat) ∧
  (∀ a, (k0_off5 v2014) a + S8x64.size a ≤ S1256x64.size a) ∧
  (8 ∣ (k0_mult4 v2014).toNat) ∧
  (∀ a, (k0_off6 v2014) a + S8x128.size a ≤ S8192x128.size a)
theorem k0_mult3_dvd : ∀ (v2014 : BitVec 32) (k0_hw2 : k0_chk2 v2014), 8 ∣ (k0_mult3 v2014).toNat := fun v2014 k0_hw2 => k0_hw2.1
theorem k0_off5_inb : ∀ (v2014 : BitVec 32) (k0_hw2 : k0_chk2 v2014), ∀ a, (k0_off5 v2014) a + S8x64.size a ≤ S1256x64.size a := fun v2014 k0_hw2 => k0_hw2.2.1
theorem k0_mult4_dvd : ∀ (v2014 : BitVec 32) (k0_hw2 : k0_chk2 v2014), 8 ∣ (k0_mult4 v2014).toNat := fun v2014 k0_hw2 => k0_hw2.2.2.1
theorem k0_off6_inb : ∀ (v2014 : BitVec 32) (k0_hw2 : k0_chk2 v2014), ∀ a, (k0_off6 v2014) a + S8x128.size a ≤ S8192x128.size a := fun v2014 k0_hw2 => k0_hw2.2.2.2

def k0_off7 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2042 : Index := Scalar.indexCast v3
  let c0_i32_0 : BitVec 32 := 0#32
  let c1_i32 : BitVec 32 := 1#32
  let arg22 : BitVec 32 := Scf.iv c0_i32_0 c1_i32 k0_t1
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult5 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off8 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult6 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off9 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk3 (v2044 : BitVec 32) : Prop :=
  (8 ∣ (k0_mult5 v2044).toNat) ∧
  (∀ a, (k0_off8 v2044) a + S8x64.size a ≤ S1256x64.size a) ∧
  (8 ∣ (k0_mult6 v2044).toNat) ∧
  (∀ a, (k0_off9 v2044) a + S8x128.size a ≤ S8192x128.size a)
theorem k0_mult5_dvd : ∀ (v2044 : BitVec 32) (k0_hw3 : k0_chk3 v2044), 8 ∣ (k0_mult5 v2044).toNat := fun v2044 k0_hw3 => k0_hw3.1
theorem k0_off8_inb : ∀ (v2044 : BitVec 32) (k0_hw3 : k0_chk3 v2044), ∀ a, (k0_off8 v2044) a + S8x64.size a ≤ S1256x64.size a := fun v2044 k0_hw3 => k0_hw3.2.1
theorem k0_mult6_dvd : ∀ (v2044 : BitVec 32) (k0_hw3 : k0_chk3 v2044), 8 ∣ (k0_mult6 v2044).toNat := fun v2044 k0_hw3 => k0_hw3.2.2.1
theorem k0_off9_inb : ∀ (v2044 : BitVec 32) (k0_hw3 : k0_chk3 v2044), ∀ a, (k0_off9 v2044) a + S8x128.size a ≤ S8192x128.size a := fun v2044 k0_hw3 => k0_hw3.2.2.2

def k0_off10 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2072 : Index := Scalar.indexCast v3
  let c0_i32_0 : BitVec 32 := 0#32
  let c1_i32 : BitVec 32 := 1#32
  let arg22 : BitVec 32 := Scf.iv c0_i32_0 c1_i32 k0_t1
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult7 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off11 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult8 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off12 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk4 (v2074 : BitVec 32) : Prop :=
  (8 ∣ (k0_mult7 v2074).toNat) ∧
  (∀ a, (k0_off11 v2074) a + S8x64.size a ≤ S1256x64.size a) ∧
  (8 ∣ (k0_mult8 v2074).toNat) ∧
  (∀ a, (k0_off12 v2074) a + S8x128.size a ≤ S8192x128.size a)
theorem k0_mult7_dvd : ∀ (v2074 : BitVec 32) (k0_hw4 : k0_chk4 v2074), 8 ∣ (k0_mult7 v2074).toNat := fun v2074 k0_hw4 => k0_hw4.1
theorem k0_off11_inb : ∀ (v2074 : BitVec 32) (k0_hw4 : k0_chk4 v2074), ∀ a, (k0_off11 v2074) a + S8x64.size a ≤ S1256x64.size a := fun v2074 k0_hw4 => k0_hw4.2.1
theorem k0_mult8_dvd : ∀ (v2074 : BitVec 32) (k0_hw4 : k0_chk4 v2074), 8 ∣ (k0_mult8 v2074).toNat := fun v2074 k0_hw4 => k0_hw4.2.2.1
theorem k0_off12_inb : ∀ (v2074 : BitVec 32) (k0_hw4 : k0_chk4 v2074), ∀ a, (k0_off12 v2074) a + S8x128.size a ≤ S8192x128.size a := fun v2074 k0_hw4 => k0_hw4.2.2.2

def k0_off13 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2102 : Index := Scalar.indexCast v3
  let c0_i32_0 : BitVec 32 := 0#32
  let c1_i32 : BitVec 32 := 1#32
  let arg22 : BitVec 32 := Scf.iv c0_i32_0 c1_i32 k0_t1
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult9 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off14 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult10 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off15 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk5 (v2104 : BitVec 32) : Prop :=
  (8 ∣ (k0_mult9 v2104).toNat) ∧
  (∀ a, (k0_off14 v2104) a + S8x64.size a ≤ S1256x64.size a) ∧
  (8 ∣ (k0_mult10 v2104).toNat) ∧
  (∀ a, (k0_off15 v2104) a + S8x128.size a ≤ S8192x128.size a)
theorem k0_mult9_dvd : ∀ (v2104 : BitVec 32) (k0_hw5 : k0_chk5 v2104), 8 ∣ (k0_mult9 v2104).toNat := fun v2104 k0_hw5 => k0_hw5.1
theorem k0_off14_inb : ∀ (v2104 : BitVec 32) (k0_hw5 : k0_chk5 v2104), ∀ a, (k0_off14 v2104) a + S8x64.size a ≤ S1256x64.size a := fun v2104 k0_hw5 => k0_hw5.2.1
theorem k0_mult10_dvd : ∀ (v2104 : BitVec 32) (k0_hw5 : k0_chk5 v2104), 8 ∣ (k0_mult10 v2104).toNat := fun v2104 k0_hw5 => k0_hw5.2.2.1
theorem k0_off15_inb : ∀ (v2104 : BitVec 32) (k0_hw5 : k0_chk5 v2104), ∀ a, (k0_off15 v2104) a + S8x128.size a ≤ S8192x128.size a := fun v2104 k0_hw5 => k0_hw5.2.2.2

def k0_off16 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2132 : Index := Scalar.indexCast v3
  let c0_i32_0 : BitVec 32 := 0#32
  let c1_i32 : BitVec 32 := 1#32
  let arg22 : BitVec 32 := Scf.iv c0_i32_0 c1_i32 k0_t1
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult11 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off17 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult12 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off18 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk6 (v2134 : BitVec 32) : Prop :=
  (8 ∣ (k0_mult11 v2134).toNat) ∧
  (∀ a, (k0_off17 v2134) a + S8x64.size a ≤ S1256x64.size a) ∧
  (8 ∣ (k0_mult12 v2134).toNat) ∧
  (∀ a, (k0_off18 v2134) a + S8x128.size a ≤ S8192x128.size a)
theorem k0_mult11_dvd : ∀ (v2134 : BitVec 32) (k0_hw6 : k0_chk6 v2134), 8 ∣ (k0_mult11 v2134).toNat := fun v2134 k0_hw6 => k0_hw6.1
theorem k0_off17_inb : ∀ (v2134 : BitVec 32) (k0_hw6 : k0_chk6 v2134), ∀ a, (k0_off17 v2134) a + S8x64.size a ≤ S1256x64.size a := fun v2134 k0_hw6 => k0_hw6.2.1
theorem k0_mult12_dvd : ∀ (v2134 : BitVec 32) (k0_hw6 : k0_chk6 v2134), 8 ∣ (k0_mult12 v2134).toNat := fun v2134 k0_hw6 => k0_hw6.2.2.1
theorem k0_off18_inb : ∀ (v2134 : BitVec 32) (k0_hw6 : k0_chk6 v2134), ∀ a, (k0_off18 v2134) a + S8x128.size a ≤ S8192x128.size a := fun v2134 k0_hw6 => k0_hw6.2.2.2

def k0_off19 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2162 : Index := Scalar.indexCast v3
  let c0_i32_0 : BitVec 32 := 0#32
  let c1_i32 : BitVec 32 := 1#32
  let arg22 : BitVec 32 := Scf.iv c0_i32_0 c1_i32 k0_t1
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult13 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off20 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult14 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off21 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk7 (v2164 : BitVec 32) : Prop :=
  (8 ∣ (k0_mult13 v2164).toNat) ∧
  (∀ a, (k0_off20 v2164) a + S8x64.size a ≤ S1256x64.size a) ∧
  (8 ∣ (k0_mult14 v2164).toNat) ∧
  (∀ a, (k0_off21 v2164) a + S8x128.size a ≤ S8192x128.size a)
theorem k0_mult13_dvd : ∀ (v2164 : BitVec 32) (k0_hw7 : k0_chk7 v2164), 8 ∣ (k0_mult13 v2164).toNat := fun v2164 k0_hw7 => k0_hw7.1
theorem k0_off20_inb : ∀ (v2164 : BitVec 32) (k0_hw7 : k0_chk7 v2164), ∀ a, (k0_off20 v2164) a + S8x64.size a ≤ S1256x64.size a := fun v2164 k0_hw7 => k0_hw7.2.1
theorem k0_mult14_dvd : ∀ (v2164 : BitVec 32) (k0_hw7 : k0_chk7 v2164), 8 ∣ (k0_mult14 v2164).toNat := fun v2164 k0_hw7 => k0_hw7.2.2.1
theorem k0_off21_inb : ∀ (v2164 : BitVec 32) (k0_hw7 : k0_chk7 v2164), ∀ a, (k0_off21 v2164) a + S8x128.size a ≤ S8192x128.size a := fun v2164 k0_hw7 => k0_hw7.2.2.2

def k0_off22 (i : grid0.Coords) (k0_t1 : Fin k0_t1_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2192 : Index := Scalar.indexCast v3
  let c0_i32_0 : BitVec 32 := 0#32
  let c1_i32 : BitVec 32 := 1#32
  let arg22 : BitVec 32 := Scf.iv c0_i32_0 c1_i32 k0_t1
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult15 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off23 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult16 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off24 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk8 (v2194 : BitVec 32) : Prop :=
  (8 ∣ (k0_mult15 v2194).toNat) ∧
  (∀ a, (k0_off23 v2194) a + S8x64.size a ≤ S1256x64.size a) ∧
  (8 ∣ (k0_mult16 v2194).toNat) ∧
  (∀ a, (k0_off24 v2194) a + S8x128.size a ≤ S8192x128.size a)
theorem k0_mult15_dvd : ∀ (v2194 : BitVec 32) (k0_hw8 : k0_chk8 v2194), 8 ∣ (k0_mult15 v2194).toNat := fun v2194 k0_hw8 => k0_hw8.1
theorem k0_off23_inb : ∀ (v2194 : BitVec 32) (k0_hw8 : k0_chk8 v2194), ∀ a, (k0_off23 v2194) a + S8x64.size a ≤ S1256x64.size a := fun v2194 k0_hw8 => k0_hw8.2.1
theorem k0_mult16_dvd : ∀ (v2194 : BitVec 32) (k0_hw8 : k0_chk8 v2194), 8 ∣ (k0_mult16 v2194).toNat := fun v2194 k0_hw8 => k0_hw8.2.2.1
theorem k0_off24_inb : ∀ (v2194 : BitVec 32) (k0_hw8 : k0_chk8 v2194), ∀ a, (k0_off24 v2194) a + S8x128.size a ≤ S8192x128.size a := fun v2194 k0_hw8 => k0_hw8.2.2.2

def k0_off25 (k0_t1 : Fin k0_t1_loop.trips) : Fin 2 → Nat :=
  let c0_i32_1303 : BitVec 32 := 0#32
  let c0_i32_0 : BitVec 32 := 0#32
  let c1_i32 : BitVec 32 := 1#32
  let arg22 : BitVec 32 := Scf.iv c0_i32_0 c1_i32 k0_t1
  let c8_i32_1302 : BitVec 32 := 8#32
  let v2220 : BitVec 32 := Scalar.muli arg22 c8_i32_1302
  let v2221 : BitVec 32 := Scalar.addi c0_i32_1303 v2220
  let v2222 : Index := Scalar.indexCast v2221
  let c0_1304 : Index := 0#32
  ![v2222.toNat, 0]
def k0_off26 (k0_t1 : Fin k0_t1_loop.trips) : Fin 2 → Nat :=
  let c0_i32_1303 : BitVec 32 := 0#32
  let c0_i32_0 : BitVec 32 := 0#32
  let c1_i32 : BitVec 32 := 1#32
  let arg22 : BitVec 32 := Scf.iv c0_i32_0 c1_i32 k0_t1
  let c8_i32_1302 : BitVec 32 := 8#32
  let v2220 : BitVec 32 := Scalar.muli arg22 c8_i32_1302
  let v2221 : BitVec 32 := Scalar.addi c0_i32_1303 v2220
  let v2226 : Index := Scalar.indexCast v2221
  let c0_1305 : Index := 0#32
  ![v2226.toNat, 0]
@[reducible] def k0_t2_loop : Scf.Loop 32 :=
  let c24_i32_2 : BitVec 32 := 24#32
  let c8_i32_3 : BitVec 32 := 8#32
  let v5 : BitVec 32 := Scalar.addi c24_i32_2 c8_i32_3
  let c1_i32_4 : BitVec 32 := 1#32
  ⟨c24_i32_2, v5, c1_i32_4⟩
def k0_off27 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v1982 : Index := Scalar.indexCast v3
  let c24_i32_2 : BitVec 32 := 24#32
  let c1_i32_4 : BitVec 32 := 1#32
  let arg22 : BitVec 32 := Scf.iv c24_i32_2 c1_i32_4 k0_t2
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult17 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off28 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk9 (v1984 : BitVec 32) : Prop :=
  (8 ∣ (k0_mult17 v1984).toNat) ∧
  (∀ a, (k0_off28 v1984) a + S8x64.size a ≤ S1256x64.size a)
theorem k0_mult17_dvd : ∀ (v1984 : BitVec 32) (k0_hw9 : k0_chk9 v1984), 8 ∣ (k0_mult17 v1984).toNat := fun v1984 k0_hw9 => k0_hw9.1
theorem k0_off28_inb : ∀ (v1984 : BitVec 32) (k0_hw9 : k0_chk9 v1984), ∀ a, (k0_off28 v1984) a + S8x64.size a ≤ S1256x64.size a := fun v1984 k0_hw9 => k0_hw9.2

def k0_off29 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2000 : Index := Scalar.indexCast v3
  let c24_i32_2 : BitVec 32 := 24#32
  let c1_i32_4 : BitVec 32 := 1#32
  let arg22 : BitVec 32 := Scf.iv c24_i32_2 c1_i32_4 k0_t2
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult18 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off30 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk10 (v2002 : BitVec 32) : Prop :=
  (8 ∣ (k0_mult18 v2002).toNat) ∧
  (∀ a, (k0_off30 v2002) a + S8x64.size a ≤ S1256x64.size a)
theorem k0_mult18_dvd : ∀ (v2002 : BitVec 32) (k0_hw10 : k0_chk10 v2002), 8 ∣ (k0_mult18 v2002).toNat := fun v2002 k0_hw10 => k0_hw10.1
theorem k0_off30_inb : ∀ (v2002 : BitVec 32) (k0_hw10 : k0_chk10 v2002), ∀ a, (k0_off30 v2002) a + S8x64.size a ≤ S1256x64.size a := fun v2002 k0_hw10 => k0_hw10.2

def k0_off31 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2018 : Index := Scalar.indexCast v3
  let c24_i32_2 : BitVec 32 := 24#32
  let c1_i32_4 : BitVec 32 := 1#32
  let arg22 : BitVec 32 := Scf.iv c24_i32_2 c1_i32_4 k0_t2
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult19 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off32 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk11 (v2020 : BitVec 32) : Prop :=
  (8 ∣ (k0_mult19 v2020).toNat) ∧
  (∀ a, (k0_off32 v2020) a + S8x64.size a ≤ S1256x64.size a)
theorem k0_mult19_dvd : ∀ (v2020 : BitVec 32) (k0_hw11 : k0_chk11 v2020), 8 ∣ (k0_mult19 v2020).toNat := fun v2020 k0_hw11 => k0_hw11.1
theorem k0_off32_inb : ∀ (v2020 : BitVec 32) (k0_hw11 : k0_chk11 v2020), ∀ a, (k0_off32 v2020) a + S8x64.size a ≤ S1256x64.size a := fun v2020 k0_hw11 => k0_hw11.2

def k0_off33 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2036 : Index := Scalar.indexCast v3
  let c24_i32_2 : BitVec 32 := 24#32
  let c1_i32_4 : BitVec 32 := 1#32
  let arg22 : BitVec 32 := Scf.iv c24_i32_2 c1_i32_4 k0_t2
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult20 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off34 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk12 (v2038 : BitVec 32) : Prop :=
  (8 ∣ (k0_mult20 v2038).toNat) ∧
  (∀ a, (k0_off34 v2038) a + S8x64.size a ≤ S1256x64.size a)
theorem k0_mult20_dvd : ∀ (v2038 : BitVec 32) (k0_hw12 : k0_chk12 v2038), 8 ∣ (k0_mult20 v2038).toNat := fun v2038 k0_hw12 => k0_hw12.1
theorem k0_off34_inb : ∀ (v2038 : BitVec 32) (k0_hw12 : k0_chk12 v2038), ∀ a, (k0_off34 v2038) a + S8x64.size a ≤ S1256x64.size a := fun v2038 k0_hw12 => k0_hw12.2

def k0_off35 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2054 : Index := Scalar.indexCast v3
  let c24_i32_2 : BitVec 32 := 24#32
  let c1_i32_4 : BitVec 32 := 1#32
  let arg22 : BitVec 32 := Scf.iv c24_i32_2 c1_i32_4 k0_t2
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult21 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off36 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk13 (v2056 : BitVec 32) : Prop :=
  (8 ∣ (k0_mult21 v2056).toNat) ∧
  (∀ a, (k0_off36 v2056) a + S8x64.size a ≤ S1256x64.size a)
theorem k0_mult21_dvd : ∀ (v2056 : BitVec 32) (k0_hw13 : k0_chk13 v2056), 8 ∣ (k0_mult21 v2056).toNat := fun v2056 k0_hw13 => k0_hw13.1
theorem k0_off36_inb : ∀ (v2056 : BitVec 32) (k0_hw13 : k0_chk13 v2056), ∀ a, (k0_off36 v2056) a + S8x64.size a ≤ S1256x64.size a := fun v2056 k0_hw13 => k0_hw13.2

def k0_off37 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2072 : Index := Scalar.indexCast v3
  let c24_i32_2 : BitVec 32 := 24#32
  let c1_i32_4 : BitVec 32 := 1#32
  let arg22 : BitVec 32 := Scf.iv c24_i32_2 c1_i32_4 k0_t2
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult22 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off38 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk14 (v2074 : BitVec 32) : Prop :=
  (8 ∣ (k0_mult22 v2074).toNat) ∧
  (∀ a, (k0_off38 v2074) a + S8x64.size a ≤ S1256x64.size a)
theorem k0_mult22_dvd : ∀ (v2074 : BitVec 32) (k0_hw14 : k0_chk14 v2074), 8 ∣ (k0_mult22 v2074).toNat := fun v2074 k0_hw14 => k0_hw14.1
theorem k0_off38_inb : ∀ (v2074 : BitVec 32) (k0_hw14 : k0_chk14 v2074), ∀ a, (k0_off38 v2074) a + S8x64.size a ≤ S1256x64.size a := fun v2074 k0_hw14 => k0_hw14.2

def k0_off39 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2090 : Index := Scalar.indexCast v3
  let c24_i32_2 : BitVec 32 := 24#32
  let c1_i32_4 : BitVec 32 := 1#32
  let arg22 : BitVec 32 := Scf.iv c24_i32_2 c1_i32_4 k0_t2
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult23 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off40 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk15 (v2092 : BitVec 32) : Prop :=
  (8 ∣ (k0_mult23 v2092).toNat) ∧
  (∀ a, (k0_off40 v2092) a + S8x64.size a ≤ S1256x64.size a)
theorem k0_mult23_dvd : ∀ (v2092 : BitVec 32) (k0_hw15 : k0_chk15 v2092), 8 ∣ (k0_mult23 v2092).toNat := fun v2092 k0_hw15 => k0_hw15.1
theorem k0_off40_inb : ∀ (v2092 : BitVec 32) (k0_hw15 : k0_chk15 v2092), ∀ a, (k0_off40 v2092) a + S8x64.size a ≤ S1256x64.size a := fun v2092 k0_hw15 => k0_hw15.2

def k0_off41 (i : grid0.Coords) (k0_t2 : Fin k0_t2_loop.trips) : Fin 2 → Nat :=
  let arg0 : BitVec 32 := BitVec.ofNat 32 (i 0).val
  let c8_i32 : BitVec 32 := 8#32
  let v2 : BitVec 32 := Scalar.muli arg0 c8_i32
  let c0_i32 : BitVec 32 := 0#32
  let v3 : BitVec 32 := Scalar.addi v2 c0_i32
  let v2108 : Index := Scalar.indexCast v3
  let c24_i32_2 : BitVec 32 := 24#32
  let c1_i32_4 : BitVec 32 := 1#32
  let arg22 : BitVec 32 := Scf.iv c24_i32_2 c1_i32_4 k0_t2
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult24 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off42 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk16 (v2110 : BitVec 32) : Prop :=
  (8 ∣ (k0_mult24 v2110).toNat) ∧
  (∀ a, (k0_off42 v2110) a + S8x64.size a ≤ S1256x64.size a)
theorem k0_mult24_dvd : ∀ (v2110 : BitVec 32) (k0_hw16 : k0_chk16 v2110), 8 ∣ (k0_mult24 v2110).toNat := fun v2110 k0_hw16 => k0_hw16.1
theorem k0_off42_inb : ∀ (v2110 : BitVec 32) (k0_hw16 : k0_chk16 v2110), ∀ a, (k0_off42 v2110) a + S8x64.size a ≤ S1256x64.size a := fun v2110 k0_hw16 => k0_hw16.2

def k0_off43 (k0_t2 : Fin k0_t2_loop.trips) : Fin 2 → Nat :=
  let c0_i32_1248 : BitVec 32 := 0#32
  let c24_i32_2 : BitVec 32 := 24#32
  let c1_i32_4 : BitVec 32 := 1#32
  let arg22 : BitVec 32 := Scf.iv c24_i32_2 c1_i32_4 k0_t2
  let c8_i32_1247 : BitVec 32 := 8#32
  let v2124 : BitVec 32 := Scalar.muli arg22 c8_i32_1247
  let v2125 : BitVec 32 := Scalar.addi c0_i32_1248 v2124
  let v2126 : Index := Scalar.indexCast v2125
  let c0_1249 : Index := 0#32
  ![v2126.toNat, 0]
def k0_off44 (k0_t2 : Fin k0_t2_loop.trips) : Fin 2 → Nat :=
  let c0_i32_1248 : BitVec 32 := 0#32
  let c24_i32_2 : BitVec 32 := 24#32
  let c1_i32_4 : BitVec 32 := 1#32
  let arg22 : BitVec 32 := Scf.iv c24_i32_2 c1_i32_4 k0_t2
  let c8_i32_1247 : BitVec 32 := 8#32
  let v2124 : BitVec 32 := Scalar.muli arg22 c8_i32_1247
  let v2125 : BitVec 32 := Scalar.addi c0_i32_1248 v2124
  let v2130 : Index := Scalar.indexCast v2125
  let c0_1250 : Index := 0#32
  ![v2130.toNat, 0]
@[reducible] def k0_t3_loop : Scf.Loop 32 :=
  let c0_i32_8 : BitVec 32 := 0#32
  let c24_i32_9 : BitVec 32 := 24#32
  let v8 : BitVec 32 := Scalar.addi c0_i32_8 c24_i32_9
  let c1_i32_10 : BitVec 32 := 1#32
  ⟨c0_i32_8, v8, c1_i32_10⟩
def k0_off45 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v1982 : Index := Scalar.indexCast v7
  let c0_i32_8 : BitVec 32 := 0#32
  let c1_i32_10 : BitVec 32 := 1#32
  let arg22 : BitVec 32 := Scf.iv c0_i32_8 c1_i32_10 k0_t3
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult25 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off46 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult26 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off47 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk17 (v1984 : BitVec 32) : Prop :=
  (8 ∣ (k0_mult25 v1984).toNat) ∧
  (∀ a, (k0_off46 v1984) a + S8x64.size a ≤ S1256x64.size a) ∧
  (8 ∣ (k0_mult26 v1984).toNat) ∧
  (∀ a, (k0_off47 v1984) a + S8x128.size a ≤ S8192x128.size a)
theorem k0_mult25_dvd : ∀ (v1984 : BitVec 32) (k0_hw17 : k0_chk17 v1984), 8 ∣ (k0_mult25 v1984).toNat := fun v1984 k0_hw17 => k0_hw17.1
theorem k0_off46_inb : ∀ (v1984 : BitVec 32) (k0_hw17 : k0_chk17 v1984), ∀ a, (k0_off46 v1984) a + S8x64.size a ≤ S1256x64.size a := fun v1984 k0_hw17 => k0_hw17.2.1
theorem k0_mult26_dvd : ∀ (v1984 : BitVec 32) (k0_hw17 : k0_chk17 v1984), 8 ∣ (k0_mult26 v1984).toNat := fun v1984 k0_hw17 => k0_hw17.2.2.1
theorem k0_off47_inb : ∀ (v1984 : BitVec 32) (k0_hw17 : k0_chk17 v1984), ∀ a, (k0_off47 v1984) a + S8x128.size a ≤ S8192x128.size a := fun v1984 k0_hw17 => k0_hw17.2.2.2

def k0_off48 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2012 : Index := Scalar.indexCast v7
  let c0_i32_8 : BitVec 32 := 0#32
  let c1_i32_10 : BitVec 32 := 1#32
  let arg22 : BitVec 32 := Scf.iv c0_i32_8 c1_i32_10 k0_t3
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult27 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off49 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult28 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off50 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk18 (v2014 : BitVec 32) : Prop :=
  (8 ∣ (k0_mult27 v2014).toNat) ∧
  (∀ a, (k0_off49 v2014) a + S8x64.size a ≤ S1256x64.size a) ∧
  (8 ∣ (k0_mult28 v2014).toNat) ∧
  (∀ a, (k0_off50 v2014) a + S8x128.size a ≤ S8192x128.size a)
theorem k0_mult27_dvd : ∀ (v2014 : BitVec 32) (k0_hw18 : k0_chk18 v2014), 8 ∣ (k0_mult27 v2014).toNat := fun v2014 k0_hw18 => k0_hw18.1
theorem k0_off49_inb : ∀ (v2014 : BitVec 32) (k0_hw18 : k0_chk18 v2014), ∀ a, (k0_off49 v2014) a + S8x64.size a ≤ S1256x64.size a := fun v2014 k0_hw18 => k0_hw18.2.1
theorem k0_mult28_dvd : ∀ (v2014 : BitVec 32) (k0_hw18 : k0_chk18 v2014), 8 ∣ (k0_mult28 v2014).toNat := fun v2014 k0_hw18 => k0_hw18.2.2.1
theorem k0_off50_inb : ∀ (v2014 : BitVec 32) (k0_hw18 : k0_chk18 v2014), ∀ a, (k0_off50 v2014) a + S8x128.size a ≤ S8192x128.size a := fun v2014 k0_hw18 => k0_hw18.2.2.2

def k0_off51 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2042 : Index := Scalar.indexCast v7
  let c0_i32_8 : BitVec 32 := 0#32
  let c1_i32_10 : BitVec 32 := 1#32
  let arg22 : BitVec 32 := Scf.iv c0_i32_8 c1_i32_10 k0_t3
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult29 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off52 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult30 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off53 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk19 (v2044 : BitVec 32) : Prop :=
  (8 ∣ (k0_mult29 v2044).toNat) ∧
  (∀ a, (k0_off52 v2044) a + S8x64.size a ≤ S1256x64.size a) ∧
  (8 ∣ (k0_mult30 v2044).toNat) ∧
  (∀ a, (k0_off53 v2044) a + S8x128.size a ≤ S8192x128.size a)
theorem k0_mult29_dvd : ∀ (v2044 : BitVec 32) (k0_hw19 : k0_chk19 v2044), 8 ∣ (k0_mult29 v2044).toNat := fun v2044 k0_hw19 => k0_hw19.1
theorem k0_off52_inb : ∀ (v2044 : BitVec 32) (k0_hw19 : k0_chk19 v2044), ∀ a, (k0_off52 v2044) a + S8x64.size a ≤ S1256x64.size a := fun v2044 k0_hw19 => k0_hw19.2.1
theorem k0_mult30_dvd : ∀ (v2044 : BitVec 32) (k0_hw19 : k0_chk19 v2044), 8 ∣ (k0_mult30 v2044).toNat := fun v2044 k0_hw19 => k0_hw19.2.2.1
theorem k0_off53_inb : ∀ (v2044 : BitVec 32) (k0_hw19 : k0_chk19 v2044), ∀ a, (k0_off53 v2044) a + S8x128.size a ≤ S8192x128.size a := fun v2044 k0_hw19 => k0_hw19.2.2.2

def k0_off54 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2072 : Index := Scalar.indexCast v7
  let c0_i32_8 : BitVec 32 := 0#32
  let c1_i32_10 : BitVec 32 := 1#32
  let arg22 : BitVec 32 := Scf.iv c0_i32_8 c1_i32_10 k0_t3
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult31 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off55 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult32 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off56 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk20 (v2074 : BitVec 32) : Prop :=
  (8 ∣ (k0_mult31 v2074).toNat) ∧
  (∀ a, (k0_off55 v2074) a + S8x64.size a ≤ S1256x64.size a) ∧
  (8 ∣ (k0_mult32 v2074).toNat) ∧
  (∀ a, (k0_off56 v2074) a + S8x128.size a ≤ S8192x128.size a)
theorem k0_mult31_dvd : ∀ (v2074 : BitVec 32) (k0_hw20 : k0_chk20 v2074), 8 ∣ (k0_mult31 v2074).toNat := fun v2074 k0_hw20 => k0_hw20.1
theorem k0_off55_inb : ∀ (v2074 : BitVec 32) (k0_hw20 : k0_chk20 v2074), ∀ a, (k0_off55 v2074) a + S8x64.size a ≤ S1256x64.size a := fun v2074 k0_hw20 => k0_hw20.2.1
theorem k0_mult32_dvd : ∀ (v2074 : BitVec 32) (k0_hw20 : k0_chk20 v2074), 8 ∣ (k0_mult32 v2074).toNat := fun v2074 k0_hw20 => k0_hw20.2.2.1
theorem k0_off56_inb : ∀ (v2074 : BitVec 32) (k0_hw20 : k0_chk20 v2074), ∀ a, (k0_off56 v2074) a + S8x128.size a ≤ S8192x128.size a := fun v2074 k0_hw20 => k0_hw20.2.2.2

def k0_off57 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2102 : Index := Scalar.indexCast v7
  let c0_i32_8 : BitVec 32 := 0#32
  let c1_i32_10 : BitVec 32 := 1#32
  let arg22 : BitVec 32 := Scf.iv c0_i32_8 c1_i32_10 k0_t3
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult33 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off58 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult34 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off59 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk21 (v2104 : BitVec 32) : Prop :=
  (8 ∣ (k0_mult33 v2104).toNat) ∧
  (∀ a, (k0_off58 v2104) a + S8x64.size a ≤ S1256x64.size a) ∧
  (8 ∣ (k0_mult34 v2104).toNat) ∧
  (∀ a, (k0_off59 v2104) a + S8x128.size a ≤ S8192x128.size a)
theorem k0_mult33_dvd : ∀ (v2104 : BitVec 32) (k0_hw21 : k0_chk21 v2104), 8 ∣ (k0_mult33 v2104).toNat := fun v2104 k0_hw21 => k0_hw21.1
theorem k0_off58_inb : ∀ (v2104 : BitVec 32) (k0_hw21 : k0_chk21 v2104), ∀ a, (k0_off58 v2104) a + S8x64.size a ≤ S1256x64.size a := fun v2104 k0_hw21 => k0_hw21.2.1
theorem k0_mult34_dvd : ∀ (v2104 : BitVec 32) (k0_hw21 : k0_chk21 v2104), 8 ∣ (k0_mult34 v2104).toNat := fun v2104 k0_hw21 => k0_hw21.2.2.1
theorem k0_off59_inb : ∀ (v2104 : BitVec 32) (k0_hw21 : k0_chk21 v2104), ∀ a, (k0_off59 v2104) a + S8x128.size a ≤ S8192x128.size a := fun v2104 k0_hw21 => k0_hw21.2.2.2

def k0_off60 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2132 : Index := Scalar.indexCast v7
  let c0_i32_8 : BitVec 32 := 0#32
  let c1_i32_10 : BitVec 32 := 1#32
  let arg22 : BitVec 32 := Scf.iv c0_i32_8 c1_i32_10 k0_t3
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult35 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off61 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult36 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off62 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk22 (v2134 : BitVec 32) : Prop :=
  (8 ∣ (k0_mult35 v2134).toNat) ∧
  (∀ a, (k0_off61 v2134) a + S8x64.size a ≤ S1256x64.size a) ∧
  (8 ∣ (k0_mult36 v2134).toNat) ∧
  (∀ a, (k0_off62 v2134) a + S8x128.size a ≤ S8192x128.size a)
theorem k0_mult35_dvd : ∀ (v2134 : BitVec 32) (k0_hw22 : k0_chk22 v2134), 8 ∣ (k0_mult35 v2134).toNat := fun v2134 k0_hw22 => k0_hw22.1
theorem k0_off61_inb : ∀ (v2134 : BitVec 32) (k0_hw22 : k0_chk22 v2134), ∀ a, (k0_off61 v2134) a + S8x64.size a ≤ S1256x64.size a := fun v2134 k0_hw22 => k0_hw22.2.1
theorem k0_mult36_dvd : ∀ (v2134 : BitVec 32) (k0_hw22 : k0_chk22 v2134), 8 ∣ (k0_mult36 v2134).toNat := fun v2134 k0_hw22 => k0_hw22.2.2.1
theorem k0_off62_inb : ∀ (v2134 : BitVec 32) (k0_hw22 : k0_chk22 v2134), ∀ a, (k0_off62 v2134) a + S8x128.size a ≤ S8192x128.size a := fun v2134 k0_hw22 => k0_hw22.2.2.2

def k0_off63 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2162 : Index := Scalar.indexCast v7
  let c0_i32_8 : BitVec 32 := 0#32
  let c1_i32_10 : BitVec 32 := 1#32
  let arg22 : BitVec 32 := Scf.iv c0_i32_8 c1_i32_10 k0_t3
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult37 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off64 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult38 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off65 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk23 (v2164 : BitVec 32) : Prop :=
  (8 ∣ (k0_mult37 v2164).toNat) ∧
  (∀ a, (k0_off64 v2164) a + S8x64.size a ≤ S1256x64.size a) ∧
  (8 ∣ (k0_mult38 v2164).toNat) ∧
  (∀ a, (k0_off65 v2164) a + S8x128.size a ≤ S8192x128.size a)
theorem k0_mult37_dvd : ∀ (v2164 : BitVec 32) (k0_hw23 : k0_chk23 v2164), 8 ∣ (k0_mult37 v2164).toNat := fun v2164 k0_hw23 => k0_hw23.1
theorem k0_off64_inb : ∀ (v2164 : BitVec 32) (k0_hw23 : k0_chk23 v2164), ∀ a, (k0_off64 v2164) a + S8x64.size a ≤ S1256x64.size a := fun v2164 k0_hw23 => k0_hw23.2.1
theorem k0_mult38_dvd : ∀ (v2164 : BitVec 32) (k0_hw23 : k0_chk23 v2164), 8 ∣ (k0_mult38 v2164).toNat := fun v2164 k0_hw23 => k0_hw23.2.2.1
theorem k0_off65_inb : ∀ (v2164 : BitVec 32) (k0_hw23 : k0_chk23 v2164), ∀ a, (k0_off65 v2164) a + S8x128.size a ≤ S8192x128.size a := fun v2164 k0_hw23 => k0_hw23.2.2.2

def k0_off66 (i : grid0.Coords) (k0_t3 : Fin k0_t3_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2192 : Index := Scalar.indexCast v7
  let c0_i32_8 : BitVec 32 := 0#32
  let c1_i32_10 : BitVec 32 := 1#32
  let arg22 : BitVec 32 := Scf.iv c0_i32_8 c1_i32_10 k0_t3
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult39 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off67 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult40 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off68 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk24 (v2194 : BitVec 32) : Prop :=
  (8 ∣ (k0_mult39 v2194).toNat) ∧
  (∀ a, (k0_off67 v2194) a + S8x64.size a ≤ S1256x64.size a) ∧
  (8 ∣ (k0_mult40 v2194).toNat) ∧
  (∀ a, (k0_off68 v2194) a + S8x128.size a ≤ S8192x128.size a)
theorem k0_mult39_dvd : ∀ (v2194 : BitVec 32) (k0_hw24 : k0_chk24 v2194), 8 ∣ (k0_mult39 v2194).toNat := fun v2194 k0_hw24 => k0_hw24.1
theorem k0_off67_inb : ∀ (v2194 : BitVec 32) (k0_hw24 : k0_chk24 v2194), ∀ a, (k0_off67 v2194) a + S8x64.size a ≤ S1256x64.size a := fun v2194 k0_hw24 => k0_hw24.2.1
theorem k0_mult40_dvd : ∀ (v2194 : BitVec 32) (k0_hw24 : k0_chk24 v2194), 8 ∣ (k0_mult40 v2194).toNat := fun v2194 k0_hw24 => k0_hw24.2.2.1
theorem k0_off68_inb : ∀ (v2194 : BitVec 32) (k0_hw24 : k0_chk24 v2194), ∀ a, (k0_off68 v2194) a + S8x128.size a ≤ S8192x128.size a := fun v2194 k0_hw24 => k0_hw24.2.2.2

def k0_off69 (k0_t3 : Fin k0_t3_loop.trips) : Fin 2 → Nat :=
  let c256_i32 : BitVec 32 := 256#32
  let c0_i32_8 : BitVec 32 := 0#32
  let c1_i32_10 : BitVec 32 := 1#32
  let arg22 : BitVec 32 := Scf.iv c0_i32_8 c1_i32_10 k0_t3
  let c8_i32_1302 : BitVec 32 := 8#32
  let v2220 : BitVec 32 := Scalar.muli arg22 c8_i32_1302
  let v2221 : BitVec 32 := Scalar.addi c256_i32 v2220
  let v2222 : Index := Scalar.indexCast v2221
  let c0_1303 : Index := 0#32
  ![v2222.toNat, 0]
def k0_off70 (k0_t3 : Fin k0_t3_loop.trips) : Fin 2 → Nat :=
  let c256_i32 : BitVec 32 := 256#32
  let c0_i32_8 : BitVec 32 := 0#32
  let c1_i32_10 : BitVec 32 := 1#32
  let arg22 : BitVec 32 := Scf.iv c0_i32_8 c1_i32_10 k0_t3
  let c8_i32_1302 : BitVec 32 := 8#32
  let v2220 : BitVec 32 := Scalar.muli arg22 c8_i32_1302
  let v2221 : BitVec 32 := Scalar.addi c256_i32 v2220
  let v2226 : Index := Scalar.indexCast v2221
  let c0_1304 : Index := 0#32
  ![v2226.toNat, 0]
@[reducible] def k0_t4_loop : Scf.Loop 32 :=
  let c24_i32_12 : BitVec 32 := 24#32
  let c8_i32_13 : BitVec 32 := 8#32
  let v9 : BitVec 32 := Scalar.addi c24_i32_12 c8_i32_13
  let c1_i32_14 : BitVec 32 := 1#32
  ⟨c24_i32_12, v9, c1_i32_14⟩
def k0_off71 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v1982 : Index := Scalar.indexCast v7
  let c24_i32_12 : BitVec 32 := 24#32
  let c1_i32_14 : BitVec 32 := 1#32
  let arg22 : BitVec 32 := Scf.iv c24_i32_12 c1_i32_14 k0_t4
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult41 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off72 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk25 (v1984 : BitVec 32) : Prop :=
  (8 ∣ (k0_mult41 v1984).toNat) ∧
  (∀ a, (k0_off72 v1984) a + S8x64.size a ≤ S1256x64.size a)
theorem k0_mult41_dvd : ∀ (v1984 : BitVec 32) (k0_hw25 : k0_chk25 v1984), 8 ∣ (k0_mult41 v1984).toNat := fun v1984 k0_hw25 => k0_hw25.1
theorem k0_off72_inb : ∀ (v1984 : BitVec 32) (k0_hw25 : k0_chk25 v1984), ∀ a, (k0_off72 v1984) a + S8x64.size a ≤ S1256x64.size a := fun v1984 k0_hw25 => k0_hw25.2

def k0_off73 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2000 : Index := Scalar.indexCast v7
  let c24_i32_12 : BitVec 32 := 24#32
  let c1_i32_14 : BitVec 32 := 1#32
  let arg22 : BitVec 32 := Scf.iv c24_i32_12 c1_i32_14 k0_t4
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult42 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off74 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk26 (v2002 : BitVec 32) : Prop :=
  (8 ∣ (k0_mult42 v2002).toNat) ∧
  (∀ a, (k0_off74 v2002) a + S8x64.size a ≤ S1256x64.size a)
theorem k0_mult42_dvd : ∀ (v2002 : BitVec 32) (k0_hw26 : k0_chk26 v2002), 8 ∣ (k0_mult42 v2002).toNat := fun v2002 k0_hw26 => k0_hw26.1
theorem k0_off74_inb : ∀ (v2002 : BitVec 32) (k0_hw26 : k0_chk26 v2002), ∀ a, (k0_off74 v2002) a + S8x64.size a ≤ S1256x64.size a := fun v2002 k0_hw26 => k0_hw26.2

def k0_off75 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2018 : Index := Scalar.indexCast v7
  let c24_i32_12 : BitVec 32 := 24#32
  let c1_i32_14 : BitVec 32 := 1#32
  let arg22 : BitVec 32 := Scf.iv c24_i32_12 c1_i32_14 k0_t4
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult43 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off76 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk27 (v2020 : BitVec 32) : Prop :=
  (8 ∣ (k0_mult43 v2020).toNat) ∧
  (∀ a, (k0_off76 v2020) a + S8x64.size a ≤ S1256x64.size a)
theorem k0_mult43_dvd : ∀ (v2020 : BitVec 32) (k0_hw27 : k0_chk27 v2020), 8 ∣ (k0_mult43 v2020).toNat := fun v2020 k0_hw27 => k0_hw27.1
theorem k0_off76_inb : ∀ (v2020 : BitVec 32) (k0_hw27 : k0_chk27 v2020), ∀ a, (k0_off76 v2020) a + S8x64.size a ≤ S1256x64.size a := fun v2020 k0_hw27 => k0_hw27.2

def k0_off77 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2036 : Index := Scalar.indexCast v7
  let c24_i32_12 : BitVec 32 := 24#32
  let c1_i32_14 : BitVec 32 := 1#32
  let arg22 : BitVec 32 := Scf.iv c24_i32_12 c1_i32_14 k0_t4
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult44 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off78 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk28 (v2038 : BitVec 32) : Prop :=
  (8 ∣ (k0_mult44 v2038).toNat) ∧
  (∀ a, (k0_off78 v2038) a + S8x64.size a ≤ S1256x64.size a)
theorem k0_mult44_dvd : ∀ (v2038 : BitVec 32) (k0_hw28 : k0_chk28 v2038), 8 ∣ (k0_mult44 v2038).toNat := fun v2038 k0_hw28 => k0_hw28.1
theorem k0_off78_inb : ∀ (v2038 : BitVec 32) (k0_hw28 : k0_chk28 v2038), ∀ a, (k0_off78 v2038) a + S8x64.size a ≤ S1256x64.size a := fun v2038 k0_hw28 => k0_hw28.2

def k0_off79 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2054 : Index := Scalar.indexCast v7
  let c24_i32_12 : BitVec 32 := 24#32
  let c1_i32_14 : BitVec 32 := 1#32
  let arg22 : BitVec 32 := Scf.iv c24_i32_12 c1_i32_14 k0_t4
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult45 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off80 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk29 (v2056 : BitVec 32) : Prop :=
  (8 ∣ (k0_mult45 v2056).toNat) ∧
  (∀ a, (k0_off80 v2056) a + S8x64.size a ≤ S1256x64.size a)
theorem k0_mult45_dvd : ∀ (v2056 : BitVec 32) (k0_hw29 : k0_chk29 v2056), 8 ∣ (k0_mult45 v2056).toNat := fun v2056 k0_hw29 => k0_hw29.1
theorem k0_off80_inb : ∀ (v2056 : BitVec 32) (k0_hw29 : k0_chk29 v2056), ∀ a, (k0_off80 v2056) a + S8x64.size a ≤ S1256x64.size a := fun v2056 k0_hw29 => k0_hw29.2

def k0_off81 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2072 : Index := Scalar.indexCast v7
  let c24_i32_12 : BitVec 32 := 24#32
  let c1_i32_14 : BitVec 32 := 1#32
  let arg22 : BitVec 32 := Scf.iv c24_i32_12 c1_i32_14 k0_t4
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult46 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off82 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk30 (v2074 : BitVec 32) : Prop :=
  (8 ∣ (k0_mult46 v2074).toNat) ∧
  (∀ a, (k0_off82 v2074) a + S8x64.size a ≤ S1256x64.size a)
theorem k0_mult46_dvd : ∀ (v2074 : BitVec 32) (k0_hw30 : k0_chk30 v2074), 8 ∣ (k0_mult46 v2074).toNat := fun v2074 k0_hw30 => k0_hw30.1
theorem k0_off82_inb : ∀ (v2074 : BitVec 32) (k0_hw30 : k0_chk30 v2074), ∀ a, (k0_off82 v2074) a + S8x64.size a ≤ S1256x64.size a := fun v2074 k0_hw30 => k0_hw30.2

def k0_off83 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2090 : Index := Scalar.indexCast v7
  let c24_i32_12 : BitVec 32 := 24#32
  let c1_i32_14 : BitVec 32 := 1#32
  let arg22 : BitVec 32 := Scf.iv c24_i32_12 c1_i32_14 k0_t4
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult47 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off84 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk31 (v2092 : BitVec 32) : Prop :=
  (8 ∣ (k0_mult47 v2092).toNat) ∧
  (∀ a, (k0_off84 v2092) a + S8x64.size a ≤ S1256x64.size a)
theorem k0_mult47_dvd : ∀ (v2092 : BitVec 32) (k0_hw31 : k0_chk31 v2092), 8 ∣ (k0_mult47 v2092).toNat := fun v2092 k0_hw31 => k0_hw31.1
theorem k0_off84_inb : ∀ (v2092 : BitVec 32) (k0_hw31 : k0_chk31 v2092), ∀ a, (k0_off84 v2092) a + S8x64.size a ≤ S1256x64.size a := fun v2092 k0_hw31 => k0_hw31.2

def k0_off85 (i : grid0.Coords) (k0_t4 : Fin k0_t4_loop.trips) : Fin 2 → Nat :=
  let arg0 : BitVec 32 := BitVec.ofNat 32 (i 0).val
  let c8_i32_6 : BitVec 32 := 8#32
  let v6 : BitVec 32 := Scalar.muli arg0 c8_i32_6
  let c1_i32_7 : BitVec 32 := 1#32
  let v7 : BitVec 32 := Scalar.addi v6 c1_i32_7
  let v2108 : Index := Scalar.indexCast v7
  let c24_i32_12 : BitVec 32 := 24#32
  let c1_i32_14 : BitVec 32 := 1#32
  let arg22 : BitVec 32 := Scf.iv c24_i32_12 c1_i32_14 k0_t4
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult48 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off86 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk32 (v2110 : BitVec 32) : Prop :=
  (8 ∣ (k0_mult48 v2110).toNat) ∧
  (∀ a, (k0_off86 v2110) a + S8x64.size a ≤ S1256x64.size a)
theorem k0_mult48_dvd : ∀ (v2110 : BitVec 32) (k0_hw32 : k0_chk32 v2110), 8 ∣ (k0_mult48 v2110).toNat := fun v2110 k0_hw32 => k0_hw32.1
theorem k0_off86_inb : ∀ (v2110 : BitVec 32) (k0_hw32 : k0_chk32 v2110), ∀ a, (k0_off86 v2110) a + S8x64.size a ≤ S1256x64.size a := fun v2110 k0_hw32 => k0_hw32.2

def k0_off87 (k0_t4 : Fin k0_t4_loop.trips) : Fin 2 → Nat :=
  let c256_i32 : BitVec 32 := 256#32
  let c24_i32_12 : BitVec 32 := 24#32
  let c1_i32_14 : BitVec 32 := 1#32
  let arg22 : BitVec 32 := Scf.iv c24_i32_12 c1_i32_14 k0_t4
  let c8_i32_1247 : BitVec 32 := 8#32
  let v2124 : BitVec 32 := Scalar.muli arg22 c8_i32_1247
  let v2125 : BitVec 32 := Scalar.addi c256_i32 v2124
  let v2126 : Index := Scalar.indexCast v2125
  let c0_1248 : Index := 0#32
  ![v2126.toNat, 0]
def k0_off88 (k0_t4 : Fin k0_t4_loop.trips) : Fin 2 → Nat :=
  let c256_i32 : BitVec 32 := 256#32
  let c24_i32_12 : BitVec 32 := 24#32
  let c1_i32_14 : BitVec 32 := 1#32
  let arg22 : BitVec 32 := Scf.iv c24_i32_12 c1_i32_14 k0_t4
  let c8_i32_1247 : BitVec 32 := 8#32
  let v2124 : BitVec 32 := Scalar.muli arg22 c8_i32_1247
  let v2125 : BitVec 32 := Scalar.addi c256_i32 v2124
  let v2130 : Index := Scalar.indexCast v2125
  let c0_1249 : Index := 0#32
  ![v2130.toNat, 0]
@[reducible] def k0_t5_loop : Scf.Loop 32 :=
  let c0_i32_17 : BitVec 32 := 0#32
  let c24_i32_18 : BitVec 32 := 24#32
  let v12 : BitVec 32 := Scalar.addi c0_i32_17 c24_i32_18
  let c1_i32_19 : BitVec 32 := 1#32
  ⟨c0_i32_17, v12, c1_i32_19⟩
def k0_off89 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v1982 : Index := Scalar.indexCast v11
  let c0_i32_17 : BitVec 32 := 0#32
  let c1_i32_19 : BitVec 32 := 1#32
  let arg22 : BitVec 32 := Scf.iv c0_i32_17 c1_i32_19 k0_t5
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult49 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off90 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult50 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off91 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk33 (v1984 : BitVec 32) : Prop :=
  (8 ∣ (k0_mult49 v1984).toNat) ∧
  (∀ a, (k0_off90 v1984) a + S8x64.size a ≤ S1256x64.size a) ∧
  (8 ∣ (k0_mult50 v1984).toNat) ∧
  (∀ a, (k0_off91 v1984) a + S8x128.size a ≤ S8192x128.size a)
theorem k0_mult49_dvd : ∀ (v1984 : BitVec 32) (k0_hw33 : k0_chk33 v1984), 8 ∣ (k0_mult49 v1984).toNat := fun v1984 k0_hw33 => k0_hw33.1
theorem k0_off90_inb : ∀ (v1984 : BitVec 32) (k0_hw33 : k0_chk33 v1984), ∀ a, (k0_off90 v1984) a + S8x64.size a ≤ S1256x64.size a := fun v1984 k0_hw33 => k0_hw33.2.1
theorem k0_mult50_dvd : ∀ (v1984 : BitVec 32) (k0_hw33 : k0_chk33 v1984), 8 ∣ (k0_mult50 v1984).toNat := fun v1984 k0_hw33 => k0_hw33.2.2.1
theorem k0_off91_inb : ∀ (v1984 : BitVec 32) (k0_hw33 : k0_chk33 v1984), ∀ a, (k0_off91 v1984) a + S8x128.size a ≤ S8192x128.size a := fun v1984 k0_hw33 => k0_hw33.2.2.2

def k0_off92 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2012 : Index := Scalar.indexCast v11
  let c0_i32_17 : BitVec 32 := 0#32
  let c1_i32_19 : BitVec 32 := 1#32
  let arg22 : BitVec 32 := Scf.iv c0_i32_17 c1_i32_19 k0_t5
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult51 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off93 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult52 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off94 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk34 (v2014 : BitVec 32) : Prop :=
  (8 ∣ (k0_mult51 v2014).toNat) ∧
  (∀ a, (k0_off93 v2014) a + S8x64.size a ≤ S1256x64.size a) ∧
  (8 ∣ (k0_mult52 v2014).toNat) ∧
  (∀ a, (k0_off94 v2014) a + S8x128.size a ≤ S8192x128.size a)
theorem k0_mult51_dvd : ∀ (v2014 : BitVec 32) (k0_hw34 : k0_chk34 v2014), 8 ∣ (k0_mult51 v2014).toNat := fun v2014 k0_hw34 => k0_hw34.1
theorem k0_off93_inb : ∀ (v2014 : BitVec 32) (k0_hw34 : k0_chk34 v2014), ∀ a, (k0_off93 v2014) a + S8x64.size a ≤ S1256x64.size a := fun v2014 k0_hw34 => k0_hw34.2.1
theorem k0_mult52_dvd : ∀ (v2014 : BitVec 32) (k0_hw34 : k0_chk34 v2014), 8 ∣ (k0_mult52 v2014).toNat := fun v2014 k0_hw34 => k0_hw34.2.2.1
theorem k0_off94_inb : ∀ (v2014 : BitVec 32) (k0_hw34 : k0_chk34 v2014), ∀ a, (k0_off94 v2014) a + S8x128.size a ≤ S8192x128.size a := fun v2014 k0_hw34 => k0_hw34.2.2.2

def k0_off95 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2042 : Index := Scalar.indexCast v11
  let c0_i32_17 : BitVec 32 := 0#32
  let c1_i32_19 : BitVec 32 := 1#32
  let arg22 : BitVec 32 := Scf.iv c0_i32_17 c1_i32_19 k0_t5
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult53 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off96 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult54 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off97 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk35 (v2044 : BitVec 32) : Prop :=
  (8 ∣ (k0_mult53 v2044).toNat) ∧
  (∀ a, (k0_off96 v2044) a + S8x64.size a ≤ S1256x64.size a) ∧
  (8 ∣ (k0_mult54 v2044).toNat) ∧
  (∀ a, (k0_off97 v2044) a + S8x128.size a ≤ S8192x128.size a)
theorem k0_mult53_dvd : ∀ (v2044 : BitVec 32) (k0_hw35 : k0_chk35 v2044), 8 ∣ (k0_mult53 v2044).toNat := fun v2044 k0_hw35 => k0_hw35.1
theorem k0_off96_inb : ∀ (v2044 : BitVec 32) (k0_hw35 : k0_chk35 v2044), ∀ a, (k0_off96 v2044) a + S8x64.size a ≤ S1256x64.size a := fun v2044 k0_hw35 => k0_hw35.2.1
theorem k0_mult54_dvd : ∀ (v2044 : BitVec 32) (k0_hw35 : k0_chk35 v2044), 8 ∣ (k0_mult54 v2044).toNat := fun v2044 k0_hw35 => k0_hw35.2.2.1
theorem k0_off97_inb : ∀ (v2044 : BitVec 32) (k0_hw35 : k0_chk35 v2044), ∀ a, (k0_off97 v2044) a + S8x128.size a ≤ S8192x128.size a := fun v2044 k0_hw35 => k0_hw35.2.2.2

def k0_off98 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2072 : Index := Scalar.indexCast v11
  let c0_i32_17 : BitVec 32 := 0#32
  let c1_i32_19 : BitVec 32 := 1#32
  let arg22 : BitVec 32 := Scf.iv c0_i32_17 c1_i32_19 k0_t5
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult55 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off99 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult56 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off100 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk36 (v2074 : BitVec 32) : Prop :=
  (8 ∣ (k0_mult55 v2074).toNat) ∧
  (∀ a, (k0_off99 v2074) a + S8x64.size a ≤ S1256x64.size a) ∧
  (8 ∣ (k0_mult56 v2074).toNat) ∧
  (∀ a, (k0_off100 v2074) a + S8x128.size a ≤ S8192x128.size a)
theorem k0_mult55_dvd : ∀ (v2074 : BitVec 32) (k0_hw36 : k0_chk36 v2074), 8 ∣ (k0_mult55 v2074).toNat := fun v2074 k0_hw36 => k0_hw36.1
theorem k0_off99_inb : ∀ (v2074 : BitVec 32) (k0_hw36 : k0_chk36 v2074), ∀ a, (k0_off99 v2074) a + S8x64.size a ≤ S1256x64.size a := fun v2074 k0_hw36 => k0_hw36.2.1
theorem k0_mult56_dvd : ∀ (v2074 : BitVec 32) (k0_hw36 : k0_chk36 v2074), 8 ∣ (k0_mult56 v2074).toNat := fun v2074 k0_hw36 => k0_hw36.2.2.1
theorem k0_off100_inb : ∀ (v2074 : BitVec 32) (k0_hw36 : k0_chk36 v2074), ∀ a, (k0_off100 v2074) a + S8x128.size a ≤ S8192x128.size a := fun v2074 k0_hw36 => k0_hw36.2.2.2

def k0_off101 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2102 : Index := Scalar.indexCast v11
  let c0_i32_17 : BitVec 32 := 0#32
  let c1_i32_19 : BitVec 32 := 1#32
  let arg22 : BitVec 32 := Scf.iv c0_i32_17 c1_i32_19 k0_t5
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult57 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off102 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult58 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off103 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk37 (v2104 : BitVec 32) : Prop :=
  (8 ∣ (k0_mult57 v2104).toNat) ∧
  (∀ a, (k0_off102 v2104) a + S8x64.size a ≤ S1256x64.size a) ∧
  (8 ∣ (k0_mult58 v2104).toNat) ∧
  (∀ a, (k0_off103 v2104) a + S8x128.size a ≤ S8192x128.size a)
theorem k0_mult57_dvd : ∀ (v2104 : BitVec 32) (k0_hw37 : k0_chk37 v2104), 8 ∣ (k0_mult57 v2104).toNat := fun v2104 k0_hw37 => k0_hw37.1
theorem k0_off102_inb : ∀ (v2104 : BitVec 32) (k0_hw37 : k0_chk37 v2104), ∀ a, (k0_off102 v2104) a + S8x64.size a ≤ S1256x64.size a := fun v2104 k0_hw37 => k0_hw37.2.1
theorem k0_mult58_dvd : ∀ (v2104 : BitVec 32) (k0_hw37 : k0_chk37 v2104), 8 ∣ (k0_mult58 v2104).toNat := fun v2104 k0_hw37 => k0_hw37.2.2.1
theorem k0_off103_inb : ∀ (v2104 : BitVec 32) (k0_hw37 : k0_chk37 v2104), ∀ a, (k0_off103 v2104) a + S8x128.size a ≤ S8192x128.size a := fun v2104 k0_hw37 => k0_hw37.2.2.2

def k0_off104 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2132 : Index := Scalar.indexCast v11
  let c0_i32_17 : BitVec 32 := 0#32
  let c1_i32_19 : BitVec 32 := 1#32
  let arg22 : BitVec 32 := Scf.iv c0_i32_17 c1_i32_19 k0_t5
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult59 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off105 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult60 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off106 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk38 (v2134 : BitVec 32) : Prop :=
  (8 ∣ (k0_mult59 v2134).toNat) ∧
  (∀ a, (k0_off105 v2134) a + S8x64.size a ≤ S1256x64.size a) ∧
  (8 ∣ (k0_mult60 v2134).toNat) ∧
  (∀ a, (k0_off106 v2134) a + S8x128.size a ≤ S8192x128.size a)
theorem k0_mult59_dvd : ∀ (v2134 : BitVec 32) (k0_hw38 : k0_chk38 v2134), 8 ∣ (k0_mult59 v2134).toNat := fun v2134 k0_hw38 => k0_hw38.1
theorem k0_off105_inb : ∀ (v2134 : BitVec 32) (k0_hw38 : k0_chk38 v2134), ∀ a, (k0_off105 v2134) a + S8x64.size a ≤ S1256x64.size a := fun v2134 k0_hw38 => k0_hw38.2.1
theorem k0_mult60_dvd : ∀ (v2134 : BitVec 32) (k0_hw38 : k0_chk38 v2134), 8 ∣ (k0_mult60 v2134).toNat := fun v2134 k0_hw38 => k0_hw38.2.2.1
theorem k0_off106_inb : ∀ (v2134 : BitVec 32) (k0_hw38 : k0_chk38 v2134), ∀ a, (k0_off106 v2134) a + S8x128.size a ≤ S8192x128.size a := fun v2134 k0_hw38 => k0_hw38.2.2.2

def k0_off107 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2162 : Index := Scalar.indexCast v11
  let c0_i32_17 : BitVec 32 := 0#32
  let c1_i32_19 : BitVec 32 := 1#32
  let arg22 : BitVec 32 := Scf.iv c0_i32_17 c1_i32_19 k0_t5
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult61 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off108 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult62 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off109 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk39 (v2164 : BitVec 32) : Prop :=
  (8 ∣ (k0_mult61 v2164).toNat) ∧
  (∀ a, (k0_off108 v2164) a + S8x64.size a ≤ S1256x64.size a) ∧
  (8 ∣ (k0_mult62 v2164).toNat) ∧
  (∀ a, (k0_off109 v2164) a + S8x128.size a ≤ S8192x128.size a)
theorem k0_mult61_dvd : ∀ (v2164 : BitVec 32) (k0_hw39 : k0_chk39 v2164), 8 ∣ (k0_mult61 v2164).toNat := fun v2164 k0_hw39 => k0_hw39.1
theorem k0_off108_inb : ∀ (v2164 : BitVec 32) (k0_hw39 : k0_chk39 v2164), ∀ a, (k0_off108 v2164) a + S8x64.size a ≤ S1256x64.size a := fun v2164 k0_hw39 => k0_hw39.2.1
theorem k0_mult62_dvd : ∀ (v2164 : BitVec 32) (k0_hw39 : k0_chk39 v2164), 8 ∣ (k0_mult62 v2164).toNat := fun v2164 k0_hw39 => k0_hw39.2.2.1
theorem k0_off109_inb : ∀ (v2164 : BitVec 32) (k0_hw39 : k0_chk39 v2164), ∀ a, (k0_off109 v2164) a + S8x128.size a ≤ S8192x128.size a := fun v2164 k0_hw39 => k0_hw39.2.2.2

def k0_off110 (i : grid0.Coords) (k0_t5 : Fin k0_t5_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2192 : Index := Scalar.indexCast v11
  let c0_i32_17 : BitVec 32 := 0#32
  let c1_i32_19 : BitVec 32 := 1#32
  let arg22 : BitVec 32 := Scf.iv c0_i32_17 c1_i32_19 k0_t5
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult63 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off111 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult64 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off112 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk40 (v2194 : BitVec 32) : Prop :=
  (8 ∣ (k0_mult63 v2194).toNat) ∧
  (∀ a, (k0_off111 v2194) a + S8x64.size a ≤ S1256x64.size a) ∧
  (8 ∣ (k0_mult64 v2194).toNat) ∧
  (∀ a, (k0_off112 v2194) a + S8x128.size a ≤ S8192x128.size a)
theorem k0_mult63_dvd : ∀ (v2194 : BitVec 32) (k0_hw40 : k0_chk40 v2194), 8 ∣ (k0_mult63 v2194).toNat := fun v2194 k0_hw40 => k0_hw40.1
theorem k0_off111_inb : ∀ (v2194 : BitVec 32) (k0_hw40 : k0_chk40 v2194), ∀ a, (k0_off111 v2194) a + S8x64.size a ≤ S1256x64.size a := fun v2194 k0_hw40 => k0_hw40.2.1
theorem k0_mult64_dvd : ∀ (v2194 : BitVec 32) (k0_hw40 : k0_chk40 v2194), 8 ∣ (k0_mult64 v2194).toNat := fun v2194 k0_hw40 => k0_hw40.2.2.1
theorem k0_off112_inb : ∀ (v2194 : BitVec 32) (k0_hw40 : k0_chk40 v2194), ∀ a, (k0_off112 v2194) a + S8x128.size a ≤ S8192x128.size a := fun v2194 k0_hw40 => k0_hw40.2.2.2

def k0_off113 (k0_t5 : Fin k0_t5_loop.trips) : Fin 2 → Nat :=
  let c512_i32 : BitVec 32 := 512#32
  let c0_i32_17 : BitVec 32 := 0#32
  let c1_i32_19 : BitVec 32 := 1#32
  let arg22 : BitVec 32 := Scf.iv c0_i32_17 c1_i32_19 k0_t5
  let c8_i32_1302 : BitVec 32 := 8#32
  let v2220 : BitVec 32 := Scalar.muli arg22 c8_i32_1302
  let v2221 : BitVec 32 := Scalar.addi c512_i32 v2220
  let v2222 : Index := Scalar.indexCast v2221
  let c0_1303 : Index := 0#32
  ![v2222.toNat, 0]
def k0_off114 (k0_t5 : Fin k0_t5_loop.trips) : Fin 2 → Nat :=
  let c512_i32 : BitVec 32 := 512#32
  let c0_i32_17 : BitVec 32 := 0#32
  let c1_i32_19 : BitVec 32 := 1#32
  let arg22 : BitVec 32 := Scf.iv c0_i32_17 c1_i32_19 k0_t5
  let c8_i32_1302 : BitVec 32 := 8#32
  let v2220 : BitVec 32 := Scalar.muli arg22 c8_i32_1302
  let v2221 : BitVec 32 := Scalar.addi c512_i32 v2220
  let v2226 : Index := Scalar.indexCast v2221
  let c0_1304 : Index := 0#32
  ![v2226.toNat, 0]
@[reducible] def k0_t6_loop : Scf.Loop 32 :=
  let c24_i32_21 : BitVec 32 := 24#32
  let c8_i32_22 : BitVec 32 := 8#32
  let v13 : BitVec 32 := Scalar.addi c24_i32_21 c8_i32_22
  let c1_i32_23 : BitVec 32 := 1#32
  ⟨c24_i32_21, v13, c1_i32_23⟩
def k0_off115 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v1982 : Index := Scalar.indexCast v11
  let c24_i32_21 : BitVec 32 := 24#32
  let c1_i32_23 : BitVec 32 := 1#32
  let arg22 : BitVec 32 := Scf.iv c24_i32_21 c1_i32_23 k0_t6
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult65 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off116 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk41 (v1984 : BitVec 32) : Prop :=
  (8 ∣ (k0_mult65 v1984).toNat) ∧
  (∀ a, (k0_off116 v1984) a + S8x64.size a ≤ S1256x64.size a)
theorem k0_mult65_dvd : ∀ (v1984 : BitVec 32) (k0_hw41 : k0_chk41 v1984), 8 ∣ (k0_mult65 v1984).toNat := fun v1984 k0_hw41 => k0_hw41.1
theorem k0_off116_inb : ∀ (v1984 : BitVec 32) (k0_hw41 : k0_chk41 v1984), ∀ a, (k0_off116 v1984) a + S8x64.size a ≤ S1256x64.size a := fun v1984 k0_hw41 => k0_hw41.2

def k0_off117 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2000 : Index := Scalar.indexCast v11
  let c24_i32_21 : BitVec 32 := 24#32
  let c1_i32_23 : BitVec 32 := 1#32
  let arg22 : BitVec 32 := Scf.iv c24_i32_21 c1_i32_23 k0_t6
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult66 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off118 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk42 (v2002 : BitVec 32) : Prop :=
  (8 ∣ (k0_mult66 v2002).toNat) ∧
  (∀ a, (k0_off118 v2002) a + S8x64.size a ≤ S1256x64.size a)
theorem k0_mult66_dvd : ∀ (v2002 : BitVec 32) (k0_hw42 : k0_chk42 v2002), 8 ∣ (k0_mult66 v2002).toNat := fun v2002 k0_hw42 => k0_hw42.1
theorem k0_off118_inb : ∀ (v2002 : BitVec 32) (k0_hw42 : k0_chk42 v2002), ∀ a, (k0_off118 v2002) a + S8x64.size a ≤ S1256x64.size a := fun v2002 k0_hw42 => k0_hw42.2

def k0_off119 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2018 : Index := Scalar.indexCast v11
  let c24_i32_21 : BitVec 32 := 24#32
  let c1_i32_23 : BitVec 32 := 1#32
  let arg22 : BitVec 32 := Scf.iv c24_i32_21 c1_i32_23 k0_t6
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult67 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off120 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk43 (v2020 : BitVec 32) : Prop :=
  (8 ∣ (k0_mult67 v2020).toNat) ∧
  (∀ a, (k0_off120 v2020) a + S8x64.size a ≤ S1256x64.size a)
theorem k0_mult67_dvd : ∀ (v2020 : BitVec 32) (k0_hw43 : k0_chk43 v2020), 8 ∣ (k0_mult67 v2020).toNat := fun v2020 k0_hw43 => k0_hw43.1
theorem k0_off120_inb : ∀ (v2020 : BitVec 32) (k0_hw43 : k0_chk43 v2020), ∀ a, (k0_off120 v2020) a + S8x64.size a ≤ S1256x64.size a := fun v2020 k0_hw43 => k0_hw43.2

def k0_off121 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2036 : Index := Scalar.indexCast v11
  let c24_i32_21 : BitVec 32 := 24#32
  let c1_i32_23 : BitVec 32 := 1#32
  let arg22 : BitVec 32 := Scf.iv c24_i32_21 c1_i32_23 k0_t6
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult68 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off122 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk44 (v2038 : BitVec 32) : Prop :=
  (8 ∣ (k0_mult68 v2038).toNat) ∧
  (∀ a, (k0_off122 v2038) a + S8x64.size a ≤ S1256x64.size a)
theorem k0_mult68_dvd : ∀ (v2038 : BitVec 32) (k0_hw44 : k0_chk44 v2038), 8 ∣ (k0_mult68 v2038).toNat := fun v2038 k0_hw44 => k0_hw44.1
theorem k0_off122_inb : ∀ (v2038 : BitVec 32) (k0_hw44 : k0_chk44 v2038), ∀ a, (k0_off122 v2038) a + S8x64.size a ≤ S1256x64.size a := fun v2038 k0_hw44 => k0_hw44.2

def k0_off123 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2054 : Index := Scalar.indexCast v11
  let c24_i32_21 : BitVec 32 := 24#32
  let c1_i32_23 : BitVec 32 := 1#32
  let arg22 : BitVec 32 := Scf.iv c24_i32_21 c1_i32_23 k0_t6
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult69 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off124 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk45 (v2056 : BitVec 32) : Prop :=
  (8 ∣ (k0_mult69 v2056).toNat) ∧
  (∀ a, (k0_off124 v2056) a + S8x64.size a ≤ S1256x64.size a)
theorem k0_mult69_dvd : ∀ (v2056 : BitVec 32) (k0_hw45 : k0_chk45 v2056), 8 ∣ (k0_mult69 v2056).toNat := fun v2056 k0_hw45 => k0_hw45.1
theorem k0_off124_inb : ∀ (v2056 : BitVec 32) (k0_hw45 : k0_chk45 v2056), ∀ a, (k0_off124 v2056) a + S8x64.size a ≤ S1256x64.size a := fun v2056 k0_hw45 => k0_hw45.2

def k0_off125 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2072 : Index := Scalar.indexCast v11
  let c24_i32_21 : BitVec 32 := 24#32
  let c1_i32_23 : BitVec 32 := 1#32
  let arg22 : BitVec 32 := Scf.iv c24_i32_21 c1_i32_23 k0_t6
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult70 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off126 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk46 (v2074 : BitVec 32) : Prop :=
  (8 ∣ (k0_mult70 v2074).toNat) ∧
  (∀ a, (k0_off126 v2074) a + S8x64.size a ≤ S1256x64.size a)
theorem k0_mult70_dvd : ∀ (v2074 : BitVec 32) (k0_hw46 : k0_chk46 v2074), 8 ∣ (k0_mult70 v2074).toNat := fun v2074 k0_hw46 => k0_hw46.1
theorem k0_off126_inb : ∀ (v2074 : BitVec 32) (k0_hw46 : k0_chk46 v2074), ∀ a, (k0_off126 v2074) a + S8x64.size a ≤ S1256x64.size a := fun v2074 k0_hw46 => k0_hw46.2

def k0_off127 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2090 : Index := Scalar.indexCast v11
  let c24_i32_21 : BitVec 32 := 24#32
  let c1_i32_23 : BitVec 32 := 1#32
  let arg22 : BitVec 32 := Scf.iv c24_i32_21 c1_i32_23 k0_t6
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult71 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off128 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk47 (v2092 : BitVec 32) : Prop :=
  (8 ∣ (k0_mult71 v2092).toNat) ∧
  (∀ a, (k0_off128 v2092) a + S8x64.size a ≤ S1256x64.size a)
theorem k0_mult71_dvd : ∀ (v2092 : BitVec 32) (k0_hw47 : k0_chk47 v2092), 8 ∣ (k0_mult71 v2092).toNat := fun v2092 k0_hw47 => k0_hw47.1
theorem k0_off128_inb : ∀ (v2092 : BitVec 32) (k0_hw47 : k0_chk47 v2092), ∀ a, (k0_off128 v2092) a + S8x64.size a ≤ S1256x64.size a := fun v2092 k0_hw47 => k0_hw47.2

def k0_off129 (i : grid0.Coords) (k0_t6 : Fin k0_t6_loop.trips) : Fin 2 → Nat :=
  let arg0 : BitVec 32 := BitVec.ofNat 32 (i 0).val
  let c8_i32_16 : BitVec 32 := 8#32
  let v10 : BitVec 32 := Scalar.muli arg0 c8_i32_16
  let c2_i32 : BitVec 32 := 2#32
  let v11 : BitVec 32 := Scalar.addi v10 c2_i32
  let v2108 : Index := Scalar.indexCast v11
  let c24_i32_21 : BitVec 32 := 24#32
  let c1_i32_23 : BitVec 32 := 1#32
  let arg22 : BitVec 32 := Scf.iv c24_i32_21 c1_i32_23 k0_t6
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult72 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off130 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk48 (v2110 : BitVec 32) : Prop :=
  (8 ∣ (k0_mult72 v2110).toNat) ∧
  (∀ a, (k0_off130 v2110) a + S8x64.size a ≤ S1256x64.size a)
theorem k0_mult72_dvd : ∀ (v2110 : BitVec 32) (k0_hw48 : k0_chk48 v2110), 8 ∣ (k0_mult72 v2110).toNat := fun v2110 k0_hw48 => k0_hw48.1
theorem k0_off130_inb : ∀ (v2110 : BitVec 32) (k0_hw48 : k0_chk48 v2110), ∀ a, (k0_off130 v2110) a + S8x64.size a ≤ S1256x64.size a := fun v2110 k0_hw48 => k0_hw48.2

def k0_off131 (k0_t6 : Fin k0_t6_loop.trips) : Fin 2 → Nat :=
  let c512_i32 : BitVec 32 := 512#32
  let c24_i32_21 : BitVec 32 := 24#32
  let c1_i32_23 : BitVec 32 := 1#32
  let arg22 : BitVec 32 := Scf.iv c24_i32_21 c1_i32_23 k0_t6
  let c8_i32_1247 : BitVec 32 := 8#32
  let v2124 : BitVec 32 := Scalar.muli arg22 c8_i32_1247
  let v2125 : BitVec 32 := Scalar.addi c512_i32 v2124
  let v2126 : Index := Scalar.indexCast v2125
  let c0_1248 : Index := 0#32
  ![v2126.toNat, 0]
def k0_off132 (k0_t6 : Fin k0_t6_loop.trips) : Fin 2 → Nat :=
  let c512_i32 : BitVec 32 := 512#32
  let c24_i32_21 : BitVec 32 := 24#32
  let c1_i32_23 : BitVec 32 := 1#32
  let arg22 : BitVec 32 := Scf.iv c24_i32_21 c1_i32_23 k0_t6
  let c8_i32_1247 : BitVec 32 := 8#32
  let v2124 : BitVec 32 := Scalar.muli arg22 c8_i32_1247
  let v2125 : BitVec 32 := Scalar.addi c512_i32 v2124
  let v2130 : Index := Scalar.indexCast v2125
  let c0_1249 : Index := 0#32
  ![v2130.toNat, 0]
@[reducible] def k0_t7_loop : Scf.Loop 32 :=
  let c0_i32_26 : BitVec 32 := 0#32
  let c24_i32_27 : BitVec 32 := 24#32
  let v16 : BitVec 32 := Scalar.addi c0_i32_26 c24_i32_27
  let c1_i32_28 : BitVec 32 := 1#32
  ⟨c0_i32_26, v16, c1_i32_28⟩
def k0_off133 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v1982 : Index := Scalar.indexCast v15
  let c0_i32_26 : BitVec 32 := 0#32
  let c1_i32_28 : BitVec 32 := 1#32
  let arg22 : BitVec 32 := Scf.iv c0_i32_26 c1_i32_28 k0_t7
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult73 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off134 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult74 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off135 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk49 (v1984 : BitVec 32) : Prop :=
  (8 ∣ (k0_mult73 v1984).toNat) ∧
  (∀ a, (k0_off134 v1984) a + S8x64.size a ≤ S1256x64.size a) ∧
  (8 ∣ (k0_mult74 v1984).toNat) ∧
  (∀ a, (k0_off135 v1984) a + S8x128.size a ≤ S8192x128.size a)
theorem k0_mult73_dvd : ∀ (v1984 : BitVec 32) (k0_hw49 : k0_chk49 v1984), 8 ∣ (k0_mult73 v1984).toNat := fun v1984 k0_hw49 => k0_hw49.1
theorem k0_off134_inb : ∀ (v1984 : BitVec 32) (k0_hw49 : k0_chk49 v1984), ∀ a, (k0_off134 v1984) a + S8x64.size a ≤ S1256x64.size a := fun v1984 k0_hw49 => k0_hw49.2.1
theorem k0_mult74_dvd : ∀ (v1984 : BitVec 32) (k0_hw49 : k0_chk49 v1984), 8 ∣ (k0_mult74 v1984).toNat := fun v1984 k0_hw49 => k0_hw49.2.2.1
theorem k0_off135_inb : ∀ (v1984 : BitVec 32) (k0_hw49 : k0_chk49 v1984), ∀ a, (k0_off135 v1984) a + S8x128.size a ≤ S8192x128.size a := fun v1984 k0_hw49 => k0_hw49.2.2.2

def k0_off136 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2012 : Index := Scalar.indexCast v15
  let c0_i32_26 : BitVec 32 := 0#32
  let c1_i32_28 : BitVec 32 := 1#32
  let arg22 : BitVec 32 := Scf.iv c0_i32_26 c1_i32_28 k0_t7
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult75 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off137 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult76 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off138 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk50 (v2014 : BitVec 32) : Prop :=
  (8 ∣ (k0_mult75 v2014).toNat) ∧
  (∀ a, (k0_off137 v2014) a + S8x64.size a ≤ S1256x64.size a) ∧
  (8 ∣ (k0_mult76 v2014).toNat) ∧
  (∀ a, (k0_off138 v2014) a + S8x128.size a ≤ S8192x128.size a)
theorem k0_mult75_dvd : ∀ (v2014 : BitVec 32) (k0_hw50 : k0_chk50 v2014), 8 ∣ (k0_mult75 v2014).toNat := fun v2014 k0_hw50 => k0_hw50.1
theorem k0_off137_inb : ∀ (v2014 : BitVec 32) (k0_hw50 : k0_chk50 v2014), ∀ a, (k0_off137 v2014) a + S8x64.size a ≤ S1256x64.size a := fun v2014 k0_hw50 => k0_hw50.2.1
theorem k0_mult76_dvd : ∀ (v2014 : BitVec 32) (k0_hw50 : k0_chk50 v2014), 8 ∣ (k0_mult76 v2014).toNat := fun v2014 k0_hw50 => k0_hw50.2.2.1
theorem k0_off138_inb : ∀ (v2014 : BitVec 32) (k0_hw50 : k0_chk50 v2014), ∀ a, (k0_off138 v2014) a + S8x128.size a ≤ S8192x128.size a := fun v2014 k0_hw50 => k0_hw50.2.2.2

def k0_off139 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2042 : Index := Scalar.indexCast v15
  let c0_i32_26 : BitVec 32 := 0#32
  let c1_i32_28 : BitVec 32 := 1#32
  let arg22 : BitVec 32 := Scf.iv c0_i32_26 c1_i32_28 k0_t7
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult77 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off140 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult78 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off141 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk51 (v2044 : BitVec 32) : Prop :=
  (8 ∣ (k0_mult77 v2044).toNat) ∧
  (∀ a, (k0_off140 v2044) a + S8x64.size a ≤ S1256x64.size a) ∧
  (8 ∣ (k0_mult78 v2044).toNat) ∧
  (∀ a, (k0_off141 v2044) a + S8x128.size a ≤ S8192x128.size a)
theorem k0_mult77_dvd : ∀ (v2044 : BitVec 32) (k0_hw51 : k0_chk51 v2044), 8 ∣ (k0_mult77 v2044).toNat := fun v2044 k0_hw51 => k0_hw51.1
theorem k0_off140_inb : ∀ (v2044 : BitVec 32) (k0_hw51 : k0_chk51 v2044), ∀ a, (k0_off140 v2044) a + S8x64.size a ≤ S1256x64.size a := fun v2044 k0_hw51 => k0_hw51.2.1
theorem k0_mult78_dvd : ∀ (v2044 : BitVec 32) (k0_hw51 : k0_chk51 v2044), 8 ∣ (k0_mult78 v2044).toNat := fun v2044 k0_hw51 => k0_hw51.2.2.1
theorem k0_off141_inb : ∀ (v2044 : BitVec 32) (k0_hw51 : k0_chk51 v2044), ∀ a, (k0_off141 v2044) a + S8x128.size a ≤ S8192x128.size a := fun v2044 k0_hw51 => k0_hw51.2.2.2

def k0_off142 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2072 : Index := Scalar.indexCast v15
  let c0_i32_26 : BitVec 32 := 0#32
  let c1_i32_28 : BitVec 32 := 1#32
  let arg22 : BitVec 32 := Scf.iv c0_i32_26 c1_i32_28 k0_t7
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult79 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off143 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult80 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off144 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk52 (v2074 : BitVec 32) : Prop :=
  (8 ∣ (k0_mult79 v2074).toNat) ∧
  (∀ a, (k0_off143 v2074) a + S8x64.size a ≤ S1256x64.size a) ∧
  (8 ∣ (k0_mult80 v2074).toNat) ∧
  (∀ a, (k0_off144 v2074) a + S8x128.size a ≤ S8192x128.size a)
theorem k0_mult79_dvd : ∀ (v2074 : BitVec 32) (k0_hw52 : k0_chk52 v2074), 8 ∣ (k0_mult79 v2074).toNat := fun v2074 k0_hw52 => k0_hw52.1
theorem k0_off143_inb : ∀ (v2074 : BitVec 32) (k0_hw52 : k0_chk52 v2074), ∀ a, (k0_off143 v2074) a + S8x64.size a ≤ S1256x64.size a := fun v2074 k0_hw52 => k0_hw52.2.1
theorem k0_mult80_dvd : ∀ (v2074 : BitVec 32) (k0_hw52 : k0_chk52 v2074), 8 ∣ (k0_mult80 v2074).toNat := fun v2074 k0_hw52 => k0_hw52.2.2.1
theorem k0_off144_inb : ∀ (v2074 : BitVec 32) (k0_hw52 : k0_chk52 v2074), ∀ a, (k0_off144 v2074) a + S8x128.size a ≤ S8192x128.size a := fun v2074 k0_hw52 => k0_hw52.2.2.2

def k0_off145 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2102 : Index := Scalar.indexCast v15
  let c0_i32_26 : BitVec 32 := 0#32
  let c1_i32_28 : BitVec 32 := 1#32
  let arg22 : BitVec 32 := Scf.iv c0_i32_26 c1_i32_28 k0_t7
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult81 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off146 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult82 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off147 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk53 (v2104 : BitVec 32) : Prop :=
  (8 ∣ (k0_mult81 v2104).toNat) ∧
  (∀ a, (k0_off146 v2104) a + S8x64.size a ≤ S1256x64.size a) ∧
  (8 ∣ (k0_mult82 v2104).toNat) ∧
  (∀ a, (k0_off147 v2104) a + S8x128.size a ≤ S8192x128.size a)
theorem k0_mult81_dvd : ∀ (v2104 : BitVec 32) (k0_hw53 : k0_chk53 v2104), 8 ∣ (k0_mult81 v2104).toNat := fun v2104 k0_hw53 => k0_hw53.1
theorem k0_off146_inb : ∀ (v2104 : BitVec 32) (k0_hw53 : k0_chk53 v2104), ∀ a, (k0_off146 v2104) a + S8x64.size a ≤ S1256x64.size a := fun v2104 k0_hw53 => k0_hw53.2.1
theorem k0_mult82_dvd : ∀ (v2104 : BitVec 32) (k0_hw53 : k0_chk53 v2104), 8 ∣ (k0_mult82 v2104).toNat := fun v2104 k0_hw53 => k0_hw53.2.2.1
theorem k0_off147_inb : ∀ (v2104 : BitVec 32) (k0_hw53 : k0_chk53 v2104), ∀ a, (k0_off147 v2104) a + S8x128.size a ≤ S8192x128.size a := fun v2104 k0_hw53 => k0_hw53.2.2.2

def k0_off148 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2132 : Index := Scalar.indexCast v15
  let c0_i32_26 : BitVec 32 := 0#32
  let c1_i32_28 : BitVec 32 := 1#32
  let arg22 : BitVec 32 := Scf.iv c0_i32_26 c1_i32_28 k0_t7
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult83 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off149 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult84 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off150 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk54 (v2134 : BitVec 32) : Prop :=
  (8 ∣ (k0_mult83 v2134).toNat) ∧
  (∀ a, (k0_off149 v2134) a + S8x64.size a ≤ S1256x64.size a) ∧
  (8 ∣ (k0_mult84 v2134).toNat) ∧
  (∀ a, (k0_off150 v2134) a + S8x128.size a ≤ S8192x128.size a)
theorem k0_mult83_dvd : ∀ (v2134 : BitVec 32) (k0_hw54 : k0_chk54 v2134), 8 ∣ (k0_mult83 v2134).toNat := fun v2134 k0_hw54 => k0_hw54.1
theorem k0_off149_inb : ∀ (v2134 : BitVec 32) (k0_hw54 : k0_chk54 v2134), ∀ a, (k0_off149 v2134) a + S8x64.size a ≤ S1256x64.size a := fun v2134 k0_hw54 => k0_hw54.2.1
theorem k0_mult84_dvd : ∀ (v2134 : BitVec 32) (k0_hw54 : k0_chk54 v2134), 8 ∣ (k0_mult84 v2134).toNat := fun v2134 k0_hw54 => k0_hw54.2.2.1
theorem k0_off150_inb : ∀ (v2134 : BitVec 32) (k0_hw54 : k0_chk54 v2134), ∀ a, (k0_off150 v2134) a + S8x128.size a ≤ S8192x128.size a := fun v2134 k0_hw54 => k0_hw54.2.2.2

def k0_off151 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2162 : Index := Scalar.indexCast v15
  let c0_i32_26 : BitVec 32 := 0#32
  let c1_i32_28 : BitVec 32 := 1#32
  let arg22 : BitVec 32 := Scf.iv c0_i32_26 c1_i32_28 k0_t7
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult85 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off152 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult86 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off153 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk55 (v2164 : BitVec 32) : Prop :=
  (8 ∣ (k0_mult85 v2164).toNat) ∧
  (∀ a, (k0_off152 v2164) a + S8x64.size a ≤ S1256x64.size a) ∧
  (8 ∣ (k0_mult86 v2164).toNat) ∧
  (∀ a, (k0_off153 v2164) a + S8x128.size a ≤ S8192x128.size a)
theorem k0_mult85_dvd : ∀ (v2164 : BitVec 32) (k0_hw55 : k0_chk55 v2164), 8 ∣ (k0_mult85 v2164).toNat := fun v2164 k0_hw55 => k0_hw55.1
theorem k0_off152_inb : ∀ (v2164 : BitVec 32) (k0_hw55 : k0_chk55 v2164), ∀ a, (k0_off152 v2164) a + S8x64.size a ≤ S1256x64.size a := fun v2164 k0_hw55 => k0_hw55.2.1
theorem k0_mult86_dvd : ∀ (v2164 : BitVec 32) (k0_hw55 : k0_chk55 v2164), 8 ∣ (k0_mult86 v2164).toNat := fun v2164 k0_hw55 => k0_hw55.2.2.1
theorem k0_off153_inb : ∀ (v2164 : BitVec 32) (k0_hw55 : k0_chk55 v2164), ∀ a, (k0_off153 v2164) a + S8x128.size a ≤ S8192x128.size a := fun v2164 k0_hw55 => k0_hw55.2.2.2

def k0_off154 (i : grid0.Coords) (k0_t7 : Fin k0_t7_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2192 : Index := Scalar.indexCast v15
  let c0_i32_26 : BitVec 32 := 0#32
  let c1_i32_28 : BitVec 32 := 1#32
  let arg22 : BitVec 32 := Scf.iv c0_i32_26 c1_i32_28 k0_t7
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult87 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off155 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult88 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off156 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk56 (v2194 : BitVec 32) : Prop :=
  (8 ∣ (k0_mult87 v2194).toNat) ∧
  (∀ a, (k0_off155 v2194) a + S8x64.size a ≤ S1256x64.size a) ∧
  (8 ∣ (k0_mult88 v2194).toNat) ∧
  (∀ a, (k0_off156 v2194) a + S8x128.size a ≤ S8192x128.size a)
theorem k0_mult87_dvd : ∀ (v2194 : BitVec 32) (k0_hw56 : k0_chk56 v2194), 8 ∣ (k0_mult87 v2194).toNat := fun v2194 k0_hw56 => k0_hw56.1
theorem k0_off155_inb : ∀ (v2194 : BitVec 32) (k0_hw56 : k0_chk56 v2194), ∀ a, (k0_off155 v2194) a + S8x64.size a ≤ S1256x64.size a := fun v2194 k0_hw56 => k0_hw56.2.1
theorem k0_mult88_dvd : ∀ (v2194 : BitVec 32) (k0_hw56 : k0_chk56 v2194), 8 ∣ (k0_mult88 v2194).toNat := fun v2194 k0_hw56 => k0_hw56.2.2.1
theorem k0_off156_inb : ∀ (v2194 : BitVec 32) (k0_hw56 : k0_chk56 v2194), ∀ a, (k0_off156 v2194) a + S8x128.size a ≤ S8192x128.size a := fun v2194 k0_hw56 => k0_hw56.2.2.2

def k0_off157 (k0_t7 : Fin k0_t7_loop.trips) : Fin 2 → Nat :=
  let c768_i32 : BitVec 32 := 768#32
  let c0_i32_26 : BitVec 32 := 0#32
  let c1_i32_28 : BitVec 32 := 1#32
  let arg22 : BitVec 32 := Scf.iv c0_i32_26 c1_i32_28 k0_t7
  let c8_i32_1302 : BitVec 32 := 8#32
  let v2220 : BitVec 32 := Scalar.muli arg22 c8_i32_1302
  let v2221 : BitVec 32 := Scalar.addi c768_i32 v2220
  let v2222 : Index := Scalar.indexCast v2221
  let c0_1303 : Index := 0#32
  ![v2222.toNat, 0]
def k0_off158 (k0_t7 : Fin k0_t7_loop.trips) : Fin 2 → Nat :=
  let c768_i32 : BitVec 32 := 768#32
  let c0_i32_26 : BitVec 32 := 0#32
  let c1_i32_28 : BitVec 32 := 1#32
  let arg22 : BitVec 32 := Scf.iv c0_i32_26 c1_i32_28 k0_t7
  let c8_i32_1302 : BitVec 32 := 8#32
  let v2220 : BitVec 32 := Scalar.muli arg22 c8_i32_1302
  let v2221 : BitVec 32 := Scalar.addi c768_i32 v2220
  let v2226 : Index := Scalar.indexCast v2221
  let c0_1304 : Index := 0#32
  ![v2226.toNat, 0]
@[reducible] def k0_t8_loop : Scf.Loop 32 :=
  let c24_i32_30 : BitVec 32 := 24#32
  let c8_i32_31 : BitVec 32 := 8#32
  let v17 : BitVec 32 := Scalar.addi c24_i32_30 c8_i32_31
  let c1_i32_32 : BitVec 32 := 1#32
  ⟨c24_i32_30, v17, c1_i32_32⟩
def k0_off159 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v1982 : Index := Scalar.indexCast v15
  let c24_i32_30 : BitVec 32 := 24#32
  let c1_i32_32 : BitVec 32 := 1#32
  let arg22 : BitVec 32 := Scf.iv c24_i32_30 c1_i32_32 k0_t8
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult89 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off160 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk57 (v1984 : BitVec 32) : Prop :=
  (8 ∣ (k0_mult89 v1984).toNat) ∧
  (∀ a, (k0_off160 v1984) a + S8x64.size a ≤ S1256x64.size a)
theorem k0_mult89_dvd : ∀ (v1984 : BitVec 32) (k0_hw57 : k0_chk57 v1984), 8 ∣ (k0_mult89 v1984).toNat := fun v1984 k0_hw57 => k0_hw57.1
theorem k0_off160_inb : ∀ (v1984 : BitVec 32) (k0_hw57 : k0_chk57 v1984), ∀ a, (k0_off160 v1984) a + S8x64.size a ≤ S1256x64.size a := fun v1984 k0_hw57 => k0_hw57.2

def k0_off161 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2000 : Index := Scalar.indexCast v15
  let c24_i32_30 : BitVec 32 := 24#32
  let c1_i32_32 : BitVec 32 := 1#32
  let arg22 : BitVec 32 := Scf.iv c24_i32_30 c1_i32_32 k0_t8
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult90 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off162 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk58 (v2002 : BitVec 32) : Prop :=
  (8 ∣ (k0_mult90 v2002).toNat) ∧
  (∀ a, (k0_off162 v2002) a + S8x64.size a ≤ S1256x64.size a)
theorem k0_mult90_dvd : ∀ (v2002 : BitVec 32) (k0_hw58 : k0_chk58 v2002), 8 ∣ (k0_mult90 v2002).toNat := fun v2002 k0_hw58 => k0_hw58.1
theorem k0_off162_inb : ∀ (v2002 : BitVec 32) (k0_hw58 : k0_chk58 v2002), ∀ a, (k0_off162 v2002) a + S8x64.size a ≤ S1256x64.size a := fun v2002 k0_hw58 => k0_hw58.2

def k0_off163 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2018 : Index := Scalar.indexCast v15
  let c24_i32_30 : BitVec 32 := 24#32
  let c1_i32_32 : BitVec 32 := 1#32
  let arg22 : BitVec 32 := Scf.iv c24_i32_30 c1_i32_32 k0_t8
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult91 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off164 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk59 (v2020 : BitVec 32) : Prop :=
  (8 ∣ (k0_mult91 v2020).toNat) ∧
  (∀ a, (k0_off164 v2020) a + S8x64.size a ≤ S1256x64.size a)
theorem k0_mult91_dvd : ∀ (v2020 : BitVec 32) (k0_hw59 : k0_chk59 v2020), 8 ∣ (k0_mult91 v2020).toNat := fun v2020 k0_hw59 => k0_hw59.1
theorem k0_off164_inb : ∀ (v2020 : BitVec 32) (k0_hw59 : k0_chk59 v2020), ∀ a, (k0_off164 v2020) a + S8x64.size a ≤ S1256x64.size a := fun v2020 k0_hw59 => k0_hw59.2

def k0_off165 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2036 : Index := Scalar.indexCast v15
  let c24_i32_30 : BitVec 32 := 24#32
  let c1_i32_32 : BitVec 32 := 1#32
  let arg22 : BitVec 32 := Scf.iv c24_i32_30 c1_i32_32 k0_t8
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult92 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off166 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk60 (v2038 : BitVec 32) : Prop :=
  (8 ∣ (k0_mult92 v2038).toNat) ∧
  (∀ a, (k0_off166 v2038) a + S8x64.size a ≤ S1256x64.size a)
theorem k0_mult92_dvd : ∀ (v2038 : BitVec 32) (k0_hw60 : k0_chk60 v2038), 8 ∣ (k0_mult92 v2038).toNat := fun v2038 k0_hw60 => k0_hw60.1
theorem k0_off166_inb : ∀ (v2038 : BitVec 32) (k0_hw60 : k0_chk60 v2038), ∀ a, (k0_off166 v2038) a + S8x64.size a ≤ S1256x64.size a := fun v2038 k0_hw60 => k0_hw60.2

def k0_off167 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2054 : Index := Scalar.indexCast v15
  let c24_i32_30 : BitVec 32 := 24#32
  let c1_i32_32 : BitVec 32 := 1#32
  let arg22 : BitVec 32 := Scf.iv c24_i32_30 c1_i32_32 k0_t8
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult93 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off168 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk61 (v2056 : BitVec 32) : Prop :=
  (8 ∣ (k0_mult93 v2056).toNat) ∧
  (∀ a, (k0_off168 v2056) a + S8x64.size a ≤ S1256x64.size a)
theorem k0_mult93_dvd : ∀ (v2056 : BitVec 32) (k0_hw61 : k0_chk61 v2056), 8 ∣ (k0_mult93 v2056).toNat := fun v2056 k0_hw61 => k0_hw61.1
theorem k0_off168_inb : ∀ (v2056 : BitVec 32) (k0_hw61 : k0_chk61 v2056), ∀ a, (k0_off168 v2056) a + S8x64.size a ≤ S1256x64.size a := fun v2056 k0_hw61 => k0_hw61.2

def k0_off169 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2072 : Index := Scalar.indexCast v15
  let c24_i32_30 : BitVec 32 := 24#32
  let c1_i32_32 : BitVec 32 := 1#32
  let arg22 : BitVec 32 := Scf.iv c24_i32_30 c1_i32_32 k0_t8
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult94 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off170 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk62 (v2074 : BitVec 32) : Prop :=
  (8 ∣ (k0_mult94 v2074).toNat) ∧
  (∀ a, (k0_off170 v2074) a + S8x64.size a ≤ S1256x64.size a)
theorem k0_mult94_dvd : ∀ (v2074 : BitVec 32) (k0_hw62 : k0_chk62 v2074), 8 ∣ (k0_mult94 v2074).toNat := fun v2074 k0_hw62 => k0_hw62.1
theorem k0_off170_inb : ∀ (v2074 : BitVec 32) (k0_hw62 : k0_chk62 v2074), ∀ a, (k0_off170 v2074) a + S8x64.size a ≤ S1256x64.size a := fun v2074 k0_hw62 => k0_hw62.2

def k0_off171 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2090 : Index := Scalar.indexCast v15
  let c24_i32_30 : BitVec 32 := 24#32
  let c1_i32_32 : BitVec 32 := 1#32
  let arg22 : BitVec 32 := Scf.iv c24_i32_30 c1_i32_32 k0_t8
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult95 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off172 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk63 (v2092 : BitVec 32) : Prop :=
  (8 ∣ (k0_mult95 v2092).toNat) ∧
  (∀ a, (k0_off172 v2092) a + S8x64.size a ≤ S1256x64.size a)
theorem k0_mult95_dvd : ∀ (v2092 : BitVec 32) (k0_hw63 : k0_chk63 v2092), 8 ∣ (k0_mult95 v2092).toNat := fun v2092 k0_hw63 => k0_hw63.1
theorem k0_off172_inb : ∀ (v2092 : BitVec 32) (k0_hw63 : k0_chk63 v2092), ∀ a, (k0_off172 v2092) a + S8x64.size a ≤ S1256x64.size a := fun v2092 k0_hw63 => k0_hw63.2

def k0_off173 (i : grid0.Coords) (k0_t8 : Fin k0_t8_loop.trips) : Fin 2 → Nat :=
  let arg0 : BitVec 32 := BitVec.ofNat 32 (i 0).val
  let c8_i32_25 : BitVec 32 := 8#32
  let v14 : BitVec 32 := Scalar.muli arg0 c8_i32_25
  let c3_i32 : BitVec 32 := 3#32
  let v15 : BitVec 32 := Scalar.addi v14 c3_i32
  let v2108 : Index := Scalar.indexCast v15
  let c24_i32_30 : BitVec 32 := 24#32
  let c1_i32_32 : BitVec 32 := 1#32
  let arg22 : BitVec 32 := Scf.iv c24_i32_30 c1_i32_32 k0_t8
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult96 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off174 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk64 (v2110 : BitVec 32) : Prop :=
  (8 ∣ (k0_mult96 v2110).toNat) ∧
  (∀ a, (k0_off174 v2110) a + S8x64.size a ≤ S1256x64.size a)
theorem k0_mult96_dvd : ∀ (v2110 : BitVec 32) (k0_hw64 : k0_chk64 v2110), 8 ∣ (k0_mult96 v2110).toNat := fun v2110 k0_hw64 => k0_hw64.1
theorem k0_off174_inb : ∀ (v2110 : BitVec 32) (k0_hw64 : k0_chk64 v2110), ∀ a, (k0_off174 v2110) a + S8x64.size a ≤ S1256x64.size a := fun v2110 k0_hw64 => k0_hw64.2

def k0_off175 (k0_t8 : Fin k0_t8_loop.trips) : Fin 2 → Nat :=
  let c768_i32 : BitVec 32 := 768#32
  let c24_i32_30 : BitVec 32 := 24#32
  let c1_i32_32 : BitVec 32 := 1#32
  let arg22 : BitVec 32 := Scf.iv c24_i32_30 c1_i32_32 k0_t8
  let c8_i32_1247 : BitVec 32 := 8#32
  let v2124 : BitVec 32 := Scalar.muli arg22 c8_i32_1247
  let v2125 : BitVec 32 := Scalar.addi c768_i32 v2124
  let v2126 : Index := Scalar.indexCast v2125
  let c0_1248 : Index := 0#32
  ![v2126.toNat, 0]
def k0_off176 (k0_t8 : Fin k0_t8_loop.trips) : Fin 2 → Nat :=
  let c768_i32 : BitVec 32 := 768#32
  let c24_i32_30 : BitVec 32 := 24#32
  let c1_i32_32 : BitVec 32 := 1#32
  let arg22 : BitVec 32 := Scf.iv c24_i32_30 c1_i32_32 k0_t8
  let c8_i32_1247 : BitVec 32 := 8#32
  let v2124 : BitVec 32 := Scalar.muli arg22 c8_i32_1247
  let v2125 : BitVec 32 := Scalar.addi c768_i32 v2124
  let v2130 : Index := Scalar.indexCast v2125
  let c0_1249 : Index := 0#32
  ![v2130.toNat, 0]
@[reducible] def k0_t9_loop : Scf.Loop 32 :=
  let c0_i32_35 : BitVec 32 := 0#32
  let c24_i32_36 : BitVec 32 := 24#32
  let v20 : BitVec 32 := Scalar.addi c0_i32_35 c24_i32_36
  let c1_i32_37 : BitVec 32 := 1#32
  ⟨c0_i32_35, v20, c1_i32_37⟩
def k0_off177 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v1982 : Index := Scalar.indexCast v19
  let c0_i32_35 : BitVec 32 := 0#32
  let c1_i32_37 : BitVec 32 := 1#32
  let arg22 : BitVec 32 := Scf.iv c0_i32_35 c1_i32_37 k0_t9
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult97 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off178 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult98 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off179 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk65 (v1984 : BitVec 32) : Prop :=
  (8 ∣ (k0_mult97 v1984).toNat) ∧
  (∀ a, (k0_off178 v1984) a + S8x64.size a ≤ S1256x64.size a) ∧
  (8 ∣ (k0_mult98 v1984).toNat) ∧
  (∀ a, (k0_off179 v1984) a + S8x128.size a ≤ S8192x128.size a)
theorem k0_mult97_dvd : ∀ (v1984 : BitVec 32) (k0_hw65 : k0_chk65 v1984), 8 ∣ (k0_mult97 v1984).toNat := fun v1984 k0_hw65 => k0_hw65.1
theorem k0_off178_inb : ∀ (v1984 : BitVec 32) (k0_hw65 : k0_chk65 v1984), ∀ a, (k0_off178 v1984) a + S8x64.size a ≤ S1256x64.size a := fun v1984 k0_hw65 => k0_hw65.2.1
theorem k0_mult98_dvd : ∀ (v1984 : BitVec 32) (k0_hw65 : k0_chk65 v1984), 8 ∣ (k0_mult98 v1984).toNat := fun v1984 k0_hw65 => k0_hw65.2.2.1
theorem k0_off179_inb : ∀ (v1984 : BitVec 32) (k0_hw65 : k0_chk65 v1984), ∀ a, (k0_off179 v1984) a + S8x128.size a ≤ S8192x128.size a := fun v1984 k0_hw65 => k0_hw65.2.2.2

def k0_off180 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2012 : Index := Scalar.indexCast v19
  let c0_i32_35 : BitVec 32 := 0#32
  let c1_i32_37 : BitVec 32 := 1#32
  let arg22 : BitVec 32 := Scf.iv c0_i32_35 c1_i32_37 k0_t9
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult99 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off181 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult100 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off182 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk66 (v2014 : BitVec 32) : Prop :=
  (8 ∣ (k0_mult99 v2014).toNat) ∧
  (∀ a, (k0_off181 v2014) a + S8x64.size a ≤ S1256x64.size a) ∧
  (8 ∣ (k0_mult100 v2014).toNat) ∧
  (∀ a, (k0_off182 v2014) a + S8x128.size a ≤ S8192x128.size a)
theorem k0_mult99_dvd : ∀ (v2014 : BitVec 32) (k0_hw66 : k0_chk66 v2014), 8 ∣ (k0_mult99 v2014).toNat := fun v2014 k0_hw66 => k0_hw66.1
theorem k0_off181_inb : ∀ (v2014 : BitVec 32) (k0_hw66 : k0_chk66 v2014), ∀ a, (k0_off181 v2014) a + S8x64.size a ≤ S1256x64.size a := fun v2014 k0_hw66 => k0_hw66.2.1
theorem k0_mult100_dvd : ∀ (v2014 : BitVec 32) (k0_hw66 : k0_chk66 v2014), 8 ∣ (k0_mult100 v2014).toNat := fun v2014 k0_hw66 => k0_hw66.2.2.1
theorem k0_off182_inb : ∀ (v2014 : BitVec 32) (k0_hw66 : k0_chk66 v2014), ∀ a, (k0_off182 v2014) a + S8x128.size a ≤ S8192x128.size a := fun v2014 k0_hw66 => k0_hw66.2.2.2

def k0_off183 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2042 : Index := Scalar.indexCast v19
  let c0_i32_35 : BitVec 32 := 0#32
  let c1_i32_37 : BitVec 32 := 1#32
  let arg22 : BitVec 32 := Scf.iv c0_i32_35 c1_i32_37 k0_t9
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult101 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off184 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult102 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off185 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk67 (v2044 : BitVec 32) : Prop :=
  (8 ∣ (k0_mult101 v2044).toNat) ∧
  (∀ a, (k0_off184 v2044) a + S8x64.size a ≤ S1256x64.size a) ∧
  (8 ∣ (k0_mult102 v2044).toNat) ∧
  (∀ a, (k0_off185 v2044) a + S8x128.size a ≤ S8192x128.size a)
theorem k0_mult101_dvd : ∀ (v2044 : BitVec 32) (k0_hw67 : k0_chk67 v2044), 8 ∣ (k0_mult101 v2044).toNat := fun v2044 k0_hw67 => k0_hw67.1
theorem k0_off184_inb : ∀ (v2044 : BitVec 32) (k0_hw67 : k0_chk67 v2044), ∀ a, (k0_off184 v2044) a + S8x64.size a ≤ S1256x64.size a := fun v2044 k0_hw67 => k0_hw67.2.1
theorem k0_mult102_dvd : ∀ (v2044 : BitVec 32) (k0_hw67 : k0_chk67 v2044), 8 ∣ (k0_mult102 v2044).toNat := fun v2044 k0_hw67 => k0_hw67.2.2.1
theorem k0_off185_inb : ∀ (v2044 : BitVec 32) (k0_hw67 : k0_chk67 v2044), ∀ a, (k0_off185 v2044) a + S8x128.size a ≤ S8192x128.size a := fun v2044 k0_hw67 => k0_hw67.2.2.2

def k0_off186 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2072 : Index := Scalar.indexCast v19
  let c0_i32_35 : BitVec 32 := 0#32
  let c1_i32_37 : BitVec 32 := 1#32
  let arg22 : BitVec 32 := Scf.iv c0_i32_35 c1_i32_37 k0_t9
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult103 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off187 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult104 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off188 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk68 (v2074 : BitVec 32) : Prop :=
  (8 ∣ (k0_mult103 v2074).toNat) ∧
  (∀ a, (k0_off187 v2074) a + S8x64.size a ≤ S1256x64.size a) ∧
  (8 ∣ (k0_mult104 v2074).toNat) ∧
  (∀ a, (k0_off188 v2074) a + S8x128.size a ≤ S8192x128.size a)
theorem k0_mult103_dvd : ∀ (v2074 : BitVec 32) (k0_hw68 : k0_chk68 v2074), 8 ∣ (k0_mult103 v2074).toNat := fun v2074 k0_hw68 => k0_hw68.1
theorem k0_off187_inb : ∀ (v2074 : BitVec 32) (k0_hw68 : k0_chk68 v2074), ∀ a, (k0_off187 v2074) a + S8x64.size a ≤ S1256x64.size a := fun v2074 k0_hw68 => k0_hw68.2.1
theorem k0_mult104_dvd : ∀ (v2074 : BitVec 32) (k0_hw68 : k0_chk68 v2074), 8 ∣ (k0_mult104 v2074).toNat := fun v2074 k0_hw68 => k0_hw68.2.2.1
theorem k0_off188_inb : ∀ (v2074 : BitVec 32) (k0_hw68 : k0_chk68 v2074), ∀ a, (k0_off188 v2074) a + S8x128.size a ≤ S8192x128.size a := fun v2074 k0_hw68 => k0_hw68.2.2.2

def k0_off189 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2102 : Index := Scalar.indexCast v19
  let c0_i32_35 : BitVec 32 := 0#32
  let c1_i32_37 : BitVec 32 := 1#32
  let arg22 : BitVec 32 := Scf.iv c0_i32_35 c1_i32_37 k0_t9
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult105 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off190 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult106 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off191 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk69 (v2104 : BitVec 32) : Prop :=
  (8 ∣ (k0_mult105 v2104).toNat) ∧
  (∀ a, (k0_off190 v2104) a + S8x64.size a ≤ S1256x64.size a) ∧
  (8 ∣ (k0_mult106 v2104).toNat) ∧
  (∀ a, (k0_off191 v2104) a + S8x128.size a ≤ S8192x128.size a)
theorem k0_mult105_dvd : ∀ (v2104 : BitVec 32) (k0_hw69 : k0_chk69 v2104), 8 ∣ (k0_mult105 v2104).toNat := fun v2104 k0_hw69 => k0_hw69.1
theorem k0_off190_inb : ∀ (v2104 : BitVec 32) (k0_hw69 : k0_chk69 v2104), ∀ a, (k0_off190 v2104) a + S8x64.size a ≤ S1256x64.size a := fun v2104 k0_hw69 => k0_hw69.2.1
theorem k0_mult106_dvd : ∀ (v2104 : BitVec 32) (k0_hw69 : k0_chk69 v2104), 8 ∣ (k0_mult106 v2104).toNat := fun v2104 k0_hw69 => k0_hw69.2.2.1
theorem k0_off191_inb : ∀ (v2104 : BitVec 32) (k0_hw69 : k0_chk69 v2104), ∀ a, (k0_off191 v2104) a + S8x128.size a ≤ S8192x128.size a := fun v2104 k0_hw69 => k0_hw69.2.2.2

def k0_off192 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2132 : Index := Scalar.indexCast v19
  let c0_i32_35 : BitVec 32 := 0#32
  let c1_i32_37 : BitVec 32 := 1#32
  let arg22 : BitVec 32 := Scf.iv c0_i32_35 c1_i32_37 k0_t9
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult107 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off193 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult108 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off194 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk70 (v2134 : BitVec 32) : Prop :=
  (8 ∣ (k0_mult107 v2134).toNat) ∧
  (∀ a, (k0_off193 v2134) a + S8x64.size a ≤ S1256x64.size a) ∧
  (8 ∣ (k0_mult108 v2134).toNat) ∧
  (∀ a, (k0_off194 v2134) a + S8x128.size a ≤ S8192x128.size a)
theorem k0_mult107_dvd : ∀ (v2134 : BitVec 32) (k0_hw70 : k0_chk70 v2134), 8 ∣ (k0_mult107 v2134).toNat := fun v2134 k0_hw70 => k0_hw70.1
theorem k0_off193_inb : ∀ (v2134 : BitVec 32) (k0_hw70 : k0_chk70 v2134), ∀ a, (k0_off193 v2134) a + S8x64.size a ≤ S1256x64.size a := fun v2134 k0_hw70 => k0_hw70.2.1
theorem k0_mult108_dvd : ∀ (v2134 : BitVec 32) (k0_hw70 : k0_chk70 v2134), 8 ∣ (k0_mult108 v2134).toNat := fun v2134 k0_hw70 => k0_hw70.2.2.1
theorem k0_off194_inb : ∀ (v2134 : BitVec 32) (k0_hw70 : k0_chk70 v2134), ∀ a, (k0_off194 v2134) a + S8x128.size a ≤ S8192x128.size a := fun v2134 k0_hw70 => k0_hw70.2.2.2

def k0_off195 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2162 : Index := Scalar.indexCast v19
  let c0_i32_35 : BitVec 32 := 0#32
  let c1_i32_37 : BitVec 32 := 1#32
  let arg22 : BitVec 32 := Scf.iv c0_i32_35 c1_i32_37 k0_t9
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult109 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off196 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult110 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off197 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk71 (v2164 : BitVec 32) : Prop :=
  (8 ∣ (k0_mult109 v2164).toNat) ∧
  (∀ a, (k0_off196 v2164) a + S8x64.size a ≤ S1256x64.size a) ∧
  (8 ∣ (k0_mult110 v2164).toNat) ∧
  (∀ a, (k0_off197 v2164) a + S8x128.size a ≤ S8192x128.size a)
theorem k0_mult109_dvd : ∀ (v2164 : BitVec 32) (k0_hw71 : k0_chk71 v2164), 8 ∣ (k0_mult109 v2164).toNat := fun v2164 k0_hw71 => k0_hw71.1
theorem k0_off196_inb : ∀ (v2164 : BitVec 32) (k0_hw71 : k0_chk71 v2164), ∀ a, (k0_off196 v2164) a + S8x64.size a ≤ S1256x64.size a := fun v2164 k0_hw71 => k0_hw71.2.1
theorem k0_mult110_dvd : ∀ (v2164 : BitVec 32) (k0_hw71 : k0_chk71 v2164), 8 ∣ (k0_mult110 v2164).toNat := fun v2164 k0_hw71 => k0_hw71.2.2.1
theorem k0_off197_inb : ∀ (v2164 : BitVec 32) (k0_hw71 : k0_chk71 v2164), ∀ a, (k0_off197 v2164) a + S8x128.size a ≤ S8192x128.size a := fun v2164 k0_hw71 => k0_hw71.2.2.2

def k0_off198 (i : grid0.Coords) (k0_t9 : Fin k0_t9_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2192 : Index := Scalar.indexCast v19
  let c0_i32_35 : BitVec 32 := 0#32
  let c1_i32_37 : BitVec 32 := 1#32
  let arg22 : BitVec 32 := Scf.iv c0_i32_35 c1_i32_37 k0_t9
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult111 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off199 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult112 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off200 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk72 (v2194 : BitVec 32) : Prop :=
  (8 ∣ (k0_mult111 v2194).toNat) ∧
  (∀ a, (k0_off199 v2194) a + S8x64.size a ≤ S1256x64.size a) ∧
  (8 ∣ (k0_mult112 v2194).toNat) ∧
  (∀ a, (k0_off200 v2194) a + S8x128.size a ≤ S8192x128.size a)
theorem k0_mult111_dvd : ∀ (v2194 : BitVec 32) (k0_hw72 : k0_chk72 v2194), 8 ∣ (k0_mult111 v2194).toNat := fun v2194 k0_hw72 => k0_hw72.1
theorem k0_off199_inb : ∀ (v2194 : BitVec 32) (k0_hw72 : k0_chk72 v2194), ∀ a, (k0_off199 v2194) a + S8x64.size a ≤ S1256x64.size a := fun v2194 k0_hw72 => k0_hw72.2.1
theorem k0_mult112_dvd : ∀ (v2194 : BitVec 32) (k0_hw72 : k0_chk72 v2194), 8 ∣ (k0_mult112 v2194).toNat := fun v2194 k0_hw72 => k0_hw72.2.2.1
theorem k0_off200_inb : ∀ (v2194 : BitVec 32) (k0_hw72 : k0_chk72 v2194), ∀ a, (k0_off200 v2194) a + S8x128.size a ≤ S8192x128.size a := fun v2194 k0_hw72 => k0_hw72.2.2.2

def k0_off201 (k0_t9 : Fin k0_t9_loop.trips) : Fin 2 → Nat :=
  let c1024_i32 : BitVec 32 := 1024#32
  let c0_i32_35 : BitVec 32 := 0#32
  let c1_i32_37 : BitVec 32 := 1#32
  let arg22 : BitVec 32 := Scf.iv c0_i32_35 c1_i32_37 k0_t9
  let c8_i32_1302 : BitVec 32 := 8#32
  let v2220 : BitVec 32 := Scalar.muli arg22 c8_i32_1302
  let v2221 : BitVec 32 := Scalar.addi c1024_i32 v2220
  let v2222 : Index := Scalar.indexCast v2221
  let c0_1303 : Index := 0#32
  ![v2222.toNat, 0]
def k0_off202 (k0_t9 : Fin k0_t9_loop.trips) : Fin 2 → Nat :=
  let c1024_i32 : BitVec 32 := 1024#32
  let c0_i32_35 : BitVec 32 := 0#32
  let c1_i32_37 : BitVec 32 := 1#32
  let arg22 : BitVec 32 := Scf.iv c0_i32_35 c1_i32_37 k0_t9
  let c8_i32_1302 : BitVec 32 := 8#32
  let v2220 : BitVec 32 := Scalar.muli arg22 c8_i32_1302
  let v2221 : BitVec 32 := Scalar.addi c1024_i32 v2220
  let v2226 : Index := Scalar.indexCast v2221
  let c0_1304 : Index := 0#32
  ![v2226.toNat, 0]
@[reducible] def k0_t10_loop : Scf.Loop 32 :=
  let c24_i32_39 : BitVec 32 := 24#32
  let c8_i32_40 : BitVec 32 := 8#32
  let v21 : BitVec 32 := Scalar.addi c24_i32_39 c8_i32_40
  let c1_i32_41 : BitVec 32 := 1#32
  ⟨c24_i32_39, v21, c1_i32_41⟩
def k0_off203 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v1982 : Index := Scalar.indexCast v19
  let c24_i32_39 : BitVec 32 := 24#32
  let c1_i32_41 : BitVec 32 := 1#32
  let arg22 : BitVec 32 := Scf.iv c24_i32_39 c1_i32_41 k0_t10
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult113 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off204 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk73 (v1984 : BitVec 32) : Prop :=
  (8 ∣ (k0_mult113 v1984).toNat) ∧
  (∀ a, (k0_off204 v1984) a + S8x64.size a ≤ S1256x64.size a)
theorem k0_mult113_dvd : ∀ (v1984 : BitVec 32) (k0_hw73 : k0_chk73 v1984), 8 ∣ (k0_mult113 v1984).toNat := fun v1984 k0_hw73 => k0_hw73.1
theorem k0_off204_inb : ∀ (v1984 : BitVec 32) (k0_hw73 : k0_chk73 v1984), ∀ a, (k0_off204 v1984) a + S8x64.size a ≤ S1256x64.size a := fun v1984 k0_hw73 => k0_hw73.2

def k0_off205 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2000 : Index := Scalar.indexCast v19
  let c24_i32_39 : BitVec 32 := 24#32
  let c1_i32_41 : BitVec 32 := 1#32
  let arg22 : BitVec 32 := Scf.iv c24_i32_39 c1_i32_41 k0_t10
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult114 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off206 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk74 (v2002 : BitVec 32) : Prop :=
  (8 ∣ (k0_mult114 v2002).toNat) ∧
  (∀ a, (k0_off206 v2002) a + S8x64.size a ≤ S1256x64.size a)
theorem k0_mult114_dvd : ∀ (v2002 : BitVec 32) (k0_hw74 : k0_chk74 v2002), 8 ∣ (k0_mult114 v2002).toNat := fun v2002 k0_hw74 => k0_hw74.1
theorem k0_off206_inb : ∀ (v2002 : BitVec 32) (k0_hw74 : k0_chk74 v2002), ∀ a, (k0_off206 v2002) a + S8x64.size a ≤ S1256x64.size a := fun v2002 k0_hw74 => k0_hw74.2

def k0_off207 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2018 : Index := Scalar.indexCast v19
  let c24_i32_39 : BitVec 32 := 24#32
  let c1_i32_41 : BitVec 32 := 1#32
  let arg22 : BitVec 32 := Scf.iv c24_i32_39 c1_i32_41 k0_t10
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult115 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off208 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk75 (v2020 : BitVec 32) : Prop :=
  (8 ∣ (k0_mult115 v2020).toNat) ∧
  (∀ a, (k0_off208 v2020) a + S8x64.size a ≤ S1256x64.size a)
theorem k0_mult115_dvd : ∀ (v2020 : BitVec 32) (k0_hw75 : k0_chk75 v2020), 8 ∣ (k0_mult115 v2020).toNat := fun v2020 k0_hw75 => k0_hw75.1
theorem k0_off208_inb : ∀ (v2020 : BitVec 32) (k0_hw75 : k0_chk75 v2020), ∀ a, (k0_off208 v2020) a + S8x64.size a ≤ S1256x64.size a := fun v2020 k0_hw75 => k0_hw75.2

def k0_off209 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2036 : Index := Scalar.indexCast v19
  let c24_i32_39 : BitVec 32 := 24#32
  let c1_i32_41 : BitVec 32 := 1#32
  let arg22 : BitVec 32 := Scf.iv c24_i32_39 c1_i32_41 k0_t10
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult116 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off210 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk76 (v2038 : BitVec 32) : Prop :=
  (8 ∣ (k0_mult116 v2038).toNat) ∧
  (∀ a, (k0_off210 v2038) a + S8x64.size a ≤ S1256x64.size a)
theorem k0_mult116_dvd : ∀ (v2038 : BitVec 32) (k0_hw76 : k0_chk76 v2038), 8 ∣ (k0_mult116 v2038).toNat := fun v2038 k0_hw76 => k0_hw76.1
theorem k0_off210_inb : ∀ (v2038 : BitVec 32) (k0_hw76 : k0_chk76 v2038), ∀ a, (k0_off210 v2038) a + S8x64.size a ≤ S1256x64.size a := fun v2038 k0_hw76 => k0_hw76.2

def k0_off211 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2054 : Index := Scalar.indexCast v19
  let c24_i32_39 : BitVec 32 := 24#32
  let c1_i32_41 : BitVec 32 := 1#32
  let arg22 : BitVec 32 := Scf.iv c24_i32_39 c1_i32_41 k0_t10
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult117 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off212 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk77 (v2056 : BitVec 32) : Prop :=
  (8 ∣ (k0_mult117 v2056).toNat) ∧
  (∀ a, (k0_off212 v2056) a + S8x64.size a ≤ S1256x64.size a)
theorem k0_mult117_dvd : ∀ (v2056 : BitVec 32) (k0_hw77 : k0_chk77 v2056), 8 ∣ (k0_mult117 v2056).toNat := fun v2056 k0_hw77 => k0_hw77.1
theorem k0_off212_inb : ∀ (v2056 : BitVec 32) (k0_hw77 : k0_chk77 v2056), ∀ a, (k0_off212 v2056) a + S8x64.size a ≤ S1256x64.size a := fun v2056 k0_hw77 => k0_hw77.2

def k0_off213 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2072 : Index := Scalar.indexCast v19
  let c24_i32_39 : BitVec 32 := 24#32
  let c1_i32_41 : BitVec 32 := 1#32
  let arg22 : BitVec 32 := Scf.iv c24_i32_39 c1_i32_41 k0_t10
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult118 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off214 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk78 (v2074 : BitVec 32) : Prop :=
  (8 ∣ (k0_mult118 v2074).toNat) ∧
  (∀ a, (k0_off214 v2074) a + S8x64.size a ≤ S1256x64.size a)
theorem k0_mult118_dvd : ∀ (v2074 : BitVec 32) (k0_hw78 : k0_chk78 v2074), 8 ∣ (k0_mult118 v2074).toNat := fun v2074 k0_hw78 => k0_hw78.1
theorem k0_off214_inb : ∀ (v2074 : BitVec 32) (k0_hw78 : k0_chk78 v2074), ∀ a, (k0_off214 v2074) a + S8x64.size a ≤ S1256x64.size a := fun v2074 k0_hw78 => k0_hw78.2

def k0_off215 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2090 : Index := Scalar.indexCast v19
  let c24_i32_39 : BitVec 32 := 24#32
  let c1_i32_41 : BitVec 32 := 1#32
  let arg22 : BitVec 32 := Scf.iv c24_i32_39 c1_i32_41 k0_t10
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult119 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off216 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk79 (v2092 : BitVec 32) : Prop :=
  (8 ∣ (k0_mult119 v2092).toNat) ∧
  (∀ a, (k0_off216 v2092) a + S8x64.size a ≤ S1256x64.size a)
theorem k0_mult119_dvd : ∀ (v2092 : BitVec 32) (k0_hw79 : k0_chk79 v2092), 8 ∣ (k0_mult119 v2092).toNat := fun v2092 k0_hw79 => k0_hw79.1
theorem k0_off216_inb : ∀ (v2092 : BitVec 32) (k0_hw79 : k0_chk79 v2092), ∀ a, (k0_off216 v2092) a + S8x64.size a ≤ S1256x64.size a := fun v2092 k0_hw79 => k0_hw79.2

def k0_off217 (i : grid0.Coords) (k0_t10 : Fin k0_t10_loop.trips) : Fin 2 → Nat :=
  let arg0 : BitVec 32 := BitVec.ofNat 32 (i 0).val
  let c8_i32_34 : BitVec 32 := 8#32
  let v18 : BitVec 32 := Scalar.muli arg0 c8_i32_34
  let c4_i32 : BitVec 32 := 4#32
  let v19 : BitVec 32 := Scalar.addi v18 c4_i32
  let v2108 : Index := Scalar.indexCast v19
  let c24_i32_39 : BitVec 32 := 24#32
  let c1_i32_41 : BitVec 32 := 1#32
  let arg22 : BitVec 32 := Scf.iv c24_i32_39 c1_i32_41 k0_t10
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult120 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off218 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk80 (v2110 : BitVec 32) : Prop :=
  (8 ∣ (k0_mult120 v2110).toNat) ∧
  (∀ a, (k0_off218 v2110) a + S8x64.size a ≤ S1256x64.size a)
theorem k0_mult120_dvd : ∀ (v2110 : BitVec 32) (k0_hw80 : k0_chk80 v2110), 8 ∣ (k0_mult120 v2110).toNat := fun v2110 k0_hw80 => k0_hw80.1
theorem k0_off218_inb : ∀ (v2110 : BitVec 32) (k0_hw80 : k0_chk80 v2110), ∀ a, (k0_off218 v2110) a + S8x64.size a ≤ S1256x64.size a := fun v2110 k0_hw80 => k0_hw80.2

def k0_off219 (k0_t10 : Fin k0_t10_loop.trips) : Fin 2 → Nat :=
  let c1024_i32 : BitVec 32 := 1024#32
  let c24_i32_39 : BitVec 32 := 24#32
  let c1_i32_41 : BitVec 32 := 1#32
  let arg22 : BitVec 32 := Scf.iv c24_i32_39 c1_i32_41 k0_t10
  let c8_i32_1247 : BitVec 32 := 8#32
  let v2124 : BitVec 32 := Scalar.muli arg22 c8_i32_1247
  let v2125 : BitVec 32 := Scalar.addi c1024_i32 v2124
  let v2126 : Index := Scalar.indexCast v2125
  let c0_1248 : Index := 0#32
  ![v2126.toNat, 0]
def k0_off220 (k0_t10 : Fin k0_t10_loop.trips) : Fin 2 → Nat :=
  let c1024_i32 : BitVec 32 := 1024#32
  let c24_i32_39 : BitVec 32 := 24#32
  let c1_i32_41 : BitVec 32 := 1#32
  let arg22 : BitVec 32 := Scf.iv c24_i32_39 c1_i32_41 k0_t10
  let c8_i32_1247 : BitVec 32 := 8#32
  let v2124 : BitVec 32 := Scalar.muli arg22 c8_i32_1247
  let v2125 : BitVec 32 := Scalar.addi c1024_i32 v2124
  let v2130 : Index := Scalar.indexCast v2125
  let c0_1249 : Index := 0#32
  ![v2130.toNat, 0]
@[reducible] def k0_t11_loop : Scf.Loop 32 :=
  let c0_i32_44 : BitVec 32 := 0#32
  let c24_i32_45 : BitVec 32 := 24#32
  let v24 : BitVec 32 := Scalar.addi c0_i32_44 c24_i32_45
  let c1_i32_46 : BitVec 32 := 1#32
  ⟨c0_i32_44, v24, c1_i32_46⟩
def k0_off221 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v1982 : Index := Scalar.indexCast v23
  let c0_i32_44 : BitVec 32 := 0#32
  let c1_i32_46 : BitVec 32 := 1#32
  let arg22 : BitVec 32 := Scf.iv c0_i32_44 c1_i32_46 k0_t11
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult121 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off222 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult122 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off223 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk81 (v1984 : BitVec 32) : Prop :=
  (8 ∣ (k0_mult121 v1984).toNat) ∧
  (∀ a, (k0_off222 v1984) a + S8x64.size a ≤ S1256x64.size a) ∧
  (8 ∣ (k0_mult122 v1984).toNat) ∧
  (∀ a, (k0_off223 v1984) a + S8x128.size a ≤ S8192x128.size a)
theorem k0_mult121_dvd : ∀ (v1984 : BitVec 32) (k0_hw81 : k0_chk81 v1984), 8 ∣ (k0_mult121 v1984).toNat := fun v1984 k0_hw81 => k0_hw81.1
theorem k0_off222_inb : ∀ (v1984 : BitVec 32) (k0_hw81 : k0_chk81 v1984), ∀ a, (k0_off222 v1984) a + S8x64.size a ≤ S1256x64.size a := fun v1984 k0_hw81 => k0_hw81.2.1
theorem k0_mult122_dvd : ∀ (v1984 : BitVec 32) (k0_hw81 : k0_chk81 v1984), 8 ∣ (k0_mult122 v1984).toNat := fun v1984 k0_hw81 => k0_hw81.2.2.1
theorem k0_off223_inb : ∀ (v1984 : BitVec 32) (k0_hw81 : k0_chk81 v1984), ∀ a, (k0_off223 v1984) a + S8x128.size a ≤ S8192x128.size a := fun v1984 k0_hw81 => k0_hw81.2.2.2

def k0_off224 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2012 : Index := Scalar.indexCast v23
  let c0_i32_44 : BitVec 32 := 0#32
  let c1_i32_46 : BitVec 32 := 1#32
  let arg22 : BitVec 32 := Scf.iv c0_i32_44 c1_i32_46 k0_t11
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult123 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off225 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult124 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off226 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk82 (v2014 : BitVec 32) : Prop :=
  (8 ∣ (k0_mult123 v2014).toNat) ∧
  (∀ a, (k0_off225 v2014) a + S8x64.size a ≤ S1256x64.size a) ∧
  (8 ∣ (k0_mult124 v2014).toNat) ∧
  (∀ a, (k0_off226 v2014) a + S8x128.size a ≤ S8192x128.size a)
theorem k0_mult123_dvd : ∀ (v2014 : BitVec 32) (k0_hw82 : k0_chk82 v2014), 8 ∣ (k0_mult123 v2014).toNat := fun v2014 k0_hw82 => k0_hw82.1
theorem k0_off225_inb : ∀ (v2014 : BitVec 32) (k0_hw82 : k0_chk82 v2014), ∀ a, (k0_off225 v2014) a + S8x64.size a ≤ S1256x64.size a := fun v2014 k0_hw82 => k0_hw82.2.1
theorem k0_mult124_dvd : ∀ (v2014 : BitVec 32) (k0_hw82 : k0_chk82 v2014), 8 ∣ (k0_mult124 v2014).toNat := fun v2014 k0_hw82 => k0_hw82.2.2.1
theorem k0_off226_inb : ∀ (v2014 : BitVec 32) (k0_hw82 : k0_chk82 v2014), ∀ a, (k0_off226 v2014) a + S8x128.size a ≤ S8192x128.size a := fun v2014 k0_hw82 => k0_hw82.2.2.2

def k0_off227 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2042 : Index := Scalar.indexCast v23
  let c0_i32_44 : BitVec 32 := 0#32
  let c1_i32_46 : BitVec 32 := 1#32
  let arg22 : BitVec 32 := Scf.iv c0_i32_44 c1_i32_46 k0_t11
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult125 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off228 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult126 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off229 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk83 (v2044 : BitVec 32) : Prop :=
  (8 ∣ (k0_mult125 v2044).toNat) ∧
  (∀ a, (k0_off228 v2044) a + S8x64.size a ≤ S1256x64.size a) ∧
  (8 ∣ (k0_mult126 v2044).toNat) ∧
  (∀ a, (k0_off229 v2044) a + S8x128.size a ≤ S8192x128.size a)
theorem k0_mult125_dvd : ∀ (v2044 : BitVec 32) (k0_hw83 : k0_chk83 v2044), 8 ∣ (k0_mult125 v2044).toNat := fun v2044 k0_hw83 => k0_hw83.1
theorem k0_off228_inb : ∀ (v2044 : BitVec 32) (k0_hw83 : k0_chk83 v2044), ∀ a, (k0_off228 v2044) a + S8x64.size a ≤ S1256x64.size a := fun v2044 k0_hw83 => k0_hw83.2.1
theorem k0_mult126_dvd : ∀ (v2044 : BitVec 32) (k0_hw83 : k0_chk83 v2044), 8 ∣ (k0_mult126 v2044).toNat := fun v2044 k0_hw83 => k0_hw83.2.2.1
theorem k0_off229_inb : ∀ (v2044 : BitVec 32) (k0_hw83 : k0_chk83 v2044), ∀ a, (k0_off229 v2044) a + S8x128.size a ≤ S8192x128.size a := fun v2044 k0_hw83 => k0_hw83.2.2.2

def k0_off230 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2072 : Index := Scalar.indexCast v23
  let c0_i32_44 : BitVec 32 := 0#32
  let c1_i32_46 : BitVec 32 := 1#32
  let arg22 : BitVec 32 := Scf.iv c0_i32_44 c1_i32_46 k0_t11
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult127 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off231 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult128 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off232 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk84 (v2074 : BitVec 32) : Prop :=
  (8 ∣ (k0_mult127 v2074).toNat) ∧
  (∀ a, (k0_off231 v2074) a + S8x64.size a ≤ S1256x64.size a) ∧
  (8 ∣ (k0_mult128 v2074).toNat) ∧
  (∀ a, (k0_off232 v2074) a + S8x128.size a ≤ S8192x128.size a)
theorem k0_mult127_dvd : ∀ (v2074 : BitVec 32) (k0_hw84 : k0_chk84 v2074), 8 ∣ (k0_mult127 v2074).toNat := fun v2074 k0_hw84 => k0_hw84.1
theorem k0_off231_inb : ∀ (v2074 : BitVec 32) (k0_hw84 : k0_chk84 v2074), ∀ a, (k0_off231 v2074) a + S8x64.size a ≤ S1256x64.size a := fun v2074 k0_hw84 => k0_hw84.2.1
theorem k0_mult128_dvd : ∀ (v2074 : BitVec 32) (k0_hw84 : k0_chk84 v2074), 8 ∣ (k0_mult128 v2074).toNat := fun v2074 k0_hw84 => k0_hw84.2.2.1
theorem k0_off232_inb : ∀ (v2074 : BitVec 32) (k0_hw84 : k0_chk84 v2074), ∀ a, (k0_off232 v2074) a + S8x128.size a ≤ S8192x128.size a := fun v2074 k0_hw84 => k0_hw84.2.2.2

def k0_off233 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2102 : Index := Scalar.indexCast v23
  let c0_i32_44 : BitVec 32 := 0#32
  let c1_i32_46 : BitVec 32 := 1#32
  let arg22 : BitVec 32 := Scf.iv c0_i32_44 c1_i32_46 k0_t11
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult129 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off234 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult130 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off235 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk85 (v2104 : BitVec 32) : Prop :=
  (8 ∣ (k0_mult129 v2104).toNat) ∧
  (∀ a, (k0_off234 v2104) a + S8x64.size a ≤ S1256x64.size a) ∧
  (8 ∣ (k0_mult130 v2104).toNat) ∧
  (∀ a, (k0_off235 v2104) a + S8x128.size a ≤ S8192x128.size a)
theorem k0_mult129_dvd : ∀ (v2104 : BitVec 32) (k0_hw85 : k0_chk85 v2104), 8 ∣ (k0_mult129 v2104).toNat := fun v2104 k0_hw85 => k0_hw85.1
theorem k0_off234_inb : ∀ (v2104 : BitVec 32) (k0_hw85 : k0_chk85 v2104), ∀ a, (k0_off234 v2104) a + S8x64.size a ≤ S1256x64.size a := fun v2104 k0_hw85 => k0_hw85.2.1
theorem k0_mult130_dvd : ∀ (v2104 : BitVec 32) (k0_hw85 : k0_chk85 v2104), 8 ∣ (k0_mult130 v2104).toNat := fun v2104 k0_hw85 => k0_hw85.2.2.1
theorem k0_off235_inb : ∀ (v2104 : BitVec 32) (k0_hw85 : k0_chk85 v2104), ∀ a, (k0_off235 v2104) a + S8x128.size a ≤ S8192x128.size a := fun v2104 k0_hw85 => k0_hw85.2.2.2

def k0_off236 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2132 : Index := Scalar.indexCast v23
  let c0_i32_44 : BitVec 32 := 0#32
  let c1_i32_46 : BitVec 32 := 1#32
  let arg22 : BitVec 32 := Scf.iv c0_i32_44 c1_i32_46 k0_t11
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult131 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off237 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult132 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off238 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk86 (v2134 : BitVec 32) : Prop :=
  (8 ∣ (k0_mult131 v2134).toNat) ∧
  (∀ a, (k0_off237 v2134) a + S8x64.size a ≤ S1256x64.size a) ∧
  (8 ∣ (k0_mult132 v2134).toNat) ∧
  (∀ a, (k0_off238 v2134) a + S8x128.size a ≤ S8192x128.size a)
theorem k0_mult131_dvd : ∀ (v2134 : BitVec 32) (k0_hw86 : k0_chk86 v2134), 8 ∣ (k0_mult131 v2134).toNat := fun v2134 k0_hw86 => k0_hw86.1
theorem k0_off237_inb : ∀ (v2134 : BitVec 32) (k0_hw86 : k0_chk86 v2134), ∀ a, (k0_off237 v2134) a + S8x64.size a ≤ S1256x64.size a := fun v2134 k0_hw86 => k0_hw86.2.1
theorem k0_mult132_dvd : ∀ (v2134 : BitVec 32) (k0_hw86 : k0_chk86 v2134), 8 ∣ (k0_mult132 v2134).toNat := fun v2134 k0_hw86 => k0_hw86.2.2.1
theorem k0_off238_inb : ∀ (v2134 : BitVec 32) (k0_hw86 : k0_chk86 v2134), ∀ a, (k0_off238 v2134) a + S8x128.size a ≤ S8192x128.size a := fun v2134 k0_hw86 => k0_hw86.2.2.2

def k0_off239 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2162 : Index := Scalar.indexCast v23
  let c0_i32_44 : BitVec 32 := 0#32
  let c1_i32_46 : BitVec 32 := 1#32
  let arg22 : BitVec 32 := Scf.iv c0_i32_44 c1_i32_46 k0_t11
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult133 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off240 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult134 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off241 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk87 (v2164 : BitVec 32) : Prop :=
  (8 ∣ (k0_mult133 v2164).toNat) ∧
  (∀ a, (k0_off240 v2164) a + S8x64.size a ≤ S1256x64.size a) ∧
  (8 ∣ (k0_mult134 v2164).toNat) ∧
  (∀ a, (k0_off241 v2164) a + S8x128.size a ≤ S8192x128.size a)
theorem k0_mult133_dvd : ∀ (v2164 : BitVec 32) (k0_hw87 : k0_chk87 v2164), 8 ∣ (k0_mult133 v2164).toNat := fun v2164 k0_hw87 => k0_hw87.1
theorem k0_off240_inb : ∀ (v2164 : BitVec 32) (k0_hw87 : k0_chk87 v2164), ∀ a, (k0_off240 v2164) a + S8x64.size a ≤ S1256x64.size a := fun v2164 k0_hw87 => k0_hw87.2.1
theorem k0_mult134_dvd : ∀ (v2164 : BitVec 32) (k0_hw87 : k0_chk87 v2164), 8 ∣ (k0_mult134 v2164).toNat := fun v2164 k0_hw87 => k0_hw87.2.2.1
theorem k0_off241_inb : ∀ (v2164 : BitVec 32) (k0_hw87 : k0_chk87 v2164), ∀ a, (k0_off241 v2164) a + S8x128.size a ≤ S8192x128.size a := fun v2164 k0_hw87 => k0_hw87.2.2.2

def k0_off242 (i : grid0.Coords) (k0_t11 : Fin k0_t11_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2192 : Index := Scalar.indexCast v23
  let c0_i32_44 : BitVec 32 := 0#32
  let c1_i32_46 : BitVec 32 := 1#32
  let arg22 : BitVec 32 := Scf.iv c0_i32_44 c1_i32_46 k0_t11
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult135 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off243 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult136 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off244 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk88 (v2194 : BitVec 32) : Prop :=
  (8 ∣ (k0_mult135 v2194).toNat) ∧
  (∀ a, (k0_off243 v2194) a + S8x64.size a ≤ S1256x64.size a) ∧
  (8 ∣ (k0_mult136 v2194).toNat) ∧
  (∀ a, (k0_off244 v2194) a + S8x128.size a ≤ S8192x128.size a)
theorem k0_mult135_dvd : ∀ (v2194 : BitVec 32) (k0_hw88 : k0_chk88 v2194), 8 ∣ (k0_mult135 v2194).toNat := fun v2194 k0_hw88 => k0_hw88.1
theorem k0_off243_inb : ∀ (v2194 : BitVec 32) (k0_hw88 : k0_chk88 v2194), ∀ a, (k0_off243 v2194) a + S8x64.size a ≤ S1256x64.size a := fun v2194 k0_hw88 => k0_hw88.2.1
theorem k0_mult136_dvd : ∀ (v2194 : BitVec 32) (k0_hw88 : k0_chk88 v2194), 8 ∣ (k0_mult136 v2194).toNat := fun v2194 k0_hw88 => k0_hw88.2.2.1
theorem k0_off244_inb : ∀ (v2194 : BitVec 32) (k0_hw88 : k0_chk88 v2194), ∀ a, (k0_off244 v2194) a + S8x128.size a ≤ S8192x128.size a := fun v2194 k0_hw88 => k0_hw88.2.2.2

def k0_off245 (k0_t11 : Fin k0_t11_loop.trips) : Fin 2 → Nat :=
  let c1280_i32 : BitVec 32 := 1280#32
  let c0_i32_44 : BitVec 32 := 0#32
  let c1_i32_46 : BitVec 32 := 1#32
  let arg22 : BitVec 32 := Scf.iv c0_i32_44 c1_i32_46 k0_t11
  let c8_i32_1302 : BitVec 32 := 8#32
  let v2220 : BitVec 32 := Scalar.muli arg22 c8_i32_1302
  let v2221 : BitVec 32 := Scalar.addi c1280_i32 v2220
  let v2222 : Index := Scalar.indexCast v2221
  let c0_1303 : Index := 0#32
  ![v2222.toNat, 0]
def k0_off246 (k0_t11 : Fin k0_t11_loop.trips) : Fin 2 → Nat :=
  let c1280_i32 : BitVec 32 := 1280#32
  let c0_i32_44 : BitVec 32 := 0#32
  let c1_i32_46 : BitVec 32 := 1#32
  let arg22 : BitVec 32 := Scf.iv c0_i32_44 c1_i32_46 k0_t11
  let c8_i32_1302 : BitVec 32 := 8#32
  let v2220 : BitVec 32 := Scalar.muli arg22 c8_i32_1302
  let v2221 : BitVec 32 := Scalar.addi c1280_i32 v2220
  let v2226 : Index := Scalar.indexCast v2221
  let c0_1304 : Index := 0#32
  ![v2226.toNat, 0]
@[reducible] def k0_t12_loop : Scf.Loop 32 :=
  let c24_i32_48 : BitVec 32 := 24#32
  let c8_i32_49 : BitVec 32 := 8#32
  let v25 : BitVec 32 := Scalar.addi c24_i32_48 c8_i32_49
  let c1_i32_50 : BitVec 32 := 1#32
  ⟨c24_i32_48, v25, c1_i32_50⟩
def k0_off247 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v1982 : Index := Scalar.indexCast v23
  let c24_i32_48 : BitVec 32 := 24#32
  let c1_i32_50 : BitVec 32 := 1#32
  let arg22 : BitVec 32 := Scf.iv c24_i32_48 c1_i32_50 k0_t12
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult137 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off248 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk89 (v1984 : BitVec 32) : Prop :=
  (8 ∣ (k0_mult137 v1984).toNat) ∧
  (∀ a, (k0_off248 v1984) a + S8x64.size a ≤ S1256x64.size a)
theorem k0_mult137_dvd : ∀ (v1984 : BitVec 32) (k0_hw89 : k0_chk89 v1984), 8 ∣ (k0_mult137 v1984).toNat := fun v1984 k0_hw89 => k0_hw89.1
theorem k0_off248_inb : ∀ (v1984 : BitVec 32) (k0_hw89 : k0_chk89 v1984), ∀ a, (k0_off248 v1984) a + S8x64.size a ≤ S1256x64.size a := fun v1984 k0_hw89 => k0_hw89.2

def k0_off249 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2000 : Index := Scalar.indexCast v23
  let c24_i32_48 : BitVec 32 := 24#32
  let c1_i32_50 : BitVec 32 := 1#32
  let arg22 : BitVec 32 := Scf.iv c24_i32_48 c1_i32_50 k0_t12
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult138 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off250 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk90 (v2002 : BitVec 32) : Prop :=
  (8 ∣ (k0_mult138 v2002).toNat) ∧
  (∀ a, (k0_off250 v2002) a + S8x64.size a ≤ S1256x64.size a)
theorem k0_mult138_dvd : ∀ (v2002 : BitVec 32) (k0_hw90 : k0_chk90 v2002), 8 ∣ (k0_mult138 v2002).toNat := fun v2002 k0_hw90 => k0_hw90.1
theorem k0_off250_inb : ∀ (v2002 : BitVec 32) (k0_hw90 : k0_chk90 v2002), ∀ a, (k0_off250 v2002) a + S8x64.size a ≤ S1256x64.size a := fun v2002 k0_hw90 => k0_hw90.2

def k0_off251 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2018 : Index := Scalar.indexCast v23
  let c24_i32_48 : BitVec 32 := 24#32
  let c1_i32_50 : BitVec 32 := 1#32
  let arg22 : BitVec 32 := Scf.iv c24_i32_48 c1_i32_50 k0_t12
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult139 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off252 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk91 (v2020 : BitVec 32) : Prop :=
  (8 ∣ (k0_mult139 v2020).toNat) ∧
  (∀ a, (k0_off252 v2020) a + S8x64.size a ≤ S1256x64.size a)
theorem k0_mult139_dvd : ∀ (v2020 : BitVec 32) (k0_hw91 : k0_chk91 v2020), 8 ∣ (k0_mult139 v2020).toNat := fun v2020 k0_hw91 => k0_hw91.1
theorem k0_off252_inb : ∀ (v2020 : BitVec 32) (k0_hw91 : k0_chk91 v2020), ∀ a, (k0_off252 v2020) a + S8x64.size a ≤ S1256x64.size a := fun v2020 k0_hw91 => k0_hw91.2

def k0_off253 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2036 : Index := Scalar.indexCast v23
  let c24_i32_48 : BitVec 32 := 24#32
  let c1_i32_50 : BitVec 32 := 1#32
  let arg22 : BitVec 32 := Scf.iv c24_i32_48 c1_i32_50 k0_t12
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult140 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off254 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk92 (v2038 : BitVec 32) : Prop :=
  (8 ∣ (k0_mult140 v2038).toNat) ∧
  (∀ a, (k0_off254 v2038) a + S8x64.size a ≤ S1256x64.size a)
theorem k0_mult140_dvd : ∀ (v2038 : BitVec 32) (k0_hw92 : k0_chk92 v2038), 8 ∣ (k0_mult140 v2038).toNat := fun v2038 k0_hw92 => k0_hw92.1
theorem k0_off254_inb : ∀ (v2038 : BitVec 32) (k0_hw92 : k0_chk92 v2038), ∀ a, (k0_off254 v2038) a + S8x64.size a ≤ S1256x64.size a := fun v2038 k0_hw92 => k0_hw92.2

def k0_off255 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2054 : Index := Scalar.indexCast v23
  let c24_i32_48 : BitVec 32 := 24#32
  let c1_i32_50 : BitVec 32 := 1#32
  let arg22 : BitVec 32 := Scf.iv c24_i32_48 c1_i32_50 k0_t12
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult141 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off256 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk93 (v2056 : BitVec 32) : Prop :=
  (8 ∣ (k0_mult141 v2056).toNat) ∧
  (∀ a, (k0_off256 v2056) a + S8x64.size a ≤ S1256x64.size a)
theorem k0_mult141_dvd : ∀ (v2056 : BitVec 32) (k0_hw93 : k0_chk93 v2056), 8 ∣ (k0_mult141 v2056).toNat := fun v2056 k0_hw93 => k0_hw93.1
theorem k0_off256_inb : ∀ (v2056 : BitVec 32) (k0_hw93 : k0_chk93 v2056), ∀ a, (k0_off256 v2056) a + S8x64.size a ≤ S1256x64.size a := fun v2056 k0_hw93 => k0_hw93.2

def k0_off257 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2072 : Index := Scalar.indexCast v23
  let c24_i32_48 : BitVec 32 := 24#32
  let c1_i32_50 : BitVec 32 := 1#32
  let arg22 : BitVec 32 := Scf.iv c24_i32_48 c1_i32_50 k0_t12
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult142 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off258 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk94 (v2074 : BitVec 32) : Prop :=
  (8 ∣ (k0_mult142 v2074).toNat) ∧
  (∀ a, (k0_off258 v2074) a + S8x64.size a ≤ S1256x64.size a)
theorem k0_mult142_dvd : ∀ (v2074 : BitVec 32) (k0_hw94 : k0_chk94 v2074), 8 ∣ (k0_mult142 v2074).toNat := fun v2074 k0_hw94 => k0_hw94.1
theorem k0_off258_inb : ∀ (v2074 : BitVec 32) (k0_hw94 : k0_chk94 v2074), ∀ a, (k0_off258 v2074) a + S8x64.size a ≤ S1256x64.size a := fun v2074 k0_hw94 => k0_hw94.2

def k0_off259 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2090 : Index := Scalar.indexCast v23
  let c24_i32_48 : BitVec 32 := 24#32
  let c1_i32_50 : BitVec 32 := 1#32
  let arg22 : BitVec 32 := Scf.iv c24_i32_48 c1_i32_50 k0_t12
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult143 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off260 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk95 (v2092 : BitVec 32) : Prop :=
  (8 ∣ (k0_mult143 v2092).toNat) ∧
  (∀ a, (k0_off260 v2092) a + S8x64.size a ≤ S1256x64.size a)
theorem k0_mult143_dvd : ∀ (v2092 : BitVec 32) (k0_hw95 : k0_chk95 v2092), 8 ∣ (k0_mult143 v2092).toNat := fun v2092 k0_hw95 => k0_hw95.1
theorem k0_off260_inb : ∀ (v2092 : BitVec 32) (k0_hw95 : k0_chk95 v2092), ∀ a, (k0_off260 v2092) a + S8x64.size a ≤ S1256x64.size a := fun v2092 k0_hw95 => k0_hw95.2

def k0_off261 (i : grid0.Coords) (k0_t12 : Fin k0_t12_loop.trips) : Fin 2 → Nat :=
  let arg0 : BitVec 32 := BitVec.ofNat 32 (i 0).val
  let c8_i32_43 : BitVec 32 := 8#32
  let v22 : BitVec 32 := Scalar.muli arg0 c8_i32_43
  let c5_i32 : BitVec 32 := 5#32
  let v23 : BitVec 32 := Scalar.addi v22 c5_i32
  let v2108 : Index := Scalar.indexCast v23
  let c24_i32_48 : BitVec 32 := 24#32
  let c1_i32_50 : BitVec 32 := 1#32
  let arg22 : BitVec 32 := Scf.iv c24_i32_48 c1_i32_50 k0_t12
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult144 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off262 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk96 (v2110 : BitVec 32) : Prop :=
  (8 ∣ (k0_mult144 v2110).toNat) ∧
  (∀ a, (k0_off262 v2110) a + S8x64.size a ≤ S1256x64.size a)
theorem k0_mult144_dvd : ∀ (v2110 : BitVec 32) (k0_hw96 : k0_chk96 v2110), 8 ∣ (k0_mult144 v2110).toNat := fun v2110 k0_hw96 => k0_hw96.1
theorem k0_off262_inb : ∀ (v2110 : BitVec 32) (k0_hw96 : k0_chk96 v2110), ∀ a, (k0_off262 v2110) a + S8x64.size a ≤ S1256x64.size a := fun v2110 k0_hw96 => k0_hw96.2

def k0_off263 (k0_t12 : Fin k0_t12_loop.trips) : Fin 2 → Nat :=
  let c1280_i32 : BitVec 32 := 1280#32
  let c24_i32_48 : BitVec 32 := 24#32
  let c1_i32_50 : BitVec 32 := 1#32
  let arg22 : BitVec 32 := Scf.iv c24_i32_48 c1_i32_50 k0_t12
  let c8_i32_1247 : BitVec 32 := 8#32
  let v2124 : BitVec 32 := Scalar.muli arg22 c8_i32_1247
  let v2125 : BitVec 32 := Scalar.addi c1280_i32 v2124
  let v2126 : Index := Scalar.indexCast v2125
  let c0_1248 : Index := 0#32
  ![v2126.toNat, 0]
def k0_off264 (k0_t12 : Fin k0_t12_loop.trips) : Fin 2 → Nat :=
  let c1280_i32 : BitVec 32 := 1280#32
  let c24_i32_48 : BitVec 32 := 24#32
  let c1_i32_50 : BitVec 32 := 1#32
  let arg22 : BitVec 32 := Scf.iv c24_i32_48 c1_i32_50 k0_t12
  let c8_i32_1247 : BitVec 32 := 8#32
  let v2124 : BitVec 32 := Scalar.muli arg22 c8_i32_1247
  let v2125 : BitVec 32 := Scalar.addi c1280_i32 v2124
  let v2130 : Index := Scalar.indexCast v2125
  let c0_1249 : Index := 0#32
  ![v2130.toNat, 0]
@[reducible] def k0_t13_loop : Scf.Loop 32 :=
  let c0_i32_53 : BitVec 32 := 0#32
  let c24_i32_54 : BitVec 32 := 24#32
  let v28 : BitVec 32 := Scalar.addi c0_i32_53 c24_i32_54
  let c1_i32_55 : BitVec 32 := 1#32
  ⟨c0_i32_53, v28, c1_i32_55⟩
def k0_off265 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v1982 : Index := Scalar.indexCast v27
  let c0_i32_53 : BitVec 32 := 0#32
  let c1_i32_55 : BitVec 32 := 1#32
  let arg22 : BitVec 32 := Scf.iv c0_i32_53 c1_i32_55 k0_t13
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult145 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off266 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult146 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off267 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk97 (v1984 : BitVec 32) : Prop :=
  (8 ∣ (k0_mult145 v1984).toNat) ∧
  (∀ a, (k0_off266 v1984) a + S8x64.size a ≤ S1256x64.size a) ∧
  (8 ∣ (k0_mult146 v1984).toNat) ∧
  (∀ a, (k0_off267 v1984) a + S8x128.size a ≤ S8192x128.size a)
theorem k0_mult145_dvd : ∀ (v1984 : BitVec 32) (k0_hw97 : k0_chk97 v1984), 8 ∣ (k0_mult145 v1984).toNat := fun v1984 k0_hw97 => k0_hw97.1
theorem k0_off266_inb : ∀ (v1984 : BitVec 32) (k0_hw97 : k0_chk97 v1984), ∀ a, (k0_off266 v1984) a + S8x64.size a ≤ S1256x64.size a := fun v1984 k0_hw97 => k0_hw97.2.1
theorem k0_mult146_dvd : ∀ (v1984 : BitVec 32) (k0_hw97 : k0_chk97 v1984), 8 ∣ (k0_mult146 v1984).toNat := fun v1984 k0_hw97 => k0_hw97.2.2.1
theorem k0_off267_inb : ∀ (v1984 : BitVec 32) (k0_hw97 : k0_chk97 v1984), ∀ a, (k0_off267 v1984) a + S8x128.size a ≤ S8192x128.size a := fun v1984 k0_hw97 => k0_hw97.2.2.2

def k0_off268 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2012 : Index := Scalar.indexCast v27
  let c0_i32_53 : BitVec 32 := 0#32
  let c1_i32_55 : BitVec 32 := 1#32
  let arg22 : BitVec 32 := Scf.iv c0_i32_53 c1_i32_55 k0_t13
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult147 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off269 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult148 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off270 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk98 (v2014 : BitVec 32) : Prop :=
  (8 ∣ (k0_mult147 v2014).toNat) ∧
  (∀ a, (k0_off269 v2014) a + S8x64.size a ≤ S1256x64.size a) ∧
  (8 ∣ (k0_mult148 v2014).toNat) ∧
  (∀ a, (k0_off270 v2014) a + S8x128.size a ≤ S8192x128.size a)
theorem k0_mult147_dvd : ∀ (v2014 : BitVec 32) (k0_hw98 : k0_chk98 v2014), 8 ∣ (k0_mult147 v2014).toNat := fun v2014 k0_hw98 => k0_hw98.1
theorem k0_off269_inb : ∀ (v2014 : BitVec 32) (k0_hw98 : k0_chk98 v2014), ∀ a, (k0_off269 v2014) a + S8x64.size a ≤ S1256x64.size a := fun v2014 k0_hw98 => k0_hw98.2.1
theorem k0_mult148_dvd : ∀ (v2014 : BitVec 32) (k0_hw98 : k0_chk98 v2014), 8 ∣ (k0_mult148 v2014).toNat := fun v2014 k0_hw98 => k0_hw98.2.2.1
theorem k0_off270_inb : ∀ (v2014 : BitVec 32) (k0_hw98 : k0_chk98 v2014), ∀ a, (k0_off270 v2014) a + S8x128.size a ≤ S8192x128.size a := fun v2014 k0_hw98 => k0_hw98.2.2.2

def k0_off271 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2042 : Index := Scalar.indexCast v27
  let c0_i32_53 : BitVec 32 := 0#32
  let c1_i32_55 : BitVec 32 := 1#32
  let arg22 : BitVec 32 := Scf.iv c0_i32_53 c1_i32_55 k0_t13
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult149 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off272 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult150 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off273 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk99 (v2044 : BitVec 32) : Prop :=
  (8 ∣ (k0_mult149 v2044).toNat) ∧
  (∀ a, (k0_off272 v2044) a + S8x64.size a ≤ S1256x64.size a) ∧
  (8 ∣ (k0_mult150 v2044).toNat) ∧
  (∀ a, (k0_off273 v2044) a + S8x128.size a ≤ S8192x128.size a)
theorem k0_mult149_dvd : ∀ (v2044 : BitVec 32) (k0_hw99 : k0_chk99 v2044), 8 ∣ (k0_mult149 v2044).toNat := fun v2044 k0_hw99 => k0_hw99.1
theorem k0_off272_inb : ∀ (v2044 : BitVec 32) (k0_hw99 : k0_chk99 v2044), ∀ a, (k0_off272 v2044) a + S8x64.size a ≤ S1256x64.size a := fun v2044 k0_hw99 => k0_hw99.2.1
theorem k0_mult150_dvd : ∀ (v2044 : BitVec 32) (k0_hw99 : k0_chk99 v2044), 8 ∣ (k0_mult150 v2044).toNat := fun v2044 k0_hw99 => k0_hw99.2.2.1
theorem k0_off273_inb : ∀ (v2044 : BitVec 32) (k0_hw99 : k0_chk99 v2044), ∀ a, (k0_off273 v2044) a + S8x128.size a ≤ S8192x128.size a := fun v2044 k0_hw99 => k0_hw99.2.2.2

def k0_off274 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2072 : Index := Scalar.indexCast v27
  let c0_i32_53 : BitVec 32 := 0#32
  let c1_i32_55 : BitVec 32 := 1#32
  let arg22 : BitVec 32 := Scf.iv c0_i32_53 c1_i32_55 k0_t13
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult151 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off275 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult152 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off276 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk100 (v2074 : BitVec 32) : Prop :=
  (8 ∣ (k0_mult151 v2074).toNat) ∧
  (∀ a, (k0_off275 v2074) a + S8x64.size a ≤ S1256x64.size a) ∧
  (8 ∣ (k0_mult152 v2074).toNat) ∧
  (∀ a, (k0_off276 v2074) a + S8x128.size a ≤ S8192x128.size a)
theorem k0_mult151_dvd : ∀ (v2074 : BitVec 32) (k0_hw100 : k0_chk100 v2074), 8 ∣ (k0_mult151 v2074).toNat := fun v2074 k0_hw100 => k0_hw100.1
theorem k0_off275_inb : ∀ (v2074 : BitVec 32) (k0_hw100 : k0_chk100 v2074), ∀ a, (k0_off275 v2074) a + S8x64.size a ≤ S1256x64.size a := fun v2074 k0_hw100 => k0_hw100.2.1
theorem k0_mult152_dvd : ∀ (v2074 : BitVec 32) (k0_hw100 : k0_chk100 v2074), 8 ∣ (k0_mult152 v2074).toNat := fun v2074 k0_hw100 => k0_hw100.2.2.1
theorem k0_off276_inb : ∀ (v2074 : BitVec 32) (k0_hw100 : k0_chk100 v2074), ∀ a, (k0_off276 v2074) a + S8x128.size a ≤ S8192x128.size a := fun v2074 k0_hw100 => k0_hw100.2.2.2

def k0_off277 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2102 : Index := Scalar.indexCast v27
  let c0_i32_53 : BitVec 32 := 0#32
  let c1_i32_55 : BitVec 32 := 1#32
  let arg22 : BitVec 32 := Scf.iv c0_i32_53 c1_i32_55 k0_t13
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult153 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off278 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult154 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off279 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk101 (v2104 : BitVec 32) : Prop :=
  (8 ∣ (k0_mult153 v2104).toNat) ∧
  (∀ a, (k0_off278 v2104) a + S8x64.size a ≤ S1256x64.size a) ∧
  (8 ∣ (k0_mult154 v2104).toNat) ∧
  (∀ a, (k0_off279 v2104) a + S8x128.size a ≤ S8192x128.size a)
theorem k0_mult153_dvd : ∀ (v2104 : BitVec 32) (k0_hw101 : k0_chk101 v2104), 8 ∣ (k0_mult153 v2104).toNat := fun v2104 k0_hw101 => k0_hw101.1
theorem k0_off278_inb : ∀ (v2104 : BitVec 32) (k0_hw101 : k0_chk101 v2104), ∀ a, (k0_off278 v2104) a + S8x64.size a ≤ S1256x64.size a := fun v2104 k0_hw101 => k0_hw101.2.1
theorem k0_mult154_dvd : ∀ (v2104 : BitVec 32) (k0_hw101 : k0_chk101 v2104), 8 ∣ (k0_mult154 v2104).toNat := fun v2104 k0_hw101 => k0_hw101.2.2.1
theorem k0_off279_inb : ∀ (v2104 : BitVec 32) (k0_hw101 : k0_chk101 v2104), ∀ a, (k0_off279 v2104) a + S8x128.size a ≤ S8192x128.size a := fun v2104 k0_hw101 => k0_hw101.2.2.2

def k0_off280 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2132 : Index := Scalar.indexCast v27
  let c0_i32_53 : BitVec 32 := 0#32
  let c1_i32_55 : BitVec 32 := 1#32
  let arg22 : BitVec 32 := Scf.iv c0_i32_53 c1_i32_55 k0_t13
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult155 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off281 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult156 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off282 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk102 (v2134 : BitVec 32) : Prop :=
  (8 ∣ (k0_mult155 v2134).toNat) ∧
  (∀ a, (k0_off281 v2134) a + S8x64.size a ≤ S1256x64.size a) ∧
  (8 ∣ (k0_mult156 v2134).toNat) ∧
  (∀ a, (k0_off282 v2134) a + S8x128.size a ≤ S8192x128.size a)
theorem k0_mult155_dvd : ∀ (v2134 : BitVec 32) (k0_hw102 : k0_chk102 v2134), 8 ∣ (k0_mult155 v2134).toNat := fun v2134 k0_hw102 => k0_hw102.1
theorem k0_off281_inb : ∀ (v2134 : BitVec 32) (k0_hw102 : k0_chk102 v2134), ∀ a, (k0_off281 v2134) a + S8x64.size a ≤ S1256x64.size a := fun v2134 k0_hw102 => k0_hw102.2.1
theorem k0_mult156_dvd : ∀ (v2134 : BitVec 32) (k0_hw102 : k0_chk102 v2134), 8 ∣ (k0_mult156 v2134).toNat := fun v2134 k0_hw102 => k0_hw102.2.2.1
theorem k0_off282_inb : ∀ (v2134 : BitVec 32) (k0_hw102 : k0_chk102 v2134), ∀ a, (k0_off282 v2134) a + S8x128.size a ≤ S8192x128.size a := fun v2134 k0_hw102 => k0_hw102.2.2.2

def k0_off283 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2162 : Index := Scalar.indexCast v27
  let c0_i32_53 : BitVec 32 := 0#32
  let c1_i32_55 : BitVec 32 := 1#32
  let arg22 : BitVec 32 := Scf.iv c0_i32_53 c1_i32_55 k0_t13
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult157 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off284 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult158 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off285 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk103 (v2164 : BitVec 32) : Prop :=
  (8 ∣ (k0_mult157 v2164).toNat) ∧
  (∀ a, (k0_off284 v2164) a + S8x64.size a ≤ S1256x64.size a) ∧
  (8 ∣ (k0_mult158 v2164).toNat) ∧
  (∀ a, (k0_off285 v2164) a + S8x128.size a ≤ S8192x128.size a)
theorem k0_mult157_dvd : ∀ (v2164 : BitVec 32) (k0_hw103 : k0_chk103 v2164), 8 ∣ (k0_mult157 v2164).toNat := fun v2164 k0_hw103 => k0_hw103.1
theorem k0_off284_inb : ∀ (v2164 : BitVec 32) (k0_hw103 : k0_chk103 v2164), ∀ a, (k0_off284 v2164) a + S8x64.size a ≤ S1256x64.size a := fun v2164 k0_hw103 => k0_hw103.2.1
theorem k0_mult158_dvd : ∀ (v2164 : BitVec 32) (k0_hw103 : k0_chk103 v2164), 8 ∣ (k0_mult158 v2164).toNat := fun v2164 k0_hw103 => k0_hw103.2.2.1
theorem k0_off285_inb : ∀ (v2164 : BitVec 32) (k0_hw103 : k0_chk103 v2164), ∀ a, (k0_off285 v2164) a + S8x128.size a ≤ S8192x128.size a := fun v2164 k0_hw103 => k0_hw103.2.2.2

def k0_off286 (i : grid0.Coords) (k0_t13 : Fin k0_t13_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2192 : Index := Scalar.indexCast v27
  let c0_i32_53 : BitVec 32 := 0#32
  let c1_i32_55 : BitVec 32 := 1#32
  let arg22 : BitVec 32 := Scf.iv c0_i32_53 c1_i32_55 k0_t13
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult159 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off287 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult160 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off288 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk104 (v2194 : BitVec 32) : Prop :=
  (8 ∣ (k0_mult159 v2194).toNat) ∧
  (∀ a, (k0_off287 v2194) a + S8x64.size a ≤ S1256x64.size a) ∧
  (8 ∣ (k0_mult160 v2194).toNat) ∧
  (∀ a, (k0_off288 v2194) a + S8x128.size a ≤ S8192x128.size a)
theorem k0_mult159_dvd : ∀ (v2194 : BitVec 32) (k0_hw104 : k0_chk104 v2194), 8 ∣ (k0_mult159 v2194).toNat := fun v2194 k0_hw104 => k0_hw104.1
theorem k0_off287_inb : ∀ (v2194 : BitVec 32) (k0_hw104 : k0_chk104 v2194), ∀ a, (k0_off287 v2194) a + S8x64.size a ≤ S1256x64.size a := fun v2194 k0_hw104 => k0_hw104.2.1
theorem k0_mult160_dvd : ∀ (v2194 : BitVec 32) (k0_hw104 : k0_chk104 v2194), 8 ∣ (k0_mult160 v2194).toNat := fun v2194 k0_hw104 => k0_hw104.2.2.1
theorem k0_off288_inb : ∀ (v2194 : BitVec 32) (k0_hw104 : k0_chk104 v2194), ∀ a, (k0_off288 v2194) a + S8x128.size a ≤ S8192x128.size a := fun v2194 k0_hw104 => k0_hw104.2.2.2

def k0_off289 (k0_t13 : Fin k0_t13_loop.trips) : Fin 2 → Nat :=
  let c1536_i32 : BitVec 32 := 1536#32
  let c0_i32_53 : BitVec 32 := 0#32
  let c1_i32_55 : BitVec 32 := 1#32
  let arg22 : BitVec 32 := Scf.iv c0_i32_53 c1_i32_55 k0_t13
  let c8_i32_1302 : BitVec 32 := 8#32
  let v2220 : BitVec 32 := Scalar.muli arg22 c8_i32_1302
  let v2221 : BitVec 32 := Scalar.addi c1536_i32 v2220
  let v2222 : Index := Scalar.indexCast v2221
  let c0_1303 : Index := 0#32
  ![v2222.toNat, 0]
def k0_off290 (k0_t13 : Fin k0_t13_loop.trips) : Fin 2 → Nat :=
  let c1536_i32 : BitVec 32 := 1536#32
  let c0_i32_53 : BitVec 32 := 0#32
  let c1_i32_55 : BitVec 32 := 1#32
  let arg22 : BitVec 32 := Scf.iv c0_i32_53 c1_i32_55 k0_t13
  let c8_i32_1302 : BitVec 32 := 8#32
  let v2220 : BitVec 32 := Scalar.muli arg22 c8_i32_1302
  let v2221 : BitVec 32 := Scalar.addi c1536_i32 v2220
  let v2226 : Index := Scalar.indexCast v2221
  let c0_1304 : Index := 0#32
  ![v2226.toNat, 0]
@[reducible] def k0_t14_loop : Scf.Loop 32 :=
  let c24_i32_57 : BitVec 32 := 24#32
  let c8_i32_58 : BitVec 32 := 8#32
  let v29 : BitVec 32 := Scalar.addi c24_i32_57 c8_i32_58
  let c1_i32_59 : BitVec 32 := 1#32
  ⟨c24_i32_57, v29, c1_i32_59⟩
def k0_off291 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v1982 : Index := Scalar.indexCast v27
  let c24_i32_57 : BitVec 32 := 24#32
  let c1_i32_59 : BitVec 32 := 1#32
  let arg22 : BitVec 32 := Scf.iv c24_i32_57 c1_i32_59 k0_t14
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult161 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off292 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk105 (v1984 : BitVec 32) : Prop :=
  (8 ∣ (k0_mult161 v1984).toNat) ∧
  (∀ a, (k0_off292 v1984) a + S8x64.size a ≤ S1256x64.size a)
theorem k0_mult161_dvd : ∀ (v1984 : BitVec 32) (k0_hw105 : k0_chk105 v1984), 8 ∣ (k0_mult161 v1984).toNat := fun v1984 k0_hw105 => k0_hw105.1
theorem k0_off292_inb : ∀ (v1984 : BitVec 32) (k0_hw105 : k0_chk105 v1984), ∀ a, (k0_off292 v1984) a + S8x64.size a ≤ S1256x64.size a := fun v1984 k0_hw105 => k0_hw105.2

def k0_off293 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2000 : Index := Scalar.indexCast v27
  let c24_i32_57 : BitVec 32 := 24#32
  let c1_i32_59 : BitVec 32 := 1#32
  let arg22 : BitVec 32 := Scf.iv c24_i32_57 c1_i32_59 k0_t14
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult162 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off294 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk106 (v2002 : BitVec 32) : Prop :=
  (8 ∣ (k0_mult162 v2002).toNat) ∧
  (∀ a, (k0_off294 v2002) a + S8x64.size a ≤ S1256x64.size a)
theorem k0_mult162_dvd : ∀ (v2002 : BitVec 32) (k0_hw106 : k0_chk106 v2002), 8 ∣ (k0_mult162 v2002).toNat := fun v2002 k0_hw106 => k0_hw106.1
theorem k0_off294_inb : ∀ (v2002 : BitVec 32) (k0_hw106 : k0_chk106 v2002), ∀ a, (k0_off294 v2002) a + S8x64.size a ≤ S1256x64.size a := fun v2002 k0_hw106 => k0_hw106.2

def k0_off295 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2018 : Index := Scalar.indexCast v27
  let c24_i32_57 : BitVec 32 := 24#32
  let c1_i32_59 : BitVec 32 := 1#32
  let arg22 : BitVec 32 := Scf.iv c24_i32_57 c1_i32_59 k0_t14
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult163 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off296 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk107 (v2020 : BitVec 32) : Prop :=
  (8 ∣ (k0_mult163 v2020).toNat) ∧
  (∀ a, (k0_off296 v2020) a + S8x64.size a ≤ S1256x64.size a)
theorem k0_mult163_dvd : ∀ (v2020 : BitVec 32) (k0_hw107 : k0_chk107 v2020), 8 ∣ (k0_mult163 v2020).toNat := fun v2020 k0_hw107 => k0_hw107.1
theorem k0_off296_inb : ∀ (v2020 : BitVec 32) (k0_hw107 : k0_chk107 v2020), ∀ a, (k0_off296 v2020) a + S8x64.size a ≤ S1256x64.size a := fun v2020 k0_hw107 => k0_hw107.2

def k0_off297 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2036 : Index := Scalar.indexCast v27
  let c24_i32_57 : BitVec 32 := 24#32
  let c1_i32_59 : BitVec 32 := 1#32
  let arg22 : BitVec 32 := Scf.iv c24_i32_57 c1_i32_59 k0_t14
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult164 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off298 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk108 (v2038 : BitVec 32) : Prop :=
  (8 ∣ (k0_mult164 v2038).toNat) ∧
  (∀ a, (k0_off298 v2038) a + S8x64.size a ≤ S1256x64.size a)
theorem k0_mult164_dvd : ∀ (v2038 : BitVec 32) (k0_hw108 : k0_chk108 v2038), 8 ∣ (k0_mult164 v2038).toNat := fun v2038 k0_hw108 => k0_hw108.1
theorem k0_off298_inb : ∀ (v2038 : BitVec 32) (k0_hw108 : k0_chk108 v2038), ∀ a, (k0_off298 v2038) a + S8x64.size a ≤ S1256x64.size a := fun v2038 k0_hw108 => k0_hw108.2

def k0_off299 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2054 : Index := Scalar.indexCast v27
  let c24_i32_57 : BitVec 32 := 24#32
  let c1_i32_59 : BitVec 32 := 1#32
  let arg22 : BitVec 32 := Scf.iv c24_i32_57 c1_i32_59 k0_t14
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult165 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off300 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk109 (v2056 : BitVec 32) : Prop :=
  (8 ∣ (k0_mult165 v2056).toNat) ∧
  (∀ a, (k0_off300 v2056) a + S8x64.size a ≤ S1256x64.size a)
theorem k0_mult165_dvd : ∀ (v2056 : BitVec 32) (k0_hw109 : k0_chk109 v2056), 8 ∣ (k0_mult165 v2056).toNat := fun v2056 k0_hw109 => k0_hw109.1
theorem k0_off300_inb : ∀ (v2056 : BitVec 32) (k0_hw109 : k0_chk109 v2056), ∀ a, (k0_off300 v2056) a + S8x64.size a ≤ S1256x64.size a := fun v2056 k0_hw109 => k0_hw109.2

def k0_off301 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2072 : Index := Scalar.indexCast v27
  let c24_i32_57 : BitVec 32 := 24#32
  let c1_i32_59 : BitVec 32 := 1#32
  let arg22 : BitVec 32 := Scf.iv c24_i32_57 c1_i32_59 k0_t14
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult166 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off302 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk110 (v2074 : BitVec 32) : Prop :=
  (8 ∣ (k0_mult166 v2074).toNat) ∧
  (∀ a, (k0_off302 v2074) a + S8x64.size a ≤ S1256x64.size a)
theorem k0_mult166_dvd : ∀ (v2074 : BitVec 32) (k0_hw110 : k0_chk110 v2074), 8 ∣ (k0_mult166 v2074).toNat := fun v2074 k0_hw110 => k0_hw110.1
theorem k0_off302_inb : ∀ (v2074 : BitVec 32) (k0_hw110 : k0_chk110 v2074), ∀ a, (k0_off302 v2074) a + S8x64.size a ≤ S1256x64.size a := fun v2074 k0_hw110 => k0_hw110.2

def k0_off303 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2090 : Index := Scalar.indexCast v27
  let c24_i32_57 : BitVec 32 := 24#32
  let c1_i32_59 : BitVec 32 := 1#32
  let arg22 : BitVec 32 := Scf.iv c24_i32_57 c1_i32_59 k0_t14
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult167 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off304 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk111 (v2092 : BitVec 32) : Prop :=
  (8 ∣ (k0_mult167 v2092).toNat) ∧
  (∀ a, (k0_off304 v2092) a + S8x64.size a ≤ S1256x64.size a)
theorem k0_mult167_dvd : ∀ (v2092 : BitVec 32) (k0_hw111 : k0_chk111 v2092), 8 ∣ (k0_mult167 v2092).toNat := fun v2092 k0_hw111 => k0_hw111.1
theorem k0_off304_inb : ∀ (v2092 : BitVec 32) (k0_hw111 : k0_chk111 v2092), ∀ a, (k0_off304 v2092) a + S8x64.size a ≤ S1256x64.size a := fun v2092 k0_hw111 => k0_hw111.2

def k0_off305 (i : grid0.Coords) (k0_t14 : Fin k0_t14_loop.trips) : Fin 2 → Nat :=
  let arg0 : BitVec 32 := BitVec.ofNat 32 (i 0).val
  let c8_i32_52 : BitVec 32 := 8#32
  let v26 : BitVec 32 := Scalar.muli arg0 c8_i32_52
  let c6_i32 : BitVec 32 := 6#32
  let v27 : BitVec 32 := Scalar.addi v26 c6_i32
  let v2108 : Index := Scalar.indexCast v27
  let c24_i32_57 : BitVec 32 := 24#32
  let c1_i32_59 : BitVec 32 := 1#32
  let arg22 : BitVec 32 := Scf.iv c24_i32_57 c1_i32_59 k0_t14
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult168 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off306 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk112 (v2110 : BitVec 32) : Prop :=
  (8 ∣ (k0_mult168 v2110).toNat) ∧
  (∀ a, (k0_off306 v2110) a + S8x64.size a ≤ S1256x64.size a)
theorem k0_mult168_dvd : ∀ (v2110 : BitVec 32) (k0_hw112 : k0_chk112 v2110), 8 ∣ (k0_mult168 v2110).toNat := fun v2110 k0_hw112 => k0_hw112.1
theorem k0_off306_inb : ∀ (v2110 : BitVec 32) (k0_hw112 : k0_chk112 v2110), ∀ a, (k0_off306 v2110) a + S8x64.size a ≤ S1256x64.size a := fun v2110 k0_hw112 => k0_hw112.2

def k0_off307 (k0_t14 : Fin k0_t14_loop.trips) : Fin 2 → Nat :=
  let c1536_i32 : BitVec 32 := 1536#32
  let c24_i32_57 : BitVec 32 := 24#32
  let c1_i32_59 : BitVec 32 := 1#32
  let arg22 : BitVec 32 := Scf.iv c24_i32_57 c1_i32_59 k0_t14
  let c8_i32_1247 : BitVec 32 := 8#32
  let v2124 : BitVec 32 := Scalar.muli arg22 c8_i32_1247
  let v2125 : BitVec 32 := Scalar.addi c1536_i32 v2124
  let v2126 : Index := Scalar.indexCast v2125
  let c0_1248 : Index := 0#32
  ![v2126.toNat, 0]
def k0_off308 (k0_t14 : Fin k0_t14_loop.trips) : Fin 2 → Nat :=
  let c1536_i32 : BitVec 32 := 1536#32
  let c24_i32_57 : BitVec 32 := 24#32
  let c1_i32_59 : BitVec 32 := 1#32
  let arg22 : BitVec 32 := Scf.iv c24_i32_57 c1_i32_59 k0_t14
  let c8_i32_1247 : BitVec 32 := 8#32
  let v2124 : BitVec 32 := Scalar.muli arg22 c8_i32_1247
  let v2125 : BitVec 32 := Scalar.addi c1536_i32 v2124
  let v2130 : Index := Scalar.indexCast v2125
  let c0_1249 : Index := 0#32
  ![v2130.toNat, 0]
@[reducible] def k0_t15_loop : Scf.Loop 32 :=
  let c0_i32_62 : BitVec 32 := 0#32
  let c24_i32_63 : BitVec 32 := 24#32
  let v32 : BitVec 32 := Scalar.addi c0_i32_62 c24_i32_63
  let c1_i32_64 : BitVec 32 := 1#32
  ⟨c0_i32_62, v32, c1_i32_64⟩
def k0_off309 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v1982 : Index := Scalar.indexCast v31
  let c0_i32_62 : BitVec 32 := 0#32
  let c1_i32_64 : BitVec 32 := 1#32
  let arg22 : BitVec 32 := Scf.iv c0_i32_62 c1_i32_64 k0_t15
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult169 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off310 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]
def k0_mult170 (v1984 : BitVec 32) : BitVec 32 :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  v2000
def k0_off311 (v1984 : BitVec 32) : Fin 2 → Nat :=
  let c11_i32 : BitVec 32 := 11#32
  let v1998 : BitVec 32 := Scalar.shrsi v1984 c11_i32
  let c3_i32_1184 : BitVec 32 := 3#32
  let v1999 : BitVec 32 := Scalar.shrsi v1998 c3_i32_1184
  let c3_i32_1185 : BitVec 32 := 3#32
  let v2000 : BitVec 32 := Scalar.shli v1999 c3_i32_1185
  let v2001 : BitVec 32 := v2000
  let v2002 : Index := Scalar.indexCast v2001
  let c0_1186 : Index := 0#32
  ![v2002.toNat, 0]

def k0_chk113 (v1984 : BitVec 32) : Prop :=
  (8 ∣ (k0_mult169 v1984).toNat) ∧
  (∀ a, (k0_off310 v1984) a + S8x64.size a ≤ S1256x64.size a) ∧
  (8 ∣ (k0_mult170 v1984).toNat) ∧
  (∀ a, (k0_off311 v1984) a + S8x128.size a ≤ S8192x128.size a)
theorem k0_mult169_dvd : ∀ (v1984 : BitVec 32) (k0_hw113 : k0_chk113 v1984), 8 ∣ (k0_mult169 v1984).toNat := fun v1984 k0_hw113 => k0_hw113.1
theorem k0_off310_inb : ∀ (v1984 : BitVec 32) (k0_hw113 : k0_chk113 v1984), ∀ a, (k0_off310 v1984) a + S8x64.size a ≤ S1256x64.size a := fun v1984 k0_hw113 => k0_hw113.2.1
theorem k0_mult170_dvd : ∀ (v1984 : BitVec 32) (k0_hw113 : k0_chk113 v1984), 8 ∣ (k0_mult170 v1984).toNat := fun v1984 k0_hw113 => k0_hw113.2.2.1
theorem k0_off311_inb : ∀ (v1984 : BitVec 32) (k0_hw113 : k0_chk113 v1984), ∀ a, (k0_off311 v1984) a + S8x128.size a ≤ S8192x128.size a := fun v1984 k0_hw113 => k0_hw113.2.2.2

def k0_off312 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2012 : Index := Scalar.indexCast v31
  let c0_i32_62 : BitVec 32 := 0#32
  let c1_i32_64 : BitVec 32 := 1#32
  let arg22 : BitVec 32 := Scf.iv c0_i32_62 c1_i32_64 k0_t15
  let c8_i32_1190 : BitVec 32 := 8#32
  let v2010 : BitVec 32 := Scalar.muli arg22 c8_i32_1190
  let c1_i32_1191 : BitVec 32 := 1#32
  let v2011 : BitVec 32 := Scalar.addi v2010 c1_i32_1191
  let v2013 : Index := Scalar.indexCast v2011
  ![v2012.toNat, v2013.toNat]
def k0_mult171 (v2014 : BitVec 32) : BitVec 32 :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  v2017

def k0_off313 (v2014 : BitVec 32) : Fin 2 → Nat :=
  let c2047_i32_1192 : BitVec 32 := 2047#32
  let v2015 : BitVec 32 := Scalar.andi v2014 c2047_i32_1192
  let c3_i32_1193 : BitVec 32 := 3#32
  let v2016 : BitVec 32 := Scalar.shrsi v2015 c3_i32_1193
  let c3_i32_1194 : BitVec 32 := 3#32
  let v2017 : BitVec 32 := Scalar.shli v2016 c3_i32_1194
  let v2018 : BitVec 32 := v2017
  let v2019 : Index := Scalar.indexCast v2018
  let c0_1195 : Index := 0#32
  ![v2019.toNat, 0]
def k0_mult172 (v2014 : BitVec 32) : BitVec 32 :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  v2030
def k0_off314 (v2014 : BitVec 32) : Fin 2 → Nat :=
  let c11_i32_1199 : BitVec 32 := 11#32
  let v2028 : BitVec 32 := Scalar.shrsi v2014 c11_i32_1199
  let c3_i32_1200 : BitVec 32 := 3#32
  let v2029 : BitVec 32 := Scalar.shrsi v2028 c3_i32_1200
  let c3_i32_1201 : BitVec 32 := 3#32
  let v2030 : BitVec 32 := Scalar.shli v2029 c3_i32_1201
  let v2031 : BitVec 32 := v2030
  let v2032 : Index := Scalar.indexCast v2031
  let c0_1202 : Index := 0#32
  ![v2032.toNat, 0]

def k0_chk114 (v2014 : BitVec 32) : Prop :=
  (8 ∣ (k0_mult171 v2014).toNat) ∧
  (∀ a, (k0_off313 v2014) a + S8x64.size a ≤ S1256x64.size a) ∧
  (8 ∣ (k0_mult172 v2014).toNat) ∧
  (∀ a, (k0_off314 v2014) a + S8x128.size a ≤ S8192x128.size a)
theorem k0_mult171_dvd : ∀ (v2014 : BitVec 32) (k0_hw114 : k0_chk114 v2014), 8 ∣ (k0_mult171 v2014).toNat := fun v2014 k0_hw114 => k0_hw114.1
theorem k0_off313_inb : ∀ (v2014 : BitVec 32) (k0_hw114 : k0_chk114 v2014), ∀ a, (k0_off313 v2014) a + S8x64.size a ≤ S1256x64.size a := fun v2014 k0_hw114 => k0_hw114.2.1
theorem k0_mult172_dvd : ∀ (v2014 : BitVec 32) (k0_hw114 : k0_chk114 v2014), 8 ∣ (k0_mult172 v2014).toNat := fun v2014 k0_hw114 => k0_hw114.2.2.1
theorem k0_off314_inb : ∀ (v2014 : BitVec 32) (k0_hw114 : k0_chk114 v2014), ∀ a, (k0_off314 v2014) a + S8x128.size a ≤ S8192x128.size a := fun v2014 k0_hw114 => k0_hw114.2.2.2

def k0_off315 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2042 : Index := Scalar.indexCast v31
  let c0_i32_62 : BitVec 32 := 0#32
  let c1_i32_64 : BitVec 32 := 1#32
  let arg22 : BitVec 32 := Scf.iv c0_i32_62 c1_i32_64 k0_t15
  let c8_i32_1206 : BitVec 32 := 8#32
  let v2040 : BitVec 32 := Scalar.muli arg22 c8_i32_1206
  let c2_i32_1207 : BitVec 32 := 2#32
  let v2041 : BitVec 32 := Scalar.addi v2040 c2_i32_1207
  let v2043 : Index := Scalar.indexCast v2041
  ![v2042.toNat, v2043.toNat]
def k0_mult173 (v2044 : BitVec 32) : BitVec 32 :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  v2047

def k0_off316 (v2044 : BitVec 32) : Fin 2 → Nat :=
  let c2047_i32_1208 : BitVec 32 := 2047#32
  let v2045 : BitVec 32 := Scalar.andi v2044 c2047_i32_1208
  let c3_i32_1209 : BitVec 32 := 3#32
  let v2046 : BitVec 32 := Scalar.shrsi v2045 c3_i32_1209
  let c3_i32_1210 : BitVec 32 := 3#32
  let v2047 : BitVec 32 := Scalar.shli v2046 c3_i32_1210
  let v2048 : BitVec 32 := v2047
  let v2049 : Index := Scalar.indexCast v2048
  let c0_1211 : Index := 0#32
  ![v2049.toNat, 0]
def k0_mult174 (v2044 : BitVec 32) : BitVec 32 :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  v2060
def k0_off317 (v2044 : BitVec 32) : Fin 2 → Nat :=
  let c11_i32_1215 : BitVec 32 := 11#32
  let v2058 : BitVec 32 := Scalar.shrsi v2044 c11_i32_1215
  let c3_i32_1216 : BitVec 32 := 3#32
  let v2059 : BitVec 32 := Scalar.shrsi v2058 c3_i32_1216
  let c3_i32_1217 : BitVec 32 := 3#32
  let v2060 : BitVec 32 := Scalar.shli v2059 c3_i32_1217
  let v2061 : BitVec 32 := v2060
  let v2062 : Index := Scalar.indexCast v2061
  let c0_1218 : Index := 0#32
  ![v2062.toNat, 0]

def k0_chk115 (v2044 : BitVec 32) : Prop :=
  (8 ∣ (k0_mult173 v2044).toNat) ∧
  (∀ a, (k0_off316 v2044) a + S8x64.size a ≤ S1256x64.size a) ∧
  (8 ∣ (k0_mult174 v2044).toNat) ∧
  (∀ a, (k0_off317 v2044) a + S8x128.size a ≤ S8192x128.size a)
theorem k0_mult173_dvd : ∀ (v2044 : BitVec 32) (k0_hw115 : k0_chk115 v2044), 8 ∣ (k0_mult173 v2044).toNat := fun v2044 k0_hw115 => k0_hw115.1
theorem k0_off316_inb : ∀ (v2044 : BitVec 32) (k0_hw115 : k0_chk115 v2044), ∀ a, (k0_off316 v2044) a + S8x64.size a ≤ S1256x64.size a := fun v2044 k0_hw115 => k0_hw115.2.1
theorem k0_mult174_dvd : ∀ (v2044 : BitVec 32) (k0_hw115 : k0_chk115 v2044), 8 ∣ (k0_mult174 v2044).toNat := fun v2044 k0_hw115 => k0_hw115.2.2.1
theorem k0_off317_inb : ∀ (v2044 : BitVec 32) (k0_hw115 : k0_chk115 v2044), ∀ a, (k0_off317 v2044) a + S8x128.size a ≤ S8192x128.size a := fun v2044 k0_hw115 => k0_hw115.2.2.2

def k0_off318 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2072 : Index := Scalar.indexCast v31
  let c0_i32_62 : BitVec 32 := 0#32
  let c1_i32_64 : BitVec 32 := 1#32
  let arg22 : BitVec 32 := Scf.iv c0_i32_62 c1_i32_64 k0_t15
  let c8_i32_1222 : BitVec 32 := 8#32
  let v2070 : BitVec 32 := Scalar.muli arg22 c8_i32_1222
  let c3_i32_1223 : BitVec 32 := 3#32
  let v2071 : BitVec 32 := Scalar.addi v2070 c3_i32_1223
  let v2073 : Index := Scalar.indexCast v2071
  ![v2072.toNat, v2073.toNat]
def k0_mult175 (v2074 : BitVec 32) : BitVec 32 :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  v2077

def k0_off319 (v2074 : BitVec 32) : Fin 2 → Nat :=
  let c2047_i32_1224 : BitVec 32 := 2047#32
  let v2075 : BitVec 32 := Scalar.andi v2074 c2047_i32_1224
  let c3_i32_1225 : BitVec 32 := 3#32
  let v2076 : BitVec 32 := Scalar.shrsi v2075 c3_i32_1225
  let c3_i32_1226 : BitVec 32 := 3#32
  let v2077 : BitVec 32 := Scalar.shli v2076 c3_i32_1226
  let v2078 : BitVec 32 := v2077
  let v2079 : Index := Scalar.indexCast v2078
  let c0_1227 : Index := 0#32
  ![v2079.toNat, 0]
def k0_mult176 (v2074 : BitVec 32) : BitVec 32 :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  v2090
def k0_off320 (v2074 : BitVec 32) : Fin 2 → Nat :=
  let c11_i32_1231 : BitVec 32 := 11#32
  let v2088 : BitVec 32 := Scalar.shrsi v2074 c11_i32_1231
  let c3_i32_1232 : BitVec 32 := 3#32
  let v2089 : BitVec 32 := Scalar.shrsi v2088 c3_i32_1232
  let c3_i32_1233 : BitVec 32 := 3#32
  let v2090 : BitVec 32 := Scalar.shli v2089 c3_i32_1233
  let v2091 : BitVec 32 := v2090
  let v2092 : Index := Scalar.indexCast v2091
  let c0_1234 : Index := 0#32
  ![v2092.toNat, 0]

def k0_chk116 (v2074 : BitVec 32) : Prop :=
  (8 ∣ (k0_mult175 v2074).toNat) ∧
  (∀ a, (k0_off319 v2074) a + S8x64.size a ≤ S1256x64.size a) ∧
  (8 ∣ (k0_mult176 v2074).toNat) ∧
  (∀ a, (k0_off320 v2074) a + S8x128.size a ≤ S8192x128.size a)
theorem k0_mult175_dvd : ∀ (v2074 : BitVec 32) (k0_hw116 : k0_chk116 v2074), 8 ∣ (k0_mult175 v2074).toNat := fun v2074 k0_hw116 => k0_hw116.1
theorem k0_off319_inb : ∀ (v2074 : BitVec 32) (k0_hw116 : k0_chk116 v2074), ∀ a, (k0_off319 v2074) a + S8x64.size a ≤ S1256x64.size a := fun v2074 k0_hw116 => k0_hw116.2.1
theorem k0_mult176_dvd : ∀ (v2074 : BitVec 32) (k0_hw116 : k0_chk116 v2074), 8 ∣ (k0_mult176 v2074).toNat := fun v2074 k0_hw116 => k0_hw116.2.2.1
theorem k0_off320_inb : ∀ (v2074 : BitVec 32) (k0_hw116 : k0_chk116 v2074), ∀ a, (k0_off320 v2074) a + S8x128.size a ≤ S8192x128.size a := fun v2074 k0_hw116 => k0_hw116.2.2.2

def k0_off321 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2102 : Index := Scalar.indexCast v31
  let c0_i32_62 : BitVec 32 := 0#32
  let c1_i32_64 : BitVec 32 := 1#32
  let arg22 : BitVec 32 := Scf.iv c0_i32_62 c1_i32_64 k0_t15
  let c8_i32_1238 : BitVec 32 := 8#32
  let v2100 : BitVec 32 := Scalar.muli arg22 c8_i32_1238
  let c4_i32_1239 : BitVec 32 := 4#32
  let v2101 : BitVec 32 := Scalar.addi v2100 c4_i32_1239
  let v2103 : Index := Scalar.indexCast v2101
  ![v2102.toNat, v2103.toNat]
def k0_mult177 (v2104 : BitVec 32) : BitVec 32 :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  v2107

def k0_off322 (v2104 : BitVec 32) : Fin 2 → Nat :=
  let c2047_i32_1240 : BitVec 32 := 2047#32
  let v2105 : BitVec 32 := Scalar.andi v2104 c2047_i32_1240
  let c3_i32_1241 : BitVec 32 := 3#32
  let v2106 : BitVec 32 := Scalar.shrsi v2105 c3_i32_1241
  let c3_i32_1242 : BitVec 32 := 3#32
  let v2107 : BitVec 32 := Scalar.shli v2106 c3_i32_1242
  let v2108 : BitVec 32 := v2107
  let v2109 : Index := Scalar.indexCast v2108
  let c0_1243 : Index := 0#32
  ![v2109.toNat, 0]
def k0_mult178 (v2104 : BitVec 32) : BitVec 32 :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  v2120
def k0_off323 (v2104 : BitVec 32) : Fin 2 → Nat :=
  let c11_i32_1247 : BitVec 32 := 11#32
  let v2118 : BitVec 32 := Scalar.shrsi v2104 c11_i32_1247
  let c3_i32_1248 : BitVec 32 := 3#32
  let v2119 : BitVec 32 := Scalar.shrsi v2118 c3_i32_1248
  let c3_i32_1249 : BitVec 32 := 3#32
  let v2120 : BitVec 32 := Scalar.shli v2119 c3_i32_1249
  let v2121 : BitVec 32 := v2120
  let v2122 : Index := Scalar.indexCast v2121
  let c0_1250 : Index := 0#32
  ![v2122.toNat, 0]

def k0_chk117 (v2104 : BitVec 32) : Prop :=
  (8 ∣ (k0_mult177 v2104).toNat) ∧
  (∀ a, (k0_off322 v2104) a + S8x64.size a ≤ S1256x64.size a) ∧
  (8 ∣ (k0_mult178 v2104).toNat) ∧
  (∀ a, (k0_off323 v2104) a + S8x128.size a ≤ S8192x128.size a)
theorem k0_mult177_dvd : ∀ (v2104 : BitVec 32) (k0_hw117 : k0_chk117 v2104), 8 ∣ (k0_mult177 v2104).toNat := fun v2104 k0_hw117 => k0_hw117.1
theorem k0_off322_inb : ∀ (v2104 : BitVec 32) (k0_hw117 : k0_chk117 v2104), ∀ a, (k0_off322 v2104) a + S8x64.size a ≤ S1256x64.size a := fun v2104 k0_hw117 => k0_hw117.2.1
theorem k0_mult178_dvd : ∀ (v2104 : BitVec 32) (k0_hw117 : k0_chk117 v2104), 8 ∣ (k0_mult178 v2104).toNat := fun v2104 k0_hw117 => k0_hw117.2.2.1
theorem k0_off323_inb : ∀ (v2104 : BitVec 32) (k0_hw117 : k0_chk117 v2104), ∀ a, (k0_off323 v2104) a + S8x128.size a ≤ S8192x128.size a := fun v2104 k0_hw117 => k0_hw117.2.2.2

def k0_off324 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2132 : Index := Scalar.indexCast v31
  let c0_i32_62 : BitVec 32 := 0#32
  let c1_i32_64 : BitVec 32 := 1#32
  let arg22 : BitVec 32 := Scf.iv c0_i32_62 c1_i32_64 k0_t15
  let c8_i32_1254 : BitVec 32 := 8#32
  let v2130 : BitVec 32 := Scalar.muli arg22 c8_i32_1254
  let c5_i32_1255 : BitVec 32 := 5#32
  let v2131 : BitVec 32 := Scalar.addi v2130 c5_i32_1255
  let v2133 : Index := Scalar.indexCast v2131
  ![v2132.toNat, v2133.toNat]
def k0_mult179 (v2134 : BitVec 32) : BitVec 32 :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  v2137

def k0_off325 (v2134 : BitVec 32) : Fin 2 → Nat :=
  let c2047_i32_1256 : BitVec 32 := 2047#32
  let v2135 : BitVec 32 := Scalar.andi v2134 c2047_i32_1256
  let c3_i32_1257 : BitVec 32 := 3#32
  let v2136 : BitVec 32 := Scalar.shrsi v2135 c3_i32_1257
  let c3_i32_1258 : BitVec 32 := 3#32
  let v2137 : BitVec 32 := Scalar.shli v2136 c3_i32_1258
  let v2138 : BitVec 32 := v2137
  let v2139 : Index := Scalar.indexCast v2138
  let c0_1259 : Index := 0#32
  ![v2139.toNat, 0]
def k0_mult180 (v2134 : BitVec 32) : BitVec 32 :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  v2150
def k0_off326 (v2134 : BitVec 32) : Fin 2 → Nat :=
  let c11_i32_1263 : BitVec 32 := 11#32
  let v2148 : BitVec 32 := Scalar.shrsi v2134 c11_i32_1263
  let c3_i32_1264 : BitVec 32 := 3#32
  let v2149 : BitVec 32 := Scalar.shrsi v2148 c3_i32_1264
  let c3_i32_1265 : BitVec 32 := 3#32
  let v2150 : BitVec 32 := Scalar.shli v2149 c3_i32_1265
  let v2151 : BitVec 32 := v2150
  let v2152 : Index := Scalar.indexCast v2151
  let c0_1266 : Index := 0#32
  ![v2152.toNat, 0]

def k0_chk118 (v2134 : BitVec 32) : Prop :=
  (8 ∣ (k0_mult179 v2134).toNat) ∧
  (∀ a, (k0_off325 v2134) a + S8x64.size a ≤ S1256x64.size a) ∧
  (8 ∣ (k0_mult180 v2134).toNat) ∧
  (∀ a, (k0_off326 v2134) a + S8x128.size a ≤ S8192x128.size a)
theorem k0_mult179_dvd : ∀ (v2134 : BitVec 32) (k0_hw118 : k0_chk118 v2134), 8 ∣ (k0_mult179 v2134).toNat := fun v2134 k0_hw118 => k0_hw118.1
theorem k0_off325_inb : ∀ (v2134 : BitVec 32) (k0_hw118 : k0_chk118 v2134), ∀ a, (k0_off325 v2134) a + S8x64.size a ≤ S1256x64.size a := fun v2134 k0_hw118 => k0_hw118.2.1
theorem k0_mult180_dvd : ∀ (v2134 : BitVec 32) (k0_hw118 : k0_chk118 v2134), 8 ∣ (k0_mult180 v2134).toNat := fun v2134 k0_hw118 => k0_hw118.2.2.1
theorem k0_off326_inb : ∀ (v2134 : BitVec 32) (k0_hw118 : k0_chk118 v2134), ∀ a, (k0_off326 v2134) a + S8x128.size a ≤ S8192x128.size a := fun v2134 k0_hw118 => k0_hw118.2.2.2

def k0_off327 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2162 : Index := Scalar.indexCast v31
  let c0_i32_62 : BitVec 32 := 0#32
  let c1_i32_64 : BitVec 32 := 1#32
  let arg22 : BitVec 32 := Scf.iv c0_i32_62 c1_i32_64 k0_t15
  let c8_i32_1270 : BitVec 32 := 8#32
  let v2160 : BitVec 32 := Scalar.muli arg22 c8_i32_1270
  let c6_i32_1271 : BitVec 32 := 6#32
  let v2161 : BitVec 32 := Scalar.addi v2160 c6_i32_1271
  let v2163 : Index := Scalar.indexCast v2161
  ![v2162.toNat, v2163.toNat]
def k0_mult181 (v2164 : BitVec 32) : BitVec 32 :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  v2167

def k0_off328 (v2164 : BitVec 32) : Fin 2 → Nat :=
  let c2047_i32_1272 : BitVec 32 := 2047#32
  let v2165 : BitVec 32 := Scalar.andi v2164 c2047_i32_1272
  let c3_i32_1273 : BitVec 32 := 3#32
  let v2166 : BitVec 32 := Scalar.shrsi v2165 c3_i32_1273
  let c3_i32_1274 : BitVec 32 := 3#32
  let v2167 : BitVec 32 := Scalar.shli v2166 c3_i32_1274
  let v2168 : BitVec 32 := v2167
  let v2169 : Index := Scalar.indexCast v2168
  let c0_1275 : Index := 0#32
  ![v2169.toNat, 0]
def k0_mult182 (v2164 : BitVec 32) : BitVec 32 :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  v2180
def k0_off329 (v2164 : BitVec 32) : Fin 2 → Nat :=
  let c11_i32_1279 : BitVec 32 := 11#32
  let v2178 : BitVec 32 := Scalar.shrsi v2164 c11_i32_1279
  let c3_i32_1280 : BitVec 32 := 3#32
  let v2179 : BitVec 32 := Scalar.shrsi v2178 c3_i32_1280
  let c3_i32_1281 : BitVec 32 := 3#32
  let v2180 : BitVec 32 := Scalar.shli v2179 c3_i32_1281
  let v2181 : BitVec 32 := v2180
  let v2182 : Index := Scalar.indexCast v2181
  let c0_1282 : Index := 0#32
  ![v2182.toNat, 0]

def k0_chk119 (v2164 : BitVec 32) : Prop :=
  (8 ∣ (k0_mult181 v2164).toNat) ∧
  (∀ a, (k0_off328 v2164) a + S8x64.size a ≤ S1256x64.size a) ∧
  (8 ∣ (k0_mult182 v2164).toNat) ∧
  (∀ a, (k0_off329 v2164) a + S8x128.size a ≤ S8192x128.size a)
theorem k0_mult181_dvd : ∀ (v2164 : BitVec 32) (k0_hw119 : k0_chk119 v2164), 8 ∣ (k0_mult181 v2164).toNat := fun v2164 k0_hw119 => k0_hw119.1
theorem k0_off328_inb : ∀ (v2164 : BitVec 32) (k0_hw119 : k0_chk119 v2164), ∀ a, (k0_off328 v2164) a + S8x64.size a ≤ S1256x64.size a := fun v2164 k0_hw119 => k0_hw119.2.1
theorem k0_mult182_dvd : ∀ (v2164 : BitVec 32) (k0_hw119 : k0_chk119 v2164), 8 ∣ (k0_mult182 v2164).toNat := fun v2164 k0_hw119 => k0_hw119.2.2.1
theorem k0_off329_inb : ∀ (v2164 : BitVec 32) (k0_hw119 : k0_chk119 v2164), ∀ a, (k0_off329 v2164) a + S8x128.size a ≤ S8192x128.size a := fun v2164 k0_hw119 => k0_hw119.2.2.2

def k0_off330 (i : grid0.Coords) (k0_t15 : Fin k0_t15_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2192 : Index := Scalar.indexCast v31
  let c0_i32_62 : BitVec 32 := 0#32
  let c1_i32_64 : BitVec 32 := 1#32
  let arg22 : BitVec 32 := Scf.iv c0_i32_62 c1_i32_64 k0_t15
  let c8_i32_1286 : BitVec 32 := 8#32
  let v2190 : BitVec 32 := Scalar.muli arg22 c8_i32_1286
  let c7_i32_1287 : BitVec 32 := 7#32
  let v2191 : BitVec 32 := Scalar.addi v2190 c7_i32_1287
  let v2193 : Index := Scalar.indexCast v2191
  ![v2192.toNat, v2193.toNat]
def k0_mult183 (v2194 : BitVec 32) : BitVec 32 :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  v2197

def k0_off331 (v2194 : BitVec 32) : Fin 2 → Nat :=
  let c2047_i32_1288 : BitVec 32 := 2047#32
  let v2195 : BitVec 32 := Scalar.andi v2194 c2047_i32_1288
  let c3_i32_1289 : BitVec 32 := 3#32
  let v2196 : BitVec 32 := Scalar.shrsi v2195 c3_i32_1289
  let c3_i32_1290 : BitVec 32 := 3#32
  let v2197 : BitVec 32 := Scalar.shli v2196 c3_i32_1290
  let v2198 : BitVec 32 := v2197
  let v2199 : Index := Scalar.indexCast v2198
  let c0_1291 : Index := 0#32
  ![v2199.toNat, 0]
def k0_mult184 (v2194 : BitVec 32) : BitVec 32 :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  v2210
def k0_off332 (v2194 : BitVec 32) : Fin 2 → Nat :=
  let c11_i32_1295 : BitVec 32 := 11#32
  let v2208 : BitVec 32 := Scalar.shrsi v2194 c11_i32_1295
  let c3_i32_1296 : BitVec 32 := 3#32
  let v2209 : BitVec 32 := Scalar.shrsi v2208 c3_i32_1296
  let c3_i32_1297 : BitVec 32 := 3#32
  let v2210 : BitVec 32 := Scalar.shli v2209 c3_i32_1297
  let v2211 : BitVec 32 := v2210
  let v2212 : Index := Scalar.indexCast v2211
  let c0_1298 : Index := 0#32
  ![v2212.toNat, 0]

def k0_chk120 (v2194 : BitVec 32) : Prop :=
  (8 ∣ (k0_mult183 v2194).toNat) ∧
  (∀ a, (k0_off331 v2194) a + S8x64.size a ≤ S1256x64.size a) ∧
  (8 ∣ (k0_mult184 v2194).toNat) ∧
  (∀ a, (k0_off332 v2194) a + S8x128.size a ≤ S8192x128.size a)
theorem k0_mult183_dvd : ∀ (v2194 : BitVec 32) (k0_hw120 : k0_chk120 v2194), 8 ∣ (k0_mult183 v2194).toNat := fun v2194 k0_hw120 => k0_hw120.1
theorem k0_off331_inb : ∀ (v2194 : BitVec 32) (k0_hw120 : k0_chk120 v2194), ∀ a, (k0_off331 v2194) a + S8x64.size a ≤ S1256x64.size a := fun v2194 k0_hw120 => k0_hw120.2.1
theorem k0_mult184_dvd : ∀ (v2194 : BitVec 32) (k0_hw120 : k0_chk120 v2194), 8 ∣ (k0_mult184 v2194).toNat := fun v2194 k0_hw120 => k0_hw120.2.2.1
theorem k0_off332_inb : ∀ (v2194 : BitVec 32) (k0_hw120 : k0_chk120 v2194), ∀ a, (k0_off332 v2194) a + S8x128.size a ≤ S8192x128.size a := fun v2194 k0_hw120 => k0_hw120.2.2.2

def k0_off333 (k0_t15 : Fin k0_t15_loop.trips) : Fin 2 → Nat :=
  let c1792_i32 : BitVec 32 := 1792#32
  let c0_i32_62 : BitVec 32 := 0#32
  let c1_i32_64 : BitVec 32 := 1#32
  let arg22 : BitVec 32 := Scf.iv c0_i32_62 c1_i32_64 k0_t15
  let c8_i32_1302 : BitVec 32 := 8#32
  let v2220 : BitVec 32 := Scalar.muli arg22 c8_i32_1302
  let v2221 : BitVec 32 := Scalar.addi c1792_i32 v2220
  let v2222 : Index := Scalar.indexCast v2221
  let c0_1303 : Index := 0#32
  ![v2222.toNat, 0]
def k0_off334 (k0_t15 : Fin k0_t15_loop.trips) : Fin 2 → Nat :=
  let c1792_i32 : BitVec 32 := 1792#32
  let c0_i32_62 : BitVec 32 := 0#32
  let c1_i32_64 : BitVec 32 := 1#32
  let arg22 : BitVec 32 := Scf.iv c0_i32_62 c1_i32_64 k0_t15
  let c8_i32_1302 : BitVec 32 := 8#32
  let v2220 : BitVec 32 := Scalar.muli arg22 c8_i32_1302
  let v2221 : BitVec 32 := Scalar.addi c1792_i32 v2220
  let v2226 : Index := Scalar.indexCast v2221
  let c0_1304 : Index := 0#32
  ![v2226.toNat, 0]
@[reducible] def k0_t16_loop : Scf.Loop 32 :=
  let c24_i32_66 : BitVec 32 := 24#32
  let c8_i32_67 : BitVec 32 := 8#32
  let v33 : BitVec 32 := Scalar.addi c24_i32_66 c8_i32_67
  let c1_i32_68 : BitVec 32 := 1#32
  ⟨c24_i32_66, v33, c1_i32_68⟩
def k0_off335 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v1982 : Index := Scalar.indexCast v31
  let c24_i32_66 : BitVec 32 := 24#32
  let c1_i32_68 : BitVec 32 := 1#32
  let arg22 : BitVec 32 := Scf.iv c24_i32_66 c1_i32_68 k0_t16
  let c8_i32_1176 : BitVec 32 := 8#32
  let v1980 : BitVec 32 := Scalar.muli arg22 c8_i32_1176
  let c0_i32_1177 : BitVec 32 := 0#32
  let v1981 : BitVec 32 := Scalar.addi v1980 c0_i32_1177
  let v1983 : Index := Scalar.indexCast v1981
  ![v1982.toNat, v1983.toNat]
def k0_mult185 (v1984 : BitVec 32) : BitVec 32 :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  v1987

def k0_off336 (v1984 : BitVec 32) : Fin 2 → Nat :=
  let c2047_i32 : BitVec 32 := 2047#32
  let v1985 : BitVec 32 := Scalar.andi v1984 c2047_i32
  let c3_i32_1178 : BitVec 32 := 3#32
  let v1986 : BitVec 32 := Scalar.shrsi v1985 c3_i32_1178
  let c3_i32_1179 : BitVec 32 := 3#32
  let v1987 : BitVec 32 := Scalar.shli v1986 c3_i32_1179
  let v1988 : BitVec 32 := v1987
  let v1989 : Index := Scalar.indexCast v1988
  let c0_1180 : Index := 0#32
  ![v1989.toNat, 0]

def k0_chk121 (v1984 : BitVec 32) : Prop :=
  (8 ∣ (k0_mult185 v1984).toNat) ∧
  (∀ a, (k0_off336 v1984) a + S8x64.size a ≤ S1256x64.size a)
theorem k0_mult185_dvd : ∀ (v1984 : BitVec 32) (k0_hw121 : k0_chk121 v1984), 8 ∣ (k0_mult185 v1984).toNat := fun v1984 k0_hw121 => k0_hw121.1
theorem k0_off336_inb : ∀ (v1984 : BitVec 32) (k0_hw121 : k0_chk121 v1984), ∀ a, (k0_off336 v1984) a + S8x64.size a ≤ S1256x64.size a := fun v1984 k0_hw121 => k0_hw121.2

def k0_off337 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2000 : Index := Scalar.indexCast v31
  let c24_i32_66 : BitVec 32 := 24#32
  let c1_i32_68 : BitVec 32 := 1#32
  let arg22 : BitVec 32 := Scf.iv c24_i32_66 c1_i32_68 k0_t16
  let c8_i32_1184 : BitVec 32 := 8#32
  let v1998 : BitVec 32 := Scalar.muli arg22 c8_i32_1184
  let c1_i32_1185 : BitVec 32 := 1#32
  let v1999 : BitVec 32 := Scalar.addi v1998 c1_i32_1185
  let v2001 : Index := Scalar.indexCast v1999
  ![v2000.toNat, v2001.toNat]
def k0_mult186 (v2002 : BitVec 32) : BitVec 32 :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  v2005

def k0_off338 (v2002 : BitVec 32) : Fin 2 → Nat :=
  let c2047_i32_1186 : BitVec 32 := 2047#32
  let v2003 : BitVec 32 := Scalar.andi v2002 c2047_i32_1186
  let c3_i32_1187 : BitVec 32 := 3#32
  let v2004 : BitVec 32 := Scalar.shrsi v2003 c3_i32_1187
  let c3_i32_1188 : BitVec 32 := 3#32
  let v2005 : BitVec 32 := Scalar.shli v2004 c3_i32_1188
  let v2006 : BitVec 32 := v2005
  let v2007 : Index := Scalar.indexCast v2006
  let c0_1189 : Index := 0#32
  ![v2007.toNat, 0]

def k0_chk122 (v2002 : BitVec 32) : Prop :=
  (8 ∣ (k0_mult186 v2002).toNat) ∧
  (∀ a, (k0_off338 v2002) a + S8x64.size a ≤ S1256x64.size a)
theorem k0_mult186_dvd : ∀ (v2002 : BitVec 32) (k0_hw122 : k0_chk122 v2002), 8 ∣ (k0_mult186 v2002).toNat := fun v2002 k0_hw122 => k0_hw122.1
theorem k0_off338_inb : ∀ (v2002 : BitVec 32) (k0_hw122 : k0_chk122 v2002), ∀ a, (k0_off338 v2002) a + S8x64.size a ≤ S1256x64.size a := fun v2002 k0_hw122 => k0_hw122.2

def k0_off339 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2018 : Index := Scalar.indexCast v31
  let c24_i32_66 : BitVec 32 := 24#32
  let c1_i32_68 : BitVec 32 := 1#32
  let arg22 : BitVec 32 := Scf.iv c24_i32_66 c1_i32_68 k0_t16
  let c8_i32_1193 : BitVec 32 := 8#32
  let v2016 : BitVec 32 := Scalar.muli arg22 c8_i32_1193
  let c2_i32_1194 : BitVec 32 := 2#32
  let v2017 : BitVec 32 := Scalar.addi v2016 c2_i32_1194
  let v2019 : Index := Scalar.indexCast v2017
  ![v2018.toNat, v2019.toNat]
def k0_mult187 (v2020 : BitVec 32) : BitVec 32 :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  v2023

def k0_off340 (v2020 : BitVec 32) : Fin 2 → Nat :=
  let c2047_i32_1195 : BitVec 32 := 2047#32
  let v2021 : BitVec 32 := Scalar.andi v2020 c2047_i32_1195
  let c3_i32_1196 : BitVec 32 := 3#32
  let v2022 : BitVec 32 := Scalar.shrsi v2021 c3_i32_1196
  let c3_i32_1197 : BitVec 32 := 3#32
  let v2023 : BitVec 32 := Scalar.shli v2022 c3_i32_1197
  let v2024 : BitVec 32 := v2023
  let v2025 : Index := Scalar.indexCast v2024
  let c0_1198 : Index := 0#32
  ![v2025.toNat, 0]

def k0_chk123 (v2020 : BitVec 32) : Prop :=
  (8 ∣ (k0_mult187 v2020).toNat) ∧
  (∀ a, (k0_off340 v2020) a + S8x64.size a ≤ S1256x64.size a)
theorem k0_mult187_dvd : ∀ (v2020 : BitVec 32) (k0_hw123 : k0_chk123 v2020), 8 ∣ (k0_mult187 v2020).toNat := fun v2020 k0_hw123 => k0_hw123.1
theorem k0_off340_inb : ∀ (v2020 : BitVec 32) (k0_hw123 : k0_chk123 v2020), ∀ a, (k0_off340 v2020) a + S8x64.size a ≤ S1256x64.size a := fun v2020 k0_hw123 => k0_hw123.2

def k0_off341 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2036 : Index := Scalar.indexCast v31
  let c24_i32_66 : BitVec 32 := 24#32
  let c1_i32_68 : BitVec 32 := 1#32
  let arg22 : BitVec 32 := Scf.iv c24_i32_66 c1_i32_68 k0_t16
  let c8_i32_1202 : BitVec 32 := 8#32
  let v2034 : BitVec 32 := Scalar.muli arg22 c8_i32_1202
  let c3_i32_1203 : BitVec 32 := 3#32
  let v2035 : BitVec 32 := Scalar.addi v2034 c3_i32_1203
  let v2037 : Index := Scalar.indexCast v2035
  ![v2036.toNat, v2037.toNat]
def k0_mult188 (v2038 : BitVec 32) : BitVec 32 :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  v2041

def k0_off342 (v2038 : BitVec 32) : Fin 2 → Nat :=
  let c2047_i32_1204 : BitVec 32 := 2047#32
  let v2039 : BitVec 32 := Scalar.andi v2038 c2047_i32_1204
  let c3_i32_1205 : BitVec 32 := 3#32
  let v2040 : BitVec 32 := Scalar.shrsi v2039 c3_i32_1205
  let c3_i32_1206 : BitVec 32 := 3#32
  let v2041 : BitVec 32 := Scalar.shli v2040 c3_i32_1206
  let v2042 : BitVec 32 := v2041
  let v2043 : Index := Scalar.indexCast v2042
  let c0_1207 : Index := 0#32
  ![v2043.toNat, 0]

def k0_chk124 (v2038 : BitVec 32) : Prop :=
  (8 ∣ (k0_mult188 v2038).toNat) ∧
  (∀ a, (k0_off342 v2038) a + S8x64.size a ≤ S1256x64.size a)
theorem k0_mult188_dvd : ∀ (v2038 : BitVec 32) (k0_hw124 : k0_chk124 v2038), 8 ∣ (k0_mult188 v2038).toNat := fun v2038 k0_hw124 => k0_hw124.1
theorem k0_off342_inb : ∀ (v2038 : BitVec 32) (k0_hw124 : k0_chk124 v2038), ∀ a, (k0_off342 v2038) a + S8x64.size a ≤ S1256x64.size a := fun v2038 k0_hw124 => k0_hw124.2

def k0_off343 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2054 : Index := Scalar.indexCast v31
  let c24_i32_66 : BitVec 32 := 24#32
  let c1_i32_68 : BitVec 32 := 1#32
  let arg22 : BitVec 32 := Scf.iv c24_i32_66 c1_i32_68 k0_t16
  let c8_i32_1211 : BitVec 32 := 8#32
  let v2052 : BitVec 32 := Scalar.muli arg22 c8_i32_1211
  let c4_i32_1212 : BitVec 32 := 4#32
  let v2053 : BitVec 32 := Scalar.addi v2052 c4_i32_1212
  let v2055 : Index := Scalar.indexCast v2053
  ![v2054.toNat, v2055.toNat]
def k0_mult189 (v2056 : BitVec 32) : BitVec 32 :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  v2059

def k0_off344 (v2056 : BitVec 32) : Fin 2 → Nat :=
  let c2047_i32_1213 : BitVec 32 := 2047#32
  let v2057 : BitVec 32 := Scalar.andi v2056 c2047_i32_1213
  let c3_i32_1214 : BitVec 32 := 3#32
  let v2058 : BitVec 32 := Scalar.shrsi v2057 c3_i32_1214
  let c3_i32_1215 : BitVec 32 := 3#32
  let v2059 : BitVec 32 := Scalar.shli v2058 c3_i32_1215
  let v2060 : BitVec 32 := v2059
  let v2061 : Index := Scalar.indexCast v2060
  let c0_1216 : Index := 0#32
  ![v2061.toNat, 0]

def k0_chk125 (v2056 : BitVec 32) : Prop :=
  (8 ∣ (k0_mult189 v2056).toNat) ∧
  (∀ a, (k0_off344 v2056) a + S8x64.size a ≤ S1256x64.size a)
theorem k0_mult189_dvd : ∀ (v2056 : BitVec 32) (k0_hw125 : k0_chk125 v2056), 8 ∣ (k0_mult189 v2056).toNat := fun v2056 k0_hw125 => k0_hw125.1
theorem k0_off344_inb : ∀ (v2056 : BitVec 32) (k0_hw125 : k0_chk125 v2056), ∀ a, (k0_off344 v2056) a + S8x64.size a ≤ S1256x64.size a := fun v2056 k0_hw125 => k0_hw125.2

def k0_off345 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2072 : Index := Scalar.indexCast v31
  let c24_i32_66 : BitVec 32 := 24#32
  let c1_i32_68 : BitVec 32 := 1#32
  let arg22 : BitVec 32 := Scf.iv c24_i32_66 c1_i32_68 k0_t16
  let c8_i32_1220 : BitVec 32 := 8#32
  let v2070 : BitVec 32 := Scalar.muli arg22 c8_i32_1220
  let c5_i32_1221 : BitVec 32 := 5#32
  let v2071 : BitVec 32 := Scalar.addi v2070 c5_i32_1221
  let v2073 : Index := Scalar.indexCast v2071
  ![v2072.toNat, v2073.toNat]
def k0_mult190 (v2074 : BitVec 32) : BitVec 32 :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  v2077

def k0_off346 (v2074 : BitVec 32) : Fin 2 → Nat :=
  let c2047_i32_1222 : BitVec 32 := 2047#32
  let v2075 : BitVec 32 := Scalar.andi v2074 c2047_i32_1222
  let c3_i32_1223 : BitVec 32 := 3#32
  let v2076 : BitVec 32 := Scalar.shrsi v2075 c3_i32_1223
  let c3_i32_1224 : BitVec 32 := 3#32
  let v2077 : BitVec 32 := Scalar.shli v2076 c3_i32_1224
  let v2078 : BitVec 32 := v2077
  let v2079 : Index := Scalar.indexCast v2078
  let c0_1225 : Index := 0#32
  ![v2079.toNat, 0]

def k0_chk126 (v2074 : BitVec 32) : Prop :=
  (8 ∣ (k0_mult190 v2074).toNat) ∧
  (∀ a, (k0_off346 v2074) a + S8x64.size a ≤ S1256x64.size a)
theorem k0_mult190_dvd : ∀ (v2074 : BitVec 32) (k0_hw126 : k0_chk126 v2074), 8 ∣ (k0_mult190 v2074).toNat := fun v2074 k0_hw126 => k0_hw126.1
theorem k0_off346_inb : ∀ (v2074 : BitVec 32) (k0_hw126 : k0_chk126 v2074), ∀ a, (k0_off346 v2074) a + S8x64.size a ≤ S1256x64.size a := fun v2074 k0_hw126 => k0_hw126.2

def k0_off347 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2090 : Index := Scalar.indexCast v31
  let c24_i32_66 : BitVec 32 := 24#32
  let c1_i32_68 : BitVec 32 := 1#32
  let arg22 : BitVec 32 := Scf.iv c24_i32_66 c1_i32_68 k0_t16
  let c8_i32_1229 : BitVec 32 := 8#32
  let v2088 : BitVec 32 := Scalar.muli arg22 c8_i32_1229
  let c6_i32_1230 : BitVec 32 := 6#32
  let v2089 : BitVec 32 := Scalar.addi v2088 c6_i32_1230
  let v2091 : Index := Scalar.indexCast v2089
  ![v2090.toNat, v2091.toNat]
def k0_mult191 (v2092 : BitVec 32) : BitVec 32 :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  v2095

def k0_off348 (v2092 : BitVec 32) : Fin 2 → Nat :=
  let c2047_i32_1231 : BitVec 32 := 2047#32
  let v2093 : BitVec 32 := Scalar.andi v2092 c2047_i32_1231
  let c3_i32_1232 : BitVec 32 := 3#32
  let v2094 : BitVec 32 := Scalar.shrsi v2093 c3_i32_1232
  let c3_i32_1233 : BitVec 32 := 3#32
  let v2095 : BitVec 32 := Scalar.shli v2094 c3_i32_1233
  let v2096 : BitVec 32 := v2095
  let v2097 : Index := Scalar.indexCast v2096
  let c0_1234 : Index := 0#32
  ![v2097.toNat, 0]

def k0_chk127 (v2092 : BitVec 32) : Prop :=
  (8 ∣ (k0_mult191 v2092).toNat) ∧
  (∀ a, (k0_off348 v2092) a + S8x64.size a ≤ S1256x64.size a)
theorem k0_mult191_dvd : ∀ (v2092 : BitVec 32) (k0_hw127 : k0_chk127 v2092), 8 ∣ (k0_mult191 v2092).toNat := fun v2092 k0_hw127 => k0_hw127.1
theorem k0_off348_inb : ∀ (v2092 : BitVec 32) (k0_hw127 : k0_chk127 v2092), ∀ a, (k0_off348 v2092) a + S8x64.size a ≤ S1256x64.size a := fun v2092 k0_hw127 => k0_hw127.2

def k0_off349 (i : grid0.Coords) (k0_t16 : Fin k0_t16_loop.trips) : Fin 2 → Nat :=
  let arg0 : BitVec 32 := BitVec.ofNat 32 (i 0).val
  let c8_i32_61 : BitVec 32 := 8#32
  let v30 : BitVec 32 := Scalar.muli arg0 c8_i32_61
  let c7_i32 : BitVec 32 := 7#32
  let v31 : BitVec 32 := Scalar.addi v30 c7_i32
  let v2108 : Index := Scalar.indexCast v31
  let c24_i32_66 : BitVec 32 := 24#32
  let c1_i32_68 : BitVec 32 := 1#32
  let arg22 : BitVec 32 := Scf.iv c24_i32_66 c1_i32_68 k0_t16
  let c8_i32_1238 : BitVec 32 := 8#32
  let v2106 : BitVec 32 := Scalar.muli arg22 c8_i32_1238
  let c7_i32_1239 : BitVec 32 := 7#32
  let v2107 : BitVec 32 := Scalar.addi v2106 c7_i32_1239
  let v2109 : Index := Scalar.indexCast v2107
  ![v2108.toNat, v2109.toNat]
def k0_mult192 (v2110 : BitVec 32) : BitVec 32 :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  v2113

def k0_off350 (v2110 : BitVec 32) : Fin 2 → Nat :=
  let c2047_i32_1240 : BitVec 32 := 2047#32
  let v2111 : BitVec 32 := Scalar.andi v2110 c2047_i32_1240
  let c3_i32_1241 : BitVec 32 := 3#32
  let v2112 : BitVec 32 := Scalar.shrsi v2111 c3_i32_1241
  let c3_i32_1242 : BitVec 32 := 3#32
  let v2113 : BitVec 32 := Scalar.shli v2112 c3_i32_1242
  let v2114 : BitVec 32 := v2113
  let v2115 : Index := Scalar.indexCast v2114
  let c0_1243 : Index := 0#32
  ![v2115.toNat, 0]

def k0_chk128 (v2110 : BitVec 32) : Prop :=
  (8 ∣ (k0_mult192 v2110).toNat) ∧
  (∀ a, (k0_off350 v2110) a + S8x64.size a ≤ S1256x64.size a)
theorem k0_mult192_dvd : ∀ (v2110 : BitVec 32) (k0_hw128 : k0_chk128 v2110), 8 ∣ (k0_mult192 v2110).toNat := fun v2110 k0_hw128 => k0_hw128.1
theorem k0_off350_inb : ∀ (v2110 : BitVec 32) (k0_hw128 : k0_chk128 v2110), ∀ a, (k0_off350 v2110) a + S8x64.size a ≤ S1256x64.size a := fun v2110 k0_hw128 => k0_hw128.2

def k0_off351 (k0_t16 : Fin k0_t16_loop.trips) : Fin 2 → Nat :=
  let c1792_i32 : BitVec 32 := 1792#32
  let c24_i32_66 : BitVec 32 := 24#32
  let c1_i32_68 : BitVec 32 := 1#32
  let arg22 : BitVec 32 := Scf.iv c24_i32_66 c1_i32_68 k0_t16
  let c8_i32_1247 : BitVec 32 := 8#32
  let v2124 : BitVec 32 := Scalar.muli arg22 c8_i32_1247
  let v2125 : BitVec 32 := Scalar.addi c1792_i32 v2124
  let v2126 : Index := Scalar.indexCast v2125
  let c0_1248 : Index := 0#32
  ![v2126.toNat, 0]
def k0_off352 (k0_t16 : Fin k0_t16_loop.trips) : Fin 2 → Nat :=
  let c1792_i32 : BitVec 32 := 1792#32
  let c24_i32_66 : BitVec 32 := 24#32
  let c1_i32_68 : BitVec 32 := 1#32
  let arg22 : BitVec 32 := Scf.iv c24_i32_66 c1_i32_68 k0_t16
  let c8_i32_1247 : BitVec 32 := 8#32
  let v2124 : BitVec 32 := Scalar.muli arg22 c8_i32_1247
  let v2125 : BitVec 32 := Scalar.addi c1792_i32 v2124
  let v2130 : Index := Scalar.indexCast v2125
  let c0_1249 : Index := 0#32
  ![v2130.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S256x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![2], ![false]⟩

@[reducible] def k1_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k1_off1 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32 : BitVec 32 := 8#32
  let v390 : BitVec 32 := Scalar.muli arg10 c8_i32
  let v391 : BitVec 32 := Scalar.addi v0 v390
  let c0_i32_187 : BitVec 32 := 0#32
  let v392 : BitVec 32 := Scalar.addi v391 c0_i32_187
  let v393 : Index := Scalar.indexCast v392
  ![v393.toNat]
def k1_mult1 (v394 : BitVec 32) : BitVec 32 :=
  let c3_i32 : BitVec 32 := 3#32
  let v395 : BitVec 32 := Scalar.shrsi v394 c3_i32
  let c3_i32_188 : BitVec 32 := 3#32
  let v396 : BitVec 32 := Scalar.shli v395 c3_i32_188
  v396

def k1_off2 (v394 : BitVec 32) : Fin 2 → Nat :=
  let c3_i32 : BitVec 32 := 3#32
  let v395 : BitVec 32 := Scalar.shrsi v394 c3_i32
  let c3_i32_188 : BitVec 32 := 3#32
  let v396 : BitVec 32 := Scalar.shli v395 c3_i32_188
  let v397 : BitVec 32 := v396
  let v398 : Index := Scalar.indexCast v397
  let c0_189 : Index := 0#32
  ![v398.toNat, 0]

def k1_chk1 (v394 : BitVec 32) : Prop :=
  (8 ∣ (k1_mult1 v394).toNat) ∧
  (∀ a, (k1_off2 v394) a + S8x128.size a ≤ S20480x128.size a)
theorem k1_mult1_dvd : ∀ (v394 : BitVec 32) (k1_hw1 : k1_chk1 v394), 8 ∣ (k1_mult1 v394).toNat := fun v394 k1_hw1 => k1_hw1.1
theorem k1_off2_inb : ∀ (v394 : BitVec 32) (k1_hw1 : k1_chk1 v394), ∀ a, (k1_off2 v394) a + S8x128.size a ≤ S20480x128.size a := fun v394 k1_hw1 => k1_hw1.2

def k1_off3 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_192 : BitVec 32 := 8#32
  let v407 : BitVec 32 := Scalar.muli arg10 c8_i32_192
  let v408 : BitVec 32 := Scalar.addi v0 v407
  let c1_i32_193 : BitVec 32 := 1#32
  let v409 : BitVec 32 := Scalar.addi v408 c1_i32_193
  let v410 : Index := Scalar.indexCast v409
  ![v410.toNat]
def k1_mult2 (v411 : BitVec 32) : BitVec 32 :=
  let c3_i32_194 : BitVec 32 := 3#32
  let v412 : BitVec 32 := Scalar.shrsi v411 c3_i32_194
  let c3_i32_195 : BitVec 32 := 3#32
  let v413 : BitVec 32 := Scalar.shli v412 c3_i32_195
  v413

def k1_off4 (v411 : BitVec 32) : Fin 2 → Nat :=
  let c3_i32_194 : BitVec 32 := 3#32
  let v412 : BitVec 32 := Scalar.shrsi v411 c3_i32_194
  let c3_i32_195 : BitVec 32 := 3#32
  let v413 : BitVec 32 := Scalar.shli v412 c3_i32_195
  let v414 : BitVec 32 := v413
  let v415 : Index := Scalar.indexCast v414
  let c0_196 : Index := 0#32
  ![v415.toNat, 0]

def k1_chk2 (v411 : BitVec 32) : Prop :=
  (8 ∣ (k1_mult2 v411).toNat) ∧
  (∀ a, (k1_off4 v411) a + S8x128.size a ≤ S20480x128.size a)
theorem k1_mult2_dvd : ∀ (v411 : BitVec 32) (k1_hw2 : k1_chk2 v411), 8 ∣ (k1_mult2 v411).toNat := fun v411 k1_hw2 => k1_hw2.1
theorem k1_off4_inb : ∀ (v411 : BitVec 32) (k1_hw2 : k1_chk2 v411), ∀ a, (k1_off4 v411) a + S8x128.size a ≤ S20480x128.size a := fun v411 k1_hw2 => k1_hw2.2

def k1_off5 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_200 : BitVec 32 := 8#32
  let v424 : BitVec 32 := Scalar.muli arg10 c8_i32_200
  let v425 : BitVec 32 := Scalar.addi v0 v424
  let c2_i32 : BitVec 32 := 2#32
  let v426 : BitVec 32 := Scalar.addi v425 c2_i32
  let v427 : Index := Scalar.indexCast v426
  ![v427.toNat]
def k1_mult3 (v428 : BitVec 32) : BitVec 32 :=
  let c3_i32_201 : BitVec 32 := 3#32
  let v429 : BitVec 32 := Scalar.shrsi v428 c3_i32_201
  let c3_i32_202 : BitVec 32 := 3#32
  let v430 : BitVec 32 := Scalar.shli v429 c3_i32_202
  v430

def k1_off6 (v428 : BitVec 32) : Fin 2 → Nat :=
  let c3_i32_201 : BitVec 32 := 3#32
  let v429 : BitVec 32 := Scalar.shrsi v428 c3_i32_201
  let c3_i32_202 : BitVec 32 := 3#32
  let v430 : BitVec 32 := Scalar.shli v429 c3_i32_202
  let v431 : BitVec 32 := v430
  let v432 : Index := Scalar.indexCast v431
  let c0_203 : Index := 0#32
  ![v432.toNat, 0]

def k1_chk3 (v428 : BitVec 32) : Prop :=
  (8 ∣ (k1_mult3 v428).toNat) ∧
  (∀ a, (k1_off6 v428) a + S8x128.size a ≤ S20480x128.size a)
theorem k1_mult3_dvd : ∀ (v428 : BitVec 32) (k1_hw3 : k1_chk3 v428), 8 ∣ (k1_mult3 v428).toNat := fun v428 k1_hw3 => k1_hw3.1
theorem k1_off6_inb : ∀ (v428 : BitVec 32) (k1_hw3 : k1_chk3 v428), ∀ a, (k1_off6 v428) a + S8x128.size a ≤ S20480x128.size a := fun v428 k1_hw3 => k1_hw3.2

def k1_off7 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_207 : BitVec 32 := 8#32
  let v441 : BitVec 32 := Scalar.muli arg10 c8_i32_207
  let v442 : BitVec 32 := Scalar.addi v0 v441
  let c3_i32_208 : BitVec 32 := 3#32
  let v443 : BitVec 32 := Scalar.addi v442 c3_i32_208
  let v444 : Index := Scalar.indexCast v443
  ![v444.toNat]
def k1_mult4 (v445 : BitVec 32) : BitVec 32 :=
  let c3_i32_209 : BitVec 32 := 3#32
  let v446 : BitVec 32 := Scalar.shrsi v445 c3_i32_209
  let c3_i32_210 : BitVec 32 := 3#32
  let v447 : BitVec 32 := Scalar.shli v446 c3_i32_210
  v447

def k1_off8 (v445 : BitVec 32) : Fin 2 → Nat :=
  let c3_i32_209 : BitVec 32 := 3#32
  let v446 : BitVec 32 := Scalar.shrsi v445 c3_i32_209
  let c3_i32_210 : BitVec 32 := 3#32
  let v447 : BitVec 32 := Scalar.shli v446 c3_i32_210
  let v448 : BitVec 32 := v447
  let v449 : Index := Scalar.indexCast v448
  let c0_211 : Index := 0#32
  ![v449.toNat, 0]

def k1_chk4 (v445 : BitVec 32) : Prop :=
  (8 ∣ (k1_mult4 v445).toNat) ∧
  (∀ a, (k1_off8 v445) a + S8x128.size a ≤ S20480x128.size a)
theorem k1_mult4_dvd : ∀ (v445 : BitVec 32) (k1_hw4 : k1_chk4 v445), 8 ∣ (k1_mult4 v445).toNat := fun v445 k1_hw4 => k1_hw4.1
theorem k1_off8_inb : ∀ (v445 : BitVec 32) (k1_hw4 : k1_chk4 v445), ∀ a, (k1_off8 v445) a + S8x128.size a ≤ S20480x128.size a := fun v445 k1_hw4 => k1_hw4.2

def k1_off9 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_215 : BitVec 32 := 8#32
  let v458 : BitVec 32 := Scalar.muli arg10 c8_i32_215
  let v459 : BitVec 32 := Scalar.addi v0 v458
  let c4_i32 : BitVec 32 := 4#32
  let v460 : BitVec 32 := Scalar.addi v459 c4_i32
  let v461 : Index := Scalar.indexCast v460
  ![v461.toNat]
def k1_mult5 (v462 : BitVec 32) : BitVec 32 :=
  let c3_i32_216 : BitVec 32 := 3#32
  let v463 : BitVec 32 := Scalar.shrsi v462 c3_i32_216
  let c3_i32_217 : BitVec 32 := 3#32
  let v464 : BitVec 32 := Scalar.shli v463 c3_i32_217
  v464

def k1_off10 (v462 : BitVec 32) : Fin 2 → Nat :=
  let c3_i32_216 : BitVec 32 := 3#32
  let v463 : BitVec 32 := Scalar.shrsi v462 c3_i32_216
  let c3_i32_217 : BitVec 32 := 3#32
  let v464 : BitVec 32 := Scalar.shli v463 c3_i32_217
  let v465 : BitVec 32 := v464
  let v466 : Index := Scalar.indexCast v465
  let c0_218 : Index := 0#32
  ![v466.toNat, 0]

def k1_chk5 (v462 : BitVec 32) : Prop :=
  (8 ∣ (k1_mult5 v462).toNat) ∧
  (∀ a, (k1_off10 v462) a + S8x128.size a ≤ S20480x128.size a)
theorem k1_mult5_dvd : ∀ (v462 : BitVec 32) (k1_hw5 : k1_chk5 v462), 8 ∣ (k1_mult5 v462).toNat := fun v462 k1_hw5 => k1_hw5.1
theorem k1_off10_inb : ∀ (v462 : BitVec 32) (k1_hw5 : k1_chk5 v462), ∀ a, (k1_off10 v462) a + S8x128.size a ≤ S20480x128.size a := fun v462 k1_hw5 => k1_hw5.2

def k1_off11 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_222 : BitVec 32 := 8#32
  let v475 : BitVec 32 := Scalar.muli arg10 c8_i32_222
  let v476 : BitVec 32 := Scalar.addi v0 v475
  let c5_i32 : BitVec 32 := 5#32
  let v477 : BitVec 32 := Scalar.addi v476 c5_i32
  let v478 : Index := Scalar.indexCast v477
  ![v478.toNat]
def k1_mult6 (v479 : BitVec 32) : BitVec 32 :=
  let c3_i32_223 : BitVec 32 := 3#32
  let v480 : BitVec 32 := Scalar.shrsi v479 c3_i32_223
  let c3_i32_224 : BitVec 32 := 3#32
  let v481 : BitVec 32 := Scalar.shli v480 c3_i32_224
  v481

def k1_off12 (v479 : BitVec 32) : Fin 2 → Nat :=
  let c3_i32_223 : BitVec 32 := 3#32
  let v480 : BitVec 32 := Scalar.shrsi v479 c3_i32_223
  let c3_i32_224 : BitVec 32 := 3#32
  let v481 : BitVec 32 := Scalar.shli v480 c3_i32_224
  let v482 : BitVec 32 := v481
  let v483 : Index := Scalar.indexCast v482
  let c0_225 : Index := 0#32
  ![v483.toNat, 0]

def k1_chk6 (v479 : BitVec 32) : Prop :=
  (8 ∣ (k1_mult6 v479).toNat) ∧
  (∀ a, (k1_off12 v479) a + S8x128.size a ≤ S20480x128.size a)
theorem k1_mult6_dvd : ∀ (v479 : BitVec 32) (k1_hw6 : k1_chk6 v479), 8 ∣ (k1_mult6 v479).toNat := fun v479 k1_hw6 => k1_hw6.1
theorem k1_off12_inb : ∀ (v479 : BitVec 32) (k1_hw6 : k1_chk6 v479), ∀ a, (k1_off12 v479) a + S8x128.size a ≤ S20480x128.size a := fun v479 k1_hw6 => k1_hw6.2

def k1_off13 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_229 : BitVec 32 := 8#32
  let v492 : BitVec 32 := Scalar.muli arg10 c8_i32_229
  let v493 : BitVec 32 := Scalar.addi v0 v492
  let c6_i32 : BitVec 32 := 6#32
  let v494 : BitVec 32 := Scalar.addi v493 c6_i32
  let v495 : Index := Scalar.indexCast v494
  ![v495.toNat]
def k1_mult7 (v496 : BitVec 32) : BitVec 32 :=
  let c3_i32_230 : BitVec 32 := 3#32
  let v497 : BitVec 32 := Scalar.shrsi v496 c3_i32_230
  let c3_i32_231 : BitVec 32 := 3#32
  let v498 : BitVec 32 := Scalar.shli v497 c3_i32_231
  v498

def k1_off14 (v496 : BitVec 32) : Fin 2 → Nat :=
  let c3_i32_230 : BitVec 32 := 3#32
  let v497 : BitVec 32 := Scalar.shrsi v496 c3_i32_230
  let c3_i32_231 : BitVec 32 := 3#32
  let v498 : BitVec 32 := Scalar.shli v497 c3_i32_231
  let v499 : BitVec 32 := v498
  let v500 : Index := Scalar.indexCast v499
  let c0_232 : Index := 0#32
  ![v500.toNat, 0]

def k1_chk7 (v496 : BitVec 32) : Prop :=
  (8 ∣ (k1_mult7 v496).toNat) ∧
  (∀ a, (k1_off14 v496) a + S8x128.size a ≤ S20480x128.size a)
theorem k1_mult7_dvd : ∀ (v496 : BitVec 32) (k1_hw7 : k1_chk7 v496), 8 ∣ (k1_mult7 v496).toNat := fun v496 k1_hw7 => k1_hw7.1
theorem k1_off14_inb : ∀ (v496 : BitVec 32) (k1_hw7 : k1_chk7 v496), ∀ a, (k1_off14 v496) a + S8x128.size a ≤ S20480x128.size a := fun v496 k1_hw7 => k1_hw7.2

def k1_off15 (i : grid1.Coords) (k1_t1 : Fin k1_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg10 : BitVec 32 := Scf.iv c0_i32 c1_i32 k1_t1
  let c8_i32_236 : BitVec 32 := 8#32
  let v509 : BitVec 32 := Scalar.muli arg10 c8_i32_236
  let v510 : BitVec 32 := Scalar.addi v0 v509
  let c7_i32_237 : BitVec 32 := 7#32
  let v511 : BitVec 32 := Scalar.addi v510 c7_i32_237
  let v512 : Index := Scalar.indexCast v511
  ![v512.toNat]
def k1_mult8 (v513 : BitVec 32) : BitVec 32 :=
  let c3_i32_238 : BitVec 32 := 3#32
  let v514 : BitVec 32 := Scalar.shrsi v513 c3_i32_238
  let c3_i32_239 : BitVec 32 := 3#32
  let v515 : BitVec 32 := Scalar.shli v514 c3_i32_239
  v515

def k1_off16 (v513 : BitVec 32) : Fin 2 → Nat :=
  let c3_i32_238 : BitVec 32 := 3#32
  let v514 : BitVec 32 := Scalar.shrsi v513 c3_i32_238
  let c3_i32_239 : BitVec 32 := 3#32
  let v515 : BitVec 32 := Scalar.shli v514 c3_i32_239
  let v516 : BitVec 32 := v515
  let v517 : Index := Scalar.indexCast v516
  let c0_240 : Index := 0#32
  ![v517.toNat, 0]

def k1_chk8 (v513 : BitVec 32) : Prop :=
  (8 ∣ (k1_mult8 v513).toNat) ∧
  (∀ a, (k1_off16 v513) a + S8x128.size a ≤ S20480x128.size a)
theorem k1_mult8_dvd : ∀ (v513 : BitVec 32) (k1_hw8 : k1_chk8 v513), 8 ∣ (k1_mult8 v513).toNat := fun v513 k1_hw8 => k1_hw8.1
theorem k1_off16_inb : ∀ (v513 : BitVec 32) (k1_hw8 : k1_chk8 v513), ∀ a, (k1_off16 v513) a + S8x128.size a ≤ S20480x128.size a := fun v513 k1_hw8 => k1_hw8.2

def k1_off17 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32_244 : BitVec 32 := 8#32
  let v526 : BitVec 32 := Scalar.muli arg10 c8_i32_244
  let v527 : Index := Scalar.indexCast v526
  let c0_245 : Index := 0#32
  ![v527.toNat, 0]
def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S256 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S20480x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x200 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x200 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x200 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S8192x128 : Shape := ⟨2, ![8192, 128]⟩
abbrev S20000x128 : Shape := ⟨2, ![20000, 128]⟩
abbrev S256x256 : Shape := ⟨2, ![256, 256]⟩
abbrev S256 : Shape := ⟨1, ![256]⟩
abbrev S125x32 : Shape := ⟨2, ![125, 32]⟩
abbrev S10x32 : Shape := ⟨2, ![10, 32]⟩
abbrev S192x128 : Shape := ⟨2, ![192, 128]⟩
abbrev S128 : Shape := ⟨1, ![128]⟩
abbrev S2x128x128 : Shape := ⟨3, ![2, 128, 128]⟩
abbrev S2x128 : Shape := ⟨2, ![2, 128]⟩
abbrev S2x128x512 : Shape := ⟨3, ![2, 128, 512]⟩
abbrev S2x512 : Shape := ⟨2, ![2, 512]⟩
abbrev S2x512x128 : Shape := ⟨3, ![2, 512, 128]⟩
abbrev S256x128 : Shape := ⟨2, ![256, 128]⟩
abbrev S128x200 : Shape := ⟨2, ![128, 200]⟩
abbrev S200 : Shape := ⟨1, ![200]⟩
abbrev S_ : Shape := ⟨0, ![]⟩
abbrev S256x256x1 : Shape := ⟨3, ![256, 256, 1]⟩
abbrev S256x256x128 : Shape := ⟨3, ![256, 256, 128]⟩
abbrev S256x256x32 : Shape := ⟨3, ![256, 256, 32]⟩
abbrev S256x256x192 : Shape := ⟨3, ![256, 256, 192]⟩
abbrev S1x1x128 : Shape := ⟨3, ![1, 1, 128]⟩
abbrev S1x256x128 : Shape := ⟨3, ![1, 256, 128]⟩
abbrev S256x1x1x256 : Shape := ⟨4, ![256, 1, 1, 256]⟩
abbrev S1x128x128 : Shape := ⟨3, ![1, 128, 128]⟩
abbrev S128x128 : Shape := ⟨2, ![128, 128]⟩
abbrev S256x256x2x64 : Shape := ⟨4, ![256, 256, 2, 64]⟩
abbrev S256x2x256x64 : Shape := ⟨4, ![256, 2, 256, 64]⟩
abbrev S256x2x256x256 : Shape := ⟨4, ![256, 2, 256, 256]⟩
abbrev S256x2x256 : Shape := ⟨3, ![256, 2, 256]⟩
abbrev S256x2x256x1 : Shape := ⟨4, ![256, 2, 256, 1]⟩
abbrev S1x128 : Shape := ⟨2, ![1, 128]⟩
abbrev S1x128x512 : Shape := ⟨3, ![1, 128, 512]⟩
abbrev S128x512 : Shape := ⟨2, ![128, 512]⟩
abbrev S256x256x512 : Shape := ⟨3, ![256, 256, 512]⟩
abbrev S1x512 : Shape := ⟨2, ![1, 512]⟩
abbrev S512 : Shape := ⟨1, ![512]⟩
abbrev S1x1x512 : Shape := ⟨3, ![1, 1, 512]⟩
abbrev S1x512x128 : Shape := ⟨3, ![1, 512, 128]⟩
abbrev S512x128 : Shape := ⟨2, ![512, 128]⟩
abbrev S256x1 : Shape := ⟨2, ![256, 1]⟩
abbrev S128x20000 : Shape := ⟨2, ![128, 20000]⟩
abbrev S256x20000 : Shape := ⟨2, ![256, 20000]⟩
abbrev S256x200 : Shape := ⟨2, ![256, 200]⟩
abbrev S1x200 : Shape := ⟨2, ![1, 200]⟩

abbrev nBuf : Space → Nat
  | .hbm => 412
  | .vmem => 0
  | .smem => 0
  | _ => 0

abbrev hbmTy0_0 (i : Nat) : BufTy := match i % 128 with
  | 0 => ⟨S8192x128, .f32⟩
  | 1 => ⟨S20000x128, .f32⟩
  | 2 => ⟨S256x256, .i32⟩
  | 3 => ⟨S256x256, .i32⟩
  | 4 => ⟨S256x256, .i32⟩
  | 5 => ⟨S256, .i32⟩
  | 6 => ⟨S125x32, .f32⟩
  | 7 => ⟨S10x32, .f32⟩
  | 8 => ⟨S192x128, .f32⟩
  | 9 => ⟨S128, .f32⟩
  | 10 => ⟨S2x128x128, .f32⟩
  | 11 => ⟨S2x128x128, .f32⟩
  | 12 => ⟨S2x128x128, .f32⟩
  | 13 => ⟨S2x128x128, .f32⟩
  | 14 => ⟨S2x128, .f32⟩
  | 15 => ⟨S2x128, .f32⟩
  | 16 => ⟨S2x128x512, .f32⟩
  | 17 => ⟨S2x512, .f32⟩
  | 18 => ⟨S2x512x128, .f32⟩
  | 19 => ⟨S2x128, .f32⟩
  | 20 => ⟨S2x128, .f32⟩
  | 21 => ⟨S2x128, .f32⟩
  | 22 => ⟨S256x128, .f32⟩
  | 23 => ⟨S128, .f32⟩
  | 24 => ⟨S128x200, .f32⟩
  | 25 => ⟨S200, .f32⟩
  | 26 => ⟨S256x128, .f32⟩
  | 27 => ⟨S_, .i32⟩
  | 28 => ⟨S256x256, .i32⟩
  | 29 => ⟨S256x256, .i1⟩
  | 30 => ⟨S256x256x1, .i1⟩
  | 31 => ⟨S_, .i32⟩
  | 32 => ⟨S256x256, .i32⟩
  | 33 => ⟨S256x256, .i32⟩
  | 34 => ⟨S_, .i32⟩
  | 35 => ⟨S256x256, .i32⟩
  | 36 => ⟨S256x256, .i1⟩
  | 37 => ⟨S_, .i32⟩
  | 38 => ⟨S256x256, .i32⟩
  | 39 => ⟨S256x256, .i32⟩
  | 40 => ⟨S256x256, .i32⟩
  | 41 => ⟨S256x256x1, .i32⟩
  | 42 => ⟨S256x256x128, .f32⟩
  | 43 => ⟨S_, .f32⟩
  | 44 => ⟨S_, .f32⟩
  | 45 => ⟨S256x256x128, .i1⟩
  | 46 => ⟨S256x256x128, .f32⟩
  | 47 => ⟨S256x256x128, .f32⟩
  | 48 => ⟨S_, .i32⟩
  | 49 => ⟨S256x256, .i32⟩
  | 50 => ⟨S256x256, .i1⟩
  | 51 => ⟨S_, .i32⟩
  | 52 => ⟨S256x256, .i32⟩
  | 53 => ⟨S256x256, .i32⟩
  | 54 => ⟨S256x256, .i32⟩
  | 55 => ⟨S256x256x1, .i32⟩
  | 56 => ⟨S256x256x32, .f32⟩
  | 57 => ⟨S_, .i32⟩
  | 58 => ⟨S256x256, .i32⟩
  | 59 => ⟨S256x256, .i1⟩
  | 60 => ⟨S_, .i32⟩
  | 61 => ⟨S256x256, .i32⟩
  | 62 => ⟨S256x256, .i32⟩
  | 63 => ⟨S256x256, .i32⟩
  | 64 => ⟨S256x256x1, .i32⟩
  | 65 => ⟨S256x256x32, .f32⟩
  | 66 => ⟨S256x256x192, .f32⟩
  | 67 => ⟨S256x256x128, .f32⟩
  | 68 => ⟨S1x1x128, .f32⟩
  | 69 => ⟨S256x256x128, .f32⟩
  | 70 => ⟨S256x256x128, .f32⟩
  | 71 => ⟨S256x256x128, .f32⟩
  | 72 => ⟨S1x256x128, .f32⟩
  | 73 => ⟨S256x256x128, .f32⟩
  | 74 => ⟨S256x256x128, .f32⟩
  | 75 => ⟨S256x256, .i1⟩
  | 76 => ⟨S256x1x1x256, .i1⟩
  | 77 => ⟨S1x128x128, .f32⟩
  | 78 => ⟨S128x128, .f32⟩
  | 79 => ⟨S256x256x128, .f32⟩
  | 80 => ⟨S256x256x2x64, .f32⟩
  | 81 => ⟨S256x2x256x64, .f32⟩
  | 82 => ⟨S1x128x128, .f32⟩
  | 83 => ⟨S128x128, .f32⟩
  | 84 => ⟨S256x256x128, .f32⟩
  | 85 => ⟨S256x256x2x64, .f32⟩
  | 86 => ⟨S256x2x256x64, .f32⟩
  | 87 => ⟨S1x128x128, .f32⟩
  | 88 => ⟨S128x128, .f32⟩
  | 89 => ⟨S256x256x128, .f32⟩
  | 90 => ⟨S256x256x2x64, .f32⟩
  | 91 => ⟨S256x2x256x64, .f32⟩
  | 92 => ⟨S256x2x256x256, .f32⟩
  | 93 => ⟨S_, .f32⟩
  | 94 => ⟨S256x2x256x256, .f32⟩
  | 95 => ⟨S256x2x256x256, .f32⟩
  | 96 => ⟨S_, .f32⟩
  | 97 => ⟨S_, .f32⟩
  | 98 => ⟨S256x2x256x256, .i1⟩
  | 99 => ⟨S256x2x256x256, .f32⟩
  | 100 => ⟨S256x2x256x256, .f32⟩
  | 101 => ⟨S_, .f32⟩
  | 102 => ⟨S256x2x256, .f32⟩
  | 103 => ⟨S_, .f32⟩
  | 104 => ⟨S256x2x256, .f32⟩
  | 105 => ⟨S256x2x256, .f32⟩
  | 106 => ⟨S256x2x256x1, .f32⟩
  | 107 => ⟨S256x2x256x256, .f32⟩
  | 108 => ⟨S256x2x256x256, .f32⟩
  | 109 => ⟨S256x2x256x256, .f32⟩
  | 110 => ⟨S_, .f32⟩
  | 111 => ⟨S256x2x256, .f32⟩
  | 112 => ⟨S256x2x256x1, .f32⟩
  | 113 => ⟨S256x2x256x256, .f32⟩
  | 114 => ⟨S256x2x256x256, .f32⟩
  | 115 => ⟨S_, .f32⟩
  | 116 => ⟨S_, .f32⟩
  | 117 => ⟨S256x2x256x256, .i1⟩
  | 118 => ⟨S256x2x256x256, .f32⟩
  | 119 => ⟨S256x2x256x256, .f32⟩
  | 120 => ⟨S256x2x256x64, .f32⟩
  | 121 => ⟨S256x256x2x64, .f32⟩
  | 122 => ⟨S256x256x128, .f32⟩
  | 123 => ⟨S1x128x128, .f32⟩
  | 124 => ⟨S128x128, .f32⟩
  | 125 => ⟨S256x256x128, .f32⟩
  | 126 => ⟨S256x256x128, .f32⟩
  | 127 => ⟨S1x128, .f32⟩
  | _ => ⟨S8192x128, .f32⟩

abbrev hbmTy0_1 (i : Nat) : BufTy := match i % 128 with
  | 0 => ⟨S128, .f32⟩
  | 1 => ⟨S1x128, .f32⟩
  | 2 => ⟨S128, .f32⟩
  | 3 => ⟨S_, .f32⟩
  | 4 => ⟨S256x256, .f32⟩
  | 5 => ⟨S256x256x1, .f32⟩
  | 6 => ⟨S_, .f32⟩
  | 7 => ⟨S256x256x1, .f32⟩
  | 8 => ⟨S256x256x1, .f32⟩
  | 9 => ⟨S256x256x128, .f32⟩
  | 10 => ⟨S256x256x128, .f32⟩
  | 11 => ⟨S256x256x128, .f32⟩
  | 12 => ⟨S256x256x128, .f32⟩
  | 13 => ⟨S256x256x128, .f32⟩
  | 14 => ⟨S_, .f32⟩
  | 15 => ⟨S256x256, .f32⟩
  | 16 => ⟨S256x256x1, .f32⟩
  | 17 => ⟨S_, .f32⟩
  | 18 => ⟨S256x256x1, .f32⟩
  | 19 => ⟨S256x256x1, .f32⟩
  | 20 => ⟨S256x256x128, .f32⟩
  | 21 => ⟨S256x256x128, .f32⟩
  | 22 => ⟨S_, .f32⟩
  | 23 => ⟨S256x256x1, .f32⟩
  | 24 => ⟨S256x256x1, .f32⟩
  | 25 => ⟨S256x256x1, .f32⟩
  | 26 => ⟨S256x256x128, .f32⟩
  | 27 => ⟨S256x256x128, .f32⟩
  | 28 => ⟨S1x1x128, .f32⟩
  | 29 => ⟨S256x256x128, .f32⟩
  | 30 => ⟨S256x256x128, .f32⟩
  | 31 => ⟨S1x1x128, .f32⟩
  | 32 => ⟨S256x256x128, .f32⟩
  | 33 => ⟨S256x256x128, .f32⟩
  | 34 => ⟨S1x128x512, .f32⟩
  | 35 => ⟨S128x512, .f32⟩
  | 36 => ⟨S256x256x512, .f32⟩
  | 37 => ⟨S1x512, .f32⟩
  | 38 => ⟨S512, .f32⟩
  | 39 => ⟨S1x1x512, .f32⟩
  | 40 => ⟨S256x256x512, .f32⟩
  | 41 => ⟨S256x256x512, .f32⟩
  | 42 => ⟨S_, .f32⟩
  | 43 => ⟨S256x256x512, .f32⟩
  | 44 => ⟨S256x256x512, .f32⟩
  | 45 => ⟨S1x512x128, .f32⟩
  | 46 => ⟨S512x128, .f32⟩
  | 47 => ⟨S256x256x128, .f32⟩
  | 48 => ⟨S1x128, .f32⟩
  | 49 => ⟨S128, .f32⟩
  | 50 => ⟨S1x1x128, .f32⟩
  | 51 => ⟨S256x256x128, .f32⟩
  | 52 => ⟨S256x256x128, .f32⟩
  | 53 => ⟨S256x256x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S256x256, .f32⟩
  | 60 => ⟨S256x256x1, .f32⟩
  | 61 => ⟨S_, .f32⟩
  | 62 => ⟨S256x256x1, .f32⟩
  | 63 => ⟨S256x256x1, .f32⟩
  | 64 => ⟨S256x256x128, .f32⟩
  | 65 => ⟨S256x256x128, .f32⟩
  | 66 => ⟨S256x256x128, .f32⟩
  | 67 => ⟨S256x256x128, .f32⟩
  | 68 => ⟨S256x256x128, .f32⟩
  | 69 => ⟨S_, .f32⟩
  | 70 => ⟨S256x256, .f32⟩
  | 71 => ⟨S256x256x1, .f32⟩
  | 72 => ⟨S_, .f32⟩
  | 73 => ⟨S256x256x1, .f32⟩
  | 74 => ⟨S256x256x1, .f32⟩
  | 75 => ⟨S256x256x128, .f32⟩
  | 76 => ⟨S256x256x128, .f32⟩
  | 77 => ⟨S_, .f32⟩
  | 78 => ⟨S256x256x1, .f32⟩
  | 79 => ⟨S256x256x1, .f32⟩
  | 80 => ⟨S256x256x1, .f32⟩
  | 81 => ⟨S256x256x128, .f32⟩
  | 82 => ⟨S256x256x128, .f32⟩
  | 83 => ⟨S1x1x128, .f32⟩
  | 84 => ⟨S256x256x128, .f32⟩
  | 85 => ⟨S256x256x128, .f32⟩
  | 86 => ⟨S1x1x128, .f32⟩
  | 87 => ⟨S256x256x128, .f32⟩
  | 88 => ⟨S256x256x128, .f32⟩
  | 89 => ⟨S1x128x128, .f32⟩
  | 90 => ⟨S128x128, .f32⟩
  | 91 => ⟨S256x256x128, .f32⟩
  | 92 => ⟨S256x256x2x64, .f32⟩
  | 93 => ⟨S256x2x256x64, .f32⟩
  | 94 => ⟨S1x128x128, .f32⟩
  | 95 => ⟨S128x128, .f32⟩
  | 96 => ⟨S256x256x128, .f32⟩
  | 97 => ⟨S256x256x2x64, .f32⟩
  | 98 => ⟨S256x2x256x64, .f32⟩
  | 99 => ⟨S1x128x128, .f32⟩
  | 100 => ⟨S128x128, .f32⟩
  | 101 => ⟨S256x256x128, .f32⟩
  | 102 => ⟨S256x256x2x64, .f32⟩
  | 103 => ⟨S256x2x256x64, .f32⟩
  | 104 => ⟨S256x2x256x256, .f32⟩
  | 105 => ⟨S_, .f32⟩
  | 106 => ⟨S256x2x256x256, .f32⟩
  | 107 => ⟨S256x2x256x256, .f32⟩
  | 108 => ⟨S_, .f32⟩
  | 109 => ⟨S_, .f32⟩
  | 110 => ⟨S256x2x256x256, .i1⟩
  | 111 => ⟨S256x2x256x256, .f32⟩
  | 112 => ⟨S256x2x256x256, .f32⟩
  | 113 => ⟨S_, .f32⟩
  | 114 => ⟨S256x2x256, .f32⟩
  | 115 => ⟨S_, .f32⟩
  | 116 => ⟨S256x2x256, .f32⟩
  | 117 => ⟨S256x2x256, .f32⟩
  | 118 => ⟨S256x2x256x1, .f32⟩
  | 119 => ⟨S256x2x256x256, .f32⟩
  | 120 => ⟨S256x2x256x256, .f32⟩
  | 121 => ⟨S256x2x256x256, .f32⟩
  | 122 => ⟨S_, .f32⟩
  | 123 => ⟨S256x2x256, .f32⟩
  | 124 => ⟨S256x2x256x1, .f32⟩
  | 125 => ⟨S256x2x256x256, .f32⟩
  | 126 => ⟨S256x2x256x256, .f32⟩
  | 127 => ⟨S_, .f32⟩
  | _ => ⟨S8192x128, .f32⟩

abbrev hbmTy0_2 (i : Nat) : BufTy := match i % 128 with
  | 0 => ⟨S_, .f32⟩
  | 1 => ⟨S256x2x256x256, .i1⟩
  | 2 => ⟨S256x2x256x256, .f32⟩
  | 3 => ⟨S256x2x256x256, .f32⟩
  | 4 => ⟨S256x2x256x64, .f32⟩
  | 5 => ⟨S256x256x2x64, .f32⟩
  | 6 => ⟨S256x256x128, .f32⟩
  | 7 => ⟨S1x128x128, .f32⟩
  | 8 => ⟨S128x128, .f32⟩
  | 9 => ⟨S256x256x128, .f32⟩
  | 10 => ⟨S256x256x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S256x256, .f32⟩
  | 17 => ⟨S256x256x1, .f32⟩
  | 18 => ⟨S_, .f32⟩
  | 19 => ⟨S256x256x1, .f32⟩
  | 20 => ⟨S256x256x1, .f32⟩
  | 21 => ⟨S256x256x128, .f32⟩
  | 22 => ⟨S256x256x128, .f32⟩
  | 23 => ⟨S256x256x128, .f32⟩
  | 24 => ⟨S256x256x128, .f32⟩
  | 25 => ⟨S256x256x128, .f32⟩
  | 26 => ⟨S_, .f32⟩
  | 27 => ⟨S256x256, .f32⟩
  | 28 => ⟨S256x256x1, .f32⟩
  | 29 => ⟨S_, .f32⟩
  | 30 => ⟨S256x256x1, .f32⟩
  | 31 => ⟨S256x256x1, .f32⟩
  | 32 => ⟨S256x256x128, .f32⟩
  | 33 => ⟨S256x256x128, .f32⟩
  | 34 => ⟨S_, .f32⟩
  | 35 => ⟨S256x256x1, .f32⟩
  | 36 => ⟨S256x256x1, .f32⟩
  | 37 => ⟨S256x256x1, .f32⟩
  | 38 => ⟨S256x256x128, .f32⟩
  | 39 => ⟨S256x256x128, .f32⟩
  | 40 => ⟨S1x1x128, .f32⟩
  | 41 => ⟨S256x256x128, .f32⟩
  | 42 => ⟨S256x256x128, .f32⟩
  | 43 => ⟨S1x1x128, .f32⟩
  | 44 => ⟨S256x256x128, .f32⟩
  | 45 => ⟨S256x256x128, .f32⟩
  | 46 => ⟨S1x128x512, .f32⟩
  | 47 => ⟨S128x512, .f32⟩
  | 48 => ⟨S256x256x512, .f32⟩
  | 49 => ⟨S1x512, .f32⟩
  | 50 => ⟨S512, .f32⟩
  | 51 => ⟨S1x1x512, .f32⟩
  | 52 => ⟨S256x256x512, .f32⟩
  | 53 => ⟨S256x256x512, .f32⟩
  | 54 => ⟨S_, .f32⟩
  | 55 => ⟨S256x256x512, .f32⟩
  | 56 => ⟨S256x256x512, .f32⟩
  | 57 => ⟨S1x512x128, .f32⟩
  | 58 => ⟨S512x128, .f32⟩
  | 59 => ⟨S256x256x128, .f32⟩
  | 60 => ⟨S1x128, .f32⟩
  | 61 => ⟨S128, .f32⟩
  | 62 => ⟨S1x1x128, .f32⟩
  | 63 => ⟨S256x256x128, .f32⟩
  | 64 => ⟨S256x256x128, .f32⟩
  | 65 => ⟨S256x256x128, .f32⟩
  | 66 => ⟨S1x128, .f32⟩
  | 67 => ⟨S128, .f32⟩
  | 68 => ⟨S1x128, .f32⟩
  | 69 => ⟨S128, .f32⟩
  | 70 => ⟨S_, .f32⟩
  | 71 => ⟨S256x256, .f32⟩
  | 72 => ⟨S256x256x1, .f32⟩
  | 73 => ⟨S_, .f32⟩
  | 74 => ⟨S256x256x1, .f32⟩
  | 75 => ⟨S256x256x1, .f32⟩
  | 76 => ⟨S256x256x128, .f32⟩
  | 77 => ⟨S256x256x128, .f32⟩
  | 78 => ⟨S256x256x128, .f32⟩
  | 79 => ⟨S256x256x128, .f32⟩
  | 80 => ⟨S256x256x128, .f32⟩
  | 81 => ⟨S_, .f32⟩
  | 82 => ⟨S256x256, .f32⟩
  | 83 => ⟨S256x256x1, .f32⟩
  | 84 => ⟨S_, .f32⟩
  | 85 => ⟨S256x256x1, .f32⟩
  | 86 => ⟨S256x256x1, .f32⟩
  | 87 => ⟨S256x256x128, .f32⟩
  | 88 => ⟨S256x256x128, .f32⟩
  | 89 => ⟨S_, .f32⟩
  | 90 => ⟨S256x256x1, .f32⟩
  | 91 => ⟨S256x256x1, .f32⟩
  | 92 => ⟨S256x256x1, .f32⟩
  | 93 => ⟨S256x256x128, .f32⟩
  | 94 => ⟨S256x256x128, .f32⟩
  | 95 => ⟨S1x1x128, .f32⟩
  | 96 => ⟨S256x256x128, .f32⟩
  | 97 => ⟨S256x256x128, .f32⟩
  | 98 => ⟨S1x1x128, .f32⟩
  | 99 => ⟨S256x256x128, .f32⟩
  | 100 => ⟨S256x256x128, .f32⟩
  | 101 => ⟨S_, .f32⟩
  | 102 => ⟨S256x128, .f32⟩
  | 103 => ⟨S_, .f32⟩
  | 104 => ⟨S256x128, .f32⟩
  | 105 => ⟨S256x128, .f32⟩
  | 106 => ⟨S_, .i32⟩
  | 107 => ⟨S256, .i32⟩
  | 108 => ⟨S256, .i1⟩
  | 109 => ⟨S_, .i32⟩
  | 110 => ⟨S256, .i32⟩
  | 111 => ⟨S256, .i32⟩
  | 112 => ⟨S256, .i32⟩
  | 113 => ⟨S256x1, .i32⟩
  | 114 => ⟨S256x128, .f32⟩
  | 115 => ⟨S128x20000, .f32⟩
  | 116 => ⟨S256x20000, .f32⟩
  | 117 => ⟨S_, .f32⟩
  | 118 => ⟨S256, .f32⟩
  | 119 => ⟨S256x1, .f32⟩
  | 120 => ⟨S256x20000, .f32⟩
  | 121 => ⟨S256x20000, .f32⟩
  | 122 => ⟨S256x20000, .f32⟩
  | 123 => ⟨S_, .f32⟩
  | 124 => ⟨S256, .f32⟩
  | 125 => ⟨S256x1, .f32⟩
  | 126 => ⟨S_, .f32⟩
  | 127 => ⟨S256x1, .f32⟩
  | _ => ⟨S8192x128, .f32⟩

abbrev hbmTy0_3 (i : Nat) : BufTy := match i % 128 with
  | 0 => ⟨S256x1, .f32⟩
  | 1 => ⟨S256x20000, .f32⟩
  | 2 => ⟨S256x20000, .f32⟩
  | 3 => ⟨S256x128, .f32⟩
  | 4 => ⟨S256x256, .f32⟩
  | 5 => ⟨S256x128, .f32⟩
  | 6 => ⟨S1x128, .f32⟩
  | 7 => ⟨S256x128, .f32⟩
  | 8 => ⟨S256x128, .f32⟩
  | 9 => ⟨S_, .f32⟩
  | 10 => ⟨S256x128, .f32⟩
  | 11 => ⟨S256x128, .f32⟩
  | 12 => ⟨S256x200, .f32⟩
  | 13 => ⟨S1x200, .f32⟩
  | 14 => ⟨S256x200, .f32⟩
  | 15 => ⟨S256x200, .f32⟩
  | 16 => ⟨S_, .f32⟩
  | 17 => ⟨S256, .f32⟩
  | 18 => ⟨S256x1, .f32⟩
  | 19 => ⟨S256x200, .f32⟩
  | 20 => ⟨S256x200, .f32⟩
  | 21 => ⟨S256x200, .f32⟩
  | 22 => ⟨S_, .f32⟩
  | 23 => ⟨S256, .f32⟩
  | 24 => ⟨S256x1, .f32⟩
  | 25 => ⟨S256x1, .f32⟩
  | 26 => ⟨S256x200, .f32⟩
  | 27 => ⟨S256x200, .f32⟩
  | _ => ⟨S8192x128, .f32⟩

abbrev hbmTy (i : Nat) : BufTy := match i / 128 with
  | 0 => hbmTy0_0 i
  | 1 => hbmTy0_1 i
  | 2 => hbmTy0_2 i
  | 3 => hbmTy0_3 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_c : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c_0 : Ref sig .tc := ⟨.hbm, 31, rfl⟩
abbrev main_v3 : Ref sig .tc := ⟨.hbm, 32, rfl⟩
abbrev main_v4 : Ref sig .tc := ⟨.hbm, 33, rfl⟩
abbrev main_c_1 : Ref sig .tc := ⟨.hbm, 34, rfl⟩
abbrev main_v5 : Ref sig .tc := ⟨.hbm, 35, rfl⟩
abbrev main_v6 : Ref sig .tc := ⟨.hbm, 36, rfl⟩
abbrev main_c_2 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v12 : Ref sig .tc := ⟨.hbm, 47, rfl⟩
abbrev main_c_4 : Ref sig .tc := ⟨.hbm, 48, rfl⟩
abbrev main_v13 : Ref sig .tc := ⟨.hbm, 49, rfl⟩
abbrev main_v14 : Ref sig .tc := ⟨.hbm, 50, rfl⟩
abbrev main_c_5 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c_6 : Ref sig .tc := ⟨.hbm, 57, rfl⟩
abbrev main_v20 : Ref sig .tc := ⟨.hbm, 58, rfl⟩
abbrev main_v21 : Ref sig .tc := ⟨.hbm, 59, rfl⟩
abbrev main_c_7 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_v55 : Ref sig .tc := ⟨.hbm, 95, rfl⟩
abbrev main_cst_9 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v56 : Ref sig .tc := ⟨.hbm, 100, rfl⟩
abbrev main_cst_10 : Ref sig .tc := ⟨.hbm, 101, rfl⟩
abbrev main_v57 : Ref sig .tc := ⟨.hbm, 102, rfl⟩
abbrev main_cst_11 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_12 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_13 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_14 : Ref sig .tc := ⟨.hbm, 131, rfl⟩
abbrev main_v80 : Ref sig .tc := ⟨.hbm, 132, rfl⟩
abbrev main_v81 : Ref sig .tc := ⟨.hbm, 133, rfl⟩
abbrev main_cst_15 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_16 : Ref sig .tc := ⟨.hbm, 142, rfl⟩
abbrev main_v89 : Ref sig .tc := ⟨.hbm, 143, rfl⟩
abbrev main_v90 : Ref sig .tc := ⟨.hbm, 144, rfl⟩
abbrev main_cst_17 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_18 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_19 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_20 : Ref sig .tc := ⟨.hbm, 186, rfl⟩
abbrev main_v129 : Ref sig .tc := ⟨.hbm, 187, rfl⟩
abbrev main_v130 : Ref sig .tc := ⟨.hbm, 188, rfl⟩
abbrev main_cst_21 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_cst_22 : Ref sig .tc := ⟨.hbm, 197, rfl⟩
abbrev main_v138 : Ref sig .tc := ⟨.hbm, 198, rfl⟩
abbrev main_v139 : Ref sig .tc := ⟨.hbm, 199, rfl⟩
abbrev main_cst_23 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_cst_24 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_25 : Ref sig .tc := ⟨.hbm, 233, rfl⟩
abbrev main_v171 : Ref sig .tc := ⟨.hbm, 234, rfl⟩
abbrev main_v172 : Ref sig .tc := ⟨.hbm, 235, rfl⟩
abbrev main_cst_26 : Ref sig .tc := ⟨.hbm, 236, rfl⟩
abbrev main_call3_v0 : Ref sig .tc := ⟨.hbm, 237, rfl⟩
abbrev main_call3_v1 : Ref sig .tc := ⟨.hbm, 238, rfl⟩
abbrev main_call3_v2 : Ref sig .tc := ⟨.hbm, 239, rfl⟩
abbrev main_v173 : Ref sig .tc := ⟨.hbm, 240, rfl⟩
abbrev main_cst_27 : Ref sig .tc := ⟨.hbm, 241, rfl⟩
abbrev main_v174 : Ref sig .tc := ⟨.hbm, 242, rfl⟩
abbrev main_cst_28 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_29 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_cst_30 : Ref sig .tc := ⟨.hbm, 255, rfl⟩
abbrev main_call4_v0 : Ref sig .tc := ⟨.hbm, 256, rfl⟩
abbrev main_call4_v1 : Ref sig .tc := ⟨.hbm, 257, rfl⟩
abbrev main_call4_v2 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_cst_31 : Ref sig .tc := ⟨.hbm, 271, rfl⟩
abbrev main_v197 : Ref sig .tc := ⟨.hbm, 272, rfl⟩
abbrev main_v198 : Ref sig .tc := ⟨.hbm, 273, rfl⟩
abbrev main_cst_32 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_cst_33 : Ref sig .tc := ⟨.hbm, 282, rfl⟩
abbrev main_v206 : Ref sig .tc := ⟨.hbm, 283, rfl⟩
abbrev main_v207 : Ref sig .tc := ⟨.hbm, 284, rfl⟩
abbrev main_cst_34 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_cst_35 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_cst_36 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_cst_37 : Ref sig .tc := ⟨.hbm, 326, rfl⟩
abbrev main_v246 : Ref sig .tc := ⟨.hbm, 327, rfl⟩
abbrev main_v247 : Ref sig .tc := ⟨.hbm, 328, rfl⟩
abbrev main_cst_38 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_v253 : Ref sig .tc := ⟨.hbm, 335, rfl⟩
abbrev main_v254 : Ref sig .tc := ⟨.hbm, 336, rfl⟩
abbrev main_cst_39 : Ref sig .tc := ⟨.hbm, 337, rfl⟩
abbrev main_v255 : Ref sig .tc := ⟨.hbm, 338, rfl⟩
abbrev main_v256 : Ref sig .tc := ⟨.hbm, 339, rfl⟩
abbrev main_cst_40 : Ref sig .tc := ⟨.hbm, 340, rfl⟩
abbrev main_v257 : Ref sig .tc := ⟨.hbm, 341, rfl⟩
abbrev main_v258 : Ref sig .tc := ⟨.hbm, 342, rfl⟩
abbrev main_v259 : Ref sig .tc := ⟨.hbm, 343, rfl⟩
abbrev main_v260 : Ref sig .tc := ⟨.hbm, 344, rfl⟩
abbrev main_cst_41 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_v266 : Ref sig .tc := ⟨.hbm, 351, rfl⟩
abbrev main_v267 : Ref sig .tc := ⟨.hbm, 352, rfl⟩
abbrev main_v268 : Ref sig .tc := ⟨.hbm, 353, rfl⟩
abbrev main_v269 : Ref sig .tc := ⟨.hbm, 354, rfl⟩
abbrev main_v270 : Ref sig .tc := ⟨.hbm, 355, rfl⟩
abbrev main_v271 : Ref sig .tc := ⟨.hbm, 356, rfl⟩
abbrev main_cst_42 : Ref sig .tc := ⟨.hbm, 357, rfl⟩
abbrev main_v272 : Ref sig .tc := ⟨.hbm, 358, rfl⟩
abbrev main_cst_43 : Ref sig .tc := ⟨.hbm, 359, rfl⟩
abbrev main_v273 : Ref sig .tc := ⟨.hbm, 360, rfl⟩
abbrev main_v274 : Ref sig .tc := ⟨.hbm, 361, rfl⟩
abbrev main_c_44 : Ref sig .tc := ⟨.hbm, 362, rfl⟩
abbrev main_v275 : Ref sig .tc := ⟨.hbm, 363, rfl⟩
abbrev main_v276 : Ref sig .tc := ⟨.hbm, 364, rfl⟩
abbrev main_c_45 : Ref sig .tc := ⟨.hbm, 365, rfl⟩
abbrev main_v277 : Ref sig .tc := ⟨.hbm, 366, rfl⟩
abbrev main_v278 : Ref sig .tc := ⟨.hbm, 367, rfl⟩
abbrev main_v279 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_cst_46 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_cst_47 : Ref sig .tc := ⟨.hbm, 379, rfl⟩
abbrev main_v289 : Ref sig .tc := ⟨.hbm, 380, rfl⟩
abbrev main_v290 : Ref sig .tc := ⟨.hbm, 381, rfl⟩
abbrev main_cst_48 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_cst_49 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_cst_50 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_v310 : Ref sig .tc := ⟨.hbm, 404, rfl⟩
abbrev main_v311 : Ref sig .tc := ⟨.hbm, 405, rfl⟩
abbrev main_cst_51 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_v315 : Ref sig .tc := ⟨.hbm, 410, rfl⟩
abbrev main_v316 : Ref sig .tc := ⟨.hbm, 411, rfl⟩

abbrev nD : Nat := 1
abbrev τ : Topo := Topo.v7x

variable {F : FTy → Type} [FloatOps F]
-- ==== Proof.IdealGather.lean ====
/- The encoder's gather loops: the sixteen printed loops are one generic trip at a batch row `b`. -/
module

public import proofs.«01_k».proof.Proof.Gen.KernelIdeal.Skeleton

@[expose] public section

noncomputable section

namespace Cert.Proof.KernelIdeal

open Cert.KernelIdeal Cert.KernelIdeal.Gen
open Idealize.ShloMosaic Idealize.SL.Sem

variable {F : FTy → Type} [FloatOps F] [Named F]

/-- The position of the packed word that trip `iv` of batch row `b` reads for its row `u`. -/
def wofs (i : grid0.Coords) (b u iv : BitVec 32) : Fin 2 → Nat :=
  ![(Scalar.indexCast (Scalar.addi (Scalar.muli (BitVec.ofNat 32 (i 0).val) 8#32) b)).toNat,
    (Scalar.indexCast (Scalar.addi (Scalar.muli iv 8#32) u)).toNat]

/-- The first of the eight scratch rows that trip `iv` writes, for the batch row whose rows begin at `base`. -/
def sofs (base iv : BitVec 32) : Fin 2 → Nat :=
  ![(Scalar.indexCast (Scalar.addi base (Scalar.muli iv 8#32))).toNat, 0]

theorem wofs_inb (i : grid0.Coords) (b u iv : BitVec 32) (hb : b.toNat < 8) (hu : u.toNat < 8) (hiv : iv.toNat < 32) :
    ∀ a, wofs i b u iv a + S1x1.size a ≤ S256x256.size a := by
  have hi : (i 0).val < 32 := (i 0).isLt
  intro a
  fin_cases a
  · show (BitVec.ofNat 32 (i 0).val * 8#32 + b).toNat + 1 ≤ 256
    simp only [BitVec.toNat_add, BitVec.toNat_mul, BitVec.toNat_ofNat]
    omega
  · show (iv * 8#32 + u).toNat + 1 ≤ 256
    simp only [BitVec.toNat_add, BitVec.toNat_mul, BitVec.toNat_ofNat]
    omega

theorem sofs_inb (C : Nat) (base iv : BitVec 32) (hb : base.toNat + 256 ≤ 2048) (hiv : iv.toNat < 32) :
    ∀ a, sofs base iv a + (⟨2, ![8, C]⟩ : Shape).size a ≤ (⟨2, ![2048, C]⟩ : Shape).size a := by
  intro a
  fin_cases a
  · show (base + iv * 8#32).toNat + 8 ≤ 2048
    simp only [BitVec.toNat_add, BitVec.toNat_mul, BitVec.toNat_ofNat]
    omega
  · show 0 + C ≤ C
    omega

/-- The rotation counts `0, …, 7` and their rows. -/
abbrev io0 : IVec S8x128 32 := iota .tc S8x128 32 [0] iota_S8x128_d0_w32
abbrev io1 : IVec S8x64 32 := iota .tc S8x64 32 [0] iota_S8x64_d0_w32

/-- Row `u` of the block of time and state rows: the aligned chunk rotated until the wanted row stands at `u`. -/
def rowT (u : BitVec 32) (acc : FVec F S8x64 .f32) (w : Elt F .i32) (ch : Vec F S8x64 .f32) : FVec F S8x64 .f32 :=
  select (cmpi .eq io1 (broadcast S8x64 u))
    (dynamicRotate 0 (Scalar.subi u (Scalar.andi (Scalar.andi w 2047#32) 7#32)) none (shapeCast S8x64 ch shapeCasts_S8x64_S8x64) rotates_S8x64_d0) acc

/-- Row `u` of the block of grid rows. -/
def rowE (u : BitVec 32) (acc : FVec F S8x128 .f32) (w : Elt F .i32) (ch : Vec F S8x128 .f32) : FVec F S8x128 .f32 :=
  select (cmpi .eq io0 (broadcast S8x128 u))
    (dynamicRotate 0 (Scalar.subi u (Scalar.andi (Scalar.shrsi w 11#32) 7#32)) none ch rotates_S8x128_d0) acc

def zeroT : FVec F S8x64 .f32 := broadcast S8x64 (Scalar.ofBits .f32 0x00000000#32)
def zeroE : FVec F S8x128 .f32 := broadcast S8x128 (Scalar.ofBits .f32 0x00000000#32)

/-- One of the eight reads of a trip that gathers grid rows: the word, the two chunks it names, and the rest. -/
def stepA (i : grid0.Coords) (arg1 : Memref sig .tc .smem S256x256 .i32) (arg2 : Memref sig .tc .vmem S8192x128 .f32)
    (arg3 : Memref sig .tc .vmem S1256x64 .f32) (b u iv : BitVec 32)
    (hw : ∀ a, wofs i b u iv a + S1x1.size a ≤ S256x256.size a) (aT : FVec F S8x64 .f32) (aE : FVec F S8x128 .f32)
    (K : FVec F S8x64 .f32 → FVec F S8x128 .f32 → Prog (TpuEff nD τ sig (Elt F) Λ₀ .tc) Unit) :
    Prog (TpuEff nD τ sig (Elt F) Λ₀ .tc) Unit := do
  let w : Elt F .i32 ← smemLoad arg1 (Rect.unit (s := S256x256) (wofs i b u iv) S1x1.size hw) numel1_S1x1 rfl
  have h : k0_chk1 w := (← Prog.lift (TpuEff.assume (k0_chk1 w) (k0_chk1.dec w))).down
  let t : Vec F S8x64 .f32 ← Prog.lift (.load arg3 (Rect.unit (s := S1256x64) (k0_off2 w) S8x64.size (k0_off2_inb w h)).toLoadRect (View.loadsAt_vmem h_S8x64))
  let e : Vec F S8x128 .f32 ← Prog.lift (.load arg2 (Rect.unit (s := S8192x128) (k0_off3 w) S8x128.size (k0_off3_inb w h)).toLoadRect (View.loadsAt_vmem h_S8x128))
  K (rowT u aT w t) (rowE u aE w e)

/-- The end of a trip: the two blocks of eight rows stored. -/
def storeTrip (arg19 : Memref sig .tc .vmem S2048x128 .f32) (arg20 : Memref sig .tc .vmem S2048x64 .f32) (base iv : BitVec 32)
    (hE : ∀ a, sofs base iv a + S8x128.size a ≤ S2048x128.size a) (hT : ∀ a, sofs base iv a + S8x64.size a ≤ S2048x64.size a)
    (aT : FVec F S8x64 .f32) (aE : FVec F S8x128 .f32) : Prog (TpuEff nD τ sig (Elt F) Λ₀ .tc) Unit := do
  let _ : Vec F S8x64 .f32 ← Prog.lift (.load arg20 (Rect.unit (s := S2048x64) (sofs base iv) S8x64.size hT).toLoadRect (View.loadsAt_vmem h_S8x64))
  Prog.lift (.store arg20 (Rect.unit (s := S2048x64) (sofs base iv) S8x64.size hT) (shapeCast S8x64 aT shapeCasts_S8x64_S8x64) Finset.univ (View.stores_vmem_bits_univ h_S8x64 rfl) (.inl rfl))
  let _ : Vec F S8x128 .f32 ← Prog.lift (.load arg19 (Rect.unit (s := S2048x128) (sofs base iv) S8x128.size hE).toLoadRect (View.loadsAt_vmem h_S8x128))
  Prog.lift (.store arg19 (Rect.unit (s := S2048x128) (sofs base iv) S8x128.size hE) (shapeCast S8x128 aE shapeCasts_S8x128_S8x128) Finset.univ (View.stores_vmem_bits_univ h_S8x128 rfl) (.inl rfl))
  pure ⟨⟩

/-- A trip that gathers both kinds of rows. -/
def tripA (i : grid0.Coords) (arg1 : Memref sig .tc .smem S256x256 .i32) (arg2 : Memref sig .tc .vmem S8192x128 .f32)
    (arg3 : Memref sig .tc .vmem S1256x64 .f32) (arg19 : Memref sig .tc .vmem S2048x128 .f32) (arg20 : Memref sig .tc .vmem S2048x64 .f32)
    (b base : BitVec 32) (hb : b.toNat < 8) (hbase : base.toNat + 256 ≤ 2048)
    (iv : BitVec 32) (hiv : iv.toNat < 32) : Prog (TpuEff nD τ sig (Elt F) Λ₀ .tc) Unit :=
  stepA i arg1 arg2 arg3 b 0#32 iv (wofs_inb i b _ iv hb (by decide) hiv) zeroT zeroE fun aT aE =>
  stepA i arg1 arg2 arg3 b 1#32 iv (wofs_inb i b _ iv hb (by decide) hiv) aT aE fun aT aE =>
  stepA i arg1 arg2 arg3 b 2#32 iv (wofs_inb i b _ iv hb (by decide) hiv) aT aE fun aT aE =>
  stepA i arg1 arg2 arg3 b 3#32 iv (wofs_inb i b _ iv hb (by decide) hiv) aT aE fun aT aE =>
  stepA i arg1 arg2 arg3 b 4#32 iv (wofs_inb i b _ iv hb (by decide) hiv) aT aE fun aT aE =>
  stepA i arg1 arg2 arg3 b 5#32 iv (wofs_inb i b _ iv hb (by decide) hiv) aT aE fun aT aE =>
  stepA i arg1 arg2 arg3 b 6#32 iv (wofs_inb i b _ iv hb (by decide) hiv) aT aE fun aT aE =>
  stepA i arg1 arg2 arg3 b 7#32 iv (wofs_inb i b _ iv hb (by decide) hiv) aT aE fun aT aE =>
  storeTrip arg19 arg20 base iv (sofs_inb 128 base iv hbase hiv) (sofs_inb 64 base iv hbase hiv) aT aE

/-- One of the eight reads of a trip that gathers the time and state rows alone. -/
def stepB (i : grid0.Coords) (arg1 : Memref sig .tc .smem S256x256 .i32) (arg3 : Memref sig .tc .vmem S1256x64 .f32)
    (b u iv : BitVec 32)
    (hw : ∀ a, wofs i b u iv a + S1x1.size a ≤ S256x256.size a) (aT : FVec F S8x64 .f32)
    (K : FVec F S8x64 .f32 → Prog (TpuEff nD τ sig (Elt F) Λ₀ .tc) Unit) :
    Prog (TpuEff nD τ sig (Elt F) Λ₀ .tc) Unit := do
  let w : Elt F .i32 ← smemLoad arg1 (Rect.unit (s := S256x256) (wofs i b u iv) S1x1.size hw) numel1_S1x1 rfl
  have h : k0_chk9 w := (← Prog.lift (TpuEff.assume (k0_chk9 w) (k0_chk9.dec w))).down
  let t : Vec F S8x64 .f32 ← Prog.lift (.load arg3 (Rect.unit (s := S1256x64) (k0_off28 w) S8x64.size (k0_off28_inb w h)).toLoadRect (View.loadsAt_vmem h_S8x64))
  K (rowT u aT w t)

/-- A trip that gathers the time and state rows alone; the grid rows of these cells are zero. -/
def tripB (i : grid0.Coords) (arg1 : Memref sig .tc .smem S256x256 .i32)
    (arg3 : Memref sig .tc .vmem S1256x64 .f32) (arg19 : Memref sig .tc .vmem S2048x128 .f32) (arg20 : Memref sig .tc .vmem S2048x64 .f32)
    (b base : BitVec 32) (hb : b.toNat < 8) (hbase : base.toNat + 256 ≤ 2048)
    (iv : BitVec 32) (hiv : iv.toNat < 32) : Prog (TpuEff nD τ sig (Elt F) Λ₀ .tc) Unit :=
  stepB i arg1 arg3 b 0#32 iv (wofs_inb i b _ iv hb (by decide) hiv) zeroT fun aT =>
  stepB i arg1 arg3 b 1#32 iv (wofs_inb i b _ iv hb (by decide) hiv) aT fun aT =>
  stepB i arg1 arg3 b 2#32 iv (wofs_inb i b _ iv hb (by decide) hiv) aT fun aT =>
  stepB i arg1 arg3 b 3#32 iv (wofs_inb i b _ iv hb (by decide) hiv) aT fun aT =>
  stepB i arg1 arg3 b 4#32 iv (wofs_inb i b _ iv hb (by decide) hiv) aT fun aT =>
  stepB i arg1 arg3 b 5#32 iv (wofs_inb i b _ iv hb (by decide) hiv) aT fun aT =>
  stepB i arg1 arg3 b 6#32 iv (wofs_inb i b _ iv hb (by decide) hiv) aT fun aT =>
  stepB i arg1 arg3 b 7#32 iv (wofs_inb i b _ iv hb (by decide) hiv) aT fun aT =>
  storeTrip arg19 arg20 base iv (sofs_inb 128 base iv hbase hiv) (sofs_inb 64 base iv hbase hiv) aT zeroE

theorem ivA_lt (k : Fin 24) : (Scf.iv 0#32 1#32 k).toNat < 32 := by
  have hk : k.val < 24 := k.isLt
  show (0#32 + BitVec.ofNat 32 k.val * 1#32).toNat < 32
  simp only [BitVec.toNat_add, BitVec.toNat_mul, BitVec.toNat_ofNat]
  omega

theorem ivB_lt (k : Fin 8) : (Scf.iv 24#32 1#32 k).toNat < 32 := by
  have hk : k.val < 8 := k.isLt
  show (24#32 + BitVec.ofNat 32 k.val * 1#32).toNat < 32
  simp only [BitVec.toNat_add, BitVec.toNat_mul, BitVec.toNat_ofNat]
  omega

end Cert.Proof.KernelIdeal
-- ==== Proof.IdealBlocks.lean ====
/- The encoder's straight line: eight embeddings, two layers of eight batch rows, eight means, each one generic block. -/
module

public import proofs.«01_k».proof.Proof.IdealGather

@[expose] public section

noncomputable section

namespace Cert.Proof.KernelIdeal

open Cert.KernelIdeal Cert.KernelIdeal.Gen
open Idealize.ShloMosaic Idealize.SL.Sem

variable {F : FTy → Type} [FloatOps F] [Named F]

/-- The encoder kernel's buffers. -/
structure EncArgs where
  idx : Memref sig .tc .smem S256x256 .i32
  grid : Memref sig .tc .vmem S8192x128 .f32
  ctab : Memref sig .tc .vmem S1256x64 .f32
  pos : Memref sig .tc .vmem S256x128 .f32
  wx : Memref sig .tc .vmem S128x128 .f32
  wts : Memref sig .tc .vmem S64x128 .f32
  bfc : Memref sig .tc .vmem S1x128 .f32
  wqkv : Memref sig .tc .vmem S2x128x384 .f32
  wo : Memref sig .tc .vmem S2x128x128 .f32
  g1 : Memref sig .tc .vmem S2x1x128 .f32
  b1 : Memref sig .tc .vmem S2x1x128 .f32
  w1 : Memref sig .tc .vmem S2x128x512 .f32
  c1 : Memref sig .tc .vmem S2x1x512 .f32
  w2 : Memref sig .tc .vmem S2x512x128 .f32
  c2 : Memref sig .tc .vmem S2x1x128 .f32
  g2 : Memref sig .tc .vmem S2x1x128 .f32
  b2 : Memref sig .tc .vmem S2x1x128 .f32
  out : Memref sig .tc .vmem S8x128 .f32
  xg : Memref sig .tc .vmem S2048x128 .f32
  tsg : Memref sig .tc .vmem S2048x64 .f32
  x : Memref sig .tc .vmem S2048x128 .f32

/-! ## The rectangles -/

theorem rowsE_inb (b : Fin 8) : ∀ a, (![256 * b.val, 0] : Fin 2 → ℕ) a + S256x128.size a ≤ S2048x128.size a := by
  intro a; fin_cases a
  · show 256 * b.val + 256 ≤ 2048; omega
  · show 0 + 128 ≤ 128; omega
theorem rowsT_inb (b : Fin 8) : ∀ a, (![256 * b.val, 0] : Fin 2 → ℕ) a + S256x64.size a ≤ S2048x64.size a := by
  intro a; fin_cases a
  · show 256 * b.val + 256 ≤ 2048; omega
  · show 0 + 64 ≤ 64; omega
theorem rowO_inb (b : Fin 8) : ∀ a, (![b.val, 0] : Fin 2 → ℕ) a + S1x128.size a ≤ S8x128.size a := by
  intro a; fin_cases a
  · show b.val + 1 ≤ 8; omega
  · show 0 + 128 ≤ 128; omega
theorem lay_inb (p q : ℕ) (l : Fin 2) : ∀ a, (![l.val, 0, 0] : Fin 3 → ℕ) a + (⟨3, ![1, p, q]⟩ : Shape).size a ≤ (⟨3, ![2, p, q]⟩ : Shape).size a := by
  intro a; fin_cases a
  · show l.val + 1 ≤ 2; omega
  · show 0 + p ≤ p; omega
  · show 0 + q ≤ q; omega

/-- The 256 rows of batch row `b`. -/
abbrev rowsE (b : Fin 8) : Rect S2048x128 := Rect.unit (s := S2048x128) ![256 * b.val, 0] S256x128.size (rowsE_inb b)
abbrev rowsT (b : Fin 8) : Rect S2048x64 := Rect.unit (s := S2048x64) ![256 * b.val, 0] S256x64.size (rowsT_inb b)
/-- Row `b` of the result block. -/
abbrev rowO (b : Fin 8) : Rect S8x128 := Rect.unit (s := S8x128) ![b.val, 0] S1x128.size (rowO_inb b)
/-- Layer `l` of a stacked weight. -/
abbrev layQ (l : Fin 2) : Rect S2x128x384 := Rect.unit (s := S2x128x384) ![l.val, 0, 0] S1x128x384.size (lay_inb 128 384 l)
abbrev layO (l : Fin 2) : Rect S2x128x128 := Rect.unit (s := S2x128x128) ![l.val, 0, 0] S1x128x128.size (lay_inb 128 128 l)
abbrev layV (l : Fin 2) : Rect S2x1x128 := Rect.unit (s := S2x1x128) ![l.val, 0, 0] S1x1x128.size (lay_inb 1 128 l)
abbrev layU (l : Fin 2) : Rect S2x128x512 := Rect.unit (s := S2x128x512) ![l.val, 0, 0] S1x128x512.size (lay_inb 128 512 l)
abbrev layC (l : Fin 2) : Rect S2x1x512 := Rect.unit (s := S2x1x512) ![l.val, 0, 0] S1x1x512.size (lay_inb 1 512 l)
abbrev layD (l : Fin 2) : Rect S2x512x128 := Rect.unit (s := S2x512x128) ![l.val, 0, 0] S1x512x128.size (lay_inb 512 128 l)
/-- The whole of a buffer read at offset zero. -/
abbrev allX : Rect S128x128 := Rect.unit (s := S128x128) ![0, 0] S128x128.size inb_S128x128_S128x128_0_0
abbrev allT : Rect S64x128 := Rect.unit (s := S64x128) ![0, 0] S64x128.size inb_S64x128_S64x128_0_0
abbrev allB : Rect S1x128 := Rect.unit (s := S1x128) ![0, 0] S1x128.size inb_S1x128_S1x128_0_0
abbrev allP : Rect S256x128 := Rect.unit (s := S256x128) ![0, 0] S256x128.size inb_S256x128_S256x128_0_0

/-! ## The values -/

/-- The embedding of one batch row. -/
def embV (xg : Vec F S256x128 .f32) (wx : Vec F S128x128 .f32) (ts : Vec F S256x64 .f32) (wts : Vec F S64x128 .f32)
    (bfc : Vec F S1x128 .f32) (pos : Vec F S256x128 .f32) : FVec F S256x128 .f32 :=
  addf (tanh (addf (addf
      (matmul dot_S256x128_S128x128_S256x128_1_0_0_1_n_n none xg (shapeCast S128x128 wx shapeCasts_S128x128_S128x128 : FVec F S128x128 .f32) (constant S256x128 .f32 0x00000000#32))
      (matmul dot_S256x64_S64x128_S256x128_1_0_0_1_n_n none ts (shapeCast S64x128 wts shapeCasts_S64x128_S64x128 : FVec F S64x128 .f32) (constant S256x128 .f32 0x00000000#32)))
    (broadcastTo S256x128 (shapeCast S1x128 bfc shapeCasts_S1x128_S1x128 : FVec F S1x128 .f32) broadcasts_S1x128_S256x128))) pos

/-- The scores of one head, times 1/8. -/
def scoreV (q : FVec F S256x64 .f32) (k : FVec F S192x64 .f32) : FVec F S256x192 .f32 :=
  mulf (matmul dot_S256x64_S192x64_S256x192_1_1_0_0_n_n none q k (constant S256x192 .f32 0x00000000#32))
    (broadcast S256x192 (Scalar.ofBits .f32 0x3E000000#32))

/-- The exponentials of a head's scores less their row's greatest. -/
def expV (s : FVec F S256x192 .f32) : FVec F S256x192 .f32 :=
  exp (subf s (broadcastTo S256x192 (shapeCast S256x1 (multiReduction .maximumf [1] S256 s 0xFF800000#32 reduces_S256x192_S256 (.inl rfl) rfl : FVec F S256 .f32) shapeCasts_S256_S256x1 : FVec F S256x1 .f32) broadcasts_S256x1_S256x192))

/-- The exponentials over their row's sum. -/
def probV (p : FVec F S256x192 .f32) : FVec F S256x192 .f32 :=
  divf p (broadcastTo S256x192 (shapeCast S256x1 (multiReduction .add [1] S256 p 0x00000000#32 reduces_S256x192_S256 (.inl rfl) rfl : FVec F S256 .f32) shapeCasts_S256_S256x1 : FVec F S256x1 .f32) broadcasts_S256x1_S256x192)

/-- One attention head. -/
def headV (q : FVec F S256x64 .f32) (k v : FVec F S192x64 .f32) : FVec F S256x64 .f32 :=
  matmul dot_S256x192_S192x64_S256x64_1_0_0_1_n_n none (probV (expV (scoreV q k))) v (constant S256x64 .f32 0x00000000#32)

/-- Queries, keys and values side by side. -/
def qkvV (x : Vec F S256x128 .f32) (w : Vec F S1x128x384 .f32) : FVec F S256x384 .f32 :=
  matmul dot_S256x128_S128x384_S256x384_1_0_0_1_n_n none x (shapeCast S128x384 w shapeCasts_S1x128x384_S128x384 : FVec F S128x384 .f32) (constant S256x384 .f32 0x00000000#32)

/-- Both heads side by side. -/
def attnV (z : FVec F S256x384 .f32) : FVec F S256x128 .f32 :=
  concatenate S256x128 1
    [⟨S256x64, headV (extractStridedSlice S256x64 ![0, 0] z slices_S256x384_o0_0_S256x64)
      (extractStridedSlice S192x64 ![0, 128] z slices_S256x384_o0_128_S192x64) (extractStridedSlice S192x64 ![0, 256] z slices_S256x384_o0_256_S192x64)⟩,
     ⟨S256x64, headV (extractStridedSlice S256x64 ![0, 64] z slices_S256x384_o0_64_S256x64)
      (extractStridedSlice S192x64 ![0, 192] z slices_S256x384_o0_192_S192x64) (extractStridedSlice S192x64 ![0, 320] z slices_S256x384_o0_320_S192x64)⟩]
    concatenates_S256x64_S256x64_S256x128_d1

/-- A row's sum over 128. -/
def meanV (x : FVec F S256x128 .f32) : FVec F S256x1 .f32 :=
  divf (shapeCast S256x1 (multiReduction .add [1] S256 x 0x00000000#32 reduces_S256x128_S256 (.inl rfl) rfl : FVec F S256 .f32) shapeCasts_S256_S256x1)
    (broadcast S256x1 (Scalar.ofBits .f32 0x43000000#32))

/-- Each element less its row's mean. -/
def devV (x : FVec F S256x128 .f32) : FVec F S256x128 .f32 := subf x (broadcastTo S256x128 (meanV x) broadcasts_S256x1_S256x128)

/-- Layer normalization. -/
def lnV (x : FVec F S256x128 .f32) (g b : Vec F S1x1x128 .f32) : FVec F S256x128 .f32 :=
  addf (mulf (mulf (devV x) (broadcastTo S256x128
      (rsqrt (addf (meanV (mulf (devV x) (devV x))) (broadcast S256x1 (Scalar.ofBits .f32 0x3727C5AC#32)))) broadcasts_S256x1_S256x128))
      (broadcastTo S256x128 (shapeCast S1x128 g shapeCasts_S1x1x128_S1x128 : FVec F S1x128 .f32) broadcasts_S1x128_S256x128))
    (broadcastTo S256x128 (shapeCast S1x128 b shapeCasts_S1x1x128_S1x128 : FVec F S1x128 .f32) broadcasts_S1x128_S256x128)

/-- Attention, its projection and the residual sum. -/
def attV (x : Vec F S256x128 .f32) (wqkv : Vec F S1x128x384 .f32) (wo : Vec F S1x128x128 .f32) : FVec F S256x128 .f32 :=
  addf (matmul dot_S256x128_S128x128_S256x128_1_0_0_1_n_n none (attnV (qkvV x wqkv)) (shapeCast S128x128 wo shapeCasts_S1x128x128_S128x128 : FVec F S128x128 .f32) (constant S256x128 .f32 0x00000000#32)) x

/-- The feed-forward block and its residual sum. -/
def ffV (x : FVec F S256x128 .f32) (w1 : Vec F S1x128x512 .f32) (c1 : Vec F S1x1x512 .f32) (w2 : Vec F S1x512x128 .f32) (c2 : Vec F S1x1x128 .f32) :
    FVec F S256x128 .f32 :=
  addf (addf (matmul dot_S256x512_S512x128_S256x128_1_0_0_1_n_n none
      (maximumf (addf (matmul dot_S256x128_S128x512_S256x512_1_0_0_1_n_n none x (shapeCast S128x512 w1 shapeCasts_S1x128x512_S128x512 : FVec F S128x512 .f32) (constant S256x512 .f32 0x00000000#32))
          (broadcastTo S256x512 (shapeCast S1x512 c1 shapeCasts_S1x1x512_S1x512 : FVec F S1x512 .f32) broadcasts_S1x512_S256x512))
        (broadcast S256x512 (Scalar.ofBits .f32 0x00000000#32)))
      (shapeCast S512x128 w2 shapeCasts_S1x512x128_S512x128 : FVec F S512x128 .f32) (constant S256x128 .f32 0x00000000#32))
    (broadcastTo S256x128 (shapeCast S1x128 c2 shapeCasts_S1x1x128_S1x128 : FVec F S1x128 .f32) broadcasts_S1x128_S256x128)) x

/-- The mean of a batch row's 256 rows. -/
def poolV (x : Vec F S256x128 .f32) : FVec F S1x128 .f32 :=
  mulf (shapeCast S1x128 (multiReduction .add [0] S128 x 0x00000000#32 reduces_S256x128_S128 (.inl rfl) rfl : FVec F S128 .f32) shapeCasts_S128_S1x128)
    (broadcast S1x128 (Scalar.ofBits .f32 0x3B800000#32))

/-! ## The blocks -/

/-- The embedding of batch row `b`, and the rest. -/
def embB (A : EncArgs) (b : Fin 8) (K : Prog (TpuEff nD τ sig (Elt F) Λ₀ .tc) Unit) : Prog (TpuEff nD τ sig (Elt F) Λ₀ .tc) Unit := do
  let xg : Vec F S256x128 .f32 ← Prog.lift (.load A.xg (rowsE b).toLoadRect (View.loadsAt_vmem h_S256x128))
  let wx : Vec F S128x128 .f32 ← Prog.lift (.load A.wx allX.toLoadRect (View.loadsAt_vmem h_S128x128))
  let ts : Vec F S256x64 .f32 ← Prog.lift (.load A.tsg (rowsT b).toLoadRect (View.loadsAt_vmem h_S256x64))
  let wts : Vec F S64x128 .f32 ← Prog.lift (.load A.wts allT.toLoadRect (View.loadsAt_vmem h_S64x128))
  let bfc : Vec F S1x128 .f32 ← Prog.lift (.load A.bfc allB.toLoadRect (View.loadsAt_vmem h_S1x128))
  let pos : Vec F S256x128 .f32 ← Prog.lift (.load A.pos allP.toLoadRect (View.loadsAt_vmem h_S256x128))
  let _ : Vec F S256x128 .f32 ← Prog.lift (.load A.x (rowsE b).toLoadRect (View.loadsAt_vmem h_S256x128))
  Prog.lift (.store A.x (rowsE b) (shapeCast S256x128 (embV xg wx ts wts bfc pos) shapeCasts_S256x128_S256x128) Finset.univ (View.stores_vmem_bits_univ h_S256x128 rfl) (.inl rfl))
  K

/-- Layer `l` on batch row `b`, and the rest. -/
def layerB (A : EncArgs) (l : Fin 2) (b : Fin 8) (K : Prog (TpuEff nD τ sig (Elt F) Λ₀ .tc) Unit) : Prog (TpuEff nD τ sig (Elt F) Λ₀ .tc) Unit := do
  let x : Vec F S256x128 .f32 ← Prog.lift (.load A.x (rowsE b).toLoadRect (View.loadsAt_vmem h_S256x128))
  let wqkv : Vec F S1x128x384 .f32 ← Prog.lift (.load A.wqkv (layQ l).toLoadRect (View.loadsAt_vmem h_S1x128x384))
  let wo : Vec F S1x128x128 .f32 ← Prog.lift (.load A.wo (layO l).toLoadRect (View.loadsAt_vmem h_S1x128x128))
  let g1 : Vec F S1x1x128 .f32 ← Prog.lift (.load A.g1 (layV l).toLoadRect (View.loadsAt_vmem h_S1x1x128))
  let b1 : Vec F S1x1x128 .f32 ← Prog.lift (.load A.b1 (layV l).toLoadRect (View.loadsAt_vmem h_S1x1x128))
  let w1 : Vec F S1x128x512 .f32 ← Prog.lift (.load A.w1 (layU l).toLoadRect (View.loadsAt_vmem h_S1x128x512))
  let c1 : Vec F S1x1x512 .f32 ← Prog.lift (.load A.c1 (layC l).toLoadRect (View.loadsAt_vmem h_S1x1x512))
  let w2 : Vec F S1x512x128 .f32 ← Prog.lift (.load A.w2 (layD l).toLoadRect (View.loadsAt_vmem h_S1x512x128))
  let c2 : Vec F S1x1x128 .f32 ← Prog.lift (.load A.c2 (layV l).toLoadRect (View.loadsAt_vmem h_S1x1x128))
  let g2 : Vec F S1x1x128 .f32 ← Prog.lift (.load A.g2 (layV l).toLoadRect (View.loadsAt_vmem h_S1x1x128))
  let b2 : Vec F S1x1x128 .f32 ← Prog.lift (.load A.b2 (layV l).toLoadRect (View.loadsAt_vmem h_S1x1x128))
  let _ : Vec F S256x128 .f32 ← Prog.lift (.load A.x (rowsE b).toLoadRect (View.loadsAt_vmem h_S256x128))
  Prog.lift (.store A.x (rowsE b) (shapeCast S256x128 (lnV (ffV (lnV (attV x wqkv wo) g1 b1) w1 c1 w2 c2) g2 b2) shapeCasts_S256x128_S256x128) Finset.univ (View.stores_vmem_bits_univ h_S256x128 rfl) (.inl rfl))
  K

/-- The mean of batch row `b`, and the rest. -/
def poolB (A : EncArgs) (b : Fin 8) (K : Prog (TpuEff nD τ sig (Elt F) Λ₀ .tc) Unit) : Prog (TpuEff nD τ sig (Elt F) Λ₀ .tc) Unit := do
  let x : Vec F S256x128 .f32 ← Prog.lift (.load A.x (rowsE b).toLoadRect (View.loadsAt_vmem h_S256x128))
  let _ : Vec F S1x128 .f32 ← Prog.lift (.load A.out (rowO b).toLoadRect (View.loadsAt_vmem h_S1x128))
  Prog.lift (.store A.out (rowO b) (poolV x) Finset.univ (View.stores_vmem_bits_univ h_S1x128 rfl) (.inl rfl))
  K

/-- A block for every batch row in turn. -/
def each8.{u} {α : Type u} (f : Fin 8 → α → α) (k : α) : α := f 0 (f 1 (f 2 (f 3 (f 4 (f 5 (f 6 (f 7 k)))))))

/-- The straight line after the gathers. -/
def lineB (A : EncArgs) : Prog (TpuEff nD τ sig (Elt F) Λ₀ .tc) Unit :=
  each8 (embB A) (each8 (layerB A 0) (each8 (layerB A 1) (each8 (poolB A) (Prog.ret PUnit.unit))))

end Cert.Proof.KernelIdeal
-- ==== Proof.IdealEncProg.lean ====
/- The encoder kernel as printed is its gathers, batch row by batch row, and then the straight line. -/
module

public import proofs.«01_k».proof.Proof.IdealBlocks
public import Idealize.ShloMosaic.Lib.Tactic

@[expose] public section

noncomputable section

namespace Cert.Proof.KernelIdeal

open Cert.KernelIdeal Cert.KernelIdeal.Gen
open Idealize.ShloMosaic Idealize.SL.Sem

variable {F : FTy → Type} [FloatOps F] [Named F]

theorem row_lt (b : Fin 8) : (BitVec.ofNat 32 b.val).toNat < 8 := by
  rw [BitVec.toNat_ofNat]; omega
theorem base_le (b : Fin 8) : (BitVec.ofNat 32 (256 * b.val)).toNat + 256 ≤ 2048 := by
  rw [BitVec.toNat_ofNat]; omega

/-- The twenty-four trips that gather both kinds of rows of batch row `b`. -/
def loopA (A : EncArgs) (i : grid0.Coords) (b : Fin 8) : Prog (TpuEff nD τ sig (Elt F) Λ₀ .tc) Unit :=
  Scf.Loop.for k0_t1_loop k0_t1_ok ⟨⟩ (fun (k : Fin _) (_ : Unit) =>
    tripA i A.idx A.grid A.ctab A.xg A.tsg (BitVec.ofNat 32 b.val) (BitVec.ofNat 32 (256 * b.val)) (row_lt b) (base_le b) (Scf.iv 0#32 1#32 k.val) (ivA_lt k))

/-- The eight trips that gather the time and state rows alone. -/
def loopB (A : EncArgs) (i : grid0.Coords) (b : Fin 8) : Prog (TpuEff nD τ sig (Elt F) Λ₀ .tc) Unit :=
  Scf.Loop.for k0_t2_loop k0_t2_ok ⟨⟩ (fun (k : Fin _) (_ : Unit) =>
    tripB i A.idx A.ctab A.xg A.tsg (BitVec.ofNat 32 b.val) (BitVec.ofNat 32 (256 * b.val)) (row_lt b) (base_le b) (Scf.iv 24#32 1#32 k.val) (ivB_lt k))

/-- The gathers of batch row `b`, and the rest. -/
def gatherB (A : EncArgs) (i : grid0.Coords) (b : Fin 8) (K : Prog (TpuEff nD τ sig (Elt F) Λ₀ .tc) Unit) : Prog (TpuEff nD τ sig (Elt F) Λ₀ .tc) Unit :=
  loopA A i b >>= fun _ => loopB A i b >>= fun _ => K

theorem bind_congr2 {α β : Type} {p p' : Prog (TpuEff nD τ sig (Elt F) Λ₀ .tc) α} {f f' : α → Prog (TpuEff nD τ sig (Elt F) Λ₀ .tc) β}
    (hp : p = p') (hf : ∀ a, f a = f' a) : p >>= f = p' >>= f' := by
  subst hp; exact congrArg _ (funext hf)

set_option maxHeartbeats 4000000 in
set_option maxRecDepth 65536 in
/-- The printed body is the gathers and the straight line. -/
theorem enc_eq (i : grid0.Coords) (arg1 : Memref sig .tc .smem S256x256 .i32) (harg1 : arg1.IsWhole) (arg2 : Memref sig .tc .vmem S8192x128 .f32) (harg2 : arg2.IsWhole) (arg3 : Memref sig .tc .vmem S1256x64 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S64x128 .f32) (harg6 : arg6.IsWhole) (arg7 : Memref sig .tc .vmem S1x128 .f32) (harg7 : arg7.IsWhole) (arg8 : Memref sig .tc .vmem S2x128x384 .f32) (harg8 : arg8.IsWhole) (arg9 : Memref sig .tc .vmem S2x128x128 .f32) (harg9 : arg9.IsWhole) (arg10 : Memref sig .tc .vmem S2x1x128 .f32) (harg10 : arg10.IsWhole) (arg11 : Memref sig .tc .vmem S2x1x128 .f32) (harg11 : arg11.IsWhole) (arg12 : Memref sig .tc .vmem S2x128x512 .f32) (harg12 : arg12.IsWhole) (arg13 : Memref sig .tc .vmem S2x1x512 .f32) (harg13 : arg13.IsWhole) (arg14 : Memref sig .tc .vmem S2x512x128 .f32) (harg14 : arg14.IsWhole) (arg15 : Memref sig .tc .vmem S2x1x128 .f32) (harg15 : arg15.IsWhole) (arg16 : Memref sig .tc .vmem S2x1x128 .f32) (harg16 : arg16.IsWhole) (arg17 : Memref sig .tc .vmem S2x1x128 .f32) (harg17 : arg17.IsWhole) (arg18 : Memref sig .tc .vmem S8x128 .f32) (harg18 : arg18.IsWhole) (arg19 : Memref sig .tc .vmem S2048x128 .f32) (harg19 : arg19.IsWhole) (arg20 : Memref sig .tc .vmem S2048x64 .f32) (harg20 : arg20.IsWhole) (arg21 : Memref sig .tc .vmem S2048x128 .f32) (harg21 : arg21.IsWhole) :
    cc0__enc_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = each8 (gatherB ⟨arg1, arg2, arg3, arg4, arg5, arg6, arg7, arg8, arg9, arg10, arg11, arg12, arg13, arg14, arg15, arg16, arg17, arg18, arg19, arg20, arg21⟩ i) (lineB ⟨arg1, arg2, arg3, arg4, arg5, arg6, arg7, arg8, arg9, arg10, arg11, arg12, arg13, arg14, arg15, arg16, arg17, arg18, arg19, arg20, arg21⟩) := by
  rw [cc0__enc_kernel_eq_skeleton]
  unfold cc0__enc_kernel_skel
  rw [k0_part134_eq_skeleton]
  unfold k0_part134_skel
  rw [k0_part81_eq_skeleton, k0_part82_eq_skeleton, k0_part83_eq_skeleton]
  unfold k0_part81_skel k0_part82_skel k0_part83_skel
  simp only [bind_assoc, pure_bind]
  unfold each8 gatherB
  iterate 16 refine bind_congr2 (by sl_kernel_rfl) fun _ => ?_
  sl_kernel_rfl

end Cert.Proof.KernelIdeal
-- ==== Proof.IdealGlob.lean ====
/- The context kernel as printed is its gather and then the straight line over the table's chunks. -/
module

public import proofs.«01_k».proof.Proof.IdealEncProg

@[expose] public section

noncomputable section

namespace Cert.Proof.KernelIdeal

open Cert.KernelIdeal Cert.KernelIdeal.Gen
open Idealize.ShloMosaic Idealize.SL.Sem

variable {F : FTy → Type} [FloatOps F] [Named F]

/-- A program of the context kernel's. -/
abbrev GP (F : FTy → Type) : Type _ := Prog (TpuEff nD τ sig (Elt F) Λ₀ .tc) Unit

/-- The context kernel's buffers. -/
structure GlobArgs where
  idx : Memref sig .tc .smem S256 .i32
  traj : Memref sig .tc .vmem S20480x128 .f32
  pool : Memref sig .tc .vmem S128x128 .f32
  wc1 : Memref sig .tc .vmem S256x128 .f32
  bc1 : Memref sig .tc .vmem S1x128 .f32
  wc2 : Memref sig .tc .vmem S128x200 .f32
  bc2 : Memref sig .tc .vmem S1x200 .f32
  out : Memref sig .tc .vmem S128x200 .f32
  qg : Memref sig .tc .vmem S128x128 .f32

/-! ## The gather -/

/-- The position of the table index that trip `iv` reads for its row `u`. -/
def gofs (i : grid1.Coords) (u iv : BitVec 32) : Fin 1 → Nat :=
  ![(Scalar.indexCast (Scalar.addi (Scalar.addi (Scalar.muli (BitVec.ofNat 32 (i 0).val) 128#32) (Scalar.muli iv 8#32)) u)).toNat]
/-- The first of the eight scratch rows that trip `iv` writes. -/
def hofs (iv : BitVec 32) : Fin 2 → Nat := ![(Scalar.indexCast (Scalar.muli iv 8#32)).toNat, 0]

theorem gofs_val (i : grid1.Coords) (u iv : BitVec 32) (hu : u.toNat < 8) (hiv : iv.toNat < 16) : gofs i u iv 0 = 128 * (i 0).val + 8 * iv.toNat + u.toNat := by
  have hi : (i 0).val < 2 := (i 0).isLt
  show (BitVec.ofNat 32 (i 0).val * 128#32 + iv * 8#32 + u).toNat = _
  simp only [BitVec.toNat_add, BitVec.toNat_mul, BitVec.toNat_ofNat]
  omega

theorem gofs_inb (i : grid1.Coords) (u iv : BitVec 32) (hu : u.toNat < 8) (hiv : iv.toNat < 16) : ∀ a, gofs i u iv a + S1.size a ≤ S256.size a := by
  have hi : (i 0).val < 2 := (i 0).isLt
  intro a
  fin_cases a
  show gofs i u iv 0 + 1 ≤ 256
  rw [gofs_val i u iv hu hiv]; omega

theorem hofs_val (iv : BitVec 32) (hiv : iv.toNat < 16) : hofs iv 0 = 8 * iv.toNat := by
  show (iv * 8#32).toNat = _
  simp only [BitVec.toNat_mul, BitVec.toNat_ofNat]; omega

theorem hofs_inb (iv : BitVec 32) (hiv : iv.toNat < 16) : ∀ a, hofs iv a + S8x128.size a ≤ S128x128.size a := by
  intro a
  fin_cases a
  · show hofs iv 0 + 8 ≤ 128
    rw [hofs_val iv hiv]; omega
  · show 0 + 128 ≤ 128; omega

/-- Row `u` of a trip's block: the aligned chunk rotated until the wanted row stands at `u`. -/
def rowG (u : BitVec 32) (acc : FVec F S8x128 .f32) (w : Elt F .i32) (ch : Vec F S8x128 .f32) : FVec F S8x128 .f32 :=
  select (cmpi .eq (iota .tc S8x128 32 [0] iota_S8x128_d0_w32) (broadcast S8x128 u))
    (dynamicRotate 0 (Scalar.subi u (Scalar.andi w 7#32)) none (shapeCast S8x128 ch shapeCasts_S8x128_S8x128) rotates_S8x128_d0) acc

/-- One of a trip's eight reads, and the rest. -/
def stepG (A : GlobArgs) (i : grid1.Coords) (u iv : BitVec 32) (hw : ∀ a, gofs i u iv a + S1.size a ≤ S256.size a)
    (acc : FVec F S8x128 .f32) (K : FVec F S8x128 .f32 → GP F) : GP F := do
  let w : Elt F .i32 ← smemLoad A.idx (Rect.unit (s := S256) (gofs i u iv) S1.size hw) numel1_S1 rfl
  have h : k1_chk1 w := (← Prog.lift (TpuEff.assume (k1_chk1 w) (k1_chk1.dec w))).down
  let e : Vec F S8x128 .f32 ← Prog.lift (.load A.traj (Rect.unit (s := S20480x128) (k1_off2 w) S8x128.size (k1_off2_inb w h)).toLoadRect (View.loadsAt_vmem h_S8x128))
  K (rowG u acc w e)

/-- The end of a trip: its eight rows stored. -/
def storeG (A : GlobArgs) (iv : BitVec 32) (h : ∀ a, hofs iv a + S8x128.size a ≤ S128x128.size a) (acc : FVec F S8x128 .f32) : GP F := do
  let _ : Vec F S8x128 .f32 ← Prog.lift (.load A.qg (Rect.unit (s := S128x128) (hofs iv) S8x128.size h).toLoadRect (View.loadsAt_vmem h_S8x128))
  Prog.lift (.store A.qg (Rect.unit (s := S128x128) (hofs iv) S8x128.size h) (shapeCast S8x128 acc shapeCasts_S8x128_S8x128) Finset.univ (View.stores_vmem_bits_univ h_S8x128 rfl) (.inl rfl))
  pure ⟨⟩

/-- One trip. -/
def tripG (A : GlobArgs) (i : grid1.Coords) (iv : BitVec 32) (hiv : iv.toNat < 16) : GP F :=
  stepG A i 0#32 iv (gofs_inb i _ iv (by decide) hiv) zeroE fun a =>
  stepG A i 1#32 iv (gofs_inb i _ iv (by decide) hiv) a fun a =>
  stepG A i 2#32 iv (gofs_inb i _ iv (by decide) hiv) a fun a =>
  stepG A i 3#32 iv (gofs_inb i _ iv (by decide) hiv) a fun a =>
  stepG A i 4#32 iv (gofs_inb i _ iv (by decide) hiv) a fun a =>
  stepG A i 5#32 iv (gofs_inb i _ iv (by decide) hiv) a fun a =>
  stepG A i 6#32 iv (gofs_inb i _ iv (by decide) hiv) a fun a =>
  stepG A i 7#32 iv (gofs_inb i _ iv (by decide) hiv) a fun a =>
  storeG A iv (hofs_inb iv hiv) a

theorem ivG_eq (k : Fin 16) : (Scf.iv 0#32 1#32 k.val).toNat = k.val := by
  have hk : k.val < 16 := k.isLt
  show (0#32 + BitVec.ofNat 32 k.val * 1#32).toNat = _
  simp only [BitVec.toNat_add, BitVec.toNat_mul, BitVec.toNat_ofNat]
  omega
theorem ivG_lt (k : Fin 16) : (Scf.iv 0#32 1#32 k.val).toNat < 16 := by rw [ivG_eq]; exact k.isLt

/-- The sixteen trips. -/
def loopG (A : GlobArgs) (i : grid1.Coords) : GP F :=
  Scf.Loop.for k1_t1_loop k1_t1_ok ⟨⟩ (fun (k : Fin _) (_ : Unit) => tripG A i (Scf.iv 0#32 1#32 k.val) (ivG_lt k))

/-! ## The straight line -/

theorem chunk_inb (c : Fin 20) : ∀ a, (![1024 * c.val, 0] : Fin 2 → Nat) a + S1024x128.size a ≤ S20480x128.size a := by
  intro a
  fin_cases a
  · show 1024 * c.val + 1024 ≤ 20480; omega
  · show 0 + 128 ≤ 128; omega

/-- Chunk `c` of the table. -/
abbrev chunkR (c : Fin 20) : Rect S20480x128 := Rect.unit (s := S20480x128) ![1024 * c.val, 0] S1024x128.size (chunk_inb c)

def chunkV (w : Vec F S1024x128 .f32) : FVec F S1024x128 .f32 := shapeCast S1024x128 w shapeCasts_S1024x128_S1024x128

/-- The scores of the queries against a chunk; the last chunk's padding rows are masked. -/
def scoreG (q : Vec F S128x128 .f32) (w : Vec F S1024x128 .f32) : FVec F S128x1024 .f32 :=
  matmul dot_S128x128_S1024x128_S128x1024_1_1_0_0_n_n none q (chunkV w) (constant S128x1024 .f32 0x00000000#32)
def maskG (s : FVec F S128x1024 .f32) : FVec F S128x1024 .f32 :=
  select (cmpi .sge (iota .tc S128x1024 32 [1] iota_S128x1024_d1_w32) (broadcast S128x1024 544#32)) (broadcast S128x1024 (Named.named κ "mask" 0xF149F2CA#32)) s
def scoreC (c : Fin 20) (q : Vec F S128x128 .f32) (w : Vec F S1024x128 .f32) : FVec F S128x1024 .f32 :=
  if c.val = 19 then maskG (scoreG q w) else scoreG q w

def maxG (acc : FVec F S128x1 .f32) (s : FVec F S128x1024 .f32) : FVec F S128x1 .f32 :=
  maximumf acc (shapeCast S128x1 (multiReduction .maximumf [1] S128 s 0xFF800000#32 reduces_S128x1024_S128 (.inl rfl) rfl : FVec F S128 .f32) shapeCasts_S128_S128x1)

def expG (m : FVec F S128x1 .f32) (s : FVec F S128x1024 .f32) : FVec F S128x1024 .f32 :=
  exp (subf s (broadcastTo S128x1024 m broadcasts_S128x1_S128x1024))
def denG (den : FVec F S128x1 .f32) (e : FVec F S128x1024 .f32) : FVec F S128x1 .f32 :=
  addf den (shapeCast S128x1 (multiReduction .add [1] S128 e 0x00000000#32 reduces_S128x1024_S128 (.inl rfl) rfl : FVec F S128 .f32) shapeCasts_S128_S128x1)
def ctxG (ctx : FVec F S128x128 .f32) (e : FVec F S128x1024 .f32) (w : Vec F S1024x128 .f32) : FVec F S128x128 .f32 :=
  addf ctx (matmul dot_S128x1024_S1024x128_S128x128_1_0_0_1_n_n none e (chunkV w) (constant S128x128 .f32 0x00000000#32))

/-- The context: the weighted sum over the table divided by the weights' sum. -/
def quotG (den : FVec F S128x1 .f32) (ctx : FVec F S128x128 .f32) : FVec F S128x128 .f32 :=
  mulf ctx (broadcastTo S128x128 (divf (broadcast S128x1 (Scalar.ofBits .f32 0x3F800000#32)) den) broadcasts_S128x1_S128x128)

/-- The hidden layer of the classifier. -/
def hidG (pool ctx : FVec F S128x128 .f32) (wc1 : Vec F S256x128 .f32) (bc1 : Vec F S1x128 .f32) : FVec F S128x128 .f32 :=
  maximumf (addf (matmul dot_S128x256_S256x128_S128x128_1_0_0_1_n_n none
      (concatenate S128x256 1 [⟨S128x128, pool⟩, ⟨S128x128, ctx⟩] concatenates_S128x128_S128x128_S128x256_d1) wc1 (constant S128x128 .f32 0x00000000#32))
      (broadcastTo S128x128 (shapeCast S1x128 bc1 shapeCasts_S1x128_S1x128) broadcasts_S1x128_S128x128))
    (broadcast S128x128 (Scalar.ofBits .f32 0x00000000#32))

/-- The classifier's scores. -/
def logitG (h : FVec F S128x128 .f32) (wc2 : Vec F S128x200 .f32) (bc2 : Vec F S1x200 .f32) : FVec F S128x200 .f32 :=
  addf (matmul dot_S128x128_S128x200_S128x200_1_0_0_1_n_n none h wc2 (constant S128x200 .f32 0x00000000#32))
    (broadcastTo S128x200 (shapeCast S1x200 bc2 shapeCasts_S1x200_S1x200) broadcasts_S1x200_S128x200)

/-- The logarithm of the scores' softmax. -/
def shiftG (z : FVec F S128x200 .f32) : FVec F S128x200 .f32 :=
  subf z (broadcastTo S128x200 (shapeCast S128x1 (multiReduction .maximumf [1] S128 z 0xFF800000#32 reduces_S128x200_S128 (.inl rfl) rfl : FVec F S128 .f32) shapeCasts_S128_S128x1) broadcasts_S128x1_S128x200)
def lsmG (z : FVec F S128x200 .f32) : FVec F S128x200 .f32 :=
  subf (shiftG z) (broadcastTo S128x200 (log (shapeCast S128x1 (multiReduction .add [1] S128 (exp (shiftG z)) 0x00000000#32 reduces_S128x200_S128 (.inl rfl) rfl : FVec F S128 .f32) shapeCasts_S128_S128x1)) broadcasts_S128x1_S128x200)

/-- A state passed through the table's chunks. -/
def pass.{u} {σ : Type} {α : Type u} (f : Fin 20 → σ → (σ → α) → α) : List (Fin 20) → σ → (σ → α) → α
  | [], s, K => K s
  | c :: l, s, K => f c s fun s => pass f l s K

def maxB (A : GlobArgs) (q : Vec F S128x128 .f32) (c : Fin 20) (acc : FVec F S128x1 .f32) (K : FVec F S128x1 .f32 → GP F) : GP F := do
  let w : Vec F S1024x128 .f32 ← Prog.lift (.load A.traj (chunkR c).toLoadRect (View.loadsAt_vmem h_S1024x128))
  K (maxG acc (scoreC c q w))

def sumB (A : GlobArgs) (q : Vec F S128x128 .f32) (m : FVec F S128x1 .f32) (c : Fin 20) (acc : FVec F S128x1 .f32 × FVec F S128x128 .f32)
    (K : FVec F S128x1 .f32 × FVec F S128x128 .f32 → GP F) : GP F := do
  let w : Vec F S1024x128 .f32 ← Prog.lift (.load A.traj (chunkR c).toLoadRect (View.loadsAt_vmem h_S1024x128))
  K (denG acc.1 (expG m (scoreC c q w)), ctxG acc.2 (expG m (scoreC c q w)) w)

abbrev allQ : Rect S128x128 := Rect.unit (s := S128x128) ![0, 0] S128x128.size inb_S128x128_S128x128_0_0
abbrev allW1 : Rect S256x128 := Rect.unit (s := S256x128) ![0, 0] S256x128.size inb_S256x128_S256x128_0_0
abbrev allB1 : Rect S1x128 := Rect.unit (s := S1x128) ![0, 0] S1x128.size inb_S1x128_S1x128_0_0
abbrev allW2 : Rect S128x200 := Rect.unit (s := S128x200) ![0, 0] S128x200.size inb_S128x200_S128x200_0_0
abbrev allB2 : Rect S1x200 := Rect.unit (s := S1x200) ![0, 0] S1x200.size inb_S1x200_S1x200_0_0

/-- The end: the classifier on the pooled rows and the context. -/
def headB (A : GlobArgs) (ctx : FVec F S128x128 .f32) : GP F := do
  let p : Vec F S128x128 .f32 ← Prog.lift (.load A.pool allQ.toLoadRect (View.loadsAt_vmem h_S128x128))
  let w1 : Vec F S256x128 .f32 ← Prog.lift (.load A.wc1 allW1.toLoadRect (View.loadsAt_vmem h_S256x128))
  let b1 : Vec F S1x128 .f32 ← Prog.lift (.load A.bc1 allB1.toLoadRect (View.loadsAt_vmem h_S1x128))
  let w2 : Vec F S128x200 .f32 ← Prog.lift (.load A.wc2 allW2.toLoadRect (View.loadsAt_vmem h_S128x200))
  let b2 : Vec F S1x200 .f32 ← Prog.lift (.load A.bc2 allB2.toLoadRect (View.loadsAt_vmem h_S1x200))
  let _ : Vec F S128x200 .f32 ← Prog.lift (.load A.out allW2.toLoadRect (View.loadsAt_vmem h_S128x200))
  Prog.lift (.store A.out allW2 (lsmG (logitG (hidG (shapeCast S128x128 p shapeCasts_S128x128_S128x128) ctx w1 b1) w2 b2)) Finset.univ (View.stores_vmem_bits_univ h_S128x200 rfl) (.inl rfl))
  Prog.ret PUnit.unit

abbrev chunks : List (Fin 20) := [0, 1, 2, 3, 4, 5, 6, 7, 8, 9, 10, 11, 12, 13, 14, 15, 16, 17, 18, 19]

/-- The straight line: the maximum, the weights and the weighted rows chunk by chunk, and the classifier. -/
def lineG (A : GlobArgs) : GP F := do
  let q : Vec F S128x128 .f32 ← Prog.lift (.load A.qg allQ.toLoadRect (View.loadsAt_vmem h_S128x128))
  pass (maxB A q) chunks (broadcast S128x1 (Named.named κ "mask" 0xF149F2CA#32)) fun m =>
  pass (sumB A q m) chunks (broadcast S128x1 (Scalar.ofBits .f32 0x00000000#32), broadcast S128x128 (Scalar.ofBits .f32 0x00000000#32)) fun s =>
  headB A (quotG s.1 s.2)

set_option maxHeartbeats 4000000 in
set_option maxRecDepth 65536 in
/-- The printed body is the gather and the straight line. -/
theorem glob_eq (i : grid1.Coords) (arg1 : Memref sig .tc .smem S256 .i32) (harg1 : arg1.IsWhole) (arg2 : Memref sig .tc .vmem S20480x128 .f32) (harg2 : arg2.IsWhole) (arg3 : Memref sig .tc .vmem S128x128 .f32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x200 .f32) (harg6 : arg6.IsWhole) (arg7 : Memref sig .tc .vmem S1x200 .f32) (harg7 : arg7.IsWhole) (arg8 : Memref sig .tc .vmem S128x200 .f32) (harg8 : arg8.IsWhole) (arg9 : Memref sig .tc .vmem S128x128 .f32) (harg9 : arg9.IsWhole) :
    cc1__glob_kernel (F := F) i arg1 harg1 arg2 harg2 arg3 harg3 arg4 harg4 arg5 harg5 arg6 harg6 arg7 harg7 arg8 harg8 arg9 harg9
      = loopG ⟨arg1, arg2, arg3, arg4, arg5, arg6, arg7, arg8, arg9⟩ i >>= fun _ => lineG ⟨arg1, arg2, arg3, arg4, arg5, arg6, arg7, arg8, arg9⟩ := by
  rw [cc1__glob_kernel_eq_skeleton]
  unfold cc1__glob_kernel_skel
  rw [k1_part4_eq_skeleton]
  unfold k1_part4_skel
  simp only [bind_assoc, pure_bind]
  refine bind_congr2 (by sl_kernel_rfl) fun _ => ?_
  sl_kernel_rfl

end Cert.Proof.KernelIdeal
-- ==== Proof.IdealWp.lean ====
/- A buffer owned at a value, and what each load, store and block does to the values. -/
module

public import proofs.«01_k».proof.Proof.IdealBlocks
public import Idealize.ShloMosaic.Lib.Pipeline.Regions
public import Idealize.ShloMosaic.Lib.Tactic

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the pipeline library's, beside the transfers' counters. -/
abbrev UU : Type := URounds (GSem nD τ sig) Unit × Counters

local notation "𝕄" => MT nD τ sig Unit (Elt F) ℕ UU ℕ

/-- A program of the kernel's, run on core `c`. -/
abbrev WP (c : Dev nD) (p : Prog (TpuEff nD τ sig (Elt F) Λ₀ .tc) Unit) (Q : Unit → sProp 𝕄) : sProp 𝕄 :=
  wp frame (wpE (defs₀ (F := F)) Variants.none (c : Thread nD τ) none) Set.univ p Q

/-- Memref `M` of core `c` owned whole, at the value `x`. -/
abbrev own (c : Dev nD) {sp : Space} {S : Shape} {e : EltTy} (M : Memref sig .tc sp S e) (x : S.Idx → Elt F e) : sProp 𝕄 :=
  owns (c : Thread nD τ) M fullShare x

open Classical in
/-- A value with the rectangle `r` overwritten by `w`. -/
def upd {S : Shape} {e : EltTy} (x : S.Idx → Elt F e) (r : Rect S) (w : r.shape.Idx → Elt F e) : S.Idx → Elt F e :=
  fun y => if h : ∃ j, r.emb j = y then w h.choose else x y

omit [FloatOps F] [Named F] in
theorem upd_emb {S : Shape} {e : EltTy} (x : S.Idx → Elt F e) (r : Rect S) (w : r.shape.Idx → Elt F e) (j : r.shape.Idx) :
    upd x r w (r.emb j) = w j := by
  have h : ∃ j', r.emb j' = r.emb j := ⟨j, rfl⟩
  unfold upd
  rw [dif_pos h, r.emb.injective h.choose_spec]

omit [FloatOps F] [Named F] in
theorem upd_off {S : Shape} {e : EltTy} (x : S.Idx → Elt F e) (r : Rect S) (w : r.shape.Idx → Elt F e) (y : S.Idx)
    (h : ∀ j, r.emb j ≠ y) : upd x r w y = x y := by
  unfold upd
  rw [dif_neg (fun ⟨j, hj⟩ => h j hj)]

/-- A load at the head of a program. -/
theorem own_load (c : Dev nD) {cs : CoreSpace} {S : Shape} {e : EltTy} (M : Memref sig .tc cs S e) (r : Rect S) (hl : M.view.LoadsAt r.toLoadRect)
    (k : (r.shape.Idx → Elt F e) → Prog (TpuEff nD τ sig (Elt F) Λ₀ .tc) Unit) (Q : Unit → sProp 𝕄) (x : S.Idx → Elt F e) :
    own c M x ⊢ iprop((own c M x -∗ WP c (k (fun j => x (r.emb j))) Q) -∗ WP c (.op (.load M r.toLoadRect hl) k) Q) := by
  unfold own owns
  iintro ⟨%f, %hf, H⟩ Hk
  iapply (wp_load_rect (defs := defs₀ (F := F)) Variants.none (c : Thread nD τ) none Set.univ (m := M) (r := r) (hl := hl) (k := k) (View.set_slice_subset _ _)) $$ H
  iintro H
  subst hf
  iapply Hk
  iexists f
  isplitr; · ipureintro; rfl
  iexact H

/-- A store at the head of a program. -/
theorem own_store (c : Dev nD) {cs : CoreSpace} {S : Shape} {e : EltTy} (M : Memref sig .tc cs S e) (r : Rect S) (w : r.shape.Idx → Elt F e)
    (hx : (M.access r).Stores Finset.univ) (hm : (Finset.univ : Finset r.shape.Idx) = Finset.univ ∨ ∀ a, r.stride a = 1)
    (k : PUnit → Prog (TpuEff nD τ sig (Elt F) Λ₀ .tc) Unit) (Q : Unit → sProp 𝕄) (x : S.Idx → Elt F e) :
    own c M x ⊢ iprop((own c M (upd x r w) -∗ WP c (k ⟨⟩) Q) -∗ WP c (.op (.store M r w Finset.univ hx hm) k) Q) := by
  unfold own owns
  iintro ⟨%f, %hf, H⟩ Hk
  iapply (wp_store (defs := defs₀ (F := F)) Variants.none (c : Thread nD τ) none Set.univ (m := M) (r := r) (w := w) (hx := hx) (hm := hm) (k := k) ((View.setOn_subset_set _ _).trans (View.set_slice_subset _ _))) $$ H
  iintro H
  subst hf
  iapply Hk
  iexists _
  isplitr; swap; (· iexact H)
  ipureintro
  funext y
  by_cases h : ∃ j, r.emb j = y
  · obtain ⟨j, rfl⟩ := h
    rw [upd_emb]; exact View.read_slice_write_emb r f w (Finset.mem_univ j)
  · rw [upd_off _ _ _ _ fun j hj => h ⟨j, hj⟩]
    refine View.read_slice_write_of_not_mem r f w _ fun hy => ?_
    obtain ⟨j, -, hj⟩ := Finset.mem_map.mp hy
    exact h ⟨j, hj⟩

/-- A scalar load at the head of a program. -/
theorem own_smem (c : Dev nD) {S : Shape} {e : EltTy} (M : Memref sig .tc .smem S e) (r : Rect S) (hw : (M.access r).Loads) (j : r.shape.Idx)
    (k : Elt F e → Prog (TpuEff nD τ sig (Elt F) Λ₀ .tc) Unit) (Q : Unit → sProp 𝕄) (x : S.Idx → Elt F e) :
    own c M x ⊢ iprop((own c M x -∗ WP c (k (x (r.emb j))) Q) -∗ WP c (smemLoadElt M r hw j k) Q) :=
  own_load c M r (View.loadsAt_rect hw) (fun f => k (f j)) Q x

/-- The same at the head of a block. -/
theorem own_load_bind (c : Dev nD) {cs : CoreSpace} {S : Shape} {e : EltTy} (M : Memref sig .tc cs S e) (r : Rect S) (hl : M.view.LoadsAt r.toLoadRect)
    (k : (r.shape.Idx → Elt F e) → Prog (TpuEff nD τ sig (Elt F) Λ₀ .tc) Unit) (Q : Unit → sProp 𝕄) (x : S.Idx → Elt F e) :
    own c M x ⊢ iprop((own c M x -∗ WP c (k (fun j => x (r.emb j))) Q) -∗ WP c (Prog.lift (.load M r.toLoadRect hl) >>= k) Q) :=
  own_load c M r hl k Q x

theorem own_store_bind (c : Dev nD) {cs : CoreSpace} {S : Shape} {e : EltTy} (M : Memref sig .tc cs S e) (r : Rect S) (w : r.shape.Idx → Elt F e)
    (hx : (M.access r).Stores Finset.univ) (hm : (Finset.univ : Finset r.shape.Idx) = Finset.univ ∨ ∀ a, r.stride a = 1)
    (k : PUnit → Prog (TpuEff nD τ sig (Elt F) Λ₀ .tc) Unit) (Q : Unit → sProp 𝕄) (x : S.Idx → Elt F e) :
    own c M x ⊢ iprop((own c M (upd x r w) -∗ WP c (k ⟨⟩) Q) -∗ WP c (Prog.lift (.store M r w Finset.univ hx hm) >>= k) Q) :=
  own_store c M r w hx hm k Q x

theorem own_smem_bind (c : Dev nD) {S : Shape} {e : EltTy} (M : Memref sig .tc .smem S e) (r : Rect S) (h1 : r.shape.numel = 1) (hp : e.packing = 1)
    (k : Elt F e → Prog (TpuEff nD τ sig (Elt F) Λ₀ .tc) Unit) (Q : Unit → sProp 𝕄) (x : S.Idx → Elt F e) :
    own c M x ⊢ iprop((own c M x -∗ WP c (k (x (r.emb (Shape.Idx.first (h1 ▸ Nat.one_pos))))) Q) -∗ WP c (smemLoad M r h1 hp >>= k) Q) :=
  own_load c M r _ (fun f => k (f _)) Q x

theorem assume_bind (c : Dev nD) {P : Prop} (d : Decidable P) (k : PLift P → Prog (TpuEff nD τ sig (Elt F) Λ₀ .tc) Unit) (Q : Unit → sProp 𝕄) (h : P) :
    WP c (k ⟨h⟩) Q ⊢ WP c (Prog.lift (.assume P d) >>= k) Q :=
  wp_assume (defs := defs₀ (F := F)) Variants.none (c : Thread nD τ) none Set.univ (k := k) h

/-! ## The encoder's state -/

/-- What the encoder's buffers hold. -/
structure EncVals (F : FTy → Type) where
  idx : S256x256.Idx → Elt F .i32
  grid : S8192x128.Idx → Elt F .f32
  ctab : S1256x64.Idx → Elt F .f32
  pos : S256x128.Idx → Elt F .f32
  wx : S128x128.Idx → Elt F .f32
  wts : S64x128.Idx → Elt F .f32
  bfc : S1x128.Idx → Elt F .f32
  wqkv : S2x128x384.Idx → Elt F .f32
  wo : S2x128x128.Idx → Elt F .f32
  g1 : S2x1x128.Idx → Elt F .f32
  b1 : S2x1x128.Idx → Elt F .f32
  w1 : S2x128x512.Idx → Elt F .f32
  c1 : S2x1x512.Idx → Elt F .f32
  w2 : S2x512x128.Idx → Elt F .f32
  c2 : S2x1x128.Idx → Elt F .f32
  g2 : S2x1x128.Idx → Elt F .f32
  b2 : S2x1x128.Idx → Elt F .f32
  out : S8x128.Idx → Elt F .f32
  xg : S2048x128.Idx → Elt F .f32
  tsg : S2048x64.Idx → Elt F .f32
  x : S2048x128.Idx → Elt F .f32

/-- The encoder's buffers owned at `v`. -/
def st (c : Dev nD) (A : EncArgs) (v : EncVals F) : sProp 𝕄 :=
  iprop(own c A.idx v.idx ∗ own c A.grid v.grid ∗ own c A.ctab v.ctab ∗ own c A.pos v.pos ∗ own c A.wx v.wx ∗ own c A.wts v.wts ∗ own c A.bfc v.bfc ∗ own c A.wqkv v.wqkv ∗ own c A.wo v.wo ∗ own c A.g1 v.g1 ∗ own c A.b1 v.b1 ∗ own c A.w1 v.w1 ∗ own c A.c1 v.c1 ∗ own c A.w2 v.w2 ∗ own c A.c2 v.c2 ∗ own c A.g2 v.g2 ∗ own c A.b2 v.b2 ∗ own c A.out v.out ∗ own c A.xg v.xg ∗ own c A.tsg v.tsg ∗ own c A.x v.x)

/-- Batch row `b`'s embedding, from the gathered rows. -/
def EncVals.embOf (v : EncVals F) (b : Fin 8) : FVec F S256x128 .f32 :=
  embV (fun j => v.xg ((rowsE b).emb j)) (fun j => v.wx (allX.emb j)) (fun j => v.tsg ((rowsT b).emb j)) (fun j => v.wts (allT.emb j))
    (fun j => v.bfc (allB.emb j)) (fun j => v.pos (allP.emb j))

/-- One layer of a batch row whose 256 rows are `x`. -/
def EncVals.layOf (v : EncVals F) (l : Fin 2) (x : Vec F S256x128 .f32) : FVec F S256x128 .f32 :=
  lnV (ffV (lnV (attV x (fun j => v.wqkv ((layQ l).emb j)) (fun j => v.wo ((layO l).emb j)))
      (fun j => v.g1 ((layV l).emb j)) (fun j => v.b1 ((layV l).emb j)))
    (fun j => v.w1 ((layU l).emb j)) (fun j => v.c1 ((layC l).emb j)) (fun j => v.w2 ((layD l).emb j)) (fun j => v.c2 ((layV l).emb j)))
    (fun j => v.g2 ((layV l).emb j)) (fun j => v.b2 ((layV l).emb j))

/-- The state after each block. -/
def EncVals.emb (v : EncVals F) (b : Fin 8) : EncVals F :=
  { v with x := upd v.x (rowsE b) (shapeCast S256x128 (v.embOf b) shapeCasts_S256x128_S256x128) }
def EncVals.lay (l : Fin 2) (v : EncVals F) (b : Fin 8) : EncVals F :=
  { v with x := upd v.x (rowsE b) (shapeCast S256x128 (v.layOf l fun j => v.x ((rowsE b).emb j)) shapeCasts_S256x128_S256x128) }
def EncVals.pool (v : EncVals F) (b : Fin 8) : EncVals F :=
  { v with out := upd v.out (rowO b) (poolV fun j => v.x ((rowsE b).emb j)) }

set_option maxHeartbeats 2000000 in
theorem embB_wp (c : Dev nD) (A : EncArgs) (b : Fin 8) (v : EncVals F) (K : Prog (TpuEff nD τ sig (Elt F) Λ₀ .tc) Unit) (Q : Unit → sProp 𝕄) :
    st c A v ⊢ iprop((st c A (v.emb b) -∗ WP c K Q) -∗ WP c (embB A b K) Q) := by
  unfold st embB
  iintro ⟨Hidx, Hgrid, Hctab, Hpos, Hwx, Hwts, Hbfc, Hwqkv, Hwo, Hg1, Hb1, Hw1, Hc1, Hw2, Hc2, Hg2, Hb2, Hout, Hxg, Htsg, Hx⟩ Hk
  iapply (own_load_bind c A.xg _ _ _ Q _) $$ Hxg
  iintro Hxg
  iapply (own_load_bind c A.wx _ _ _ Q _) $$ Hwx
  iintro Hwx
  iapply (own_load_bind c A.tsg _ _ _ Q _) $$ Htsg
  iintro Htsg
  iapply (own_load_bind c A.wts _ _ _ Q _) $$ Hwts
  iintro Hwts
  iapply (own_load_bind c A.bfc _ _ _ Q _) $$ Hbfc
  iintro Hbfc
  iapply (own_load_bind c A.pos _ _ _ Q _) $$ Hpos
  iintro Hpos
  iapply (own_load_bind c A.x _ _ _ Q _) $$ Hx
  iintro Hx
  iapply (own_store_bind c A.x _ _ _ _ _ Q _) $$ Hx
  iintro Hx
  iapply Hk
  dsimp only [EncVals.emb]
  isplitl [Hidx]; · iexact Hidx
  isplitl [Hgrid]; · iexact Hgrid
  isplitl [Hctab]; · iexact Hctab
  isplitl [Hpos]; · iexact Hpos
  isplitl [Hwx]; · iexact Hwx
  isplitl [Hwts]; · iexact Hwts
  isplitl [Hbfc]; · iexact Hbfc
  isplitl [Hwqkv]; · iexact Hwqkv
  isplitl [Hwo]; · iexact Hwo
  isplitl [Hg1]; · iexact Hg1
  isplitl [Hb1]; · iexact Hb1
  isplitl [Hw1]; · iexact Hw1
  isplitl [Hc1]; · iexact Hc1
  isplitl [Hw2]; · iexact Hw2
  isplitl [Hc2]; · iexact Hc2
  isplitl [Hg2]; · iexact Hg2
  isplitl [Hb2]; · iexact Hb2
  isplitl [Hout]; · iexact Hout
  isplitl [Hxg]; · iexact Hxg
  isplitl [Htsg]; · iexact Htsg
  iexact Hx

set_option maxHeartbeats 2000000 in
theorem layerB_wp (c : Dev nD) (A : EncArgs) (l : Fin 2) (b : Fin 8) (v : EncVals F) (K : Prog (TpuEff nD τ sig (Elt F) Λ₀ .tc) Unit) (Q : Unit → sProp 𝕄) :
    st c A v ⊢ iprop((st c A (EncVals.lay l v b) -∗ WP c K Q) -∗ WP c (layerB A l b K) Q) := by
  unfold st layerB
  iintro ⟨Hidx, Hgrid, Hctab, Hpos, Hwx, Hwts, Hbfc, Hwqkv, Hwo, Hg1, Hb1, Hw1, Hc1, Hw2, Hc2, Hg2, Hb2, Hout, Hxg, Htsg, Hx⟩ Hk
  iapply (own_load_bind c A.x _ _ _ Q _) $$ Hx
  iintro Hx
  iapply (own_load_bind c A.wqkv _ _ _ Q _) $$ Hwqkv
  iintro Hwqkv
  iapply (own_load_bind c A.wo _ _ _ Q _) $$ Hwo
  iintro Hwo
  iapply (own_load_bind c A.g1 _ _ _ Q _) $$ Hg1
  iintro Hg1
  iapply (own_load_bind c A.b1 _ _ _ Q _) $$ Hb1
  iintro Hb1
  iapply (own_load_bind c A.w1 _ _ _ Q _) $$ Hw1
  iintro Hw1
  iapply (own_load_bind c A.c1 _ _ _ Q _) $$ Hc1
  iintro Hc1
  iapply (own_load_bind c A.w2 _ _ _ Q _) $$ Hw2
  iintro Hw2
  iapply (own_load_bind c A.c2 _ _ _ Q _) $$ Hc2
  iintro Hc2
  iapply (own_load_bind c A.g2 _ _ _ Q _) $$ Hg2
  iintro Hg2
  iapply (own_load_bind c A.b2 _ _ _ Q _) $$ Hb2
  iintro Hb2
  iapply (own_load_bind c A.x _ _ _ Q _) $$ Hx
  iintro Hx
  iapply (own_store_bind c A.x _ _ _ _ _ Q _) $$ Hx
  iintro Hx
  iapply Hk
  dsimp only [EncVals.lay]
  isplitl [Hidx]; · iexact Hidx
  isplitl [Hgrid]; · iexact Hgrid
  isplitl [Hctab]; · iexact Hctab
  isplitl [Hpos]; · iexact Hpos
  isplitl [Hwx]; · iexact Hwx
  isplitl [Hwts]; · iexact Hwts
  isplitl [Hbfc]; · iexact Hbfc
  isplitl [Hwqkv]; · iexact Hwqkv
  isplitl [Hwo]; · iexact Hwo
  isplitl [Hg1]; · iexact Hg1
  isplitl [Hb1]; · iexact Hb1
  isplitl [Hw1]; · iexact Hw1
  isplitl [Hc1]; · iexact Hc1
  isplitl [Hw2]; · iexact Hw2
  isplitl [Hc2]; · iexact Hc2
  isplitl [Hg2]; · iexact Hg2
  isplitl [Hb2]; · iexact Hb2
  isplitl [Hout]; · iexact Hout
  isplitl [Hxg]; · iexact Hxg
  isplitl [Htsg]; · iexact Htsg
  iexact Hx

set_option maxHeartbeats 2000000 in
theorem poolB_wp (c : Dev nD) (A : EncArgs) (b : Fin 8) (v : EncVals F) (K : Prog (TpuEff nD τ sig (Elt F) Λ₀ .tc) Unit) (Q : Unit → sProp 𝕄) :
    st c A v ⊢ iprop((st c A (v.pool b) -∗ WP c K Q) -∗ WP c (poolB A b K) Q) := by
  unfold st poolB
  iintro ⟨Hidx, Hgrid, Hctab, Hpos, Hwx, Hwts, Hbfc, Hwqkv, Hwo, Hg1, Hb1, Hw1, Hc1, Hw2, Hc2, Hg2, Hb2, Hout, Hxg, Htsg, Hx⟩ Hk
  iapply (own_load_bind c A.x _ _ _ Q _) $$ Hx
  iintro Hx
  iapply (own_load_bind c A.out _ _ _ Q _) $$ Hout
  iintro Hout
  iapply (own_store_bind c A.out _ _ _ _ _ Q _) $$ Hout
  iintro Hout
  iapply Hk
  dsimp only [EncVals.pool]
  isplitl [Hidx]; · iexact Hidx
  isplitl [Hgrid]; · iexact Hgrid
  isplitl [Hctab]; · iexact Hctab
  isplitl [Hpos]; · iexact Hpos
  isplitl [Hwx]; · iexact Hwx
  isplitl [Hwts]; · iexact Hwts
  isplitl [Hbfc]; · iexact Hbfc
  isplitl [Hwqkv]; · iexact Hwqkv
  isplitl [Hwo]; · iexact Hwo
  isplitl [Hg1]; · iexact Hg1
  isplitl [Hb1]; · iexact Hb1
  isplitl [Hw1]; · iexact Hw1
  isplitl [Hc1]; · iexact Hc1
  isplitl [Hw2]; · iexact Hw2
  isplitl [Hc2]; · iexact Hc2
  isplitl [Hg2]; · iexact Hg2
  isplitl [Hb2]; · iexact Hb2
  isplitl [Hout]; · iexact Hout
  isplitl [Hxg]; · iexact Hxg
  isplitl [Htsg]; · iexact Htsg
  iexact Hx

/-- Eight steps of a state in turn. -/
def fold8 {α : Type} (g : α → Fin 8 → α) (v : α) : α := g (g (g (g (g (g (g (g v 0) 1) 2) 3) 4) 5) 6) 7

/-- A block for every batch row: the state steps eight times. -/
theorem each8_wp (c : Dev nD) (A : EncArgs) (f : Fin 8 → Prog (TpuEff nD τ sig (Elt F) Λ₀ .tc) Unit → Prog (TpuEff nD τ sig (Elt F) Λ₀ .tc) Unit)
    (g : EncVals F → Fin 8 → EncVals F) (Q : Unit → sProp 𝕄)
    (hf : ∀ b v K, st c A v ⊢ iprop((st c A (g v b) -∗ WP c K Q) -∗ WP c (f b K) Q)) (v : EncVals F) (K : Prog (TpuEff nD τ sig (Elt F) Λ₀ .tc) Unit) :
    st c A v ⊢ iprop((st c A (fold8 g v) -∗ WP c K Q) -∗ WP c (each8 f K) Q) := by
  unfold each8 fold8
  iintro H Hk
  iapply (hf 0 _ _) $$ H; iintro H
  iapply (hf 1 _ _) $$ H; iintro H
  iapply (hf 2 _ _) $$ H; iintro H
  iapply (hf 3 _ _) $$ H; iintro H
  iapply (hf 4 _ _) $$ H; iintro H
  iapply (hf 5 _ _) $$ H; iintro H
  iapply (hf 6 _ _) $$ H; iintro H
  iapply (hf 7 _ _) $$ H; iintro H
  iapply Hk; iexact H

/-- The state after the straight line. -/
def EncVals.line (v : EncVals F) : EncVals F :=
  fold8 EncVals.pool (fold8 (EncVals.lay 1) (fold8 (EncVals.lay 0) (fold8 EncVals.emb v)))

theorem lineB_wp (c : Dev nD) (A : EncArgs) (v : EncVals F) (Q : Unit → sProp 𝕄) :
    st c A v ⊢ iprop((st c A v.line -∗ Q ⟨⟩) -∗ WP c (lineB A) Q) := by
  unfold lineB EncVals.line
  iintro H Hk
  iapply (each8_wp c A _ _ Q (fun b v K => embB_wp c A b v K Q) _ _) $$ H; iintro H
  iapply (each8_wp c A _ _ Q (fun b v K => layerB_wp c A 0 b v K Q) _ _) $$ H; iintro H
  iapply (each8_wp c A _ _ Q (fun b v K => layerB_wp c A 1 b v K Q) _ _) $$ H; iintro H
  iapply (each8_wp c A _ _ Q (fun b v K => poolB_wp c A b v K Q) _ _) $$ H; iintro H
  unfold WP; rw [wp_ret]
  imodintro
  iapply Hk; iexact H

end Cert.Proof.KernelIdeal
-- ==== Proof.IdealGatherVal.lean ====
/- The values of a gather: each row of a block is the table row its packed word names. -/
module

public import proofs.«01_k».proof.Proof.IdealGather
public import Idealize.ShloMosaic.Lib.ValueIdxCore
public import Idealize.ShloMosaic.Lib.KernelVsHost

@[expose] public section

noncomputable section

namespace Cert.Proof.KernelIdeal

open Cert.KernelIdeal Cert.KernelIdeal.Gen
open Idealize.ShloMosaic Idealize.SL.Sem
open Idealize.ShloMosaic.ValueIdx (ix2 eq_ix2)

variable {F : FTy → Type} [FloatOps F] [Named F]

/-- A packed word that names a grid row and a time-and-state row. -/
def Good (w : BitVec 32) : Prop := w.toNat < 16777216 ∧ w.toNat % 2048 < 1250

/-- The rows a packed word names. -/
def trow (w : BitVec 32) : Fin 1256 := ⟨w.toNat % 2048 % 1256, Nat.mod_lt _ (by decide)⟩
def erow (w : BitVec 32) : Fin 8192 := ⟨w.toNat / 2048 % 8192, Nat.mod_lt _ (by decide)⟩

theorem low_toNat (w : BitVec 32) : (Scalar.andi w 2047#32).toNat = w.toNat % 2048 := by
  show (w &&& 2047#32).toNat = _
  rw [BitVec.toNat_and]; exact Nat.and_two_pow_sub_one_eq_mod _ 11

theorem low7_toNat (w : BitVec 32) : (Scalar.andi w 7#32).toNat = w.toNat % 8 := by
  show (w &&& 7#32).toNat = _
  rw [BitVec.toNat_and]; exact Nat.and_two_pow_sub_one_eq_mod _ 3

theorem shr_toNat (w n : BitVec 32) (hw : w.toNat < 2 ^ 31) (hn : n.toNat < 32) : (Scalar.shrsi w n).toNat = w.toNat / 2 ^ n.toNat := by
  have hm : w.msb = false := by rw [BitVec.msb_eq_false_iff_two_mul_lt]; omega
  show (if n.toNat < 32 then w.sshiftRight' n else _).toNat = _
  rw [if_pos hn, BitVec.sshiftRight', BitVec.toNat_sshiftRight_of_msb_false hm, Nat.shiftRight_eq_div_pow]

theorem shl_toNat (w : BitVec 32) (hw : w.toNat < 2 ^ 28) : (Scalar.shli w 3#32).toNat = 8 * w.toNat := by
  have h : Scalar.shli w 3#32 = w <<< 3 := by
    show IntOp.shli .scalar w 3#32 = _
    unfold IntOp.shli
    rw [if_pos (by decide)]; rfl
  rw [h]
  rw [BitVec.toNat_shiftLeft, Nat.shiftLeft_eq]
  show w.toNat * 8 % 2 ^ 32 = _
  omega

/-- The aligned chunk that holds a row begins at the row rounded down to a multiple of eight. -/
theorem off2_eq (w : BitVec 32) : k0_off2 w = ![w.toNat % 2048 / 8 * 8, 0] := by
  have h : (Scalar.shli (Scalar.shrsi (Scalar.andi w 2047#32) 3#32) 3#32).toNat = w.toNat % 2048 / 8 * 8 := by
    rw [shl_toNat, shr_toNat, low_toNat]
    · show 8 * (w.toNat % 2048 / 8) = _; omega
    · rw [low_toNat]; omega
    · decide
    · rw [shr_toNat, low_toNat]
      · show w.toNat % 2048 / 8 < _; omega
      · rw [low_toNat]; omega
      · decide
  funext a; fin_cases a
  · exact h
  · rfl

theorem off28_eq (w : BitVec 32) : k0_off28 w = ![w.toNat % 2048 / 8 * 8, 0] := off2_eq w

theorem off3_eq (w : BitVec 32) (hw : w.toNat < 16777216) : k0_off3 w = ![w.toNat / 2048 / 8 * 8, 0] := by
  have h1 : (Scalar.shrsi w 11#32).toNat = w.toNat / 2048 := by
    rw [shr_toNat w _ (by omega) (by decide)]; rfl
  have h : (Scalar.shli (Scalar.shrsi (Scalar.shrsi w 11#32) 3#32) 3#32).toNat = w.toNat / 2048 / 8 * 8 := by
    rw [shl_toNat, shr_toNat, h1]
    · show 8 * (w.toNat / 2048 / 8) = _; omega
    · rw [h1]; omega
    · decide
    · rw [shr_toNat, h1]
      · show w.toNat / 2048 / 8 < _; omega
      · rw [h1]; omega
      · decide
  funext a; fin_cases a
  · exact h
  · rfl

theorem chk9_of (w : BitVec 32) (h : Good w) : k0_chk9 w := by
  have h2 : w.toNat % 2048 < 1250 := h.2
  refine ⟨?_, ?_⟩
  · show 8 ∣ (k0_off28 w 0)
    rw [off28_eq]; exact Dvd.intro_left _ rfl
  · rw [off28_eq]; intro a; fin_cases a
    · show w.toNat % 2048 / 8 * 8 + 8 ≤ 1256; omega
    · show 0 + 64 ≤ 64; omega

theorem chk1_of (w : BitVec 32) (h : Good w) : k0_chk1 w := by
  have h1 := h.1
  refine ⟨(chk9_of w h).1, (chk9_of w h).2, ?_, ?_⟩
  · show 8 ∣ (k0_off3 w 0)
    rw [off3_eq w h.1]; exact Dvd.intro_left _ rfl
  · rw [off3_eq w h.1]; intro a; fin_cases a
    · show w.toNat / 2048 / 8 * 8 + 8 ≤ 8192; omega
    · show 0 + 128 ≤ 128; omega

/-- An aligned chunk of eight rows rotated so that row `r % 8` stands at row `u`, read at row `u`. -/
theorem rot_row {α : Type} {C : ℕ} (ch : (⟨2, ![8, C]⟩ : Shape).Idx → α) (s u : BitVec 32) (hu : u.toNat < 8)
    (hr : (⟨2, ![8, C]⟩ : Shape).Rotates 0 none) (a : Fin 8) (b : Fin C) (ha : a.val = u.toNat) :
    dynamicRotate 0 (Scalar.subi u (Scalar.andi s 7#32)) none ch hr (ix2 a b) = ch (ix2 ⟨s.toNat % 8, Nat.mod_lt _ (by decide)⟩ b) := by
  refine dynamicRotate_apply 0 _ ch hr _ _ fun d => ?_
  fin_cases d
  · show s.toNat % 8 = (a.val + 8 - (u - Scalar.andi s 7#32).toNat % 8) % 8
    rw [BitVec.toNat_sub, low7_toNat, ha]
    omega
  · rfl

/-- The choice of one row. -/
theorem sel_row {α : Type} {C : ℕ} (io : IVec ⟨2, ![8, C]⟩ 32) (hio : ∀ a b, io (ix2 a b) = BitVec.ofNat 32 a.val) (u : BitVec 32)
    (hu : u.toNat < 8) (x y : (⟨2, ![8, C]⟩ : Shape).Idx → α) (a : Fin 8) (b : Fin C) :
    select (cmpi .eq io (broadcast ⟨2, ![8, C]⟩ u)) x y (ix2 a b) = if a.val = u.toNat then x (ix2 a b) else y (ix2 a b) := by
  show Scalar.select (IntOp.cmpi .eq (io (ix2 a b)) u) _ _ = _
  rw [hio]
  have ha := a.isLt
  by_cases h : a.val = u.toNat
  · rw [if_pos h, IntOp.cmpi_eq.mpr (by apply BitVec.eq_of_toNat_eq; rw [BitVec.toNat_ofNat, h]; omega)]; rfl
  · have : IntOp.cmpi .eq (BitVec.ofNat 32 a.val) u = 0#1 := by
      refine (BitVec.eq_zero_or_eq_one _).resolve_right fun h1 => h ?_
      have h2 := congrArg BitVec.toNat (IntOp.cmpi_eq.mp h1)
      rw [BitVec.toNat_ofNat] at h2; omega
    rw [if_neg h, this]; rfl

/-- The first `n` rows of a block gathered, the others zero. -/
def accT (ctab : S1256x64.Idx → F .f32) (wf : ℕ → BitVec 32) (n : ℕ) : FVec F S8x64 .f32 :=
  fun y => if (y 0).val < n then ctab (ix2 (trow (wf (y 0).val)) (y 1)) else Scalar.ofBits .f32 0x00000000#32
def accE (grid : S8192x128.Idx → F .f32) (wf : ℕ → BitVec 32) (n : ℕ) : FVec F S8x128 .f32 :=
  fun y => if (y 0).val < n then grid (ix2 (erow (wf (y 0).val)) (y 1)) else Scalar.ofBits .f32 0x00000000#32

theorem accT_zero (ctab : S1256x64.Idx → F .f32) (wf : ℕ → BitVec 32) : accT ctab wf 0 = zeroT := rfl
theorem accE_zero (grid : S8192x128.Idx → F .f32) (wf : ℕ → BitVec 32) : accE grid wf 0 = zeroE := rfl

theorem acc_step {α : Type} (n a : ℕ) (x y z : α) (h : a = n → x = y) :
    (if a = n then x else if a < n then y else z) = if a < n + 1 then y else z := by
  by_cases h1 : a = n
  · rw [if_pos h1, if_pos (by omega), h h1]
  · rw [if_neg h1]
    by_cases h2 : a < n
    · rw [if_pos h2, if_pos (by omega)]
    · rw [if_neg h2, if_neg (by omega)]

theorem io1_at (a : Fin 8) (b : Fin 64) : io1 (ix2 a b) = BitVec.ofNat 32 a.val := by
  show BitVec.ofNat 32 (0 * 8 + a.val) = _; rw [Nat.zero_mul, Nat.zero_add]
theorem io0_at (a : Fin 8) (b : Fin 128) : io0 (ix2 a b) = BitVec.ofNat 32 a.val := by
  show BitVec.ofNat 32 (0 * 8 + a.val) = _; rw [Nat.zero_mul, Nat.zero_add]

theorem rowT_acc (ctab : S1256x64.Idx → F .f32) (wf : ℕ → BitVec 32) (u : BitVec 32) (hu : u.toNat < 8)
    (w : BitVec 32) (hw : w = wf u.toNat) (hg : Good w)
    (hr : ∀ a, k0_off2 w a + S8x64.size a ≤ S1256x64.size a) :
    rowT u (accT ctab wf u.toNat) w (fun j => ctab ((Rect.unit (s := S1256x64) (k0_off2 w) S8x64.size hr).emb j)) = accT ctab wf (u.toNat + 1) := by
  funext y
  obtain ⟨a, b, rfl⟩ : ∃ a b, y = ix2 a b := ⟨_, _, eq_ix2 y⟩
  unfold rowT
  refine (sel_row io1 io1_at u hu _ _ a b).trans ?_
  refine acc_step u.toNat a.val _ _ _ fun ha => ?_
  refine (rot_row _ _ u hu _ a b ha).trans ?_
  rw [shapeCast_self]
  refine congrArg ctab (funext fun d => Fin.ext ?_)
  have h2 := hg.2
  have e := off2_eq w
  have hw' : wf a.val = w := by rw [ha, hw]
  fin_cases d
  · show k0_off2 w 0 + 1 * ((Scalar.andi w 2047#32).toNat % 8) = (wf a.val).toNat % 2048 % 1256
    rw [e, hw', low_toNat]
    show w.toNat % 2048 / 8 * 8 + 1 * (w.toNat % 2048 % 8) = _
    omega
  · show k0_off2 w 1 + 1 * b.val = b.val
    rw [e]; show 0 + 1 * b.val = _; omega

theorem rowE_acc (grid : S8192x128.Idx → F .f32) (wf : ℕ → BitVec 32) (u : BitVec 32) (hu : u.toNat < 8)
    (w : BitVec 32) (hw : w = wf u.toNat) (hg : Good w)
    (hr : ∀ a, k0_off3 w a + S8x128.size a ≤ S8192x128.size a) :
    rowE u (accE grid wf u.toNat) w (fun j => grid ((Rect.unit (s := S8192x128) (k0_off3 w) S8x128.size hr).emb j)) = accE grid wf (u.toNat + 1) := by
  funext y
  obtain ⟨a, b, rfl⟩ : ∃ a b, y = ix2 a b := ⟨_, _, eq_ix2 y⟩
  unfold rowE
  refine (sel_row io0 io0_at u hu _ _ a b).trans ?_
  refine acc_step u.toNat a.val _ _ _ fun ha => ?_
  refine (rot_row _ _ u hu _ a b ha).trans ?_
  refine congrArg grid (funext fun d => Fin.ext ?_)
  have h2 := hg.1
  have e := off3_eq w h2
  have hw' : wf a.val = w := by rw [ha, hw]
  have hs : (Scalar.shrsi w 11#32).toNat = w.toNat / 2048 := by
    rw [shr_toNat w _ (by omega) (by decide)]; rfl
  fin_cases d
  · show k0_off3 w 0 + 1 * ((Scalar.shrsi w 11#32).toNat % 8) = (wf a.val).toNat / 2048 % 8192
    rw [e, hw', hs]
    show w.toNat / 2048 / 8 * 8 + 1 * (w.toNat / 2048 % 8) = _
    omega
  · show k0_off3 w 1 + 1 * b.val = b.val
    rw [e]; show 0 + 1 * b.val = _; omega

/-- The packed word of a cell: batch row `p`, column `q`. -/
def wordAt (idx : S256x256.Idx → BitVec 32) (p q : ℕ) : BitVec 32 :=
  idx (ix2 ⟨p % 256, Nat.mod_lt _ (by decide)⟩ ⟨q % 256, Nat.mod_lt _ (by decide)⟩)

theorem word_read (idx : S256x256.Idx → BitVec 32) (i : grid0.Coords) (b u iv : BitVec 32) (hb : b.toNat < 8) (hu : u.toNat < 8) (hiv : iv.toNat < 32)
    (hw : ∀ a, wofs i b u iv a + S1x1.size a ≤ S256x256.size a) (j : (Rect.unit (s := S256x256) (wofs i b u iv) S1x1.size hw).shape.Idx) :
    idx ((Rect.unit (s := S256x256) (wofs i b u iv) S1x1.size hw).emb j) = wordAt idx (8 * (i 0).val + b.toNat) (8 * iv.toNat + u.toNat) := by
  have hi : (i 0).val < 32 := (i 0).isLt
  refine congrArg idx (funext fun d => Fin.ext ?_)
  fin_cases d
  · have hj : (j 0).val < 1 := (j 0).isLt
    show (BitVec.ofNat 32 (i 0).val * 8#32 + b).toNat + 1 * (j 0).val = (8 * (i 0).val + b.toNat) % 256
    simp only [BitVec.toNat_add, BitVec.toNat_mul, BitVec.toNat_ofNat]
    omega
  · have hj : (j 1).val < 1 := (j 1).isLt
    show (iv * 8#32 + u).toNat + 1 * (j 1).val = (8 * iv.toNat + u.toNat) % 256
    simp only [BitVec.toNat_add, BitVec.toNat_mul, BitVec.toNat_ofNat]
    omega

/-- The gathered rows of batch block `n`: row `r` is cell `r % 256` of batch row `8 n + r / 256`. -/
def gatT (idx : S256x256.Idx → BitVec 32) (ctab : S1256x64.Idx → F .f32) (n : ℕ) : S2048x64.Idx → F .f32 :=
  fun y => ctab (ix2 (trow (wordAt idx (8 * n + (y 0).val / 256) ((y 0).val % 256))) (y 1))
def gatE (idx : S256x256.Idx → BitVec 32) (grid : S8192x128.Idx → F .f32) (n : ℕ) : S2048x128.Idx → F .f32 :=
  fun y => if (y 0).val % 256 < 192 then grid (ix2 (erow (wordAt idx (8 * n + (y 0).val / 256) ((y 0).val % 256))) (y 1))
    else Scalar.ofBits .f32 0x00000000#32

end Cert.Proof.KernelIdeal
-- ==== Proof.IdealGatherWp.lean ====
/- What the gathers leave in the two scratch buffers. -/
module

public import proofs.«01_k».proof.Proof.IdealWp
public import proofs.«01_k».proof.Proof.IdealEncProg
public import proofs.«01_k».proof.Proof.IdealGatherVal

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F] [Named F]

local notation "𝕄" => MT nD τ sig Unit (Elt F) ℕ UU ℕ

/-- One read of a trip: the accumulated blocks grow by a row. -/
theorem stepA_wp (c : Dev nD) (A : EncArgs) (i : grid0.Coords) (b u iv : BitVec 32) (hb : b.toNat < 8) (hu : u.toNat < 8) (hiv : iv.toNat < 32)
    (hw : ∀ a, wofs i b u iv a + S1x1.size a ≤ S256x256.size a)
    (idx : S256x256.Idx → Elt F .i32) (grid : S8192x128.Idx → Elt F .f32) (ctab : S1256x64.Idx → Elt F .f32) (hg : ∀ y, Good (idx y))
    (wf : ℕ → BitVec 32) (hwf : wf = fun n => wordAt idx (8 * (i 0).val + b.toNat) (8 * iv.toNat + n))
    (K : FVec F S8x64 .f32 → FVec F S8x128 .f32 → Prog (TpuEff nD τ sig (Elt F) Λ₀ .tc) Unit) (Q : Unit → sProp 𝕄) :
    iprop(own c A.idx idx ∗ own c A.grid grid ∗ own c A.ctab ctab) ⊢
      iprop((own c A.idx idx ∗ own c A.grid grid ∗ own c A.ctab ctab -∗ WP c (K (accT ctab wf (u.toNat + 1)) (accE grid wf (u.toNat + 1))) Q) -∗
        WP c (stepA i A.idx A.grid A.ctab b u iv hw (accT ctab wf u.toNat) (accE grid wf u.toNat) K) Q) := by
  unfold stepA
  iintro ⟨Hi, Hg, Ht⟩ Hk
  iapply (own_smem_bind c A.idx _ _ _ _ Q _) $$ Hi
  iintro Hi
  rw [word_read idx i b u iv hb hu hiv hw]
  have hgw : Good (wordAt idx (8 * (i 0).val + b.toNat) (8 * iv.toNat + u.toNat)) := hg _
  iapply (assume_bind c _ _ Q (chk1_of _ hgw))
  iapply (own_load_bind c A.ctab _ _ _ Q _) $$ Ht
  iintro Ht
  iapply (own_load_bind c A.grid _ _ _ Q _) $$ Hg
  iintro Hg
  have e1 := rowT_acc ctab wf u hu _ (by rw [hwf]) hgw (k0_off2_inb _ (chk1_of _ hgw))
  have e2 := rowE_acc grid wf u hu _ (by rw [hwf]) hgw (k0_off3_inb _ (chk1_of _ hgw))
  iapply (BIBase.Entails.of_eq (congrArg₂ (fun y z => WP c (K y z) Q) e1.symm e2.symm))
  iapply Hk
  isplitl [Hi]; · iexact Hi
  isplitl [Hg]; · iexact Hg
  iexact Ht

theorem stepB_wp (c : Dev nD) (A : EncArgs) (i : grid0.Coords) (b u iv : BitVec 32) (hb : b.toNat < 8) (hu : u.toNat < 8) (hiv : iv.toNat < 32)
    (hw : ∀ a, wofs i b u iv a + S1x1.size a ≤ S256x256.size a)
    (idx : S256x256.Idx → Elt F .i32) (ctab : S1256x64.Idx → Elt F .f32) (hg : ∀ y, Good (idx y))
    (wf : ℕ → BitVec 32) (hwf : wf = fun n => wordAt idx (8 * (i 0).val + b.toNat) (8 * iv.toNat + n))
    (K : FVec F S8x64 .f32 → Prog (TpuEff nD τ sig (Elt F) Λ₀ .tc) Unit) (Q : Unit → sProp 𝕄) :
    iprop(own c A.idx idx ∗ own c A.ctab ctab) ⊢
      iprop((own c A.idx idx ∗ own c A.ctab ctab -∗ WP c (K (accT ctab wf (u.toNat + 1))) Q) -∗
        WP c (stepB i A.idx A.ctab b u iv hw (accT ctab wf u.toNat) K) Q) := by
  unfold stepB
  iintro ⟨Hi, Ht⟩ Hk
  iapply (own_smem_bind c A.idx _ _ _ _ Q _) $$ Hi
  iintro Hi
  rw [word_read idx i b u iv hb hu hiv hw]
  have hgw : Good (wordAt idx (8 * (i 0).val + b.toNat) (8 * iv.toNat + u.toNat)) := hg _
  iapply (assume_bind c _ _ Q (chk9_of _ hgw))
  iapply (own_load_bind c A.ctab _ _ _ Q _) $$ Ht
  iintro Ht
  have e := rowT_acc ctab wf u hu _ (by rw [hwf]) hgw (k0_off28_inb _ (chk9_of _ hgw))
  iapply (BIBase.Entails.of_eq (congrArg (fun z => WP c (K z) Q) e.symm))
  iapply Hk
  isplitl [Hi]; · iexact Hi
  iexact Ht

/-- The end of a trip. -/
theorem storeTrip_wp (c : Dev nD) (A : EncArgs) (base iv : BitVec 32)
    (hE : ∀ a, sofs base iv a + S8x128.size a ≤ S2048x128.size a) (hT : ∀ a, sofs base iv a + S8x64.size a ≤ S2048x64.size a)
    (aT : FVec F S8x64 .f32) (aE : FVec F S8x128 .f32) (xg : S2048x128.Idx → Elt F .f32) (tsg : S2048x64.Idx → Elt F .f32) (Q : Unit → sProp 𝕄) :
    iprop(own c A.xg xg ∗ own c A.tsg tsg) ⊢
      iprop((own c A.xg (upd xg (Rect.unit (s := S2048x128) (sofs base iv) S8x128.size hE) aE) ∗
          own c A.tsg (upd tsg (Rect.unit (s := S2048x64) (sofs base iv) S8x64.size hT) aT) -∗ Q ⟨⟩) -∗
        WP c (storeTrip A.xg A.tsg base iv hE hT aT aE) Q) := by
  unfold storeTrip
  rw [shapeCast_self, shapeCast_self]
  iintro ⟨Hx, Ht⟩ Hk
  iapply (own_load_bind c A.tsg _ _ _ Q _) $$ Ht
  iintro Ht
  iapply (own_store_bind c A.tsg _ _ _ _ _ Q _) $$ Ht
  iintro Ht
  iapply (own_load_bind c A.xg _ _ _ Q _) $$ Hx
  iintro Hx
  iapply (own_store_bind c A.xg _ _ _ _ _ Q _) $$ Hx
  iintro Hx
  unfold WP
  rw [show (pure PUnit.unit : Prog (TpuEff nD τ sig (Elt F) Λ₀ .tc) Unit) = .ret ⟨⟩ from rfl, wp_ret]
  imodintro
  iapply Hk
  isplitl [Hx]; · iexact Hx
  iexact Ht

/-- What the gathers keep: the three sources, and the scratch rows below `n` gathered. -/
def gst (c : Dev nD) (A : EncArgs) (idx : S256x256.Idx → Elt F .i32) (grid : S8192x128.Idx → Elt F .f32) (ctab : S1256x64.Idx → Elt F .f32)
    (m n : ℕ) : sProp 𝕄 :=
  iprop((own c A.idx idx ∗ own c A.grid grid ∗ own c A.ctab ctab) ∗
    (∃ xg : S2048x128.Idx → Elt F .f32, ⌜∀ y, (y 0).val < n → xg y = gatE idx grid m y⌝ ∗ own c A.xg xg) ∗
    (∃ tsg : S2048x64.Idx → Elt F .f32, ⌜∀ y, (y 0).val < n → tsg y = gatT idx ctab m y⌝ ∗ own c A.tsg tsg))

theorem sofs_row (base iv : BitVec 32) (hbase : base.toNat + 256 ≤ 2048) (hiv : iv.toNat < 32) : sofs base iv = ![base.toNat + 8 * iv.toNat, 0] := by
  have h : (base + iv * 8#32).toNat = base.toNat + 8 * iv.toNat := by
    simp only [BitVec.toNat_add, BitVec.toNat_mul, BitVec.toNat_ofNat]; omega
  funext a; fin_cases a
  · exact h
  · rfl

/-- Eight rows stored below which all rows are settled settle eight more. -/
theorem upd_rows {C : ℕ} (x : (⟨2, ![2048, C]⟩ : Shape).Idx → Elt F .f32) (base iv : BitVec 32) (hbase : base.toNat + 256 ≤ 2048) (hiv : iv.toNat < 32)
    (h : ∀ a, sofs base iv a + (⟨2, ![8, C]⟩ : Shape).size a ≤ (⟨2, ![2048, C]⟩ : Shape).size a) (w : (⟨2, ![8, C]⟩ : Shape).Idx → Elt F .f32)
    (G : (⟨2, ![2048, C]⟩ : Shape).Idx → Elt F .f32) (n : ℕ) (hn : n = base.toNat + 8 * iv.toNat)
    (hx : ∀ y, (y 0).val < n → x y = G y)
    (hw : ∀ (a : Fin 8) (d : Fin C), w (ix2 a d) = G (ix2 ⟨n + a.val, by omega⟩ d)) :
    ∀ y, (y 0).val < n + 8 → upd x (Rect.unit (s := ⟨2, ![2048, C]⟩) (sofs base iv) (⟨2, ![8, C]⟩ : Shape).size h) w y = G y := by
  have e := sofs_row base iv hbase hiv
  intro y hy
  obtain ⟨p, q, rfl⟩ : ∃ p q, y = ix2 p q := ⟨_, _, eq_ix2 y⟩
  have hy' : p.val < n + 8 := hy
  by_cases h1 : p.val < n
  · rw [upd_off _ _ _ _ fun j hj => ?_]
    · exact hx _ h1
    · have := congrArg Fin.val (congrFun hj 0)
      have h2 : sofs base iv 0 + 1 * (j 0).val = p.val := this
      have h3 : sofs base iv 0 = base.toNat + 8 * iv.toNat := congrFun e 0
      rw [h3] at h2
      omega
  · have hj : (Rect.unit (s := ⟨2, ![2048, C]⟩) (sofs base iv) (⟨2, ![8, C]⟩ : Shape).size h).emb (ix2 ⟨p.val - n, by omega⟩ q) = ix2 p q := by
      funext d; apply Fin.ext; fin_cases d
      · show sofs base iv 0 + 1 * (p.val - n) = p.val
        rw [e]; show base.toNat + 8 * iv.toNat + 1 * (p.val - n) = p.val; omega
      · show sofs base iv 1 + 1 * q.val = q.val
        rw [e]; show 0 + 1 * q.val = q.val; omega
    rw [← hj, upd_emb, hw, hj]
    congr 2; apply Fin.ext; show n + (p.val - n) = p.val; omega

/-- The end of a trip, on the gathers' state. -/
theorem storeTrip_gst (c : Dev nD) (A : EncArgs) (i : grid0.Coords) (b : Fin 8) (iv : BitVec 32) (hiv : iv.toNat < 32)
    (idx : S256x256.Idx → Elt F .i32) (grid : S8192x128.Idx → Elt F .f32) (ctab : S1256x64.Idx → Elt F .f32)
    (hE hT) (wf : ℕ → BitVec 32) (hwf : wf = fun n => wordAt idx (8 * (i 0).val + (BitVec.ofNat 32 b.val).toNat) (8 * iv.toNat + n))
    (aE : FVec F S8x128 .f32) (haE : ∀ a d, aE (ix2 a d) = gatE idx grid (i 0).val (ix2 ⟨256 * b.val + 8 * iv.toNat + a.val, by omega⟩ d)) :
    gst c A idx grid ctab (i 0).val (256 * b.val + 8 * iv.toNat) ⊢
      WP c (storeTrip A.xg A.tsg (BitVec.ofNat 32 (256 * b.val)) iv hE hT (accT ctab wf 8) aE) (fun _ => gst c A idx grid ctab (i 0).val (256 * b.val + 8 * iv.toNat + 8)) := by
  have hbn : (BitVec.ofNat 32 (256 * b.val)).toNat = 256 * b.val := by rw [BitVec.toNat_ofNat]; omega
  have hb8 : (BitVec.ofNat 32 b.val).toNat = b.val := by rw [BitVec.toNat_ofNat]; omega
  unfold gst
  iintro ⟨Hs, ⟨%xg, %hxg, Hx⟩, ⟨%tsg, %htsg, Ht⟩⟩
  iapply (storeTrip_wp c A _ _ hE hT _ _ xg tsg _) $$ [Hx Ht]
  · isplitl [Hx]; · iexact Hx
    iexact Ht
  iintro ⟨Hx, Ht⟩
  isplitl [Hs]; · iexact Hs
  isplitl [Hx]
  · iexists _; isplitr; swap; · iexact Hx
    ipureintro
    exact upd_rows xg _ iv (base_le b) hiv hE aE _ _ (by rw [hbn]) hxg haE
  · iexists _; isplitr; swap; · iexact Ht
    ipureintro
    refine upd_rows tsg _ iv (base_le b) hiv hT _ _ _ (by rw [hbn]) htsg fun a d => ?_
    have ha := a.isLt
    show (if a.val < 8 then ctab (ix2 (trow (wf a.val)) d) else _) = ctab (ix2 (trow (wordAt idx (8 * (i 0).val + (256 * b.val + 8 * iv.toNat + a.val) / 256) ((256 * b.val + 8 * iv.toNat + a.val) % 256))) d)
    rw [if_pos ha, hwf]
    have e1 : (256 * b.val + 8 * iv.toNat + a.val) / 256 = b.val := by omega
    have e2 : (256 * b.val + 8 * iv.toNat + a.val) % 256 = 8 * iv.toNat + a.val := by omega
    rw [e1, e2, hb8]

set_option maxHeartbeats 1000000 in
theorem tripA_wp (c : Dev nD) (A : EncArgs) (i : grid0.Coords) (b : Fin 8) (iv : BitVec 32) (hiv : iv.toNat < 32) (h24 : iv.toNat < 24)
    (idx : S256x256.Idx → Elt F .i32) (grid : S8192x128.Idx → Elt F .f32) (ctab : S1256x64.Idx → Elt F .f32) (hg : ∀ y, Good (idx y)) :
    gst c A idx grid ctab (i 0).val (256 * b.val + 8 * iv.toNat) ⊢
      WP c (tripA i A.idx A.grid A.ctab A.xg A.tsg (BitVec.ofNat 32 b.val) (BitVec.ofNat 32 (256 * b.val)) (row_lt b) (base_le b) iv hiv)
        (fun _ => gst c A idx grid ctab (i 0).val (256 * b.val + 8 * iv.toNat + 8)) := by
  have hb8 : (BitVec.ofNat 32 b.val).toNat = b.val := by rw [BitVec.toNat_ofNat]; omega
  obtain ⟨wf, hwf⟩ : ∃ wf : ℕ → BitVec 32, wf = fun n => wordAt idx (8 * (i 0).val + (BitVec.ofNat 32 b.val).toNat) (8 * iv.toNat + n) := ⟨_, rfl⟩
  have step := fun (u : BitVec 32) (hu : u.toNat < 8) K Q => stepA_wp c A i (BitVec.ofNat 32 b.val) u iv (row_lt b) hu hiv (wofs_inb i _ u iv (row_lt b) hu hiv) idx grid ctab hg wf hwf K Q
  unfold tripA
  rw [← accT_zero ctab wf, ← accE_zero grid wf]
  unfold gst
  iintro ⟨Hs, Hr⟩
  iapply (step 0#32 (by decide) _ _) $$ Hs; iintro Hs
  iapply (step 1#32 (by decide) _ _) $$ Hs; iintro Hs
  iapply (step 2#32 (by decide) _ _) $$ Hs; iintro Hs
  iapply (step 3#32 (by decide) _ _) $$ Hs; iintro Hs
  iapply (step 4#32 (by decide) _ _) $$ Hs; iintro Hs
  iapply (step 5#32 (by decide) _ _) $$ Hs; iintro Hs
  iapply (step 6#32 (by decide) _ _) $$ Hs; iintro Hs
  iapply (step 7#32 (by decide) _ _) $$ Hs; iintro Hs
  have fin := storeTrip_gst c A i b iv hiv idx grid ctab (sofs_inb 128 _ iv (base_le b) hiv) (sofs_inb 64 _ iv (base_le b) hiv) wf hwf (accE grid wf 8) (fun a d => by
    have ha := a.isLt
    show (if a.val < 8 then grid (ix2 (erow (wf a.val)) d) else _) = (if (256 * b.val + 8 * iv.toNat + a.val) % 256 < 192 then grid (ix2 (erow (wordAt idx (8 * (i 0).val + (256 * b.val + 8 * iv.toNat + a.val) / 256) ((256 * b.val + 8 * iv.toNat + a.val) % 256))) d) else _)
    have e1 : (256 * b.val + 8 * iv.toNat + a.val) / 256 = b.val := by omega
    have e2 : (256 * b.val + 8 * iv.toNat + a.val) % 256 = 8 * iv.toNat + a.val := by omega
    rw [if_pos ha, hwf, e1, e2, hb8, if_pos (by omega)])
  unfold gst at fin
  iapply fin
  isplitl [Hs]; · iexact Hs
  iexact Hr

set_option maxHeartbeats 1000000 in
theorem tripB_wp (c : Dev nD) (A : EncArgs) (i : grid0.Coords) (b : Fin 8) (iv : BitVec 32) (hiv : iv.toNat < 32) (h24 : 24 ≤ iv.toNat)
    (idx : S256x256.Idx → Elt F .i32) (grid : S8192x128.Idx → Elt F .f32) (ctab : S1256x64.Idx → Elt F .f32) (hg : ∀ y, Good (idx y)) :
    gst c A idx grid ctab (i 0).val (256 * b.val + 8 * iv.toNat) ⊢
      WP c (tripB i A.idx A.ctab A.xg A.tsg (BitVec.ofNat 32 b.val) (BitVec.ofNat 32 (256 * b.val)) (row_lt b) (base_le b) iv hiv)
        (fun _ => gst c A idx grid ctab (i 0).val (256 * b.val + 8 * iv.toNat + 8)) := by
  obtain ⟨wf, hwf⟩ : ∃ wf : ℕ → BitVec 32, wf = fun n => wordAt idx (8 * (i 0).val + (BitVec.ofNat 32 b.val).toNat) (8 * iv.toNat + n) := ⟨_, rfl⟩
  have step := fun (u : BitVec 32) (hu : u.toNat < 8) K Q => stepB_wp c A i (BitVec.ofNat 32 b.val) u iv (row_lt b) hu hiv (wofs_inb i _ u iv (row_lt b) hu hiv) idx ctab hg wf hwf K Q
  have fin := storeTrip_gst c A i b iv hiv idx grid ctab (sofs_inb 128 _ iv (base_le b) hiv) (sofs_inb 64 _ iv (base_le b) hiv) wf hwf zeroE (fun a d => by
    have ha := a.isLt
    show _ = (if (256 * b.val + 8 * iv.toNat + a.val) % 256 < 192 then _ else _)
    rw [if_neg (by omega)]; rfl)
  unfold tripB
  rw [← accT_zero ctab wf]
  unfold gst at fin ⊢
  iintro ⟨⟨Hi, Hg, Ht⟩, Hr⟩
  ihave Hs : iprop(own c A.idx idx ∗ own c A.ctab ctab) $$ [Hi Ht]
  · isplitl [Hi]; · iexact Hi
    iexact Ht
  iapply (step 0#32 (by decide) _ _) $$ Hs; iintro Hs
  iapply (step 1#32 (by decide) _ _) $$ Hs; iintro Hs
  iapply (step 2#32 (by decide) _ _) $$ Hs; iintro Hs
  iapply (step 3#32 (by decide) _ _) $$ Hs; iintro Hs
  iapply (step 4#32 (by decide) _ _) $$ Hs; iintro Hs
  iapply (step 5#32 (by decide) _ _) $$ Hs; iintro Hs
  iapply (step 6#32 (by decide) _ _) $$ Hs; iintro Hs
  iapply (step 7#32 (by decide) _ _) $$ Hs; iintro ⟨Hi, Ht⟩
  iapply fin
  isplitl [Hi Hg Ht]
  · isplitl [Hi]; · iexact Hi
    isplitl [Hg]; · iexact Hg
    iexact Ht
  iexact Hr

theorem ivA_eq (k : Fin 24) : (Scf.iv 0#32 1#32 k.val).toNat = k.val := by
  have hk : k.val < 24 := k.isLt
  show (0#32 + BitVec.ofNat 32 k.val * 1#32).toNat = _
  simp only [BitVec.toNat_add, BitVec.toNat_mul, BitVec.toNat_ofNat]
  omega
theorem ivB_eq (k : Fin 8) : (Scf.iv 24#32 1#32 k.val).toNat = 24 + k.val := by
  have hk : k.val < 8 := k.isLt
  show (24#32 + BitVec.ofNat 32 k.val * 1#32).toNat = _
  simp only [BitVec.toNat_add, BitVec.toNat_mul, BitVec.toNat_ofNat]
  omega

theorem loopA_wp (c : Dev nD) (A : EncArgs) (i : grid0.Coords) (b : Fin 8)
    (idx : S256x256.Idx → Elt F .i32) (grid : S8192x128.Idx → Elt F .f32) (ctab : S1256x64.Idx → Elt F .f32) (hg : ∀ y, Good (idx y))
    (K : Prog (TpuEff nD τ sig (Elt F) Λ₀ .tc) Unit) (Q : Unit → sProp 𝕄) :
    gst c A idx grid ctab (i 0).val (256 * b.val) ⊢
      iprop((gst c A idx grid ctab (i 0).val (256 * b.val + 192) -∗ WP c K Q) -∗ WP c (loopA A i b >>= fun _ => K) Q) := by
  unfold loopA
  refine (Scf.wp_for_bind frame (wpE (defs₀ (F := F)) Variants.none (c : Thread nD τ) none) Set.univ 0#32 24#32 1#32 k0_t1_ok ()
    (fun (k : Fin _) (_ : Unit) => tripA i A.idx A.grid A.ctab A.xg A.tsg (BitVec.ofNat 32 b.val) (BitVec.ofNat 32 (256 * b.val)) (row_lt b) (base_le b) (Scf.iv 0#32 1#32 k.val) (ivA_lt k))
    (fun n (_ : Unit) => gst c A idx grid ctab (i 0).val (256 * b.val + 8 * n)) (fun k acc => ?_) (β := Unit) (kk := fun _ => K) (Q := Q)).trans ?_
  · have h := tripA_wp c A i b (Scf.iv 0#32 1#32 k.val) (ivA_lt k) (by rw [ivA_eq k]; exact k.isLt) idx grid ctab hg
    rw [ivA_eq k] at h
    exact h
  · iintro H Hk
    iapply H
    iintro %acc H
    iapply Hk
    iexact H

theorem loopB_wp (c : Dev nD) (A : EncArgs) (i : grid0.Coords) (b : Fin 8)
    (idx : S256x256.Idx → Elt F .i32) (grid : S8192x128.Idx → Elt F .f32) (ctab : S1256x64.Idx → Elt F .f32) (hg : ∀ y, Good (idx y))
    (K : Prog (TpuEff nD τ sig (Elt F) Λ₀ .tc) Unit) (Q : Unit → sProp 𝕄) :
    gst c A idx grid ctab (i 0).val (256 * b.val + 192) ⊢
      iprop((gst c A idx grid ctab (i 0).val (256 * b.val + 256) -∗ WP c K Q) -∗ WP c (loopB A i b >>= fun _ => K) Q) := by
  unfold loopB
  refine (Scf.wp_for_bind frame (wpE (defs₀ (F := F)) Variants.none (c : Thread nD τ) none) Set.univ 24#32 32#32 1#32 k0_t2_ok ()
    (fun (k : Fin _) (_ : Unit) => tripB i A.idx A.ctab A.xg A.tsg (BitVec.ofNat 32 b.val) (BitVec.ofNat 32 (256 * b.val)) (row_lt b) (base_le b) (Scf.iv 24#32 1#32 k.val) (ivB_lt k))
    (fun n (_ : Unit) => gst c A idx grid ctab (i 0).val (256 * b.val + 192 + 8 * n)) (fun k acc => ?_) (β := Unit) (kk := fun _ => K) (Q := Q)).trans ?_
  · have h := tripB_wp c A i b (Scf.iv 24#32 1#32 k.val) (ivB_lt k) (by rw [ivB_eq k]; omega) idx grid ctab hg
    rw [ivB_eq k, show 256 * b.val + 8 * (24 + k.val) = 256 * b.val + 192 + 8 * k.val by omega] at h
    exact h
  · iintro H Hk
    iapply H
    iintro %acc H
    iapply Hk
    iexact H

theorem gatherB_wp (c : Dev nD) (A : EncArgs) (i : grid0.Coords) (b : Fin 8)
    (idx : S256x256.Idx → Elt F .i32) (grid : S8192x128.Idx → Elt F .f32) (ctab : S1256x64.Idx → Elt F .f32) (hg : ∀ y, Good (idx y))
    (K : Prog (TpuEff nD τ sig (Elt F) Λ₀ .tc) Unit) (Q : Unit → sProp 𝕄) :
    gst c A idx grid ctab (i 0).val (256 * b.val) ⊢
      iprop((gst c A idx grid ctab (i 0).val (256 * b.val + 256) -∗ WP c K Q) -∗ WP c (gatherB A i b K) Q) := by
  unfold gatherB
  iintro H Hk
  iapply (loopA_wp c A i b idx grid ctab hg _ Q) $$ H
  iintro H
  iapply (loopB_wp c A i b idx grid ctab hg _ Q) $$ H
  iexact Hk

/-- All gathers: the two scratch buffers hold the rows the packed words name. -/
theorem gathers_wp (c : Dev nD) (A : EncArgs) (i : grid0.Coords)
    (idx : S256x256.Idx → Elt F .i32) (grid : S8192x128.Idx → Elt F .f32) (ctab : S1256x64.Idx → Elt F .f32) (hg : ∀ y, Good (idx y))
    (K : Prog (TpuEff nD τ sig (Elt F) Λ₀ .tc) Unit) (Q : Unit → sProp 𝕄) :
    gst c A idx grid ctab (i 0).val 0 ⊢
      iprop((gst c A idx grid ctab (i 0).val 2048 -∗ WP c K Q) -∗ WP c (each8 (gatherB A i) K) Q) := by
  have g := fun b K => gatherB_wp c A i b idx grid ctab hg K Q
  unfold each8
  iintro H Hk
  iapply (g 0 _) $$ H; iintro H
  iapply (g 1 _) $$ H; iintro H
  iapply (g 2 _) $$ H; iintro H
  iapply (g 3 _) $$ H; iintro H
  iapply (g 4 _) $$ H; iintro H
  iapply (g 5 _) $$ H; iintro H
  iapply (g 6 _) $$ H; iintro H
  iapply (g 7 _) $$ H; iintro H
  iapply Hk; iexact H

end Cert.Proof.KernelIdeal
-- ==== Proof.IdealGlobWp.lean ====
/- What the context kernel leaves in its output block. -/
module

public import proofs.«01_k».proof.Proof.IdealGlob
public import proofs.«01_k».proof.Proof.IdealGatherWp

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix2)

variable {F : FTy → Type} [FloatOps F] [Named F]

local notation "𝕄" => MT nD τ sig Unit (Elt F) ℕ UU ℕ

/-- An index of a table row that exists. -/
def GoodG (w : BitVec 32) : Prop := w.toNat < 20000

/-- The table row an index names. -/
def qrow (w : BitVec 32) : Fin 20480 := ⟨w.toNat % 20480, Nat.mod_lt _ (by decide)⟩
/-- The index of batch row `n`. -/
def wordG (idx : S256.Idx → BitVec 32) (n : ℕ) : BitVec 32 := idx (ix1 ⟨n % 256, Nat.mod_lt _ (by decide)⟩)

theorem goff_eq (w : BitVec 32) (hw : GoodG w) : k1_off2 w = ![w.toNat / 8 * 8, 0] := by
  have hw' : w.toNat < 20000 := hw
  have h : (Scalar.shli (Scalar.shrsi w 3#32) 3#32).toNat = w.toNat / 8 * 8 := by
    rw [shl_toNat, shr_toNat]
    · show 8 * (w.toNat / 8) = _; omega
    · omega
    · decide
    · rw [shr_toNat]
      · show w.toNat / 8 < _; omega
      · omega
      · decide
  funext a; fin_cases a
  · exact h
  · rfl

theorem chkG_of (w : BitVec 32) (h : GoodG w) : k1_chk1 w := by
  have h1 : w.toNat < 20000 := h
  refine ⟨?_, ?_⟩
  · show 8 ∣ (k1_off2 w 0)
    rw [goff_eq w h]; exact Dvd.intro_left _ rfl
  · rw [goff_eq w h]; intro a; fin_cases a
    · show w.toNat / 8 * 8 + 8 ≤ 20480; omega
    · show 0 + 128 ≤ 128; omega

/-- The first `n` rows of a block gathered, the others zero. -/
def accG (traj : S20480x128.Idx → F .f32) (wf : ℕ → BitVec 32) (n : ℕ) : FVec F S8x128 .f32 :=
  fun y => if (y 0).val < n then traj (ix2 (qrow (wf (y 0).val)) (y 1)) else Scalar.ofBits .f32 0x00000000#32

theorem accG_zero (traj : S20480x128.Idx → F .f32) (wf : ℕ → BitVec 32) : accG traj wf 0 = zeroE := rfl

theorem rowG_acc (traj : S20480x128.Idx → F .f32) (wf : ℕ → BitVec 32) (u : BitVec 32) (hu : u.toNat < 8)
    (w : BitVec 32) (hw : w = wf u.toNat) (hg : GoodG w)
    (hr : ∀ a, k1_off2 w a + S8x128.size a ≤ S20480x128.size a) :
    rowG u (accG traj wf u.toNat) w (fun j => traj ((Rect.unit (s := S20480x128) (k1_off2 w) S8x128.size hr).emb j)) = accG traj wf (u.toNat + 1) := by
  funext y
  obtain ⟨a, b, rfl⟩ : ∃ a b, y = ix2 a b := ⟨_, _, eq_ix2 y⟩
  unfold rowG
  refine (sel_row _ io0_at u hu _ _ a b).trans ?_
  refine acc_step u.toNat a.val _ _ _ fun ha => ?_
  refine (rot_row _ _ u hu _ a b ha).trans ?_
  rw [shapeCast_self]
  refine congrArg traj (funext fun d => Fin.ext ?_)
  have h2 : w.toNat < 20000 := hg
  have e := goff_eq w hg
  have hw' : wf a.val = w := by rw [ha, hw]
  fin_cases d
  · show k1_off2 w 0 + 1 * (w.toNat % 8) = (wf a.val).toNat % 20480
    rw [e, hw']
    show w.toNat / 8 * 8 + 1 * (w.toNat % 8) = _
    omega
  · show k1_off2 w 1 + 1 * b.val = b.val
    rw [e]; show 0 + 1 * b.val = _; omega

theorem wordG_read (idx : S256.Idx → BitVec 32) (i : grid1.Coords) (u iv : BitVec 32) (hu : u.toNat < 8) (hiv : iv.toNat < 16)
    (hw : ∀ a, gofs i u iv a + S1.size a ≤ S256.size a) (j : (Rect.unit (s := S256) (gofs i u iv) S1.size hw).shape.Idx) :
    idx ((Rect.unit (s := S256) (gofs i u iv) S1.size hw).emb j) = wordG idx (128 * (i 0).val + 8 * iv.toNat + u.toNat) := by
  have hi : (i 0).val < 2 := (i 0).isLt
  refine congrArg idx (funext fun d => Fin.ext ?_)
  fin_cases d
  have hj : (j 0).val < 1 := (j 0).isLt
  have e := gofs_val i u iv hu hiv
  show gofs i u iv 0 + 1 * (j 0).val = (128 * (i 0).val + 8 * iv.toNat + u.toNat) % 256
  rw [e]; omega

/-- The gathered rows of block `n`. -/
def gatG (idx : S256.Idx → BitVec 32) (traj : S20480x128.Idx → F .f32) (n : ℕ) : S128x128.Idx → F .f32 :=
  fun y => traj (ix2 (qrow (wordG idx (128 * n + (y 0).val))) (y 1))

theorem stepG_wp (c : Dev nD) (A : GlobArgs) (i : grid1.Coords) (u iv : BitVec 32) (hu : u.toNat < 8) (hiv : iv.toNat < 16)
    (hw : ∀ a, gofs i u iv a + S1.size a ≤ S256.size a)
    (idx : S256.Idx → Elt F .i32) (traj : S20480x128.Idx → Elt F .f32) (hg : ∀ y, GoodG (idx y))
    (wf : ℕ → BitVec 32) (hwf : wf = fun n => wordG idx (128 * (i 0).val + 8 * iv.toNat + n)) (K : FVec F S8x128 .f32 → GP F) (Q : Unit → sProp 𝕄) :
    iprop(own c A.idx idx ∗ own c A.traj traj) ⊢
      iprop((own c A.idx idx ∗ own c A.traj traj -∗ WP c (K (accG traj wf (u.toNat + 1))) Q) -∗
        WP c (stepG A i u iv hw (accG traj wf u.toNat) K) Q) := by
  unfold stepG
  iintro ⟨Hi, Hg⟩ Hk
  iapply (own_smem_bind c A.idx _ _ _ _ Q _) $$ Hi
  iintro Hi
  rw [wordG_read idx i u iv hu hiv hw]
  have hgw : GoodG (wordG idx (128 * (i 0).val + 8 * iv.toNat + u.toNat)) := hg _
  iapply (assume_bind c _ _ Q (chkG_of _ hgw))
  iapply (own_load_bind c A.traj _ _ _ Q _) $$ Hg
  iintro Hg
  have e1 := rowG_acc traj wf u hu _ (by rw [hwf]) hgw (k1_off2_inb _ (chkG_of _ hgw))
  iapply (BIBase.Entails.of_eq (congrArg (fun y => WP c (K y) Q) e1.symm))
  iapply Hk
  isplitl [Hi]; · iexact Hi
  iexact Hg

/-- What the gather keeps: its two sources, and the scratch rows below `n` gathered. -/
def hst (c : Dev nD) (A : GlobArgs) (idx : S256.Idx → Elt F .i32) (traj : S20480x128.Idx → Elt F .f32) (m n : ℕ) : sProp 𝕄 :=
  iprop((own c A.idx idx ∗ own c A.traj traj) ∗
    (∃ qg : S128x128.Idx → Elt F .f32, ⌜∀ y, (y 0).val < n → qg y = gatG idx traj m y⌝ ∗ own c A.qg qg))

theorem upd_rowsG (x : S128x128.Idx → Elt F .f32) (iv : BitVec 32) (hiv : iv.toNat < 16)
    (h : ∀ a, hofs iv a + S8x128.size a ≤ S128x128.size a) (w : S8x128.Idx → Elt F .f32)
    (G : S128x128.Idx → Elt F .f32) (n : ℕ) (hn : n = 8 * iv.toNat)
    (hx : ∀ y, (y 0).val < n → x y = G y)
    (hw : ∀ (a : Fin 8) (d : Fin 128), w (ix2 a d) = G (ix2 ⟨n + a.val, by omega⟩ d)) :
    ∀ y, (y 0).val < n + 8 → upd x (Rect.unit (s := S128x128) (hofs iv) S8x128.size h) w y = G y := by
  have e0 := hofs_val iv hiv
  have e1 : hofs iv 1 = 0 := rfl
  intro y hy
  obtain ⟨p, q, rfl⟩ : ∃ p q, y = ix2 p q := ⟨_, _, eq_ix2 y⟩
  have hy' : p.val < n + 8 := hy
  by_cases h1 : p.val < n
  · rw [upd_off _ _ _ _ fun j hj => ?_]
    · exact hx _ h1
    · have := congrArg Fin.val (congrFun hj 0)
      have h2 : hofs iv 0 + 1 * (j 0).val = p.val := this
      rw [e0] at h2
      omega
  · have hj : (Rect.unit (s := S128x128) (hofs iv) S8x128.size h).emb (ix2 ⟨p.val - n, by omega⟩ q) = ix2 p q := by
      funext d; apply Fin.ext; fin_cases d
      · show hofs iv 0 + 1 * (p.val - n) = p.val
        rw [e0]; omega
      · show hofs iv 1 + 1 * q.val = q.val
        rw [e1]; omega
    rw [← hj, upd_emb, hw, hj]
    congr 2; apply Fin.ext; show n + (p.val - n) = p.val; omega

theorem storeG_hst (c : Dev nD) (A : GlobArgs) (i : grid1.Coords) (iv : BitVec 32) (hiv : iv.toNat < 16)
    (idx : S256.Idx → Elt F .i32) (traj : S20480x128.Idx → Elt F .f32)
    (h) (wf : ℕ → BitVec 32) (hwf : wf = fun n => wordG idx (128 * (i 0).val + 8 * iv.toNat + n)) :
    hst c A idx traj (i 0).val (8 * iv.toNat) ⊢
      WP c (storeG A iv h (accG traj wf 8)) (fun _ => hst c A idx traj (i 0).val (8 * iv.toNat + 8)) := by
  unfold hst storeG
  rw [shapeCast_self]
  iintro ⟨Hs, ⟨%qg, %hqg, Hq⟩⟩
  iapply (own_load_bind c A.qg _ _ _ _ _) $$ Hq
  iintro Hq
  iapply (own_store_bind c A.qg _ _ _ _ _ _ _) $$ Hq
  iintro Hq
  unfold WP
  rw [show (pure PUnit.unit : GP F) = .ret ⟨⟩ from rfl, wp_ret]
  imodintro
  isplitl [Hs]; · iexact Hs
  iexists _; isplitr; swap; · iexact Hq
  ipureintro
  refine upd_rowsG qg iv hiv h _ _ _ rfl hqg fun a d => ?_
  have ha := a.isLt
  show (if a.val < 8 then traj (ix2 (qrow (wf a.val)) d) else _) = traj (ix2 (qrow (wordG idx (128 * (i 0).val + (8 * iv.toNat + a.val)))) d)
  rw [if_pos ha, hwf]
  dsimp only
  rw [Nat.add_assoc]

theorem tripG_wp (c : Dev nD) (A : GlobArgs) (i : grid1.Coords) (iv : BitVec 32) (hiv : iv.toNat < 16)
    (idx : S256.Idx → Elt F .i32) (traj : S20480x128.Idx → Elt F .f32) (hg : ∀ y, GoodG (idx y)) :
    hst c A idx traj (i 0).val (8 * iv.toNat) ⊢
      WP c (tripG A i iv hiv) (fun _ => hst c A idx traj (i 0).val (8 * iv.toNat + 8)) := by
  obtain ⟨wf, hwf⟩ : ∃ wf : ℕ → BitVec 32, wf = fun n => wordG idx (128 * (i 0).val + 8 * iv.toNat + n) := ⟨_, rfl⟩
  have step := fun (u : BitVec 32) (hu : u.toNat < 8) K Q => stepG_wp c A i u iv hu hiv (gofs_inb i u iv hu hiv) idx traj hg wf hwf K Q
  have fin := storeG_hst c A i iv hiv idx traj (hofs_inb iv hiv) wf hwf
  unfold tripG
  rw [← accG_zero traj wf]
  unfold hst at fin ⊢
  iintro ⟨Hs, Hr⟩
  iapply (step 0#32 (by decide) _ _) $$ Hs; iintro Hs
  iapply (step 1#32 (by decide) _ _) $$ Hs; iintro Hs
  iapply (step 2#32 (by decide) _ _) $$ Hs; iintro Hs
  iapply (step 3#32 (by decide) _ _) $$ Hs; iintro Hs
  iapply (step 4#32 (by decide) _ _) $$ Hs; iintro Hs
  iapply (step 5#32 (by decide) _ _) $$ Hs; iintro Hs
  iapply (step 6#32 (by decide) _ _) $$ Hs; iintro Hs
  iapply (step 7#32 (by decide) _ _) $$ Hs; iintro Hs
  iapply fin
  isplitl [Hs]; · iexact Hs
  iexact Hr

theorem loopG_wp (c : Dev nD) (A : GlobArgs) (i : grid1.Coords)
    (idx : S256.Idx → Elt F .i32) (traj : S20480x128.Idx → Elt F .f32) (hg : ∀ y, GoodG (idx y)) (K : GP F) (Q : Unit → sProp 𝕄) :
    hst c A idx traj (i 0).val 0 ⊢
      iprop((hst c A idx traj (i 0).val 128 -∗ WP c K Q) -∗ WP c (loopG A i >>= fun _ => K) Q) := by
  unfold loopG
  refine (Scf.wp_for_bind frame (wpE (defs₀ (F := F)) Variants.none (c : Thread nD τ) none) Set.univ 0#32 16#32 1#32 k1_t1_ok ()
    (fun (k : Fin _) (_ : Unit) => tripG A i (Scf.iv 0#32 1#32 k.val) (ivG_lt k))
    (fun n (_ : Unit) => hst c A idx traj (i 0).val (8 * n)) (fun k acc => ?_) (β := Unit) (kk := fun _ => K) (Q := Q)).trans ?_
  · have h := tripG_wp c A i (Scf.iv 0#32 1#32 k.val) (ivG_lt k) idx traj hg
    rw [ivG_eq k] at h
    exact h
  · iintro H Hk
    iapply H
    iintro %acc H
    iapply Hk
    iexact H

/-! ## The straight line -/

/-- What the context kernel's buffers hold. -/
structure GlobVals (F : FTy → Type) where
  idx : S256.Idx → Elt F .i32
  traj : S20480x128.Idx → Elt F .f32
  pool : S128x128.Idx → Elt F .f32
  wc1 : S256x128.Idx → Elt F .f32
  bc1 : S1x128.Idx → Elt F .f32
  wc2 : S128x200.Idx → Elt F .f32
  bc2 : S1x200.Idx → Elt F .f32
  out : S128x200.Idx → Elt F .f32
  qg : S128x128.Idx → Elt F .f32

/-- The context kernel's buffers owned at `v`. -/
def stG (c : Dev nD) (A : GlobArgs) (v : GlobVals F) : sProp 𝕄 :=
  iprop(own c A.idx v.idx ∗ own c A.traj v.traj ∗ own c A.pool v.pool ∗ own c A.wc1 v.wc1 ∗ own c A.bc1 v.bc1 ∗ own c A.wc2 v.wc2 ∗ own c A.bc2 v.bc2 ∗ own c A.out v.out ∗ own c A.qg v.qg)

theorem pass_wp (c : Dev nD) (A : GlobArgs) {σ : Type} (traj : S20480x128.Idx → Elt F .f32) (f : Fin 20 → σ → (σ → GP F) → GP F) (g : σ → Fin 20 → σ) (Q : Unit → sProp 𝕄)
    (hf : ∀ b s K, own c A.traj traj ⊢ iprop((own c A.traj traj -∗ WP c (K (g s b)) Q) -∗ WP c (f b s K) Q)) (l : List (Fin 20)) :
    ∀ (s : σ) (K : σ → GP F), own c A.traj traj ⊢ iprop((own c A.traj traj -∗ WP c (K (l.foldl g s)) Q) -∗ WP c (pass f l s K) Q) := by
  induction l with
  | nil =>
    intro s K
    show _ ⊢ iprop((_ -∗ WP c (K s) Q) -∗ WP c (K s) Q)
    iintro H Hk
    iapply Hk; iexact H
  | cons b l ih =>
    intro s K
    show _ ⊢ iprop((_ -∗ WP c (K (l.foldl g (g s b))) Q) -∗ WP c (f b s fun s => pass f l s K) Q)
    iintro H Hk
    iapply (hf b s _) $$ H
    iintro H
    iapply (ih (g s b) K) $$ H
    iexact Hk

/-- The maximum of the scores, the weights' sum and the weighted rows, over all chunks. -/
def topG (q : Vec F S128x128 .f32) (traj : S20480x128.Idx → Elt F .f32) : FVec F S128x1 .f32 :=
  chunks.foldl (fun acc c => maxG acc (scoreC c q fun j => traj ((chunkR c).emb j))) (broadcast S128x1 (Named.named κ "mask" 0xF149F2CA#32))
def sumsG (q : Vec F S128x128 .f32) (traj : S20480x128.Idx → Elt F .f32) (m : FVec F S128x1 .f32) : FVec F S128x1 .f32 × FVec F S128x128 .f32 :=
  chunks.foldl (fun acc c => (denG acc.1 (expG m (scoreC c q fun j => traj ((chunkR c).emb j))), ctxG acc.2 (expG m (scoreC c q fun j => traj ((chunkR c).emb j))) fun j => traj ((chunkR c).emb j)))
    (broadcast S128x1 (Scalar.ofBits .f32 0x00000000#32), broadcast S128x128 (Scalar.ofBits .f32 0x00000000#32))

/-- The context of the queries. -/
def contextG (q : Vec F S128x128 .f32) (traj : S20480x128.Idx → Elt F .f32) : FVec F S128x128 .f32 :=
  quotG (sumsG q traj (topG q traj)).1 (sumsG q traj (topG q traj)).2

/-- The output block of grid step `n`. -/
def GlobVals.outAt (v : GlobVals F) (n : ℕ) : S128x200.Idx → Elt F .f32 :=
  lsmG (logitG (hidG v.pool (contextG (gatG v.idx v.traj n) v.traj) v.wc1 v.bc1) v.wc2 v.bc2)

theorem emb_all {s : Shape} (h : ∀ a, (fun _ => 0 : Fin s.rank → Nat) a + s.size a ≤ s.size a) (j : s.Idx) : (Rect.unit (s := s) (fun _ => 0) s.size h).emb j = j := by
  funext a; apply Fin.ext; show 0 + 1 * (j a).val = _; omega

theorem read_allQ {α : Type} (x : S128x128.Idx → α) : (fun j => x (allQ.emb j)) = x := by
  funext j; congr 1; funext a; apply Fin.ext; fin_cases a
  · show 0 + 1 * (j 0).val = (j 0).val; omega
  · show 0 + 1 * (j 1).val = (j 1).val; omega
theorem read_allW1 {α : Type} (x : S256x128.Idx → α) : (fun j => x (allW1.emb j)) = x := by
  funext j; congr 1; funext a; apply Fin.ext; fin_cases a
  · show 0 + 1 * (j 0).val = (j 0).val; omega
  · show 0 + 1 * (j 1).val = (j 1).val; omega
theorem read_allB1 {α : Type} (x : S1x128.Idx → α) : (fun j => x (allB1.emb j)) = x := by
  funext j; congr 1; funext a; apply Fin.ext; fin_cases a
  · show 0 + 1 * (j 0).val = (j 0).val; omega
  · show 0 + 1 * (j 1).val = (j 1).val; omega
theorem emb_allW2 (j : allW2.shape.Idx) : allW2.emb j = j := by
  funext a; apply Fin.ext; fin_cases a
  · show 0 + 1 * (j 0).val = (j 0).val; omega
  · show 0 + 1 * (j 1).val = (j 1).val; omega
theorem read_allW2 {α : Type} (x : S128x200.Idx → α) : (fun j => x (allW2.emb j)) = x := by
  funext j; rw [emb_allW2]
theorem read_allB2 {α : Type} (x : S1x200.Idx → α) : (fun j => x (allB2.emb j)) = x := by
  funext j; congr 1; funext a; apply Fin.ext; fin_cases a
  · show 0 + 1 * (j 0).val = (j 0).val; omega
  · show 0 + 1 * (j 1).val = (j 1).val; omega
theorem upd_allW2 (x w : S128x200.Idx → Elt F .f32) : upd x allW2 w = w := by
  funext y
  have h := upd_emb x allW2 w y
  rwa [emb_allW2] at h

attribute [local irreducible] lsmG logitG hidG quotG maxG denG ctxG expG scoreC gatG

set_option maxHeartbeats 1000000 in
theorem lineG_wp (c : Dev nD) (A : GlobArgs) (v : GlobVals F) (o : S128x200.Idx → Elt F .f32)
    (ho : o = lsmG (logitG (hidG v.pool (contextG v.qg v.traj) v.wc1 v.bc1) v.wc2 v.bc2)) (Q : Unit → sProp 𝕄) :
    stG c A v ⊢ iprop((stG c A { v with out := o } -∗ Q ⟨⟩) -∗ WP c (lineG A) Q) := by
  have h1 := pass_wp c A v.traj (maxB A v.qg) (fun acc b => maxG acc (scoreC b v.qg fun j => v.traj ((chunkR b).emb j))) Q
    (fun b s K => by unfold maxB; iintro H Hk; iapply (own_load_bind c A.traj _ _ _ Q _) $$ H; iexact Hk) chunks
  have h2 := fun m => pass_wp c A v.traj (sumB A v.qg m) (fun acc b => (denG acc.1 (expG m (scoreC b v.qg fun j => v.traj ((chunkR b).emb j))), ctxG acc.2 (expG m (scoreC b v.qg fun j => v.traj ((chunkR b).emb j))) fun j => v.traj ((chunkR b).emb j))) Q
    (fun b s K => by unfold sumB; iintro H Hk; iapply (own_load_bind c A.traj _ _ _ Q _) $$ H; iexact Hk) chunks
  have h1' := h1 (broadcast S128x1 (Named.named κ "mask" 0xF149F2CA#32))
  have h2' := fun m => h2 m (broadcast S128x1 (Scalar.ofBits .f32 0x00000000#32), broadcast S128x128 (Scalar.ofBits .f32 0x00000000#32))
  change ∀ K : _ → GP F, _ ⊢ iprop((_ -∗ WP c (K (topG v.qg v.traj)) Q) -∗ _) at h1'
  change ∀ m, ∀ K : _ → GP F, _ ⊢ iprop((_ -∗ WP c (K (sumsG v.qg v.traj m)) Q) -∗ _) at h2'
  unfold contextG at ho
  generalize topG v.qg v.traj = m at h1' ho
  generalize hs : sumsG v.qg v.traj m = s at ho
  have h2'' := h2' m
  rw [hs] at h2''
  unfold stG lineG
  dsimp only
  iintro ⟨Hi, Ht, Hp, Hw1, Hb1, Hw2, Hb2, Ho, Hq⟩ Hk
  iapply (own_load_bind c A.qg _ _ _ Q _) $$ Hq
  iintro Hq
  rw [read_allQ]
  iapply (h1' _) $$ Ht
  iintro Ht
  iapply (h2'' _) $$ Ht
  iintro Ht
  unfold headB
  iapply (own_load_bind c A.pool _ _ _ Q _) $$ Hp
  iintro Hp
  iapply (own_load_bind c A.wc1 _ _ _ Q _) $$ Hw1
  iintro Hw1
  iapply (own_load_bind c A.bc1 _ _ _ Q _) $$ Hb1
  iintro Hb1
  iapply (own_load_bind c A.wc2 _ _ _ Q _) $$ Hw2
  iintro Hw2
  iapply (own_load_bind c A.bc2 _ _ _ Q _) $$ Hb2
  iintro Hb2
  iapply (own_load_bind c A.out _ _ _ Q _) $$ Ho
  iintro Ho
  iapply (own_store_bind c A.out _ _ _ _ _ Q _) $$ Ho
  rw [upd_allW2, shapeCast_self, read_allQ, read_allW1, read_allB1, read_allW2, read_allB2, ← ho]
  iintro Ho
  unfold WP
  rw [wp_ret]
  imodintro
  iapply Hk
  isplitl [Hi]; · iexact Hi
  isplitl [Ht]; · iexact Ht
  isplitl [Hp]; · iexact Hp
  isplitl [Hw1]; · iexact Hw1
  isplitl [Hb1]; · iexact Hb1
  isplitl [Hw2]; · iexact Hw2
  isplitl [Hb2]; · iexact Hb2
  isplitl [Ho]; · iexact Ho
  iexact Hq

/-- The context kernel at one grid step. -/
theorem glob_wp (c : Dev nD) (A : GlobArgs) (i : grid1.Coords) (v : GlobVals F) (hg : ∀ y, GoodG (v.idx y)) (Q : Unit → sProp 𝕄) :
    stG c A v ⊢ iprop((stG c A { v with out := v.outAt (i 0).val, qg := gatG v.idx v.traj (i 0).val } -∗ Q ⟨⟩) -∗ WP c (loopG A i >>= fun _ => lineG A) Q) := by
  have main := lineG_wp c A { v with qg := gatG v.idx v.traj (i 0).val } (v.outAt (i 0).val) rfl Q
  dsimp only at main
  have hgw := loopG_wp c A i v.idx v.traj hg (lineG A) Q
  generalize v.outAt (i 0).val = o at main ⊢
  have hs : stG c A v ⊢ iprop(hst c A v.idx v.traj (i 0).val 0 ∗ (hst c A v.idx v.traj (i 0).val 128 -∗ stG c A { v with qg := gatG v.idx v.traj (i 0).val })) := by
    unfold stG hst
    dsimp only
    iintro ⟨Hi, Ht, Hp, Hw1, Hb1, Hw2, Hb2, Ho, Hq⟩
    isplitl [Hi Ht Hq]
    · isplitl [Hi Ht]
      · isplitl [Hi]; · iexact Hi
        iexact Ht
      iexists v.qg; isplitr; swap; · iexact Hq
      ipureintro; intro y hy; exact absurd hy (Nat.not_lt_zero _)
    iintro ⟨⟨Hi, Ht⟩, ⟨%qg, %hqg, Hq⟩⟩
    obtain rfl : qg = gatG v.idx v.traj (i 0).val := funext fun y => hqg y (y 0).isLt
    isplitl [Hi]; · iexact Hi
    isplitl [Ht]; · iexact Ht
    isplitl [Hp]; · iexact Hp
    isplitl [Hw1]; · iexact Hw1
    isplitl [Hb1]; · iexact Hb1
    isplitl [Hw2]; · iexact Hw2
    isplitl [Hb2]; · iexact Hb2
    isplitl [Ho]; · iexact Ho
    iexact Hq
  iintro H Hk
  ihave ⟨Hg, Hr⟩ := hs $$ H
  iapply hgw $$ Hg
  iintro Hg
  ihave H := Hr $$ Hg
  iapply main $$ H
  iexact Hk

end Cert.Proof.KernelIdeal
-- ==== Proof.IdealEncWp.lean ====
/- What the encoder kernel leaves in its output block. -/
module

public import proofs.«01_k».proof.Proof.IdealGatherWp

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F] [Named F]

local notation "𝕄" => MT nD τ sig Unit (Elt F) ℕ UU ℕ

attribute [local irreducible] embV lnV attV ffV poolV upd gatE gatT

theorem rowsE_sep (b b' : Fin 8) (h : b ≠ b') (j : (rowsE b).shape.Idx) (j' : (rowsE b').shape.Idx) : (rowsE b).emb j ≠ (rowsE b').emb j' := by
  intro e
  have h0 := congrArg Fin.val (congrFun e 0)
  have h1 : (j 0).val < 256 := (j 0).isLt
  have h2 : (j' 0).val < 256 := (j' 0).isLt
  have h3 : 256 * b.val + 1 * (j 0).val = 256 * b'.val + 1 * (j' 0).val := h0
  exact h (Fin.ext (by omega))

theorem rowO_sep (b b' : Fin 8) (h : b ≠ b') (j : (rowO b).shape.Idx) (j' : (rowO b').shape.Idx) : (rowO b).emb j ≠ (rowO b').emb j' := by
  intro e
  have h0 := congrArg Fin.val (congrFun e 0)
  have h1 : (j 0).val < 1 := (j 0).isLt
  have h2 : (j' 0).val < 1 := (j' 0).isLt
  have h3 : b.val + 1 * (j 0).val = b'.val + 1 * (j' 0).val := h0
  exact h (Fin.ext (by omega))

/-- The 256 rows of batch row `b` in the encoder's state. -/
abbrev EncVals.rows (v : EncVals F) (b : Fin 8) : Vec F S256x128 .f32 := fun j => v.x ((rowsE b).emb j)

theorem rows_emb (v : EncVals F) (b b' : Fin 8) : (v.emb b).rows b' = if b' = b then v.embOf b else v.rows b' := by
  by_cases h : b' = b
  · subst h; rw [if_pos rfl]
    funext j
    show upd v.x (rowsE b') (shapeCast S256x128 (v.embOf b') shapeCasts_S256x128_S256x128) ((rowsE b').emb j) = _
    rw [upd_emb, shapeCast_self]
  · rw [if_neg h]; exact funext fun j => upd_off _ _ _ _ fun j' => rowsE_sep b b' (Ne.symm h) j' j

theorem rows_lay (l : Fin 2) (v : EncVals F) (b b' : Fin 8) : (EncVals.lay l v b).rows b' = if b' = b then v.layOf l (v.rows b) else v.rows b' := by
  by_cases h : b' = b
  · subst h; rw [if_pos rfl]
    funext j
    show upd v.x (rowsE b') (shapeCast S256x128 (v.layOf l (v.rows b')) shapeCasts_S256x128_S256x128) ((rowsE b').emb j) = _
    rw [upd_emb, shapeCast_self]
  · rw [if_neg h]; exact funext fun j => upd_off _ _ _ _ fun j' => rowsE_sep b b' (Ne.symm h) j' j

theorem out_pool (v : EncVals F) (b b' : Fin 8) : (fun j => (v.pool b).out ((rowO b').emb j)) = if b' = b then poolV (v.rows b') else fun j => v.out ((rowO b').emb j) := by
  by_cases h : b' = b
  · subst h; rw [if_pos rfl]
    funext j
    show upd v.out (rowO b') (poolV (v.rows b')) ((rowO b').emb j) = _
    rw [upd_emb]
  · rw [if_neg h]; exact funext fun j => upd_off _ _ _ _ fun j' => rowO_sep b b' (Ne.symm h) j' j

/-- A fold of eight steps, each of which settles one row's value, has settled every row. -/
theorem fold8_rows {α β : Type} (g : α → Fin 8 → α) (R : α → Fin 8 → β) (val : α → Fin 8 → β)
    (hR : ∀ v b b', R (g v b) b' = if b' = b then val v b else R v b')
    (hval : ∀ v b b', b ≠ b' → val (g v b) b' = val v b') (v : α) (b : Fin 8) : R (fold8 g v) b = val v b := by
  unfold fold8
  fin_cases b <;> simp [hR, hval]

theorem rows_emb8 (v : EncVals F) (b : Fin 8) : (fold8 EncVals.emb v).rows b = v.embOf b :=
  fold8_rows EncVals.emb EncVals.rows EncVals.embOf rows_emb (fun v b b' _ => by dsimp only [EncVals.embOf, EncVals.emb]) v b

theorem rows_lay8 (l : Fin 2) (v : EncVals F) (b : Fin 8) : (fold8 (EncVals.lay l) v).rows b = v.layOf l (v.rows b) :=
  fold8_rows (EncVals.lay l) EncVals.rows (fun v b => v.layOf l (v.rows b)) (rows_lay l)
    (fun v b b' h => by
      have e := rows_lay l v b b'
      rw [if_neg (Ne.symm h)] at e
      show (EncVals.lay l v b).layOf l ((EncVals.lay l v b).rows b') = v.layOf l (v.rows b')
      rw [e]
      dsimp only [EncVals.layOf, EncVals.lay]) v b

/-- Batch row `b`'s pooled vector. -/
def EncVals.rowOf (v : EncVals F) (b : Fin 8) : (rowO b).shape.Idx → Elt F .f32 := poolV (v.layOf 1 (v.layOf 0 (v.embOf b)))

/-- A state with its activations and output replaced. -/
def EncVals.with2 (v : EncVals F) (x : S2048x128.Idx → Elt F .f32) (o : S8x128.Idx → Elt F .f32) : EncVals F := { v with x := x, out := o }

theorem fold8_keep {α β : Type} (g : α → Fin 8 → α) (R : α → β) (h : ∀ v b, R (g v b) = R v) (v : α) : R (fold8 g v) = R v := by
  unfold fold8; simp only [h]

theorem keep_emb (v : EncVals F) (b : Fin 8) : (v.emb b).with2 = v.with2 := rfl
theorem keep_lay (l : Fin 2) (v : EncVals F) (b : Fin 8) : (EncVals.lay l v b).with2 = v.with2 := rfl
theorem keep_pool (v : EncVals F) (b : Fin 8) : (v.pool b).with2 = v.with2 := rfl

theorem keep_line (v : EncVals F) : v.line.with2 = v.with2 := by
  unfold EncVals.line
  rw [fold8_keep _ EncVals.with2 keep_pool, fold8_keep _ EncVals.with2 (keep_lay 1), fold8_keep _ EncVals.with2 (keep_lay 0), fold8_keep _ EncVals.with2 keep_emb]

theorem layOf_with2 (v w : EncVals F) (h : v.with2 = w.with2) (l : Fin 2) (x : Vec F S256x128 .f32) : v.layOf l x = w.layOf l x := by
  have h1 : v.layOf l x = (v.with2 w.x w.out).layOf l x := by dsimp only [EncVals.layOf, EncVals.with2]
  rw [h1, h]
  dsimp only [EncVals.layOf, EncVals.with2]

theorem line_out (v : EncVals F) (b : Fin 8) : (fun j => v.line.out ((rowO b).emb j)) = v.rowOf b := by
  unfold EncVals.line EncVals.rowOf
  have k0 : (fold8 EncVals.emb v).with2 = v.with2 := fold8_keep _ EncVals.with2 keep_emb v
  have k1 : (fold8 (EncVals.lay 0) (fold8 EncVals.emb v)).with2 = v.with2 := (fold8_keep _ EncVals.with2 (keep_lay 0) _).trans k0
  have r0 := rows_emb8 v b
  generalize fold8 EncVals.emb v = v0 at k0 k1 r0 ⊢
  have r1 := rows_lay8 0 v0 b
  generalize fold8 (EncVals.lay 0) v0 = v1 at k1 r1 ⊢
  have r2 := rows_lay8 1 v1 b
  generalize fold8 (EncVals.lay 1) v1 = v2 at r2 ⊢
  rw [r0, layOf_with2 v0 v k0] at r1
  rw [r1, layOf_with2 v1 v k1] at r2
  rw [← r2]
  exact fold8_rows EncVals.pool (fun v b => fun j => v.out ((rowO b).emb j)) (fun v b => poolV (v.rows b))
      (fun v b b' => by
        refine (out_pool v b b').trans ?_
        by_cases h : b' = b
        · subst h; rfl
        · rw [if_neg h, if_neg h]; rfl) (fun v b b' _ => by dsimp only [EncVals.rows, EncVals.pool]) v2 b

/-- The gathers done. -/
def EncVals.gat (v : EncVals F) (n : ℕ) : EncVals F := { v with xg := gatE v.idx v.grid n, tsg := gatT v.idx v.ctab n }

/-- The output block of grid step `n`. -/
def EncVals.outAt (v : EncVals F) (n : ℕ) : S8x128.Idx → Elt F .f32 :=
  fun y => (v.gat n).rowOf (y 0) (ix2 ⟨0, Nat.one_pos⟩ (y 1))

theorem line_outAt (v : EncVals F) (n : ℕ) : (v.gat n).line.out = v.outAt n := by
  funext y
  obtain ⟨p, q, rfl⟩ : ∃ p q, y = ix2 p q := ⟨_, _, eq_ix2 y⟩
  have h : (v.gat n).line.out ((rowO p).emb (ix2 ⟨0, Nat.one_pos⟩ q)) = (v.gat n).rowOf p (ix2 ⟨0, Nat.one_pos⟩ q) := congrFun (line_out (v.gat n) p) (ix2 ⟨0, Nat.one_pos⟩ q)
  have e : (rowO p).emb (ix2 ⟨0, Nat.one_pos⟩ q) = ix2 p q := by
    funext d; apply Fin.ext; fin_cases d
    · show p.val + 1 * 0 = p.val; omega
    · show 0 + 1 * q.val = q.val; omega
  rw [e] at h
  exact h

set_option maxHeartbeats 2000000 in
/-- The encoder kernel at one grid step. -/
theorem enc_wp (c : Dev nD) (A : EncArgs) (i : grid0.Coords) (v : EncVals F) (hg : ∀ y, Good (v.idx y)) (Q : Unit → sProp 𝕄) :
    st c A v ⊢ iprop((∀ x, st c A ((v.gat (i 0).val).with2 x (v.outAt (i 0).val)) -∗ Q ⟨⟩) -∗ WP c (each8 (gatherB A i) (lineB A)) Q) := by
  have hl : (v.gat (i 0).val).line = (v.gat (i 0).val).with2 (v.gat (i 0).val).line.x (v.outAt (i 0).val) := by
    rw [← line_outAt, ← keep_line]
    generalize (v.gat (i 0).val).line = w
    rfl
  have main := lineB_wp c A (v.gat (i 0).val) Q
  rw [hl] at main
  generalize (v.gat (i 0).val).line.x = x at main
  have hk : iprop((∀ x, st c A ((v.gat (i 0).val).with2 x (v.outAt (i 0).val)) -∗ Q ⟨⟩) : sProp 𝕄) ⊢ iprop(st c A ((v.gat (i 0).val).with2 x (v.outAt (i 0).val)) -∗ Q ⟨⟩) := by
    iintro H; iapply H
  generalize v.outAt (i 0).val = o at main hk ⊢
  have hgw := gathers_wp c A i v.idx v.grid v.ctab hg (lineB A) Q
  have hs : st c A v ⊢ iprop(gst c A v.idx v.grid v.ctab (i 0).val 0 ∗ (gst c A v.idx v.grid v.ctab (i 0).val 2048 -∗ st c A (v.gat (i 0).val))) := by
    unfold st gst
    dsimp only [EncVals.gat]
    iintro ⟨Hidx, Hgrid, Hctab, Hpos, Hwx, Hwts, Hbfc, Hwqkv, Hwo, Hg1, Hb1, Hw1, Hc1, Hw2, Hc2, Hg2, Hb2, Hout, Hxg, Htsg, Hx⟩
    isplitl [Hidx Hgrid Hctab Hxg Htsg]
    · isplitl [Hidx Hgrid Hctab]
      · isplitl [Hidx]; · iexact Hidx
        isplitl [Hgrid]; · iexact Hgrid
        iexact Hctab
      isplitl [Hxg]
      · iexists v.xg; isplitr; swap; · iexact Hxg
        ipureintro; intro y hy; exact absurd hy (Nat.not_lt_zero _)
      · iexists v.tsg; isplitr; swap; · iexact Htsg
        ipureintro; intro y hy; exact absurd hy (Nat.not_lt_zero _)
    iintro ⟨⟨Hidx, Hgrid, Hctab⟩, ⟨%xg, %hxg, Hxg⟩, ⟨%tsg, %htsg, Htsg⟩⟩
    obtain rfl : xg = gatE v.idx v.grid (i 0).val := funext fun y => hxg y (y 0).isLt
    obtain rfl : tsg = gatT v.idx v.ctab (i 0).val := funext fun y => htsg y (y 0).isLt
    isplitl [Hidx]; · iexact Hidx
    isplitl [Hgrid]; · iexact Hgrid
    isplitl [Hctab]; · iexact Hctab
    isplitl [Hpos]; · iexact Hpos
    isplitl [Hwx]; · iexact Hwx
    isplitl [Hwts]; · iexact Hwts
    isplitl [Hbfc]; · iexact Hbfc
    isplitl [Hwqkv]; · iexact Hwqkv
    isplitl [Hwo]; · iexact Hwo
    isplitl [Hg1]; · iexact Hg1
    isplitl [Hb1]; · iexact Hb1
    isplitl [Hw1]; · iexact Hw1
    isplitl [Hc1]; · iexact Hc1
    isplitl [Hw2]; · iexact Hw2
    isplitl [Hc2]; · iexact Hc2
    isplitl [Hg2]; · iexact Hg2
    isplitl [Hb2]; · iexact Hb2
    isplitl [Hout]; · iexact Hout
    isplitl [Hxg]; · iexact Hxg
    isplitl [Htsg]; · iexact Htsg
    iexact Hx
  iintro H Hk
  ihave ⟨Hg, Hr⟩ := hs $$ H
  iapply hgw $$ Hg
  iintro Hg
  ihave H := Hr $$ Hg
  iapply main $$ H
  iapply hk
  iexact Hk

end Cert.Proof.KernelIdeal
-- ==== Proof.IdealRegion0.lean ====
/- The encoder's call, entered from any contents of the device's buffers. -/
module

public import proofs.«01_k».proof.Proof.IdealEncProg
public import proofs.«01_k».proof.Proof.IdealEncWp
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (eq_ix2)

variable {F : FTy → Type} [FloatOps F] [Named F]

local notation "𝕄" => MT nD τ sig Unit (Elt F) ℕ UU ℕ

attribute [local irreducible] embV lnV attV ffV poolV upd gatE gatT

/-- Proof data for the call an entry does not run: anything. -/
def idleDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- No core owes another anything. -/
abbrev L₀ : GSem nD τ sig → Finset Unit := fun _ => ∅
abbrev lv₀ : GSem nD τ sig → Unit → ℕ := fun _ _ => 0

omit [FloatOps F] [Named F] in
/-- A whole buffer held at some contents is owned at some value, and back. -/
theorem own_of_pt (c : Dev nD) (b : Ref sig .tc) :
    iprop(∃ f : Buf (Elt F) ((c : Thread nD τ).loc b), ((c : Thread nD τ).loc b) ↦{fullShare} f) ⊢ (iprop(∃ x, own c (Memref.whole b) x) : sProp 𝕄) := by
  unfold own owns
  rw [(Memref.isWhole_whole b).set_eq_univ]
  iintro ⟨%f, H⟩
  iexists _; iexists f
  isplitr; · ipureintro; rfl
  iexact H

omit [FloatOps F] [Named F] in
theorem pt_of_own (c : Dev nD) (b : Ref sig .tc) :
    (iprop(∃ x, own c (Memref.whole b) x) : sProp 𝕄) ⊢ iprop(∃ f : Buf (Elt F) ((c : Thread nD τ).loc b), ((c : Thread nD τ).loc b) ↦{fullShare} f) := by
  unfold own owns
  rw [(Memref.isWhole_whole b).set_eq_univ]
  iintro ⟨%x, %f, %hf, H⟩
  iexists f
  iexact H

namespace R0

variable (V : (c : Dev nD) → (b : Ref sig .tc) → Buf (Elt F) ((c : Thread nD τ).loc b))

/-- What the encoder's buffers hold, its own ones at anything. -/
def vals (c : Dev nD) : EncVals F where
  idx := V c main_v8
  grid := V c main_arg0
  ctab := V c main_v15
  pos := V c main_cst
  wx := V c main_v17
  wts := V c main_v18
  bfc := V c main_v19
  wqkv := V c main_v16
  wo := V c main_arg13
  g1 := V c main_v20
  b1 := V c main_v21
  w1 := V c main_arg16
  c1 := V c main_v22
  w2 := V c main_arg18
  c2 := V c main_v23
  g2 := V c main_v24
  b2 := V c main_v25
  out := fun _ => Scalar.ofBits .f32 0
  xg := fun _ => Scalar.ofBits .f32 0
  tsg := fun _ => Scalar.ofBits .f32 0
  x := fun _ => Scalar.ofBits .f32 0

/-- What stays of the core's memory beside the windows, between steps. -/
abbrev Φc (c : Dev nD) : sProp 𝕄 := Pipeline.scopedRest (Ix := Unit) (Name := ℕ) (U := UU) (Lvl := ℕ) (Val := Elt F) spec0 c

/-- The call from contents `V`: every input stays, the output block of a step is the encoder's. -/
def dat (c : Dev nD) : Dat τ (Elt F) Unit ℕ UU ℕ cfg0 c where
  A w := V c (Pipeline.arrRef spec0 w)
  after w t := match w with
    | ⟨0, _⟩ => V c main_v8
    | ⟨1, _⟩ => V c main_arg0
    | ⟨2, _⟩ => V c main_v15
    | ⟨3, _⟩ => V c main_cst
    | ⟨4, _⟩ => V c main_v17
    | ⟨5, _⟩ => V c main_v18
    | ⟨6, _⟩ => V c main_v19
    | ⟨7, _⟩ => V c main_v16
    | ⟨8, _⟩ => V c main_arg13
    | ⟨9, _⟩ => V c main_v20
    | ⟨10, _⟩ => V c main_v21
    | ⟨11, _⟩ => V c main_arg16
    | ⟨12, _⟩ => V c main_v22
    | ⟨13, _⟩ => V c main_arg18
    | ⟨14, _⟩ => V c main_v23
    | ⟨15, _⟩ => V c main_v24
    | ⟨16, _⟩ => V c main_v25
    | ⟨17, _⟩ => (vals V c).outAt (grid0.coords t 0).val
    | ⟨n + 18, h⟩ => absurd h (Nat.not_lt.2 (Nat.le_add_left _ _))
  Φ _ := Φc c
  q _ := fullShare
  owed _ := 0

/-! An input window's block is its whole array. -/

theorem blk_0 (c : Dev nD) (t : Fin cfg0.N) : ((cfg0.win 0).blk t).view.read (Elt F) (V c main_v8) = V c main_v8 :=
  Memref.read_access_unit_zero (Elt F) main_v8 (funext fun a => by fin_cases a <;> exact Nat.zero_mul _) _ _
theorem blk_1 (c : Dev nD) (t : Fin cfg0.N) : ((cfg0.win 1).blk t).view.read (Elt F) (V c main_arg0) = V c main_arg0 :=
  Memref.read_access_unit_zero (Elt F) main_arg0 (funext fun a => by fin_cases a <;> exact Nat.zero_mul _) _ _
theorem blk_2 (c : Dev nD) (t : Fin cfg0.N) : ((cfg0.win 2).blk t).view.read (Elt F) (V c main_v15) = V c main_v15 :=
  Memref.read_access_unit_zero (Elt F) main_v15 (funext fun a => by fin_cases a <;> exact Nat.zero_mul _) _ _
theorem blk_3 (c : Dev nD) (t : Fin cfg0.N) : ((cfg0.win 3).blk t).view.read (Elt F) (V c main_cst) = V c main_cst :=
  Memref.read_access_unit_zero (Elt F) main_cst (funext fun a => by fin_cases a <;> exact Nat.zero_mul _) _ _
theorem blk_4 (c : Dev nD) (t : Fin cfg0.N) : ((cfg0.win 4).blk t).view.read (Elt F) (V c main_v17) = V c main_v17 :=
  Memref.read_access_unit_zero (Elt F) main_v17 (funext fun a => by fin_cases a <;> exact Nat.zero_mul _) _ _
theorem blk_5 (c : Dev nD) (t : Fin cfg0.N) : ((cfg0.win 5).blk t).view.read (Elt F) (V c main_v18) = V c main_v18 :=
  Memref.read_access_unit_zero (Elt F) main_v18 (funext fun a => by fin_cases a <;> exact Nat.zero_mul _) _ _
theorem blk_6 (c : Dev nD) (t : Fin cfg0.N) : ((cfg0.win 6).blk t).view.read (Elt F) (V c main_v19) = V c main_v19 :=
  Memref.read_access_unit_zero (Elt F) main_v19 (funext fun a => by fin_cases a <;> exact Nat.zero_mul _) _ _
theorem blk_7 (c : Dev nD) (t : Fin cfg0.N) : ((cfg0.win 7).blk t).view.read (Elt F) (V c main_v16) = V c main_v16 :=
  Memref.read_access_unit_zero (Elt F) main_v16 (funext fun a => by fin_cases a <;> exact Nat.zero_mul _) _ _
theorem blk_8 (c : Dev nD) (t : Fin cfg0.N) : ((cfg0.win 8).blk t).view.read (Elt F) (V c main_arg13) = V c main_arg13 :=
  Memref.read_access_unit_zero (Elt F) main_arg13 (funext fun a => by fin_cases a <;> exact Nat.zero_mul _) _ _
theorem blk_9 (c : Dev nD) (t : Fin cfg0.N) : ((cfg0.win 9).blk t).view.read (Elt F) (V c main_v20) = V c main_v20 :=
  Memref.read_access_unit_zero (Elt F) main_v20 (funext fun a => by fin_cases a <;> exact Nat.zero_mul _) _ _
theorem blk_10 (c : Dev nD) (t : Fin cfg0.N) : ((cfg0.win 10).blk t).view.read (Elt F) (V c main_v21) = V c main_v21 :=
  Memref.read_access_unit_zero (Elt F) main_v21 (funext fun a => by fin_cases a <;> exact Nat.zero_mul _) _ _
theorem blk_11 (c : Dev nD) (t : Fin cfg0.N) : ((cfg0.win 11).blk t).view.read (Elt F) (V c main_arg16) = V c main_arg16 :=
  Memref.read_access_unit_zero (Elt F) main_arg16 (funext fun a => by fin_cases a <;> exact Nat.zero_mul _) _ _
theorem blk_12 (c : Dev nD) (t : Fin cfg0.N) : ((cfg0.win 12).blk t).view.read (Elt F) (V c main_v22) = V c main_v22 :=
  Memref.read_access_unit_zero (Elt F) main_v22 (funext fun a => by fin_cases a <;> exact Nat.zero_mul _) _ _
theorem blk_13 (c : Dev nD) (t : Fin cfg0.N) : ((cfg0.win 13).blk t).view.read (Elt F) (V c main_arg18) = V c main_arg18 :=
  Memref.read_access_unit_zero (Elt F) main_arg18 (funext fun a => by fin_cases a <;> exact Nat.zero_mul _) _ _
theorem blk_14 (c : Dev nD) (t : Fin cfg0.N) : ((cfg0.win 14).blk t).view.read (Elt F) (V c main_v23) = V c main_v23 :=
  Memref.read_access_unit_zero (Elt F) main_v23 (funext fun a => by fin_cases a <;> exact Nat.zero_mul _) _ _
theorem blk_15 (c : Dev nD) (t : Fin cfg0.N) : ((cfg0.win 15).blk t).view.read (Elt F) (V c main_v24) = V c main_v24 :=
  Memref.read_access_unit_zero (Elt F) main_v24 (funext fun a => by fin_cases a <;> exact Nat.zero_mul _) _ _
theorem blk_16 (c : Dev nD) (t : Fin cfg0.N) : ((cfg0.win 16).blk t).view.read (Elt F) (V c main_v25) = V c main_v25 :=
  Memref.read_access_unit_zero (Elt F) main_v25 (funext fun a => by fin_cases a <;> exact Nat.zero_mul _) _ _

/-! So that is what the body finds there. -/

theorem bef_0 (c : Dev nD) (t : Fin cfg0.N) (d) : (dat V c).before 0 t d = V c main_v8 :=
  ((dat V c).before_in_eq_fetched 0 rfl (fun _ => rfl) (fun _ _ _ => rfl) (fun t => (blk_0 V c t).symm) t d).trans (blk_0 V c t)
theorem bef_1 (c : Dev nD) (t : Fin cfg0.N) (d) : (dat V c).before 1 t d = V c main_arg0 :=
  ((dat V c).before_in_eq_fetched 1 rfl (fun _ => rfl) (fun _ _ _ => rfl) (fun t => (blk_1 V c t).symm) t d).trans (blk_1 V c t)
theorem bef_2 (c : Dev nD) (t : Fin cfg0.N) (d) : (dat V c).before 2 t d = V c main_v15 :=
  ((dat V c).before_in_eq_fetched 2 rfl (fun _ => rfl) (fun _ _ _ => rfl) (fun t => (blk_2 V c t).symm) t d).trans (blk_2 V c t)
theorem bef_3 (c : Dev nD) (t : Fin cfg0.N) (d) : (dat V c).before 3 t d = V c main_cst :=
  ((dat V c).before_in_eq_fetched 3 rfl (fun _ => rfl) (fun _ _ _ => rfl) (fun t => (blk_3 V c t).symm) t d).trans (blk_3 V c t)
theorem bef_4 (c : Dev nD) (t : Fin cfg0.N) (d) : (dat V c).before 4 t d = V c main_v17 :=
  ((dat V c).before_in_eq_fetched 4 rfl (fun _ => rfl) (fun _ _ _ => rfl) (fun t => (blk_4 V c t).symm) t d).trans (blk_4 V c t)
theorem bef_5 (c : Dev nD) (t : Fin cfg0.N) (d) : (dat V c).before 5 t d = V c main_v18 :=
  ((dat V c).before_in_eq_fetched 5 rfl (fun _ => rfl) (fun _ _ _ => rfl) (fun t => (blk_5 V c t).symm) t d).trans (blk_5 V c t)
theorem bef_6 (c : Dev nD) (t : Fin cfg0.N) (d) : (dat V c).before 6 t d = V c main_v19 :=
  ((dat V c).before_in_eq_fetched 6 rfl (fun _ => rfl) (fun _ _ _ => rfl) (fun t => (blk_6 V c t).symm) t d).trans (blk_6 V c t)
theorem bef_7 (c : Dev nD) (t : Fin cfg0.N) (d) : (dat V c).before 7 t d = V c main_v16 :=
  ((dat V c).before_in_eq_fetched 7 rfl (fun _ => rfl) (fun _ _ _ => rfl) (fun t => (blk_7 V c t).symm) t d).trans (blk_7 V c t)
theorem bef_8 (c : Dev nD) (t : Fin cfg0.N) (d) : (dat V c).before 8 t d = V c main_arg13 :=
  ((dat V c).before_in_eq_fetched 8 rfl (fun _ => rfl) (fun _ _ _ => rfl) (fun t => (blk_8 V c t).symm) t d).trans (blk_8 V c t)
theorem bef_9 (c : Dev nD) (t : Fin cfg0.N) (d) : (dat V c).before 9 t d = V c main_v20 :=
  ((dat V c).before_in_eq_fetched 9 rfl (fun _ => rfl) (fun _ _ _ => rfl) (fun t => (blk_9 V c t).symm) t d).trans (blk_9 V c t)
theorem bef_10 (c : Dev nD) (t : Fin cfg0.N) (d) : (dat V c).before 10 t d = V c main_v21 :=
  ((dat V c).before_in_eq_fetched 10 rfl (fun _ => rfl) (fun _ _ _ => rfl) (fun t => (blk_10 V c t).symm) t d).trans (blk_10 V c t)
theorem bef_11 (c : Dev nD) (t : Fin cfg0.N) (d) : (dat V c).before 11 t d = V c main_arg16 :=
  ((dat V c).before_in_eq_fetched 11 rfl (fun _ => rfl) (fun _ _ _ => rfl) (fun t => (blk_11 V c t).symm) t d).trans (blk_11 V c t)
theorem bef_12 (c : Dev nD) (t : Fin cfg0.N) (d) : (dat V c).before 12 t d = V c main_v22 :=
  ((dat V c).before_in_eq_fetched 12 rfl (fun _ => rfl) (fun _ _ _ => rfl) (fun t => (blk_12 V c t).symm) t d).trans (blk_12 V c t)
theorem bef_13 (c : Dev nD) (t : Fin cfg0.N) (d) : (dat V c).before 13 t d = V c main_arg18 :=
  ((dat V c).before_in_eq_fetched 13 rfl (fun _ => rfl) (fun _ _ _ => rfl) (fun t => (blk_13 V c t).symm) t d).trans (blk_13 V c t)
theorem bef_14 (c : Dev nD) (t : Fin cfg0.N) (d) : (dat V c).before 14 t d = V c main_v23 :=
  ((dat V c).before_in_eq_fetched 14 rfl (fun _ => rfl) (fun _ _ _ => rfl) (fun t => (blk_14 V c t).symm) t d).trans (blk_14 V c t)
theorem bef_15 (c : Dev nD) (t : Fin cfg0.N) (d) : (dat V c).before 15 t d = V c main_v24 :=
  ((dat V c).before_in_eq_fetched 15 rfl (fun _ => rfl) (fun _ _ _ => rfl) (fun t => (blk_15 V c t).symm) t d).trans (blk_15 V c t)
theorem bef_16 (c : Dev nD) (t : Fin cfg0.N) (d) : (dat V c).before 16 t d = V c main_v25 :=
  ((dat V c).before_in_eq_fetched 16 rfl (fun _ => rfl) (fun _ _ _ => rfl) (fun t => (blk_16 V c t).symm) t d).trans (blk_16 V c t)

/-- The buffers the body is called with at step `t`. -/
def encA (t : Fin cfg0.N) : EncArgs := ⟨win0_0.stage (cfg0.slots t 0), win0_1.stage (cfg0.slots t 1), win0_2.stage (cfg0.slots t 2), win0_3.stage (cfg0.slots t 3), win0_4.stage (cfg0.slots t 4), win0_5.stage (cfg0.slots t 5), win0_6.stage (cfg0.slots t 6), win0_7.stage (cfg0.slots t 7), win0_8.stage (cfg0.slots t 8), win0_9.stage (cfg0.slots t 9), win0_10.stage (cfg0.slots t 10), win0_11.stage (cfg0.slots t 11), win0_12.stage (cfg0.slots t 12), win0_13.stage (cfg0.slots t 13), win0_14.stage (cfg0.slots t 14), win0_15.stage (cfg0.slots t 15), win0_16.stage (cfg0.slots t 16), win0_17.stage (cfg0.slots t 17), Memref.whole cc0_scratch0, Memref.whole cc0_scratch1, Memref.whole cc0_scratch2⟩

theorem prog_eq (t : Fin cfg0.N) :
    defs₀ (F := F) .tc cfg0.body (cfg0.bodyArgs t (cfg0.slots t)) = each8 (gatherB (encA t) (grid0.coords t)) (lineB (encA t)) :=
  enc_eq ..

set_option maxHeartbeats 4000000 in
theorem body_obligation (hg : ∀ c y, Good (V c main_v8 y)) (c : Dev nD) :
    BodyObligation (dat V c) (defs₀ (F := F)) Variants.none () Set.univ := fun t => by
  rw [bigSep_W0, bigSep_W0]
  show iprop(Φc c ∗ _ ∗ _) ⊢ WP c (defs₀ (F := F) .tc cfg0.body (cfg0.bodyArgs t (cfg0.slots t))) _
  rw [prog_eq]
  show _ ⊢ WP c _ (fun _ => iprop(Φc c ∗ (dat V c).owesAt () t.succ ∗ own c (encA t).idx (V c main_v8) ∗ own c (encA t).grid (V c main_arg0) ∗ own c (encA t).ctab (V c main_v15) ∗ own c (encA t).pos (V c main_cst) ∗ own c (encA t).wx (V c main_v17) ∗ own c (encA t).wts (V c main_v18) ∗ own c (encA t).bfc (V c main_v19) ∗ own c (encA t).wqkv (V c main_v16) ∗ own c (encA t).wo (V c main_arg13) ∗ own c (encA t).g1 (V c main_v20) ∗ own c (encA t).b1 (V c main_v21) ∗ own c (encA t).w1 (V c main_arg16) ∗ own c (encA t).c1 (V c main_v22) ∗ own c (encA t).w2 (V c main_arg18) ∗ own c (encA t).c2 (V c main_v23) ∗ own c (encA t).g2 (V c main_v24) ∗ own c (encA t).b2 (V c main_v25) ∗ own c (encA t).out ((vals V c).outAt (grid0.coords t 0).val)))
  rw [show Φc (F := F) c = _ from scopedRest0_eq c]
  iintro ⟨⟨S0, S1, S2, Hrest⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩, ⟨%d12, W12⟩, ⟨%d13, W13⟩, ⟨%d14, W14⟩, ⟨%d15, W15⟩, ⟨%d16, W16⟩, ⟨%d17, W17⟩⟩
  ihave ⟨%xg, S0⟩ := own_of_pt c cc0_scratch0 $$ S0
  ihave ⟨%tsg, S1⟩ := own_of_pt c cc0_scratch1 $$ S1
  ihave ⟨%x, S2⟩ := own_of_pt c cc0_scratch2 $$ S2
  rw [bef_0 V c t d0]
  rw [bef_1 V c t d1]
  rw [bef_2 V c t d2]
  rw [bef_3 V c t d3]
  rw [bef_4 V c t d4]
  rw [bef_5 V c t d5]
  rw [bef_6 V c t d6]
  rw [bef_7 V c t d7]
  rw [bef_8 V c t d8]
  rw [bef_9 V c t d9]
  rw [bef_10 V c t d10]
  rw [bef_11 V c t d11]
  rw [bef_12 V c t d12]
  rw [bef_13 V c t d13]
  rw [bef_14 V c t d14]
  rw [bef_15 V c t d15]
  rw [bef_16 V c t d16]
  generalize (dat V c).before 17 t d17 = out
  iapply (enc_wp c (encA t) (grid0.coords t) { vals V c with out := out, xg := xg, tsg := tsg, x := x } (hg c) _) $$ [S0 S1 S2 W0 W1 W2 W3 W4 W5 W6 W7 W8 W9 W10 W11 W12 W13 W14 W15 W16 W17]
  · unfold st
    dsimp only [vals]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [W14]; · iexact W14
    isplitl [W15]; · iexact W15
    isplitl [W16]; · iexact W16
    isplitl [W17]; · iexact W17
    isplitl [S0]; · iexact S0
    isplitl [S1]; · iexact S1
    iexact S2
  iintro %y H
  unfold st
  dsimp only [EncVals.with2, EncVals.gat, vals]
  icases H with ⟨W0, W1, W2, W3, W4, W5, W6, W7, W8, W9, W10, W11, W12, W13, W14, W15, W16, W17, S0, S1, S2⟩
  isplitl [Hrest S0 S1 S2]
  · isplitl [S0]; · iapply (pt_of_own c cc0_scratch0); iexists _; iexact S0
    isplitl [S1]; · iapply (pt_of_own c cc0_scratch1); iexists _; iexact S1
    isplitl [S2]; · iapply (pt_of_own c cc0_scratch2); iexists _; iexact S2
    iexact Hrest
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [W10]; · iexact W10
  isplitl [W11]; · iexact W11
  isplitl [W12]; · iexact W12
  isplitl [W13]; · iexact W13
  isplitl [W14]; · iexact W14
  isplitl [W15]; · iexact W15
  isplitl [W16]; · iexact W16
  iexact W17

theorem step_val : ∀ t : Fin grid0.N, win0_17.index t 0 = (grid0.coords t 0).val ∧ win0_17.index t 1 = 0 := by decide +kernel

/-- The whole result: row `r` is row `r % 8` of step `r / 8`'s block. -/
def result (c : Dev nD) : S256x128.Idx → Elt F .f32 :=
  fun y => (vals V c).outAt ((y 0).val / 8) (ValueIdx.ix2 ⟨(y 0).val % 8, Nat.mod_lt _ (by decide)⟩ (y 1))

theorem final (c : Dev nD) : (dat V c).arrAt 17 cfg0.N = result V c := by
  refine (dat V c).arrAt_eq_of_covers 17 _ (by decide +kernel) fun t hf y => ?_
  show (vals V c).outAt (grid0.coords t 0).val y = result V c (((cfg0.win 17).blk t).view.emb y)
  have e0 : ((((cfg0.win 17).blk t).view.emb y) 0).val = 8 * (grid0.coords t 0).val + (y 0).val := by
    blk_simp
    rw [(step_val t).1, Nat.mul_comm]
  have e1 : (((cfg0.win 17).blk t).view.emb y) 1 = y 1 := by
    apply Fin.ext
    blk_simp
    rw [(step_val t).2, Nat.zero_mul, Nat.zero_add]
  have hy : (y 0).val < 8 := (y 0).isLt
  generalize ((cfg0.win 17).blk t).view.emb y = z at e0 e1
  unfold result
  have h0 : (z 0).val / 8 = (grid0.coords t 0).val := by omega
  have h1 : (z 0).val % 8 = (y 0).val := by omega
  rw [h0]
  refine congrArg _ (funext fun d => ?_)
  fin_cases d
  · exact Fin.ext h1.symm
  · exact e1.symm

end R0

end Cert.Proof.KernelIdeal
-- ==== Proof.IdealRegion1.lean ====
/- The context call, entered from any contents of the device's buffers. -/
module

public import proofs.«01_k».proof.Proof.IdealGlob
public import proofs.«01_k».proof.Proof.IdealGlobWp
public import proofs.«01_k».proof.Proof.IdealRegion0
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (eq_ix2)

variable {F : FTy → Type} [FloatOps F] [Named F]

local notation "𝕄" => MT nD τ sig Unit (Elt F) ℕ UU ℕ

attribute [local irreducible] gatG lsmG logitG hidG contextG

namespace R1

variable (V : (c : Dev nD) → (b : Ref sig .tc) → Buf (Elt F) ((c : Thread nD τ).loc b))

/-- The 128 pooled rows of step `n`. -/
def poolAt (p : S256x128.Idx → Elt F .f32) (n : ℕ) : S128x128.Idx → Elt F .f32 :=
  fun y => p (ValueIdx.ix2 ⟨(128 * n + (y 0).val) % 256, Nat.mod_lt _ (by decide)⟩ (y 1))

/-- What the context kernel's buffers hold at step `n`, its own ones at anything. -/
def vals (c : Dev nD) (n : ℕ) : GlobVals F where
  idx := V c main_arg5
  traj := V c main_v27
  pool := poolAt (V c main_v26) n
  wc1 := V c main_arg22
  bc1 := V c main_v28
  wc2 := V c main_arg24
  bc2 := V c main_v29
  out := fun _ => Scalar.ofBits .f32 0
  qg := fun _ => Scalar.ofBits .f32 0

/-- What stays of the core's memory beside the windows, between steps. -/
abbrev Φc (c : Dev nD) : sProp 𝕄 := Pipeline.scopedRest (Ix := Unit) (Name := ℕ) (U := UU) (Lvl := ℕ) (Val := Elt F) spec1 c

/-- The call from contents `V`: every input stays, the output block of a step is the context kernel's. -/
def dat (c : Dev nD) : Dat τ (Elt F) Unit ℕ UU ℕ cfg1 c where
  A w := V c (Pipeline.arrRef spec1 w)
  after w t := match w with
    | ⟨0, _⟩ => V c main_arg5
    | ⟨1, _⟩ => V c main_v27
    | ⟨2, _⟩ => poolAt (V c main_v26) (grid1.coords t 0).val
    | ⟨3, _⟩ => V c main_arg22
    | ⟨4, _⟩ => V c main_v28
    | ⟨5, _⟩ => V c main_arg24
    | ⟨6, _⟩ => V c main_v29
    | ⟨7, _⟩ => (vals V c (grid1.coords t 0).val).outAt (grid1.coords t 0).val
    | ⟨n + 8, h⟩ => absurd h (Nat.not_lt.2 (Nat.le_add_left _ _))
  Φ _ := Φc c
  q _ := fullShare
  owed _ := 0

/-! What an input window's block is. -/

theorem pool_val : ∀ t : Fin grid1.N, win1_2.index t 0 = (grid1.coords t 0).val ∧ win1_2.index t 1 = 0 ∧ (grid1.coords t 0).val < 2 := by decide +kernel

theorem blk_0 (c : Dev nD) (t : Fin cfg1.N) : ((cfg1.win 0).blk t).view.read (Elt F) (V c main_arg5) = V c main_arg5 :=
  Memref.read_access_unit_zero (Elt F) main_arg5 (funext fun a => by fin_cases a <;> exact Nat.zero_mul _) _ _
theorem blk_1 (c : Dev nD) (t : Fin cfg1.N) : ((cfg1.win 1).blk t).view.read (Elt F) (V c main_v27) = V c main_v27 :=
  Memref.read_access_unit_zero (Elt F) main_v27 (funext fun a => by fin_cases a <;> exact Nat.zero_mul _) _ _
theorem blk_2 (c : Dev nD) (t : Fin cfg1.N) : ((cfg1.win 2).blk t).view.read (Elt F) (V c main_v26) = poolAt (V c main_v26) (grid1.coords t 0).val := by
  funext y
  show V c main_v26 (((cfg1.win 2).blk t).view.emb y) = _
  have e0 : ((((cfg1.win 2).blk t).view.emb y) 0).val = 128 * (grid1.coords t 0).val + (y 0).val := by
    blk_simp
    rw [(pool_val t).1, Nat.mul_comm]
  have e1 : (((cfg1.win 2).blk t).view.emb y) 1 = y 1 := by
    apply Fin.ext
    blk_simp
    rw [(pool_val t).2.1, Nat.zero_mul, Nat.zero_add]
  have hy : (y 0).val < 128 := (y 0).isLt
  have ht := (pool_val t).2.2
  generalize ((cfg1.win 2).blk t).view.emb y = z at e0 e1
  unfold poolAt
  refine congrArg _ (funext fun d => ?_)
  fin_cases d
  · exact Fin.ext (show (z 0).val = (128 * (grid1.coords t 0).val + (y 0).val) % 256 by omega)
  · exact e1
theorem blk_3 (c : Dev nD) (t : Fin cfg1.N) : ((cfg1.win 3).blk t).view.read (Elt F) (V c main_arg22) = V c main_arg22 :=
  Memref.read_access_unit_zero (Elt F) main_arg22 (funext fun a => by fin_cases a <;> exact Nat.zero_mul _) _ _
theorem blk_4 (c : Dev nD) (t : Fin cfg1.N) : ((cfg1.win 4).blk t).view.read (Elt F) (V c main_v28) = V c main_v28 :=
  Memref.read_access_unit_zero (Elt F) main_v28 (funext fun a => by fin_cases a <;> exact Nat.zero_mul _) _ _
theorem blk_5 (c : Dev nD) (t : Fin cfg1.N) : ((cfg1.win 5).blk t).view.read (Elt F) (V c main_arg24) = V c main_arg24 :=
  Memref.read_access_unit_zero (Elt F) main_arg24 (funext fun a => by fin_cases a <;> exact Nat.zero_mul _) _ _
theorem blk_6 (c : Dev nD) (t : Fin cfg1.N) : ((cfg1.win 6).blk t).view.read (Elt F) (V c main_v29) = V c main_v29 :=
  Memref.read_access_unit_zero (Elt F) main_v29 (funext fun a => by fin_cases a <;> exact Nat.zero_mul _) _ _

/-! So that is what the body finds there. -/

theorem bef_0 (c : Dev nD) (t : Fin cfg1.N) (d) : (dat V c).before 0 t d = V c main_arg5 :=
  ((dat V c).before_in_eq_fetched 0 rfl (fun _ => rfl) (fun _ _ _ => rfl) (fun t => (blk_0 V c t).symm) t d).trans (blk_0 V c t)
theorem bef_1 (c : Dev nD) (t : Fin cfg1.N) (d) : (dat V c).before 1 t d = V c main_v27 :=
  ((dat V c).before_in_eq_fetched 1 rfl (fun _ => rfl) (fun _ _ _ => rfl) (fun t => (blk_1 V c t).symm) t d).trans (blk_1 V c t)
theorem bef_2 (c : Dev nD) (t : Fin cfg1.N) (d) : (dat V c).before 2 t d = poolAt (V c main_v26) (grid1.coords t 0).val :=
  ((dat V c).before_in_eq_fetched 2 rfl (fun _ => rfl) (fun _ _ _ => rfl) (fun t => (blk_2 V c t).symm) t d).trans (blk_2 V c t)
theorem bef_3 (c : Dev nD) (t : Fin cfg1.N) (d) : (dat V c).before 3 t d = V c main_arg22 :=
  ((dat V c).before_in_eq_fetched 3 rfl (fun _ => rfl) (fun _ _ _ => rfl) (fun t => (blk_3 V c t).symm) t d).trans (blk_3 V c t)
theorem bef_4 (c : Dev nD) (t : Fin cfg1.N) (d) : (dat V c).before 4 t d = V c main_v28 :=
  ((dat V c).before_in_eq_fetched 4 rfl (fun _ => rfl) (fun _ _ _ => rfl) (fun t => (blk_4 V c t).symm) t d).trans (blk_4 V c t)
theorem bef_5 (c : Dev nD) (t : Fin cfg1.N) (d) : (dat V c).before 5 t d = V c main_arg24 :=
  ((dat V c).before_in_eq_fetched 5 rfl (fun _ => rfl) (fun _ _ _ => rfl) (fun t => (blk_5 V c t).symm) t d).trans (blk_5 V c t)
theorem bef_6 (c : Dev nD) (t : Fin cfg1.N) (d) : (dat V c).before 6 t d = V c main_v29 :=
  ((dat V c).before_in_eq_fetched 6 rfl (fun _ => rfl) (fun _ _ _ => rfl) (fun t => (blk_6 V c t).symm) t d).trans (blk_6 V c t)

/-- The buffers the body is called with at step `t`. -/
def globA (t : Fin cfg1.N) : GlobArgs := ⟨win1_0.stage (cfg1.slots t 0), win1_1.stage (cfg1.slots t 1), win1_2.stage (cfg1.slots t 2), win1_3.stage (cfg1.slots t 3), win1_4.stage (cfg1.slots t 4), win1_5.stage (cfg1.slots t 5), win1_6.stage (cfg1.slots t 6), win1_7.stage (cfg1.slots t 7), Memref.whole cc1_scratch0⟩

theorem prog_eq (t : Fin cfg1.N) :
    defs₀ (F := F) .tc cfg1.body (cfg1.bodyArgs t (cfg1.slots t)) = loopG (globA t) (grid1.coords t) >>= fun _ => lineG (globA t) :=
  glob_eq ..

set_option maxHeartbeats 4000000 in
theorem body_obligation (hg : ∀ c y, GoodG (V c main_arg5 y)) (c : Dev nD) :
    BodyObligation (dat V c) (defs₀ (F := F)) Variants.none () Set.univ := fun t => by
  rw [bigSep_W1, bigSep_W1]
  show iprop(Φc c ∗ _ ∗ _) ⊢ WP c (defs₀ (F := F) .tc cfg1.body (cfg1.bodyArgs t (cfg1.slots t))) _
  rw [prog_eq]
  show _ ⊢ WP c _ (fun _ => iprop(Φc c ∗ (dat V c).owesAt () t.succ ∗ own c (globA t).idx (V c main_arg5) ∗ own c (globA t).traj (V c main_v27) ∗ own c (globA t).pool (poolAt (V c main_v26) (grid1.coords t 0).val) ∗ own c (globA t).wc1 (V c main_arg22) ∗ own c (globA t).bc1 (V c main_v28) ∗ own c (globA t).wc2 (V c main_arg24) ∗ own c (globA t).bc2 (V c main_v29) ∗ own c (globA t).out ((vals V c (grid1.coords t 0).val).outAt (grid1.coords t 0).val)))
  rw [show Φc (F := F) c = _ from scopedRest1_eq c]
  iintro ⟨⟨Z0, Z1, Z2, Z3, Z4, Z5, Z6, Z7, Z8, Z9, Z10, Z11, Z12, Z13, Z14, Z15, Z16, Z17, Z18, Z19, Z20, S0, Zr⟩, Ho, ⟨%d0, W0⟩, ⟨%d1, W1⟩, ⟨%d2, W2⟩, ⟨%d3, W3⟩, ⟨%d4, W4⟩, ⟨%d5, W5⟩, ⟨%d6, W6⟩, ⟨%d7, W7⟩⟩
  ihave ⟨%qg, S0⟩ := own_of_pt c cc1_scratch0 $$ S0
  rw [bef_0 V c t d0]
  rw [bef_1 V c t d1]
  rw [bef_2 V c t d2]
  rw [bef_3 V c t d3]
  rw [bef_4 V c t d4]
  rw [bef_5 V c t d5]
  rw [bef_6 V c t d6]
  generalize (dat V c).before 7 t d7 = out
  iapply (glob_wp c (globA t) (grid1.coords t) { vals V c (grid1.coords t 0).val with out := out, qg := qg } (hg c) _) $$ [S0 W0 W1 W2 W3 W4 W5 W6 W7]
  · unfold stG
    dsimp only [vals]
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    iexact S0
  iintro H
  unfold stG
  dsimp only [vals]
  icases H with ⟨W0, W1, W2, W3, W4, W5, W6, W7, S0⟩
  isplitl [S0 Zr Z0 Z1 Z2 Z3 Z4 Z5 Z6 Z7 Z8 Z9 Z10 Z11 Z12 Z13 Z14 Z15 Z16 Z17 Z18 Z19 Z20]
  · isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [S0]; · iapply (pt_of_own c cc1_scratch0); iexists _; iexact S0
    iexact Zr
  isplitl [Ho]; · iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem step_val : ∀ t : Fin grid1.N, win1_7.index t 0 = (grid1.coords t 0).val ∧ win1_7.index t 1 = 0 := by decide +kernel

/-- The whole result: row `r` is row `r % 128` of step `r / 128`'s block. -/
def result (c : Dev nD) : S256x200.Idx → Elt F .f32 :=
  fun y => (vals V c ((y 0).val / 128)).outAt ((y 0).val / 128) (ValueIdx.ix2 ⟨(y 0).val % 128, Nat.mod_lt _ (by decide)⟩ (y 1))

theorem final (c : Dev nD) : (dat V c).arrAt 7 cfg1.N = result V c := by
  refine (dat V c).arrAt_eq_of_covers 7 _ (by decide +kernel) fun t hf y => ?_
  show (vals V c (grid1.coords t 0).val).outAt (grid1.coords t 0).val y = result V c (((cfg1.win 7).blk t).view.emb y)
  have e0 : ((((cfg1.win 7).blk t).view.emb y) 0).val = 128 * (grid1.coords t 0).val + (y 0).val := by
    blk_simp
    rw [(step_val t).1, Nat.mul_comm]
  have e1 : (((cfg1.win 7).blk t).view.emb y) 1 = y 1 := by
    apply Fin.ext
    blk_simp
    rw [(step_val t).2, Nat.zero_mul, Nat.zero_add]
  have hy : (y 0).val < 128 := (y 0).isLt
  generalize ((cfg1.win 7).blk t).view.emb y = z at e0 e1
  unfold result
  have h0 : (z 0).val / 128 = (grid1.coords t 0).val := by omega
  have h1 : (z 0).val % 128 = (y 0).val := by omega
  rw [h0]
  refine congrArg _ (funext fun d => ?_)
  fin_cases d
  · exact Fin.ext h1.symm
  · exact e1.symm

end R1

end Cert.Proof.KernelIdeal
-- ==== Proof.IdealRun.lean ====
/- The whole program's run: what every buffer holds at the end. -/
module

public import proofs.«01_k».proof.Proof.IdealRegion1
public import proofs.«01_k».proof.Proof.Gen.KernelIdeal.Regions
public import proofs.«01_k».proof.Proof.IdealEncWp
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)
open Idealize.ShloMosaic.ValueIdx (eq_ix2)

variable {F : FTy → Type} [FloatOps F] [Named F]

local notation "𝕄" => MT nD τ sig Unit (Elt F) ℕ UU ℕ

attribute [local irreducible] embV lnV attV ffV poolV upd gatE gatT gatG lsmG logitG hidG contextG R0.result R1.result Dat.arrAt

/-- A core's thread state beside its buffers: it owes nothing. -/
abbrev quiet (c : Dev nD) : sProp 𝕄 := iprop(∃ W, owes (c : Thread nD τ) (0 : CellTallies nD τ sig Unit) W)

section Regions

variable (V V' : (c : Dev nD) → (b : Ref sig .tc) → Buf (Elt F) ((c : Thread nD τ).loc b))

/-- Both calls' proof data: the first entered from `V`, the second from `V'`. -/
def pdats : (p : Fin 2) → (c : Dev nD) → Dat τ (Elt F) Unit ℕ UU ℕ (cfgs p) c
  | ⟨0, _⟩ => fun c => R0.dat V c
  | ⟨1, _⟩ => fun c => R1.dat V' c

theorem inputs0 : ∀ w : Fin 18, w ≠ 17 → (cfg0.win w).isOut = false ∧ Pipeline.arrRef spec0 w ≠ main_v26 := by decide

/-- What each window's array holds after the call. -/
theorem end0 (W : (c : Dev nD) → (b : Ref sig .tc) → Buf (Elt F) ((c : Thread nD τ).loc b))
    (hout : ∀ c, W c main_v26 = R0.result V c) (hne : ∀ c (b : Ref sig .tc), b ≠ main_v26 → W c b = V c b) (c : Dev nD) :
    ∀ w : Fin 18, (R0.dat V c).arrAt w cfg0.N = W c (Pipeline.arrRef spec0 w) := by
  intro w
  by_cases h : w = 17
  · subst h
    exact (R0.final V c).trans (hout c).symm
  · exact ((R0.dat V c).arrAt_in w (inputs0 w h).1 _).trans (hne c _ (inputs0 w h).2).symm

set_option maxHeartbeats 2000000 in
set_option backward.isDefEq.respectTransparency.types false in
/-- The encoder's call, from the buffers at `V` to the buffers at `W`. -/
def reg0 (W : (c : Dev nD) → (b : Ref sig .tc) → Buf (Elt F) ((c : Thread nD τ).loc b)) (hg : ∀ c y, Good (V c main_v8 y))
    (hout : ∀ c, W c main_v26 = R0.result V c) (hne : ∀ c (b : Ref sig .tc), b ≠ main_v26 → W c b = V c b) :
    Pipeline.RegionSeg (pcfgs (F := F)) adm (pdats V V') () defs₀ Variants.none L₀ lv₀ 0 where
  win := launch0.win.to₀
  block_pos := launch0.block_pos
  stage_whole := launch0.stage_whole
  K := PEmpty
  osem k := k.elim
  ho := Pipeline.OwnSemFacts.none _
  hbody c := (R0.body_obligation V hg c).loose
  hwaits := Pipeline.hwaits_of_owed_zero _ _ _ _ L₀ lv₀ 0 fun _ _ => rfl
  pre c := iprop(unscopedBufs c (V c) ∗ quiet c)
  post c := iprop(unscopedBufs c (W c) ∗ quiet c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V V') launch0.win launch0.arr_whole c
      ((pdats V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 0 c).Φ 0 = R0.Φc c from rfl]
    iintro ⟨-, -, Hr⟩; iexact Hr
  hout c := by
    rw [Pipeline.ownSems0_none, show (pdats V V' 0 c).Φ (Fin.last _) = R0.Φc c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V V') ((pdats V V' 0 c).share_full fun _ => rfl) (V c) (W c) ((pdats V V' 0 c).arrAt · cfg0.N)
      (fun w => end0 V W hout hne c w)
      (fun b hb => hne c b fun h => hb (h ▸ Finset.mem_image.mpr ⟨17, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem inputs1 : ∀ w : Fin 8, w ≠ 7 → (cfg1.win w).isOut = false ∧ Pipeline.arrRef spec1 w ≠ main_v30 := by decide

/-- What each window's array holds after the call. -/
theorem end1 (W : (c : Dev nD) → (b : Ref sig .tc) → Buf (Elt F) ((c : Thread nD τ).loc b))
    (hout : ∀ c, W c main_v30 = R1.result V' c) (hne : ∀ c (b : Ref sig .tc), b ≠ main_v30 → W c b = V' c b) (c : Dev nD) :
    ∀ w : Fin 8, (R1.dat V' c).arrAt w cfg1.N = W c (Pipeline.arrRef spec1 w) := by
  intro w
  by_cases h : w = 7
  · subst h
    exact (R1.final V' c).trans (hout c).symm
  · exact ((R1.dat V' c).arrAt_in w (inputs1 w h).1 _).trans (hne c _ (inputs1 w h).2).symm

set_option maxHeartbeats 2000000 in
set_option backward.isDefEq.respectTransparency.types false in
/-- The context call, from the buffers at `V'` to the buffers at `W`. -/
def reg1 (W : (c : Dev nD) → (b : Ref sig .tc) → Buf (Elt F) ((c : Thread nD τ).loc b)) (hg : ∀ c y, GoodG (V' c main_arg5 y))
    (hout : ∀ c, W c main_v30 = R1.result V' c) (hne : ∀ c (b : Ref sig .tc), b ≠ main_v30 → W c b = V' c b) :
    Pipeline.RegionSeg (pcfgs (F := F)) adm (pdats V V') () defs₀ Variants.none L₀ lv₀ 1 where
  win := launch1.win.to₀
  block_pos := launch1.block_pos
  stage_whole := launch1.stage_whole
  K := PEmpty
  osem k := k.elim
  ho := Pipeline.OwnSemFacts.none _
  hbody c := (R1.body_obligation V' hg c).loose
  hwaits := Pipeline.hwaits_of_owed_zero _ _ _ _ L₀ lv₀ 1 fun _ _ => rfl
  pre c := iprop(unscopedBufs c (V' c) ∗ quiet c)
  post c := iprop(unscopedBufs c (W c) ∗ quiet c)
  X _ := BI.emp
  Y _ := BI.emp
  Z c := Pipeline.unscopedRest (Ix := Unit) (Name := ℕ) (U := UU) (Lvl := ℕ) spec1 c (V' c)
  hentry c := by
    rw [Pipeline.ownSems0_none]
    have hsplit := Pipeline.arrays_of_unscopedBufs (p := 1) (pcfgs (F := F)) adm (pdats V V') launch1.win launch1.arr_whole c
      ((pdats V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V V' 1 c).Φ 0 = R1.Φc c from rfl]
    iintro ⟨-, -, Hr⟩; iexact Hr
  hout c := by
    rw [Pipeline.ownSems0_none, show (pdats V V' 1 c).Φ (Fin.last _) = R1.Φc c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats V V') ((pdats V V' 1 c).share_full fun _ => rfl) (V' c) (W c) ((pdats V V' 1 c).arrAt · cfg1.N)
      (fun w => end1 V' W hout hne c w)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Regions

section Run

variable (m : (ℓ : Loc nD τ sig) → Buf (Elt F) ℓ) (ρ : Dev nD → PrngReg)

/-- The buffers the encoder's call is entered with, and its result. -/
def entry0 (c : Dev nD) (b : Ref sig .tc) : Buf (Elt F) ((c : Thread nD τ).loc b) := V5 m c b
def outs0 : Outs (F := F) := fun _ r c => (Function.update (V5 m c) main_v26 (R0.result (entry0 m) c) : Valuation τ sig (Elt F)) r

/-- The buffers the context call is entered with, and what both calls leave. -/
def entry1 (c : Dev nD) (b : Ref sig .tc) : Buf (Elt F) ((c : Thread nD τ).loc b) := V9 m (outs0 m) c b
def outs : Outs (F := F) := fun n r c =>
  match n with
  | 10 => (Function.update (V9 m (outs0 m) c) main_v30 (R1.result (entry1 m) c) : Valuation τ sig (Elt F)) r
  | n => outs0 m n r c

theorem V6_outs (c : Dev nD) : V6 m (outs m) c = V6 m (outs0 m) c := rfl

theorem V6_v26 (c : Dev nD) : V6 m (outs m) c main_v26 = R0.result (entry0 m) c := by
  exact (Function.update_self (Proc.devRef .tc main_v26 : DevRef τ sig) (outs0 m 6 main_v26 c) (V5 m c)).trans
    (Function.update_self (Proc.devRef .tc main_v26 : DevRef τ sig) (R0.result (entry0 m) c) (V5 m c))

theorem V10_v30 (c : Dev nD) : V10 m (outs m) c main_v30 = R1.result (entry1 m) c := by
  exact (Function.update_self (Proc.devRef .tc main_v30 : DevRef τ sig) (outs m 10 main_v30 c) (V9 m (outs m) c)).trans
    (Function.update_self (Proc.devRef .tc main_v30 : DevRef τ sig) (R1.result (entry1 m) c) (V9 m (outs0 m) c))

/-- What the run leaves: every buffer that lives across the run at the last contents. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = V10 m (outs m) c (Proc.devRef .tc b)

theorem entryTo0 (c : Dev nD) : (iprop(StableHlo.held (c : Thread nD τ) (Pipeline.ucRefs τ sig) (V5 m c) ∗ quiet c) : sProp 𝕄)
    ⊢ iprop(unscopedBufs c (entry0 m c) ∗ quiet c) := by
  rw [← Pipeline.unscopedBufs_held]
  exact .rfl

theorem exitFrom0 (c : Dev nD) : (iprop(unscopedBufs c (fun b => V6 m (outs m) c b) ∗ quiet c) : sProp 𝕄)
    ⊢ iprop(StableHlo.held (c : Thread nD τ) (Pipeline.ucRefs τ sig) (V6 m (outs m) c) ∗ quiet c) := by
  rw [← Pipeline.unscopedBufs_held]

theorem entryTo1 (c : Dev nD) : (iprop(StableHlo.held (c : Thread nD τ) (Pipeline.ucRefs τ sig) (V9 m (outs m) c) ∗ quiet c) : sProp 𝕄)
    ⊢ iprop(unscopedBufs c (entry1 m c) ∗ quiet c) := by
  rw [← Pipeline.unscopedBufs_held]
  exact .rfl

theorem exitFrom1 (c : Dev nD) : (iprop(unscopedBufs c (fun b => V10 m (outs m) c b) ∗ quiet c) : sProp 𝕄)
    ⊢ iprop(StableHlo.held (c : Thread nD τ) (Pipeline.ucRefs τ sig) (V10 m (outs m) c) ∗ quiet c) := by
  rw [← Pipeline.unscopedBufs_held]

def u₀ : UU :=
  (initOf (Pipeline.cells (nD := nD) (τ := τ) cfgs cellOf_inj) (Pipeline.launchToks (nD := nD) (τ := τ) cfgs cellOf_inj), 1)

section

/-- The first call's record. -/
def call0 (hg0 : ∀ c y, Good (entry0 m c main_v8 y)) : Pipeline.RegionSeg (pcfgs (F := F)) adm (pdats (entry0 m) (entry1 m)) () defs₀ Variants.none L₀ lv₀ 0 :=
  reg0 (entry0 m) (entry1 m) (fun c b => V6 m (outs m) c b) hg0 (V6_v26 m) fun c b h => V6_of m (outs m) c b (fun hm => h (List.mem_singleton.mp hm))
def call1 (hg1 : ∀ c y, GoodG (entry1 m c main_arg5 y)) : Pipeline.RegionSeg (pcfgs (F := F)) adm (pdats (entry0 m) (entry1 m)) () defs₀ Variants.none L₀ lv₀ 1 :=
  reg1 (entry0 m) (entry1 m) (fun c b => V10 m (outs m) c b) hg1 (V10_v30 m) fun c b h => V10_of m (outs m) c b (fun hm => h (List.mem_singleton.mp hm))

set_option backward.isDefEq.respectTransparency.types false in
set_option maxHeartbeats 1000000 in
/-- The run from any memory whose index words are in range. -/
theorem run_main (hg0 : ∀ c y, Good (entry0 m c main_v8 y)) (hg1 : ∀ c y, GoodG (entry1 m c main_arg5 y)) : θ_run defs (onTc (τ := τ) (main (F := F))) ⟨m, fun _ => 0, ρ⟩ (fun r => Final m r.2 ∧ r.2.sem = fun _ => 0) := by
  refine Pipeline.θ_run_regions_kit_dev_sems (pcfgs (F := F)) adm (pdats (entry0 m) (entry1 m)) () cellOf_inj (embL : Emb (UR sig nD τ) 𝕄) defs₀ Variants.none L₀ lv₀ m ρ main
    (segs m (outs m) Variants.none L₀ lv₀ (fun _ c => quiet c) () (pdats (entry0 m) (entry1 m)) (call0 m hg0) (call1 m hg1))
    (fun c Q => by
      rewrite [main_chain c, Seg.run_eq_chain, show (segs m (outs m) Variants.none L₀ lv₀ (fun _ c => quiet c) () (pdats (entry0 m) (entry1 m)) (call0 m hg0) (call1 m hg1) c).map Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1, StableHlo.seq hostOps1_1, StableHlo.seq hostOps1_2,
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := fun _ => 0) (hL := fun _ _ => rfl) (G := fun _ => BI.emp) (u₀ := u₀) (hu₀ := ?_)
    (T₀ := fun c => iprop(StableHlo.held (c : Thread nD τ) (Pipeline.ucRefs τ sig) (V0 m c) ∗ quiet c))
    (Tₙ := fun c => StableHlo.held (c : Thread nD τ) (Pipeline.ucRefs τ sig) (V10 m (outs m) c))
    (hch := fun c => ⟨.rfl, .rfl, .rfl, .rfl, .rfl, entryTo0 m c, exitFrom0 m c, .rfl, .rfl, entryTo1 m c, exitFrom1 m c⟩)
    (hinit := ?_)
    (QY := fun c s => ∀ b : Ref sig .tc, (Proc.devRef .tc b : DevRef τ sig) ∈ Pipeline.ucRefs τ sig →
      s.mem ((c : Thread nD τ).loc b) = V10 m (outs m) c (Proc.devRef .tc b))
    (hfin := fun c s' => ?_) (hQ := fun _ h hz => ⟨fun c b hb => h c b hb, funext fun g => hz g (.inr (regions_no_unscoped g.2))⟩)
  · unfold u₀
    iintro Hu
    ihave H := (ownU_pair _ _) $$ Hu
    icases H with ⟨HP, HX⟩
    imodintro
    isplitl [HP]; · iexact HP
    rw [BI.bigSep_emp_const]; iempintro
  · have hs (c : Dev nD) : iprop(unscopedBufs c (fun b => m ((c : Thread nD τ).loc b)) ∗ unscopedSems0 c
          ∗ owes (c : Thread nD τ) (0 : CellTallies nD τ sig Unit) ∅ ∗ Pipeline.launchCred (fun _ => 0) c ∗ prngReg c (ρ c) ∗ BI.emp)
        ⊢ (iprop(StableHlo.held (c : Thread nD τ) (Pipeline.ucRefs τ sig) (V0 m c) ∗ quiet c) : sProp 𝕄) := by
      rw [← Pipeline.unscopedBufs_held]
      iintro ⟨Hb, -, HO, -⟩
      isplitl [Hb]; · iexact Hb
      iexists _; iexact HO
    iintro ⟨H, -⟩
    imodintro
    have hb := BI.bigSep_mono (s := (Finset.univ : Finset (Dev nD))) fun c _ => hs c
    iapply (show _ ⊢ _ from hb) $$ H
  · unfold StableHlo.held
    iintro ⟨Hh, HSI⟩
    ihave Hr := (pointsTo_read_all (Pipeline.ucRefs τ sig) (fun b => ((c : Thread nD τ).1, b)) (V10 m (outs m) c) s') $$ [Hh HSI]
    · isplitl [Hh] <;> iassumption
    icases Hr with ⟨%h, HSI⟩
    imodintro
    isplitr
    · ipureintro
      exact fun b hb => h _ hb
    iexact HSI

end

end Run

end Cert.Proof.KernelIdeal
-- ==== Proof.Precond.lean ====
/- What the precondition says of the integer arguments, element by element. -/
module

public import proofs.«01_k».proof.Defs
public import proofs.«01_k».proof.Proof.Gen.Pre_drawn
public import Idealize.ShloMosaic.Lib.ReduceAll
public import Idealize.ShloMosaic.Lib.WordCmp
public import Idealize.ShloMosaic.Lib.Pipeline.ValueKit

@[expose] public section

noncomputable section

namespace Cert.Proof.Precond

open Idealize.ShloMosaic Cert.Pre_drawn Cert.Pre_drawn.Facts

/-- The ranges of one visit's three words: past column 192 the cell word is negative, before it a cell number; the
    time word is below 125 and the state word below 10. -/
structure Visit (col : ℕ) (s t k : BitVec 32) : Prop where
  padded : 192 ≤ col → s.toInt < 0
  cell : col < 192 → 0 ≤ s.toInt ∧ s.toInt < 8192
  time : 0 ≤ t.toInt ∧ t.toInt < 125
  state : 0 ≤ k.toInt ∧ k.toInt < 10

/-- The ranges of all integer arguments. -/
structure Ranges (a2 a3 a4 : S256x256.Idx → BitVec 32) (a5 : S256.Idx → BitVec 32) : Prop where
  visit : ∀ y, Visit (y 1).val (a2 y) (a3 y) (a4 y)
  row : ∀ y, 0 ≤ (a5 y).toInt ∧ (a5 y).toInt < 20000

theorem and_one {a b : BitVec 1} (h : IntOp.andi a b = 1#1) : a = 1#1 ∧ b = 1#1 := by
  revert h; revert a b; decide

theorem or_one {a b : BitVec 1} (h : IntOp.ori a b = 1#1) : a = 1#1 ∨ b = 1#1 := by
  revert h; revert a b; decide

theorem ofBool_one {p : Prop} [Decidable p] (h : BitVec.ofBool (decide p) = 1#1) : p := by
  by_contra hn
  rw [decide_eq_false hn] at h
  exact absurd h (by decide)

theorem sge_one {w : ℕ} {x y : BitVec w} (h : IntOp.cmpi .sge x y = 1#1) : y.toInt ≤ x.toInt := ofBool_one h
theorem slt_one {w : ℕ} {x y : BitVec w} (h : IntOp.cmpi .slt x y = 1#1) : x.toInt < y.toInt := ofBool_one h

theorem col_word (n : Fin 256) : (BitVec.ofNat 32 n.val).toInt = n.val := by
  revert n; decide

instance : Subsingleton S_.Idx := ⟨fun a b => funext fun k => absurd k.isLt (Nat.not_lt_zero _)⟩

/-- The word test of one visit, as the precondition writes it, is the ranges of that visit. -/
theorem visit_of (col : Fin 256) (s t k : BitVec 32)
    (h : IntOp.andi (IntOp.andi (IntOp.ori
        (IntOp.andi (IntOp.cmpi .sge (BitVec.ofNat 32 col.val) 192#32) (IntOp.cmpi .slt s 0#32))
        (IntOp.andi ((~~~(IntOp.cmpi .sge (BitVec.ofNat 32 col.val) 192#32)))
          (IntOp.andi (IntOp.cmpi .sge s 0#32) (IntOp.cmpi .slt s 8192#32))))
        (IntOp.andi (IntOp.cmpi .sge t 0#32) (IntOp.cmpi .slt t 125#32)))
      (IntOp.andi (IntOp.cmpi .sge k 0#32) (IntOp.cmpi .slt k 10#32)) = 1#1) : Visit col.val s t k := by
  obtain ⟨h, hk⟩ := and_one h
  obtain ⟨h, ht⟩ := and_one h
  obtain ⟨hk0, hk1⟩ := and_one hk
  obtain ⟨ht0, ht1⟩ := and_one ht
  have e : ((192 : BitVec 32)).toInt = 192 := by decide
  refine ⟨fun hc => ?_, fun hc => ?_, ⟨sge_one ht0, slt_one ht1⟩, ⟨sge_one hk0, slt_one hk1⟩⟩
  · rcases or_one h with h | h
    · exact slt_one (and_one h).2
    · have h1 := (and_one h).1
      have : IntOp.cmpi .sge (BitVec.ofNat 32 col.val) 192#32 = 1#1 := by
        rw [WordCmp.cmpi_sge_eq, col_word]
        have : (192#32 : BitVec 32).toInt ≤ (col.val : ℤ) := by
          rw [show (192#32 : BitVec 32).toInt = 192 from by decide]; exact_mod_cast hc
        rw [decide_eq_true this]; rfl
      rw [this] at h1
      exact absurd h1 (by decide)
  · rcases or_one h with h | h
    · have h1 := sge_one (and_one h).1
      rw [col_word, show (192#32 : BitVec 32).toInt = 192 from by decide] at h1
      omega
    · have h2 := (and_one h).2
      exact ⟨sge_one (and_one h2).1, slt_one (and_one h2).2⟩

variable {F : FTy → Type} [FloatOps F]

/-- The precondition gives the ranges. -/
theorem ranges [Cert.Pre_drawn.Facts] (a0 : FVec F S8192x128 .f32) (a1 : FVec F S20000x128 .f32)
    (a2 a3 a4 : IVec S256x256 32) (a5 : IVec S256 32) (a6 a7 a8 a9 a10 a11 a12 a13 a14 a15 a16 a17 a18 a19 a20 a21 a22 a23 a24 a25)
    (h : Cert.Pre_drawn.fn (F := F) a0 a1 a2 a3 a4 a5 a6 a7 a8 a9 a10 a11 a12 a13 a14 a15 a16 a17 a18 a19 a20 a21 a22 a23 a24 a25
      = fun _ => 1#1) : Ranges a2 a3 a4 a5 := by
  have h0 := congrFun h (Shape.Idx.first h_S_)
  unfold Cert.Pre_drawn.fn Cert.Pre_drawn.fn_part1 at h0
  obtain ⟨hv, hr⟩ := and_one h0
  refine ⟨fun y => ?_, fun y => ?_⟩
  · exact visit_of (y 1) (a2 y) (a3 y) (a4 y) (Host.reduce_andi_all _ _ _ _ _ hv y)
  · have := and_one (Host.reduce_andi_all _ _ _ _ _ hr y)
    exact ⟨sge_one this.1, slt_one this.2⟩

end Cert.Proof.Precond

end
-- ==== Proof.IdealEntry.lean ====
/- The words the two calls read, in terms of the arguments, and the frame of the whole program under the ranges. -/
module

public import proofs.«01_k».proof.Proof.IdealRun
public import proofs.«01_k».proof.Proof.Precond

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.Sem
open Cert.Proof.Precond

variable {F : FTy → Type} [FloatOps F] [Named F]
variable (m : (ℓ : Loc nD τ sig) → Buf (Elt F) ℓ)

/-- The packed word of one visit. -/
def packed (s t k : BitVec 32) : BitVec 32 :=
  IntOp.addi (IntOp.addi (IntOp.muli (if IntOp.cmpi .sge s 0#32 = 1#1 then s else 0#32) 2048#32) (IntOp.muli t 10#32)) k

theorem V1_arg (c : Dev nD) (r : Ref sig .tc) (h : r ∉ hostOps0_W) : V1 m c r = m ((c.tc : Thread nD τ).loc r) := V1_of m c r h

theorem entry0_words (c : Dev nD) (y : S256x256.Idx) :
    entry0 m c main_v8 y = packed (m ((c.tc : Thread nD τ).loc main_arg2) y) (m ((c.tc : Thread nD τ).loc main_arg3) y)
      (m ((c.tc : Thread nD τ).loc main_arg4) y) := by
  have e5 : entry0 m c main_v8 = V3 m c main_v8 :=
    (V5_of m c main_v8 (by decide)).trans (V4_of m c main_v8 (by decide))
  rw [e5]
  simp only [V3, StableHlo.after_cons, StableHlo.after_nil, hostOps0_2]
  rfl

theorem entry1_words (c : Dev nD) : entry1 m c main_arg5 = m ((c.tc : Thread nD τ).loc main_arg5) :=
  (V10_of m (outs0 m) c main_arg5 (by decide)).symm.trans (V10_main_arg5 m (outs0 m) c)

theorem toNat_of_range {x : BitVec 32} {n : ℕ} (hn : n ≤ 2 ^ 31) (h : 0 ≤ x.toInt ∧ x.toInt < n) : x.toNat < n := by
  have := BitVec.toInt_eq_toNat_cond x
  have hx := x.isLt
  split_ifs at this <;> omega

theorem neg_toNat {x : BitVec 32} (h : x.toInt < 0) : ¬ IntOp.cmpi .sge x 0#32 = 1#1 := by
  intro hc
  have := sge_one hc
  rw [show (0#32 : BitVec 32).toInt = 0 from by decide] at this
  omega

theorem sge_of {x : BitVec 32} (h : 0 ≤ x.toInt) : IntOp.cmpi .sge x 0#32 = 1#1 := by
  rw [WordCmp.cmpi_sge_eq, show (0#32 : BitVec 32).toInt = 0 from by decide, decide_eq_true h]; rfl

/-- The packed word as a number, when the three words are in range. -/
theorem packed_toNat {s t k : BitVec 32} (hs : s.toNat < 8192) (ht : t.toNat < 125) (hk : k.toNat < 10) (hp : 0 ≤ s.toInt) :
    (packed s t k).toNat = s.toNat * 2048 + (t.toNat * 10 + k.toNat) := by
  unfold packed
  rw [if_pos (sge_of hp)]
  show (s * 2048#32 + t * 10#32 + k).toNat = _
  simp only [BitVec.toNat_add, BitVec.toNat_mul, BitVec.toNat_ofNat]
  omega

theorem packed_toNat_pad {s t k : BitVec 32} (ht : t.toNat < 125) (hk : k.toNat < 10) (hp : s.toInt < 0) :
    (packed s t k).toNat = t.toNat * 10 + k.toNat := by
  unfold packed
  rw [if_neg (neg_toNat hp)]
  show (0#32 * 2048#32 + t * 10#32 + k).toNat = _
  simp only [BitVec.toNat_add, BitVec.toNat_mul, BitVec.toNat_ofNat]
  omega

theorem packed_good {col : ℕ} {s t k : BitVec 32} (h : Visit col s t k) : Good (packed s t k) := by
  have ht := toNat_of_range (n := 125) (by norm_num) h.time
  have hk := toNat_of_range (n := 10) (by norm_num) h.state
  rcases Nat.lt_or_ge col 192 with hc | hc
  · have hs := toNat_of_range (n := 8192) (by norm_num) (h.cell hc)
    have e := packed_toNat hs ht hk (h.cell hc).1
    have e2 : (packed s t k).toNat % 2048 = t.toNat * 10 + k.toNat := by
      rw [e, Nat.mul_comm, Nat.mul_add_mod, Nat.mod_eq_of_lt (by omega)]
    exact ⟨by omega, by omega⟩
  · have e := packed_toNat_pad ht hk (h.padded hc)
    constructor <;> omega

/-- The ranges of device `c`'s integer arguments. -/
abbrev InRange (c : Dev nD) : Prop :=
  Ranges (m ((c.tc : Thread nD τ).loc main_arg2)) (m ((c.tc : Thread nD τ).loc main_arg3)) (m ((c.tc : Thread nD τ).loc main_arg4))
    (m ((c.tc : Thread nD τ).loc main_arg5))

theorem good0 (h : ∀ c, InRange m c) (c : Dev nD) (y : S256x256.Idx) : Good (entry0 m c main_v8 y) := by
  rw [entry0_words]; exact packed_good ((h c).visit y)

theorem good1 (h : ∀ c, InRange m c) (c : Dev nD) (y : S256.Idx) : GoodG (entry1 m c main_arg5 y) := by
  rw [entry1_words]; exact toNat_of_range (n := 20000) (by norm_num) ((h c).row y)

end Cert.Proof.KernelIdeal

end
-- ==== Proof.IdealFrame.lean ====
/- The frame of the whole program, for any values of the floats: it ends, its arguments unchanged and every counter zero. -/
module

public import proofs.«01_k».proof.Proof.IdealEntry

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.Sem
open Cert.Proof.Precond

variable {F : FTy → Type} [FloatOps F] [Named F]

/-- The precondition at the program's own memory. -/
def Drawn (F : FTy → Type) [FloatOps F] [Cert.Pre_drawn.Facts] (m : (ℓ : Loc nD τ sig) → Buf (Elt F) ℓ) : Prop :=
  ∀ c : Dev nD, Cert.Pre_drawn.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) = (fun _ => 1#1)

/-- The program's frame. -/
def Framed (F : FTy → Type) [FloatOps F] [Named F] [Cert.Pre_drawn.Facts] : Prop :=
  ∀ (m : (ℓ : Loc nD τ sig) → Buf (Elt F) ℓ) (g : Dev nD → PrngReg), Drawn F m →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25))
      ∧ r.2.sem = fun _ => 0)

theorem inRange [Cert.Pre_drawn.Facts] {m : (ℓ : Loc nD τ sig) → Buf (Elt F) ℓ} (h : Drawn F m) (c : Dev nD) : InRange m c :=
  ranges _ _ _ _ _ _ _ _ _ _ _ _ _ _ _ _ _ _ _ _ _ _ _ _ _ _ (h c)

/-- What an unscoped buffer holds at the end. -/
theorem at_end {m : (ℓ : Loc nD τ sig) → Buf (Elt F) ℓ} {s} (h : Final m s) (c : Dev nD) (r : Ref sig .tc)
    (hr : ¬ (Proc.devRef .tc r : DevRef τ sig).isScoped) {x} (e : V10 m (outs m) c (Proc.devRef .tc r) = x) :
    s.mem ((c.tc : Thread nD τ).loc r) = x :=
  (h c r (Finset.mem_filter.mpr ⟨StableHlo.devRef_mem_tcRefs r, hr⟩)).trans e

theorem framed [Cert.Pre_drawn.Facts] : Framed F := fun m g hd =>
  (θ_run defs _ _).mono (fun r hf => ⟨fun c => by
      have h := hf.1
      exact ⟨at_end h c main_arg0 (by decide) (V10_main_arg0 m (outs m) c),
        at_end h c main_arg1 (by decide) (V10_main_arg1 m (outs m) c),
        at_end h c main_arg2 (by decide) (V10_main_arg2 m (outs m) c),
        at_end h c main_arg3 (by decide) (V10_main_arg3 m (outs m) c),
        at_end h c main_arg4 (by decide) (V10_main_arg4 m (outs m) c),
        at_end h c main_arg5 (by decide) (V10_main_arg5 m (outs m) c),
        at_end h c main_arg6 (by decide) (V10_main_arg6 m (outs m) c),
        at_end h c main_arg7 (by decide) (V10_main_arg7 m (outs m) c),
        at_end h c main_arg8 (by decide) (V10_main_arg8 m (outs m) c),
        at_end h c main_arg9 (by decide) (V10_main_arg9 m (outs m) c),
        at_end h c main_arg10 (by decide) (V10_main_arg10 m (outs m) c),
        at_end h c main_arg11 (by decide) (V10_main_arg11 m (outs m) c),
        at_end h c main_arg12 (by decide) (V10_main_arg12 m (outs m) c),
        at_end h c main_arg13 (by decide) (V10_main_arg13 m (outs m) c),
        at_end h c main_arg14 (by decide) (V10_main_arg14 m (outs m) c),
        at_end h c main_arg15 (by decide) (V10_main_arg15 m (outs m) c),
        at_end h c main_arg16 (by decide) (V10_main_arg16 m (outs m) c),
        at_end h c main_arg17 (by decide) (V10_main_arg17 m (outs m) c),
        at_end h c main_arg18 (by decide) (V10_main_arg18 m (outs m) c),
        at_end h c main_arg19 (by decide) (V10_main_arg19 m (outs m) c),
        at_end h c main_arg20 (by decide) (V10_main_arg20 m (outs m) c),
        at_end h c main_arg21 (by decide) (V10_main_arg21 m (outs m) c),
        at_end h c main_arg22 (by decide) (V10_main_arg22 m (outs m) c),
        at_end h c main_arg23 (by decide) (V10_main_arg23 m (outs m) c),
        at_end h c main_arg24 (by decide) (V10_main_arg24 m (outs m) c),
        at_end h c main_arg25 (by decide) (V10_main_arg25 m (outs m) c)⟩, hf.2⟩)
    (run_main m g (good0 m (inRange hd)) (good1 m (inRange hd)))

end Cert.Proof.KernelIdeal

end
-- ==== Proof.BitFrame.lean ====
/- The kernel at bit patterns is the idealized kernel's own program with the mask constant read as its bits. -/
module

public import proofs.«01_k».proof.Proof.IdealFrame
public import proofs.«01_k».proof.Proof.Gen.Kernel

@[expose] public section

noncomputable section

namespace Cert.Proof.BitFrame

open Idealize.ShloMosaic Idealize.ShloMosaic.Tactic

/-- On bit patterns a named constant is its bits. -/
local instance bitsNamed : Named Bits := ⟨fun _ _ _ b => FloatOps.ofBits _ b⟩

/-- The kernel's frame is the statement proved for any float values, at bit patterns. -/
theorem statement_eq : Cert.quiescent_Kernel (hKernel := Cert.Kernel.Gen.facts) (hPre_drawn := Cert.Pre_drawn.Gen.facts)
    = Cert.Proof.KernelIdeal.Framed Bits := by
  sl_kernel_rfl

theorem framed : Cert.quiescent_Kernel (hKernel := Cert.Kernel.Gen.facts) (hPre_drawn := Cert.Pre_drawn.Gen.facts) :=
  statement_eq.mpr (Cert.Proof.KernelIdeal.framed (F := Bits))

end Cert.Proof.BitFrame

end
-- ==== Proof.IdealEntryVal.lean ====
/- What the host operations hand the two calls, element by element. -/
module

public import proofs.«01_k».proof.Proof.IdealEntry
public import Idealize.ShloMosaic.Lib.Pointwise

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.Sem

variable (m : (ℓ : Loc nD τ sig) → Buf (Elt Ideal) ℓ) (c : Dev nD)

theorem entry0_of (r : Ref sig .tc) (h4 : r ∉ hostOps0_4_W) (h3 : r ∉ hostOps0_3_W) (h2 : r ∉ hostOps0_2_W) (h1 : r ∉ hostOps0_1_W) (h0 : r ∉ hostOps0_W) :
    entry0 m c r = m ((c.tc : Thread nD τ).loc r) :=
  (V5_of m c r h4).trans <| (V4_of m c r h3).trans <| (V3_of m c r h2).trans <| (V2_of m c r h1).trans (V1_of m c r h0)

/-- The three projections' weights side by side. -/
def qkvW (q k v : FVec Ideal S2x128x128 .f32) : FVec Ideal S2x128x384 .f32 :=
  concatenate S2x128x384 2 [⟨S2x128x128, q⟩, ⟨S2x128x128, k⟩, ⟨S2x128x128, v⟩] concatenates_S2x128x128_S2x128x128_S2x128x128_S2x128x384_d2
theorem qkvW_0 (q k v) (l : Fin 2) (a j : Fin 128) : qkvW q k v (ix3 l a ⟨j.val, by omega⟩) = q (ix3 l a j) := by
  pointwise [qkvW]
theorem qkvW_1 (q k v) (l : Fin 2) (a j : Fin 128) : qkvW q k v (ix3 l a ⟨128 + j.val, by omega⟩) = k (ix3 l a j) := by
  pointwise [qkvW]
theorem qkvW_2 (q k v) (l : Fin 2) (a j : Fin 128) : qkvW q k v (ix3 l a ⟨256 + j.val, by omega⟩) = v (ix3 l a j) := by
  pointwise [qkvW]
  rw [dif_neg (by omega), dif_neg (by omega)]
  exact congrArg (fun r => v (ix3 l a r)) (Fin.ext (by show 256 + j.val - 128 - 128 = j.val; omega))

/-- The joint table of times and states: its row `10 t + k` holds time `t` then state `k`. -/
def timesW (t : FVec Ideal S125x32 .f32) : FVec Ideal S1250x32 .f32 := shapeCast S1250x32 (broadcastInDim S125x10x32 ![0, 2] bcast_S125x32_S125x10x32_0_2 t) shapeCasts_S125x10x32_S1250x32
def statesW (s : FVec Ideal S10x32 .f32) : FVec Ideal S1250x32 .f32 :=
  shapeCast S1250x32 (broadcastInDim S125x10x1x32 ![0, 1, 2, 3] bcast_S1x10x1x32_S125x10x1x32_0_1_2_3 (shapeCast S1x10x1x32 s shapeCasts_S10x32_S1x10x1x32)) shapeCasts_S125x10x1x32_S1250x32
def pairW (a b : FVec Ideal S1250x32 .f32) : FVec Ideal S1250x64 .f32 := concatenate S1250x64 1 [⟨S1250x32, a⟩, ⟨S1250x32, b⟩] concatenates_S1250x32_S1250x32_S1250x64_d1
def jointW (x : FVec Ideal S1250x64 .f32) : FVec Ideal S1256x64 .f32 := pad S1256x64 ![0, 0] ![6, 0] ![0, 0] x (sitofp .f32 (constantI S_ 32 0#32)) pads_S1250x64_S1256x64_060_000 h_S_
theorem timesW_apply (t : FVec Ideal S125x32 .f32) (p : Fin 125) (k : Fin 10) (j : Fin 32) : timesW t (ix2 ⟨p.val * 10 + k.val, by omega⟩ j) = t (ix2 p j) := by
  pointwise [timesW]
theorem statesW_apply (s : FVec Ideal S10x32 .f32) (p : Fin 125) (k : Fin 10) (j : Fin 32) : statesW s (ix2 ⟨p.val * 10 + k.val, by omega⟩ j) = s (ix2 k j) := by
  pointwise [statesW]
theorem pairW_0 (a b : FVec Ideal S1250x32 .f32) (i : Fin 1250) (j : Fin 32) : pairW a b (ix2 i ⟨j.val, by omega⟩) = a (ix2 i j) := by
  pointwise [pairW]
theorem pairW_1 (a b : FVec Ideal S1250x32 .f32) (i : Fin 1250) (j : Fin 32) : pairW a b (ix2 i ⟨32 + j.val, by omega⟩) = b (ix2 i j) := by
  pointwise [pairW]
theorem jointW_apply (x : FVec Ideal S1250x64 .f32) (i : Fin 1250) (j : Fin 64) : jointW x (ix2 ⟨i.val, by omega⟩ j) = x (ix2 i j) := by
  pointwise [jointW]

/-- The trajectory table with its padding rows. -/
def padW (x : FVec Ideal S20000x128 .f32) : FVec Ideal S20480x128 .f32 := pad S20480x128 ![0, 0] ![480, 0] ![0, 0] x (sitofp .f32 (constantI S_ 32 0#32)) pads_S20000x128_S20480x128_04800_000 h_S_
theorem padW_apply (x : FVec Ideal S20000x128 .f32) (i : Fin 20000) (j : Fin 128) : padW x (ix2 ⟨i.val, by omega⟩ j) = x (ix2 i j) := by
  pointwise [padW]

theorem lowW_apply (x : FVec Ideal S192x128 .f32) (i j : Fin 128) : extractStridedSlice S128x128 ![0, 0] x slices_S192x128_S128x128_0_0 (ix2 i j) = x (ix2 ⟨i.val, by omega⟩ j) := by
  pointwise []
theorem highW_apply (x : FVec Ideal S192x128 .f32) (i : Fin 64) (j : Fin 128) : extractStridedSlice S64x128 ![128, 0] x slices_S192x128_S64x128_128_0 (ix2 i j) = x (ix2 ⟨128 + i.val, by omega⟩ j) := by
  pointwise []
theorem flat128_apply (x : FVec Ideal S128 .f32) (j : Fin 128) : shapeCast S1x128 x shapeCasts_S128_S1x128 (ix2 0 j) = x (ix1 j) := by
  pointwise []
theorem flat200_apply (x : FVec Ideal S200 .f32) (j : Fin 200) : shapeCast S1x200 x shapeCasts_S200_S1x200 (ix2 0 j) = x (ix1 j) := by
  pointwise []
theorem flatL_apply (x : FVec Ideal S2x128 .f32) (l : Fin 2) (j : Fin 128) : shapeCast S2x1x128 x shapeCasts_S2x128_S2x1x128 (ix3 l 0 j) = x (ix2 l j) := by
  pointwise []
theorem flatU_apply (x : FVec Ideal S2x512 .f32) (l : Fin 2) (j : Fin 512) : shapeCast S2x1x512 x shapeCasts_S2x512_S2x1x512 (ix3 l 0 j) = x (ix2 l j) := by
  pointwise []

theorem V4_arg (r : Ref sig .tc) (h3 : r ∉ hostOps0_3_W) (h2 : r ∉ hostOps0_2_W) (h1 : r ∉ hostOps0_1_W) (h0 : r ∉ hostOps0_W) : V4 m c r = m ((c.tc : Thread nD τ).loc r) :=
  (V4_of m c r h3).trans <| (V3_of m c r h2).trans <| (V2_of m c r h1).trans (V1_of m c r h0)

theorem e_arg0 : entry0 m c main_arg0 = m ((c.tc : Thread nD τ).loc main_arg0) :=
  entry0_of m c main_arg0 (by decide) (by decide) (by decide) (by decide) (by decide)
theorem e_arg13 : entry0 m c main_arg13 = m ((c.tc : Thread nD τ).loc main_arg13) :=
  entry0_of m c main_arg13 (by decide) (by decide) (by decide) (by decide) (by decide)
theorem e_arg16 : entry0 m c main_arg16 = m ((c.tc : Thread nD τ).loc main_arg16) :=
  entry0_of m c main_arg16 (by decide) (by decide) (by decide) (by decide) (by decide)
theorem e_arg18 : entry0 m c main_arg18 = m ((c.tc : Thread nD τ).loc main_arg18) :=
  entry0_of m c main_arg18 (by decide) (by decide) (by decide) (by decide) (by decide)
theorem e_v16 : (entry0 m c main_v16 : FVec Ideal S2x128x384 .f32) = qkvW (m ((c.tc : Thread nD τ).loc main_arg10)) (m ((c.tc : Thread nD τ).loc main_arg11)) (m ((c.tc : Thread nD τ).loc main_arg12)) := by
  show V5 m c main_v16 = _
  simp only [V5, StableHlo.after_cons, StableHlo.after_nil, hostOps0_4]
  rfl
theorem e_v17 : (entry0 m c main_v17 : FVec Ideal S128x128 .f32) = extractStridedSlice S128x128 ![0, 0] (m ((c.tc : Thread nD τ).loc main_arg8) : FVec Ideal S192x128 .f32) slices_S192x128_S128x128_0_0 := by
  show V5 m c main_v17 = _
  simp only [V5, StableHlo.after_cons, StableHlo.after_nil, hostOps0_4]
  rfl
theorem e_v18 : (entry0 m c main_v18 : FVec Ideal S64x128 .f32) = extractStridedSlice S64x128 ![128, 0] (m ((c.tc : Thread nD τ).loc main_arg8) : FVec Ideal S192x128 .f32) slices_S192x128_S64x128_128_0 := by
  show V5 m c main_v18 = _
  simp only [V5, StableHlo.after_cons, StableHlo.after_nil, hostOps0_4]
  rfl
theorem e_v19 : (entry0 m c main_v19 : FVec Ideal S1x128 .f32) = shapeCast S1x128 (m ((c.tc : Thread nD τ).loc main_arg9) : FVec Ideal S128 .f32) shapeCasts_S128_S1x128 := by
  show V5 m c main_v19 = _
  simp only [V5, StableHlo.after_cons, StableHlo.after_nil, hostOps0_4]
  rfl
theorem e_v20 : (entry0 m c main_v20 : FVec Ideal S2x1x128 .f32) = shapeCast S2x1x128 (m ((c.tc : Thread nD τ).loc main_arg14) : FVec Ideal S2x128 .f32) shapeCasts_S2x128_S2x1x128 := by
  show V5 m c main_v20 = _
  simp only [V5, StableHlo.after_cons, StableHlo.after_nil, hostOps0_4]
  rfl
theorem e_v21 : (entry0 m c main_v21 : FVec Ideal S2x1x128 .f32) = shapeCast S2x1x128 (m ((c.tc : Thread nD τ).loc main_arg15) : FVec Ideal S2x128 .f32) shapeCasts_S2x128_S2x1x128 := by
  show V5 m c main_v21 = _
  simp only [V5, StableHlo.after_cons, StableHlo.after_nil, hostOps0_4]
  rfl
theorem e_v23 : (entry0 m c main_v23 : FVec Ideal S2x1x128 .f32) = shapeCast S2x1x128 (m ((c.tc : Thread nD τ).loc main_arg19) : FVec Ideal S2x128 .f32) shapeCasts_S2x128_S2x1x128 := by
  show V5 m c main_v23 = _
  simp only [V5, StableHlo.after_cons, StableHlo.after_nil, hostOps0_4]
  rfl
theorem e_v24 : (entry0 m c main_v24 : FVec Ideal S2x1x128 .f32) = shapeCast S2x1x128 (m ((c.tc : Thread nD τ).loc main_arg20) : FVec Ideal S2x128 .f32) shapeCasts_S2x128_S2x1x128 := by
  show V5 m c main_v24 = _
  simp only [V5, StableHlo.after_cons, StableHlo.after_nil, hostOps0_4]
  rfl
theorem e_v25 : (entry0 m c main_v25 : FVec Ideal S2x1x128 .f32) = shapeCast S2x1x128 (m ((c.tc : Thread nD τ).loc main_arg21) : FVec Ideal S2x128 .f32) shapeCasts_S2x128_S2x1x128 := by
  show V5 m c main_v25 = _
  simp only [V5, StableHlo.after_cons, StableHlo.after_nil, hostOps0_4]
  rfl
theorem e_v22 : (entry0 m c main_v22 : FVec Ideal S2x1x512 .f32) = shapeCast S2x1x512 (m ((c.tc : Thread nD τ).loc main_arg17) : FVec Ideal S2x512 .f32) shapeCasts_S2x512_S2x1x512 := by
  show V5 m c main_v22 = _
  simp only [V5, StableHlo.after_cons, StableHlo.after_nil, hostOps0_4]
  rfl
theorem e_v14 : (V3 m c main_v14 : FVec Ideal S1250x64 .f32) = pairW (timesW (m ((c.tc : Thread nD τ).loc main_arg6))) (statesW (m ((c.tc : Thread nD τ).loc main_arg7))) := by
  simp only [V3, StableHlo.after_cons, StableHlo.after_nil, hostOps0_2]
  rfl
theorem e_v15 : (entry0 m c main_v15 : FVec Ideal S1256x64 .f32) = jointW (pairW (timesW (m ((c.tc : Thread nD τ).loc main_arg6))) (statesW (m ((c.tc : Thread nD τ).loc main_arg7)))) := by
  rw [← e_v14]
  refine (V5_of m c main_v15 (by decide)).trans ?_
  simp only [V4, StableHlo.after_cons, StableHlo.after_nil, hostOps0_3]
  rfl
theorem e_cst : (entry0 m c main_cst : FVec Ideal S256x128 .f32) = ((fun i => FloatOps.ofBits .f32 (lit0 (S256x128.rowMajor i))) : FVec Ideal S256x128 .f32) := by
  refine (V5_of m c main_cst (by decide)).trans <| (V4_of m c main_cst (by decide)).trans <| (V3_of m c main_cst (by decide)).trans <| (V2_of m c main_cst (by decide)).trans ?_
  simp only [V1, StableHlo.after_cons, StableHlo.after_nil, hostOps0]
  rfl
theorem e6_arg1 : V6 m (outs0 m) c main_arg1 = m ((c.tc : Thread nD τ).loc main_arg1) :=
  (V10_of m (outs0 m) c main_arg1 (by decide) |>.trans (V9_of m (outs0 m) c main_arg1 (by decide)) |>.trans (V8_of m (outs0 m) c main_arg1 (by decide)) |>.trans (V7_of m (outs0 m) c main_arg1 (by decide))).symm.trans (V10_main_arg1 m (outs0 m) c)
theorem e6_arg22 : V6 m (outs0 m) c main_arg22 = m ((c.tc : Thread nD τ).loc main_arg22) :=
  (V10_of m (outs0 m) c main_arg22 (by decide) |>.trans (V9_of m (outs0 m) c main_arg22 (by decide)) |>.trans (V8_of m (outs0 m) c main_arg22 (by decide)) |>.trans (V7_of m (outs0 m) c main_arg22 (by decide))).symm.trans (V10_main_arg22 m (outs0 m) c)
theorem e6_arg23 : V6 m (outs0 m) c main_arg23 = m ((c.tc : Thread nD τ).loc main_arg23) :=
  (V10_of m (outs0 m) c main_arg23 (by decide) |>.trans (V9_of m (outs0 m) c main_arg23 (by decide)) |>.trans (V8_of m (outs0 m) c main_arg23 (by decide)) |>.trans (V7_of m (outs0 m) c main_arg23 (by decide))).symm.trans (V10_main_arg23 m (outs0 m) c)
theorem e6_arg24 : V6 m (outs0 m) c main_arg24 = m ((c.tc : Thread nD τ).loc main_arg24) :=
  (V10_of m (outs0 m) c main_arg24 (by decide) |>.trans (V9_of m (outs0 m) c main_arg24 (by decide)) |>.trans (V8_of m (outs0 m) c main_arg24 (by decide)) |>.trans (V7_of m (outs0 m) c main_arg24 (by decide))).symm.trans (V10_main_arg24 m (outs0 m) c)
theorem e6_arg25 : V6 m (outs0 m) c main_arg25 = m ((c.tc : Thread nD τ).loc main_arg25) :=
  (V10_of m (outs0 m) c main_arg25 (by decide) |>.trans (V9_of m (outs0 m) c main_arg25 (by decide)) |>.trans (V8_of m (outs0 m) c main_arg25 (by decide)) |>.trans (V7_of m (outs0 m) c main_arg25 (by decide))).symm.trans (V10_main_arg25 m (outs0 m) c)
theorem e1_arg22 : entry1 m c main_arg22 = m ((c.tc : Thread nD τ).loc main_arg22) :=
  (V10_of m (outs0 m) c main_arg22 (by decide)).symm.trans (V10_main_arg22 m (outs0 m) c)
theorem e1_arg24 : entry1 m c main_arg24 = m ((c.tc : Thread nD τ).loc main_arg24) :=
  (V10_of m (outs0 m) c main_arg24 (by decide)).symm.trans (V10_main_arg24 m (outs0 m) c)
theorem e_v27 : (entry1 m c main_v27 : FVec Ideal S20480x128 .f32) = padW (m ((c.tc : Thread nD τ).loc main_arg1)) := by
  rw [← e6_arg1 m c]
  refine (V9_of m (outs0 m) c main_v27 (by decide)).trans ?_
  simp only [V8, StableHlo.after_cons, StableHlo.after_nil, hostOps1_1]
  rfl
theorem e_v28 : (entry1 m c main_v28 : FVec Ideal S1x128 .f32) = shapeCast S1x128 (m ((c.tc : Thread nD τ).loc main_arg23) : FVec Ideal S128 .f32) shapeCasts_S128_S1x128 := by
  rw [← e6_arg23 m c]
  show V9 m (outs0 m) c main_v28 = _
  simp only [V9, StableHlo.after_cons, StableHlo.after_nil, hostOps1_2]
  rfl
theorem e_v29 : (entry1 m c main_v29 : FVec Ideal S1x200 .f32) = shapeCast S1x200 (m ((c.tc : Thread nD τ).loc main_arg25) : FVec Ideal S200 .f32) shapeCasts_S200_S1x200 := by
  rw [← e6_arg25 m c]
  show V9 m (outs0 m) c main_v29 = _
  simp only [V9, StableHlo.after_cons, StableHlo.after_nil, hostOps1_2]
  rfl
theorem e_v26 : entry1 m c main_v26 = R0.result (entry0 m) c :=
  (V9_of m (outs0 m) c main_v26 (by decide)).trans <| (V8_of m (outs0 m) c main_v26 (by decide)).trans <| (V7_of m (outs0 m) c main_v26 (by decide)).trans
    ((congrFun (V6_outs m c) main_v26).symm.trans (V6_v26 m c))

end Cert.Proof.KernelIdeal

end
-- ==== Proof.IdealGlobStage.lean ====
/- The context kernel's blocks read at an index. -/
module

public import proofs.«01_k».proof.Proof.IdealGlob
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

theorem scoreG_apply (q : FVec Ideal S128x128 .f32) (w : FVec Ideal S1024x128 .f32) (i : Fin 128) (j : Fin 1024) :
    scoreG (F := Ideal) q w (ix2 i j) = ∑ c : Fin 128, q (ix2 i c) * w (ix2 j c) := by
  pointwise [scoreG, chunkV]

theorem maxG_apply (acc : FVec Ideal S128x1 .f32) (s : FVec Ideal S128x1024 .f32) (i : Fin 128) :
    maxG acc s (ix2 i 0) = max (acc (ix2 i 0)) (Finset.univ.fold max (Ideal.ofBits .f32 0xFF800000#32) fun k : Fin 1024 => s (ix2 i k)) := by
  pointwise [maxG]

theorem expG_apply (m : FVec Ideal S128x1 .f32) (s : FVec Ideal S128x1024 .f32) (i : Fin 128) (j : Fin 1024) :
    expG m s (ix2 i j) = Ideal.exp (s (ix2 i j) - m (ix2 i 0)) := by
  pointwise [expG]

theorem denG_apply (d : FVec Ideal S128x1 .f32) (e : FVec Ideal S128x1024 .f32) (i : Fin 128) :
    denG d e (ix2 i 0) = d (ix2 i 0) + ∑ k : Fin 1024, e (ix2 i k) := by
  pointwise [denG]

theorem ctxG_apply (a : FVec Ideal S128x128 .f32) (e : FVec Ideal S128x1024 .f32) (w : FVec Ideal S1024x128 .f32) (i j : Fin 128) :
    ctxG (F := Ideal) a e w (ix2 i j) = a (ix2 i j) + ∑ k : Fin 1024, e (ix2 i k) * w (ix2 k j) := by
  pointwise [ctxG, chunkV]

theorem quotG_apply (d : FVec Ideal S128x1 .f32) (a : FVec Ideal S128x128 .f32) (i j : Fin 128) :
    quotG d a (ix2 i j) = a (ix2 i j) * Ideal.div (Ideal.ofBits .f32 0x3F800000#32) (d (ix2 i 0)) := by
  pointwise [quotG]

theorem logitG_apply (h : FVec Ideal S128x128 .f32) (w : FVec Ideal S128x200 .f32) (b : FVec Ideal S1x200 .f32) (i : Fin 128) (j : Fin 200) :
    logitG (F := Ideal) h w b (ix2 i j) = (∑ c : Fin 128, h (ix2 i c) * w (ix2 c j)) + b (ix2 0 j) := by
  pointwise [logitG]

theorem shiftG_apply (z : FVec Ideal S128x200 .f32) (i : Fin 128) (j : Fin 200) :
    shiftG z (ix2 i j) = z (ix2 i j) - Finset.univ.fold max (Ideal.ofBits .f32 0xFF800000#32) fun k : Fin 200 => z (ix2 i k) := by
  pointwise [shiftG]

theorem lsmG_apply (z : FVec Ideal S128x200 .f32) (i : Fin 128) (j : Fin 200) :
    lsmG z (ix2 i j) = shiftG z (ix2 i j) - Ideal.log (∑ k : Fin 200, Ideal.exp (shiftG z (ix2 i k))) := by
  pointwise [lsmG]

theorem hidG_apply (p ctx : FVec Ideal S128x128 .f32) (w : FVec Ideal S256x128 .f32) (b : FVec Ideal S1x128 .f32) (i j : Fin 128) :
    hidG (F := Ideal) p ctx w b (ix2 i j) = max ((∑ c : Fin 256, (concatenate S128x256 1 [⟨S128x128, p⟩, ⟨S128x128, ctx⟩] concatenates_S128x128_S128x128_S128x256_d1) (ix2 i c) * w (ix2 c j)) + b (ix2 0 j)) 0 := by
  pointwise [hidG]

end Cert.Proof.KernelIdeal

end
-- ==== Proof.IdealStage.lean ====
/- The encoder's blocks read at an index. -/
module

public import proofs.«01_k».proof.Proof.IdealBlocks
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.SL.Sem

theorem embV_apply (xg : FVec Ideal S256x128 .f32) (wx : FVec Ideal S128x128 .f32) (ts : FVec Ideal S256x64 .f32) (wts : FVec Ideal S64x128 .f32)
    (bfc : FVec Ideal S1x128 .f32) (pos : FVec Ideal S256x128 .f32) (i : Fin 256) (j : Fin 128) :
    embV (F := Ideal) xg wx ts wts bfc pos (ix2 i j)
      = Ideal.tanh ((∑ c : Fin 128, xg (ix2 i c) * wx (ix2 c j)) + (∑ c : Fin 64, ts (ix2 i c) * wts (ix2 c j)) + bfc (ix2 0 j)) + pos (ix2 i j) := by
  pointwise [embV]

theorem scoreV_apply (q : FVec Ideal S256x64 .f32) (k : FVec Ideal S192x64 .f32) (i : Fin 256) (j : Fin 192) :
    scoreV q k (ix2 i j) = (∑ d : Fin 64, q (ix2 i d) * k (ix2 j d)) * Ideal.ofBits .f32 0x3E000000#32 := by
  pointwise [scoreV]

theorem expV_apply (s : FVec Ideal S256x192 .f32) (i : Fin 256) (j : Fin 192) :
    expV s (ix2 i j) = Ideal.exp (s (ix2 i j) - Finset.univ.fold max (Ideal.ofBits .f32 0xFF800000#32) fun k : Fin 192 => s (ix2 i k)) := by
  pointwise [expV]

theorem probV_apply (p : FVec Ideal S256x192 .f32) (i : Fin 256) (j : Fin 192) :
    probV p (ix2 i j) = Ideal.div (p (ix2 i j)) (∑ k : Fin 192, p (ix2 i k)) := by
  pointwise [probV]

theorem headV_apply (q : FVec Ideal S256x64 .f32) (k v : FVec Ideal S192x64 .f32) (i : Fin 256) (d : Fin 64) :
    headV q k v (ix2 i d) = ∑ j : Fin 192, probV (expV (scoreV q k)) (ix2 i j) * v (ix2 j d) := by
  pointwise [headV]

theorem qkvV_apply (x : FVec Ideal S256x128 .f32) (w : FVec Ideal S1x128x384 .f32) (i : Fin 256) (j : Fin 384) :
    qkvV (F := Ideal) x w (ix2 i j) = ∑ c : Fin 128, x (ix2 i c) * w (ix3 0 c j) := by
  pointwise [qkvV]

theorem attnV_lo (z : FVec Ideal S256x384 .f32) (i : Fin 256) (d : Fin 64) :
    attnV z (ix2 i ⟨d.val, by omega⟩) = headV (extractStridedSlice S256x64 ![0, 0] z slices_S256x384_o0_0_S256x64)
      (extractStridedSlice S192x64 ![0, 128] z slices_S256x384_o0_128_S192x64) (extractStridedSlice S192x64 ![0, 256] z slices_S256x384_o0_256_S192x64) (ix2 i d) := by
  pointwise [attnV]

theorem attnV_hi (z : FVec Ideal S256x384 .f32) (i : Fin 256) (d : Fin 64) :
    attnV z (ix2 i ⟨64 + d.val, by omega⟩) = headV (extractStridedSlice S256x64 ![0, 64] z slices_S256x384_o0_64_S256x64)
      (extractStridedSlice S192x64 ![0, 192] z slices_S256x384_o0_192_S192x64) (extractStridedSlice S192x64 ![0, 320] z slices_S256x384_o0_320_S192x64) (ix2 i d) := by
  pointwise [attnV]

theorem meanV_apply (x : FVec Ideal S256x128 .f32) (i : Fin 256) :
    meanV x (ix2 i 0) = Ideal.div (∑ c : Fin 128, x (ix2 i c)) (Ideal.ofBits .f32 0x43000000#32) := by
  pointwise [meanV]

theorem devV_apply (x : FVec Ideal S256x128 .f32) (i : Fin 256) (j : Fin 128) : devV x (ix2 i j) = x (ix2 i j) - meanV x (ix2 i 0) := by
  pointwise [devV]

theorem lnV_apply (x : FVec Ideal S256x128 .f32) (g b : FVec Ideal S1x1x128 .f32) (i : Fin 256) (j : Fin 128) :
    lnV (F := Ideal) x g b (ix2 i j) = devV x (ix2 i j) * Ideal.rsqrt (meanV (mulf (devV x) (devV x)) (ix2 i 0) + Ideal.ofBits .f32 0x3727C5AC#32) * g (ix3 0 0 j) + b (ix3 0 0 j) := by
  pointwise [lnV]

theorem attV_apply (x : FVec Ideal S256x128 .f32) (w : FVec Ideal S1x128x384 .f32) (wo : FVec Ideal S1x128x128 .f32) (i : Fin 256) (j : Fin 128) :
    attV (F := Ideal) x w wo (ix2 i j) = (∑ c : Fin 128, attnV (qkvV (F := Ideal) x w) (ix2 i c) * wo (ix3 0 c j)) + x (ix2 i j) := by
  pointwise [attV]

theorem ffV_apply (x : FVec Ideal S256x128 .f32) (w1 : FVec Ideal S1x128x512 .f32) (c1 : FVec Ideal S1x1x512 .f32) (w2 : FVec Ideal S1x512x128 .f32) (c2 : FVec Ideal S1x1x128 .f32) (i : Fin 256) (j : Fin 128) :
    ffV (F := Ideal) x w1 c1 w2 c2 (ix2 i j) = (∑ k : Fin 512, max ((∑ c : Fin 128, x (ix2 i c) * w1 (ix3 0 c k)) + c1 (ix3 0 0 k)) 0 * w2 (ix3 0 k j)) + c2 (ix3 0 0 j) + x (ix2 i j) := by
  pointwise [ffV]

theorem poolV_apply (x : FVec Ideal S256x128 .f32) (j : Fin 128) :
    poolV (F := Ideal) x (ix2 0 j) = (∑ i : Fin 256, x (ix2 i j)) * Ideal.ofBits .f32 0x3B800000#32 := by
  pointwise [poolV]

end Cert.Proof.KernelIdeal

end
-- ==== Proof.RefStage.lean ====
/- The reference's stages as functions, each read at an index. -/
module

public import proofs.«01_k».proof.Proof.Gen.ReferenceIdeal
public import Idealize.ShloMosaic.Lib.Pointwise

@[expose] public section

set_option maxRecDepth 16384

noncomputable section

namespace Cert.Proof.RefStage

open Cert.ReferenceIdeal Cert.ReferenceIdeal.Gen
open Idealize.ShloMosaic Idealize.ShloMosaic.TcCoe Idealize.SL.Sem

/-- A sequence times a matrix, its columns split into two heads. -/
def heads (x : FVec Ideal S256x256x128 .f32) (w : FVec Ideal S128x128 .f32) : FVec Ideal S256x2x256x64 .f32 :=
  transpose S256x2x256x64 [0, 2, 1, 3] (shapeCast S256x256x2x64 (Host.dotGeneral dot_S256x256x128_S128x128_S256x256x128_2_0_01_1_n_n none x w) shapeCasts_S256x256x128_S256x256x2x64) transposes_S256x256x2x64_S256x2x256x64_0_2_1_3

/-- The scores, the padded keys' at minus infinity. -/
def scores (pad : IVec S256x1x1x256 1) (q k : FVec Ideal S256x2x256x64 .f32) : FVec Ideal S256x2x256x256 .f32 :=
  select (broadcastInDim S256x2x256x256 ![0, 1, 2, 3] bcast_S256x1x1x256_S256x2x256x256_0_1_2_3 pad) (broadcastInDim S256x2x256x256 ![] bcast_S_S256x2x256x256 (constant S_ .f32 0xFF800000#32)) (mulf (Host.dotGeneral dot_S256x2x256x64_S256x2x256x64_S256x2x256x256_3_3_2_2_01_01 none q k) (broadcastInDim S256x2x256x256 ![] bcast_S_S256x2x256x256 (constant S_ .f32 0x3E000000#32)))

/-- Each row's greatest score. -/
def topS (s : FVec Ideal S256x2x256x256 .f32) : FVec Ideal S256x2x256 .f32 :=
  Host.reduce FloatOps.maximumf s (constant S_ .f32 0xFF800000#32) reducesTo_S256x2x256x256_S256x2x256_d3 h_S_

/-- The exponentials of the scores less a number for each row. -/
def expM (s : FVec Ideal S256x2x256x256 .f32) (m : FVec Ideal S256x2x256 .f32) : FVec Ideal S256x2x256x256 .f32 :=
  Host.exp (subf s (broadcastInDim S256x2x256x256 ![0, 1, 2, 3] bcast_S256x2x256x1_S256x2x256x256_0_1_2_3 (broadcastInDim S256x2x256x1 ![0, 1, 2] bcast_S256x2x256_S256x2x256x1_0_1_2 (maximumf (broadcastInDim S256x2x256 ![] bcast_S_S256x2x256 (constant S_ .f32 0xFF800000#32)) m))))

/-- The exponentials of the scores less their row's greatest. -/
def expS (s : FVec Ideal S256x2x256x256 .f32) : FVec Ideal S256x2x256x256 .f32 := expM s (topS s)

/-- The weighted values of both heads side by side. -/
def attend (pad : IVec S256x1x1x256 1) (e : FVec Ideal S256x2x256x256 .f32) (v : FVec Ideal S256x2x256x64 .f32) : FVec Ideal S256x2x256x64 .f32 :=
  Host.dotGeneral dot_S256x2x256x256_S256x2x256x64_S256x2x256x64_3_2_2_3_01_01 none (select (broadcastInDim S256x2x256x256 ![0, 1, 2, 3] bcast_S256x1x1x256_S256x2x256x256_0_1_2_3 pad) (broadcastInDim S256x2x256x256 ![] bcast_S_S256x2x256x256 (constant S_ .f32 0x00000000#32)) (Host.divf e (broadcastInDim S256x2x256x256 ![0, 1, 2, 3] bcast_S256x2x256x1_S256x2x256x256_0_1_2_3 (broadcastInDim S256x2x256x1 ![0, 1, 2] bcast_S256x2x256_S256x2x256x1_0_1_2 (Host.reduceAdd e (constant S_ .f32 0x00000000#32) reducesTo_S256x2x256x256_S256x2x256_d3 h_S_))))) v

/-- The projection of the heads and the residual sum. -/
def project (a : FVec Ideal S256x2x256x64 .f32) (wo : FVec Ideal S128x128 .f32) (x : FVec Ideal S256x256x128 .f32) : FVec Ideal S256x256x128 .f32 :=
  addf (Host.dotGeneral dot_S256x256x128_S128x128_S256x256x128_2_0_01_1_n_n none (shapeCast S256x256x128 (transpose S256x256x2x64 [0, 2, 1, 3] a transposes_S256x2x256x64_S256x256x2x64_0_2_1_3) shapeCasts_S256x256x2x64_S256x256x128) wo) x

/-- The mean of a row. -/
def mean (x : FVec Ideal S256x256x128 .f32) : FVec Ideal S256x256x1 .f32 :=
  Host.divf (broadcastInDim S256x256x1 ![0, 1] bcast_S256x256_S256x256x1_0_1 (Host.reduceAdd x (constant S_ .f32 0x00000000#32) reducesTo_S256x256x128_S256x256_d2 h_S_)) (broadcastInDim S256x256x1 ![] bcast_S_S256x256x1 (constant S_ .f32 0x43000000#32))

/-- Layer normalization, given the rows' means. -/
def norm (x : FVec Ideal S256x256x128 .f32) (mu : FVec Ideal S256x256x1 .f32) (g b : FVec Ideal S128 .f32) : FVec Ideal S256x256x128 .f32 :=
  addf (mulf (Host.divf (subf x (broadcastInDim S256x256x128 ![0, 1, 2] bcast_S256x256x1_S256x256x128_0_1_2 mu)) (broadcastInDim S256x256x128 ![0, 1, 2] bcast_S256x256x1_S256x256x128_0_1_2 (Host.sqrt (addf (Host.divf (broadcastInDim S256x256x1 ![0, 1] bcast_S256x256_S256x256x1_0_1 (Host.reduceAdd (mulf (subf x (broadcastInDim S256x256x128 ![0, 1, 2] bcast_S256x256x1_S256x256x128_0_1_2 mu)) (subf x (broadcastInDim S256x256x128 ![0, 1, 2] bcast_S256x256x1_S256x256x128_0_1_2 mu))) (constant S_ .f32 0x00000000#32) reducesTo_S256x256x128_S256x256_d2 h_S_)) (broadcastInDim S256x256x1 ![] bcast_S_S256x256x1 (constant S_ .f32 0x43000000#32))) (broadcastInDim S256x256x1 ![] bcast_S_S256x256x1 (constant S_ .f32 0x3727C5AC#32)))))) (broadcastInDim S256x256x128 ![0, 1, 2] bcast_S1x1x128_S256x256x128_0_1_2 (broadcastInDim S1x1x128 ![2] bcast_S128_S1x1x128_2 g))) (broadcastInDim S256x256x128 ![0, 1, 2] bcast_S1x1x128_S256x256x128_0_1_2 (broadcastInDim S1x1x128 ![2] bcast_S128_S1x1x128_2 b))

/-- The feed-forward block and its residual sum. -/
def feed (x : FVec Ideal S256x256x128 .f32) (w1 : FVec Ideal S128x512 .f32) (c1 : FVec Ideal S512 .f32) (w2 : FVec Ideal S512x128 .f32) (c2 : FVec Ideal S128 .f32) : FVec Ideal S256x256x128 .f32 :=
  addf (addf (Host.dotGeneral dot_S256x256x512_S512x128_S256x256x128_2_0_01_1_n_n none (maximumf (addf (Host.dotGeneral dot_S256x256x128_S128x512_S256x256x512_2_0_01_1_n_n none x w1) (broadcastInDim S256x256x512 ![0, 1, 2] bcast_S1x1x512_S256x256x512_0_1_2 (broadcastInDim S1x1x512 ![2] bcast_S512_S1x1x512_2 c1))) (broadcastInDim S256x256x512 ![] bcast_S_S256x256x512 (constant S_ .f32 0x00000000#32))) w2) (broadcastInDim S256x256x128 ![0, 1, 2] bcast_S1x1x128_S256x256x128_0_1_2 (broadcastInDim S1x1x128 ![2] bcast_S128_S1x1x128_2 c2))) x

/-- The mean over a sequence. -/
def pooled (x : FVec Ideal S256x256x128 .f32) : FVec Ideal S256x128 .f32 :=
  Host.divf (Host.reduceAdd x (constant S_ .f32 0x00000000#32) reducesTo_S256x256x128_S256x128_d1 h_S_) (broadcastInDim S256x128 ![] bcast_S_S256x128 (constant S_ .f32 0x43800000#32))

/-- The context's greatest scores, its weights, and the context. -/
def topT (s : FVec Ideal S256x20000 .f32) : FVec Ideal S256 .f32 :=
  Host.reduce FloatOps.maximumf s (constant S_ .f32 0xFF800000#32) reducesTo_S256x20000_S256_d1 h_S_
def expT (s : FVec Ideal S256x20000 .f32) (m : FVec Ideal S256 .f32) : FVec Ideal S256x20000 .f32 :=
  Host.exp (subf s (broadcastInDim S256x20000 ![0, 1] bcast_S256x1_S256x20000_0_1 (broadcastInDim S256x1 ![0] bcast_S256_S256x1_0 m)))
/-- The weights over their sum, and the context. -/
def attenT (e : FVec Ideal S256x20000 .f32) : FVec Ideal S256x20000 .f32 :=
  mulf e (broadcastInDim S256x20000 ![0, 1] bcast_S256x1_S256x20000_0_1 (Host.divf (broadcastInDim S256x1 ![] bcast_S_S256x1 (constant S_ .f32 0x3F800000#32)) (broadcastInDim S256x1 ![0] bcast_S256_S256x1_0 (Host.reduceAdd e (constant S_ .f32 0x00000000#32) reducesTo_S256x20000_S256_d1 h_S_))))
def contextT (e : FVec Ideal S256x20000 .f32) (t : FVec Ideal S20000x128 .f32) : FVec Ideal S256x128 .f32 :=
  Host.dotGeneral dot_S256x20000_S20000x128_S256x128_1_0_0_1_n_n none (attenT e) t

/-- The classifier. -/
def classify (p ctx : FVec Ideal S256x128 .f32) (w1 : FVec Ideal S256x128 .f32) (b1 : FVec Ideal S128 .f32) (w2 : FVec Ideal S128x200 .f32) (b2 : FVec Ideal S200 .f32) : FVec Ideal S256x200 .f32 :=
  addf (Host.dotGeneral dot_S256x128_S128x200_S256x200_1_0_0_1_n_n none (maximumf (addf (Host.dotGeneral dot_S256x256_S256x128_S256x128_1_0_0_1_n_n none (concatenate S256x256 1 [⟨S256x128, p⟩, ⟨S256x128, ctx⟩] concatenates_S256x128_S256x128_S256x256_d1) w1) (broadcastInDim S256x128 ![0, 1] bcast_S1x128_S256x128_0_1 (broadcastInDim S1x128 ![1] bcast_S128_S1x128_1 b1))) (broadcastInDim S256x128 ![] bcast_S_S256x128 (constant S_ .f32 0x00000000#32))) w2) (broadcastInDim S256x200 ![0, 1] bcast_S1x200_S256x200_0_1 (broadcastInDim S1x200 ![1] bcast_S200_S1x200_1 b2))

/-- The scores less their row's greatest, and their softmax's logarithm. -/
def topZ (z : FVec Ideal S256x200 .f32) : FVec Ideal S256 .f32 :=
  Host.reduce FloatOps.maximumf z (constant S_ .f32 0xFF800000#32) reducesTo_S256x200_S256_d1 h_S_
def shiftZ (z : FVec Ideal S256x200 .f32) (m : FVec Ideal S256 .f32) : FVec Ideal S256x200 .f32 :=
  subf z (broadcastInDim S256x200 ![0, 1] bcast_S256x1_S256x200_0_1 (broadcastInDim S256x1 ![0] bcast_S256_S256x1_0 m))
def lsmZ (z : FVec Ideal S256x200 .f32) : FVec Ideal S256x200 .f32 :=
  subf z (broadcastInDim S256x200 ![0,1] bcast_S256x1_S256x200_0_1 (Host.log (broadcastInDim S256x1 ![0] bcast_S256_S256x1_0 (Host.reduceAdd (Host.exp z) (constant S_ .f32 0x00000000#32) reducesTo_S256x200_S256_d1 h_S_))))

theorem heads_apply (x : FVec Ideal S256x256x128 .f32) (w : FVec Ideal S128x128 .f32) (b : Fin 256) (h : Fin 2) (i : Fin 256) (d : Fin 64) :
    heads x w (ix4 b h i d) = ∑ c : Fin 128, x (ix3 b i c) * w (ix2 c ⟨h.val * 64 + d.val, by omega⟩) := by
  pointwise [heads]

theorem scores_apply (pad : IVec S256x1x1x256 1) (q k : FVec Ideal S256x2x256x64 .f32) (b : Fin 256) (h : Fin 2) (i j : Fin 256) :
    scores pad q k (ix4 b h i j) = Scalar.select (pad (ix4 b 0 0 j)) (Ideal.ofBits .f32 0xFF800000#32)
      ((∑ d : Fin 64, q (ix4 b h i d) * k (ix4 b h j d)) * Ideal.ofBits .f32 0x3E000000#32) := by
  pointwise [scores]

theorem bot_eq : Ideal.ofBits .f32 0xFF800000#32 = ⊥ := by simp [Ideal.ofBits, Ideal.ieee]

/-- A maximum taken in turn from minus infinity is the supremum. -/
theorem fold_bot {n : ℕ} (f : Fin n → EReal) : Finset.univ.fold max (Ideal.ofBits .f32 0xFF800000#32) f = ⨆ k, f k := by
  rw [bot_eq, ← Finset.sup_univ_eq_iSup]; rfl
theorem fold_bot' {n : ℕ} (f : Fin n → EReal) :
    Finset.univ.fold (FloatOps.maximumf (F := Ideal) (φ := .f32)) (FloatOps.ofBits .f32 0xFF800000#32) f = ⨆ k, f k := fold_bot f

theorem topS_apply (s : FVec Ideal S256x2x256x256 .f32) (b : Fin 256) (h : Fin 2) (i : Fin 256) : topS s (ix3 b h i) = ⨆ k : Fin 256, s (ix4 b h i k) := by
  rw [← fold_bot']
  unfold topS
  rw [Host.reduce_eq_fold, Shape.ReducesTo.fold_fiber_r4_a3]
  rfl

theorem expM_apply (s : FVec Ideal S256x2x256x256 .f32) (m : FVec Ideal S256x2x256 .f32) (b : Fin 256) (h : Fin 2) (i j : Fin 256) :
    expM s m (ix4 b h i j) = Ideal.exp (s (ix4 b h i j) - max (Ideal.ofBits .f32 0xFF800000#32) (m (ix3 b h i))) := by
  pointwise [expM]

theorem expS_apply (s : FVec Ideal S256x2x256x256 .f32) (b : Fin 256) (h : Fin 2) (i j : Fin 256) :
    expS s (ix4 b h i j) = Ideal.exp (s (ix4 b h i j) - ⨆ k : Fin 256, s (ix4 b h i k)) := by
  rw [expS, expM_apply, topS_apply, bot_eq, max_eq_right bot_le]

theorem attend_apply (pad : IVec S256x1x1x256 1) (e : FVec Ideal S256x2x256x256 .f32) (v : FVec Ideal S256x2x256x64 .f32) (b : Fin 256) (h : Fin 2) (i : Fin 256) (d : Fin 64) :
    attend pad e v (ix4 b h i d) = ∑ j : Fin 256, Scalar.select (pad (ix4 b 0 0 j)) 0 (Ideal.div (e (ix4 b h i j)) (∑ k : Fin 256, e (ix4 b h i k))) * v (ix4 b h j d) := by
  pointwise [attend]

theorem project_apply (a : FVec Ideal S256x2x256x64 .f32) (wo : FVec Ideal S128x128 .f32) (x : FVec Ideal S256x256x128 .f32) (b i : Fin 256) (j : Fin 128) :
    project a wo x (ix3 b i j) = (∑ c : Fin 128, a (ix4 b ⟨c.val / 64, by omega⟩ i ⟨c.val % 64, by omega⟩) * wo (ix2 c j)) + x (ix3 b i j) := by
  pointwise [project]

theorem mean_apply (x : FVec Ideal S256x256x128 .f32) (b i : Fin 256) :
    mean x (ix3 b i 0) = Ideal.div (∑ c : Fin 128, x (ix3 b i c)) (Ideal.ofBits .f32 0x43000000#32) := by
  pointwise [mean]

theorem norm_apply (x : FVec Ideal S256x256x128 .f32) (mu : FVec Ideal S256x256x1 .f32) (g b : FVec Ideal S128 .f32) (r i : Fin 256) (j : Fin 128) :
    norm x mu g b (ix3 r i j) = Ideal.div (x (ix3 r i j) - mu (ix3 r i 0))
        (Ideal.sqrt (Ideal.div (∑ c : Fin 128, (x (ix3 r i c) - mu (ix3 r i 0)) * (x (ix3 r i c) - mu (ix3 r i 0))) (Ideal.ofBits .f32 0x43000000#32) + Ideal.ofBits .f32 0x3727C5AC#32))
      * g (ix1 j) + b (ix1 j) := by
  pointwise [norm]

theorem feed_apply (x : FVec Ideal S256x256x128 .f32) (w1 : FVec Ideal S128x512 .f32) (c1 : FVec Ideal S512 .f32) (w2 : FVec Ideal S512x128 .f32) (c2 : FVec Ideal S128 .f32) (b i : Fin 256) (j : Fin 128) :
    feed x w1 c1 w2 c2 (ix3 b i j) = (∑ k : Fin 512, max ((∑ c : Fin 128, x (ix3 b i c) * w1 (ix2 c k)) + c1 (ix1 k)) 0 * w2 (ix2 k j)) + c2 (ix1 j) + x (ix3 b i j) := by
  pointwise [feed]

theorem pooled_apply (x : FVec Ideal S256x256x128 .f32) (b : Fin 256) (j : Fin 128) :
    pooled x (ix2 b j) = Ideal.div (∑ i : Fin 256, x (ix3 b i j)) (Ideal.ofBits .f32 0x43800000#32) := by
  pointwise [pooled]

theorem topT_apply (s : FVec Ideal S256x20000 .f32) (b : Fin 256) : topT s (ix1 b) = ⨆ k : Fin 20000, s (ix2 b k) := by
  rw [← fold_bot']
  unfold topT
  rw [Host.reduce_eq_fold, Shape.ReducesTo.fold_fiber_r2_a1]
  rfl
theorem expT_apply (s : FVec Ideal S256x20000 .f32) (m : FVec Ideal S256 .f32) (b : Fin 256) (j : Fin 20000) :
    expT s m (ix2 b j) = Ideal.exp (s (ix2 b j) - m (ix1 b)) := by
  pointwise [expT]
theorem attenT_apply (e : FVec Ideal S256x20000 .f32) (b : Fin 256) (k : Fin 20000) :
    attenT e (ix2 b k) = e (ix2 b k) * Ideal.div (Ideal.ofBits .f32 0x3F800000#32) (∑ k : Fin 20000, e (ix2 b k)) := by
  pointwise [attenT]
theorem contextT_apply (e : FVec Ideal S256x20000 .f32) (t : FVec Ideal S20000x128 .f32) (b : Fin 256) (j : Fin 128) :
    contextT e t (ix2 b j) = ∑ k : Fin 20000, attenT e (ix2 b k) * t (ix2 k j) := by
  pointwise [contextT]
theorem classify_apply (p ctx : FVec Ideal S256x128 .f32) (w1 : FVec Ideal S256x128 .f32) (b1 : FVec Ideal S128 .f32) (w2 : FVec Ideal S128x200 .f32) (b2 : FVec Ideal S200 .f32) (b : Fin 256) (j : Fin 200) :
    classify p ctx w1 b1 w2 b2 (ix2 b j) = (∑ k : Fin 128, max ((∑ c : Fin 256, (concatenate S256x256 1 [⟨S256x128, p⟩, ⟨S256x128, ctx⟩] concatenates_S256x128_S256x128_S256x256_d1) (ix2 b c) * w1 (ix2 c k)) + b1 (ix1 k)) 0 * w2 (ix2 k j)) + b2 (ix1 j) := by
  pointwise [classify]
theorem topZ_apply (s : FVec Ideal S256x200 .f32) (b : Fin 256) : topZ s (ix1 b) = ⨆ k : Fin 200, s (ix2 b k) := by
  rw [← fold_bot']
  unfold topZ
  rw [Host.reduce_eq_fold, Shape.ReducesTo.fold_fiber_r2_a1]
  rfl
theorem shiftZ_apply (z : FVec Ideal S256x200 .f32) (m : FVec Ideal S256 .f32) (b : Fin 256) (j : Fin 200) :
    shiftZ z m (ix2 b j) = z (ix2 b j) - m (ix1 b) := by
  pointwise [shiftZ]
theorem lsmZ_apply (z : FVec Ideal S256x200 .f32) (b : Fin 256) (j : Fin 200) :
    lsmZ z (ix2 b j) = z (ix2 b j) - Ideal.log (∑ k : Fin 200, Ideal.exp (z (ix2 b k))) := by
  pointwise [lsmZ]

end Cert.Proof.RefStage

end
-- ==== Proof.IdealRel.lean ====
/- One batch row's encoder layer is the reference's layer at that row. -/
module

public import proofs.«01_k».proof.Proof.IdealStage
public import proofs.«01_k».proof.Proof.RefStage

@[expose] public section

set_option maxRecDepth 16384

noncomputable section

namespace Cert.Proof.Rel

open Cert.KernelIdeal Cert.KernelIdeal.Gen Cert.Proof.KernelIdeal
open Cert.Proof.RefStage (bot_eq fold_bot)
open Idealize.ShloMosaic Idealize.ShloMosaic.TcCoe Idealize.SL.Sem

/-! ## Numbers -/

theorem sup_tail {a n : ℕ} (h : a ≤ n) (f : Fin n → EReal) (g : Fin a → EReal) (h1 : ∀ j : Fin a, f ⟨j.val, by omega⟩ = g j)
    (h2 : ∀ j : Fin n, a ≤ j.val → f j = ⊥) : ⨆ j, f j = ⨆ j, g j := by
  refine le_antisymm (iSup_le fun j => ?_) (iSup_le fun j => (h1 j).symm ▸ le_iSup f _)
  by_cases hj : j.val < a
  · exact (h1 ⟨j.val, hj⟩).trans_le (le_iSup g _)
  · rw [h2 j (by omega)]; exact bot_le

theorem sum_tail {a n : ℕ} (h : a ≤ n) (f : Fin n → EReal) (g : Fin a → EReal) (h1 : ∀ j : Fin a, f ⟨j.val, by omega⟩ = g j)
    (h2 : ∀ j : Fin n, a ≤ j.val → f j = 0) : ∑ j, f j = ∑ j, g j := by
  obtain ⟨m, rfl⟩ := Nat.exists_eq_add_of_le h
  rw [Fin.sum_univ_add, Finset.sum_eq_zero (s := Finset.univ) (f := fun i : Fin m => f (Fin.natAdd a i)) (fun i _ => h2 _ (by simp)), add_zero]
  exact Finset.sum_congr rfl fun j _ => h1 j

theorem sq_nonneg' (x : EReal) : 0 ≤ x * x := by
  induction x with
  | bot => simp
  | top => simp
  | coe r => rw [← EReal.coe_mul]; exact_mod_cast mul_self_nonneg r

theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

theorem ofBits_128 : Ideal.ofBits .f32 0x43000000#32 = ((128 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = ((1 / 256 : ℝ) : EReal) := by
  simp [Ideal.ofBits, Ideal.ieee, -EReal.coe_mul]; norm_num

theorem div_128_nonneg (x : EReal) (h : 0 ≤ x) : 0 ≤ Ideal.div x (Ideal.ofBits .f32 0x43000000#32) := by
  rw [ofBits_128, Ideal.div, if_neg (by norm_cast)]
  refine mul_nonneg h ?_
  rw [← EReal.coe_inv]; exact_mod_cast (by norm_num : (0:ℝ) ≤ 128⁻¹)

theorem div_256 (x : EReal) : x * Ideal.ofBits .f32 0x3B800000#32 = Ideal.div x (Ideal.ofBits .f32 0x43800000#32) := by
  rw [ofBits_256, ofBits_inv256, Ideal.div, if_neg (by norm_cast), ← EReal.coe_inv]; norm_num

/-- Times one over the root is division by the root, at a positive number or infinity. -/
theorem mul_rsqrt (d v : EReal) (h : 0 ≤ v) :
    d * Ideal.rsqrt (v + Ideal.ofBits .f32 0x3727C5AC#32) = Ideal.div d (Ideal.sqrt (v + Ideal.ofBits .f32 0x3727C5AC#32)) := by
  obtain ⟨r, hr, e⟩ := ofBits_eps
  rw [e]
  induction v with
  | bot => exact absurd h (by simp)
  | top => rw [EReal.top_add_coe]; simp [Ideal.div]
  | coe x =>
    have hx : 0 ≤ x := by exact_mod_cast h
    rw [← EReal.coe_add]
    have hp : 0 < x + r := by linarith
    have hs : Real.sqrt (x + r) ≠ 0 := (Real.sqrt_pos.mpr hp).ne'
    have hs' : ((Real.sqrt (x + r) : ℝ) : EReal) ≠ 0 := by exact_mod_cast hs
    simp only [Ideal.rsqrt_coe, Ideal.sqrt_coe, if_neg (not_lt.mpr hp.le), if_neg hp.ne', Ideal.div, if_neg hs', EReal.coe_inv]

/-! ## Attention -/

abbrev R3 := FVec Ideal Cert.ReferenceIdeal.S256x256x128 .f32
abbrev R4 := FVec Ideal Cert.ReferenceIdeal.S256x2x256x64 .f32

/-- A head whose queries, keys and values are the reference's gives the reference's, the keys from 192 on padded. -/
theorem head_rel (pad : IVec Cert.ReferenceIdeal.S256x1x1x256 1) (Q K V : R4) (q : FVec Ideal S256x64 .f32) (k v : FVec Ideal S192x64 .f32) (b : Fin 256) (h : Fin 2)
    (hpad : ∀ j : Fin 256, pad (ix4 b 0 0 j) = if j.val < 192 then 0#1 else 1#1)
    (hq : ∀ i d, q (ix2 i d) = Q (ix4 b h i d)) (hk : ∀ (j : Fin 192) d, k (ix2 j d) = K (ix4 b h ⟨j.val, by omega⟩ d))
    (hv : ∀ (j : Fin 192) d, v (ix2 j d) = V (ix4 b h ⟨j.val, by omega⟩ d)) (i : Fin 256) (d : Fin 64) :
    headV q k v (ix2 i d) = RefStage.attend pad (RefStage.expS (RefStage.scores pad Q K)) V (ix4 b h i d) := by
  have s1 : ∀ (j : Fin 192), RefStage.scores pad Q K (ix4 b h i ⟨j.val, by omega⟩) = scoreV q k (ix2 i j) := fun j => by
    rw [RefStage.scores_apply, scoreV_apply, hpad, if_pos j.isLt, Scalar.select, if_neg (by decide)]
    simp only [hq, hk]
  have s2 : ∀ (j : Fin 256), 192 ≤ j.val → RefStage.scores pad Q K (ix4 b h i j) = ⊥ := fun j hj => by
    rw [RefStage.scores_apply, hpad, if_neg (by omega), Scalar.select, if_pos (by decide), bot_eq]
  have m : (⨆ j : Fin 256, RefStage.scores pad Q K (ix4 b h i j)) = ⨆ j : Fin 192, scoreV q k (ix2 i j) := sup_tail (by decide) _ _ s1 s2
  have e1 : ∀ (j : Fin 192), RefStage.expS (RefStage.scores pad Q K) (ix4 b h i ⟨j.val, by omega⟩) = expV (scoreV q k) (ix2 i j) := fun j => by
    rw [RefStage.expS_apply, expV_apply, s1, m, fold_bot]
  have e2 : ∀ (j : Fin 256), 192 ≤ j.val → RefStage.expS (RefStage.scores pad Q K) (ix4 b h i j) = 0 := fun j hj => by
    rw [RefStage.expS_apply, s2 j hj, EReal.bot_sub, Ideal.exp_bot]
  have t : (∑ j : Fin 256, RefStage.expS (RefStage.scores pad Q K) (ix4 b h i j)) = ∑ j : Fin 192, expV (scoreV q k) (ix2 i j) := sum_tail (by decide) _ _ e1 e2
  rw [headV_apply, RefStage.attend_apply]
  refine (sum_tail (by decide) _ _ (fun j => ?_) fun j hj => ?_).symm
  · rw [hpad, if_pos j.isLt, Scalar.select, if_neg (by decide), e1, t, probV_apply, hv]
  · rw [hpad, if_neg (by omega), Scalar.select, if_pos (by decide), zero_mul]

theorem att_rel (pad : IVec Cert.ReferenceIdeal.S256x1x1x256 1) (X : R3) (wq wk wv Wo : FVec Ideal Cert.ReferenceIdeal.S128x128 .f32) (x : FVec Ideal S256x128 .f32)
    (w : FVec Ideal S1x128x384 .f32) (wo : FVec Ideal S1x128x128 .f32) (b : Fin 256)
    (hpad : ∀ j : Fin 256, pad (ix4 b 0 0 j) = if j.val < 192 then 0#1 else 1#1)
    (hx : ∀ i j, x (ix2 i j) = X (ix3 b i j)) (hq : ∀ (c j : Fin 128), w (ix3 0 c ⟨j.val, by omega⟩) = wq (ix2 c j))
    (hk : ∀ (c j : Fin 128), w (ix3 0 c ⟨128 + j.val, by omega⟩) = wk (ix2 c j)) (hv : ∀ (c j : Fin 128), w (ix3 0 c ⟨256 + j.val, by omega⟩) = wv (ix2 c j))
    (ho : ∀ c j, wo (ix3 0 c j) = Wo (ix2 c j)) (i : Fin 256) (j : Fin 128) :
    attV (F := Ideal) x w wo (ix2 i j)
      = RefStage.project (RefStage.attend pad (RefStage.expS (RefStage.scores pad (RefStage.heads X wq) (RefStage.heads X wk))) (RefStage.heads X wv)) Wo X (ix3 b i j) := by
  rw [attV_apply, RefStage.project_apply, hx]
  refine congrArg (· + _) (Finset.sum_congr rfl fun c _ => ?_)
  rw [ho]
  refine congrArg (· * _) ?_
  have key : ∀ (i : Fin 256) (n : ℕ) (hn : n < 384) (W : FVec Ideal Cert.ReferenceIdeal.S128x128 .f32) (h : Fin 2) (d : Fin 64),
      (∀ c : Fin 128, w (ix3 0 c ⟨n, hn⟩) = W (ix2 c ⟨h.val * 64 + d.val, by omega⟩)) →
      qkvV (F := Ideal) x w (ix2 i ⟨n, hn⟩) = RefStage.heads X W (ix4 b h i d) := fun i n hn W h d e => by
    rw [qkvV_apply, RefStage.heads_apply]
    exact Finset.sum_congr rfl fun c _ => by rw [hx, e c]
  have lo : ∀ d : Fin 64, attnV (qkvV (F := Ideal) x w) (ix2 i ⟨d.val, by omega⟩) = RefStage.attend pad (RefStage.expS (RefStage.scores pad (RefStage.heads X wq) (RefStage.heads X wk))) (RefStage.heads X wv) (ix4 b 0 i d) := fun d => by
    rw [attnV_lo]
    refine head_rel pad _ _ _ _ _ _ b 0 hpad (fun i d => ?_) (fun j d => ?_) (fun j d => ?_) i d
    · refine Eq.trans ?_ (key i d.val (by omega) wq 0 d fun c => ?_)
      · pointwise
      · rw [← hq]; congr 2; exact Fin.ext (by simp)
    · refine Eq.trans ?_ (key ⟨j.val, by omega⟩ (128 + d.val) (by omega) wk 0 d fun c => ?_)
      · pointwise
      · rw [← hk]; congr 2; exact Fin.ext (by simp)
    · refine Eq.trans ?_ (key ⟨j.val, by omega⟩ (256 + d.val) (by omega) wv 0 d fun c => ?_)
      · pointwise
      · rw [← hv]; congr 2; exact Fin.ext (by simp)
  have hi : ∀ d : Fin 64, attnV (qkvV (F := Ideal) x w) (ix2 i ⟨64 + d.val, by omega⟩) = RefStage.attend pad (RefStage.expS (RefStage.scores pad (RefStage.heads X wq) (RefStage.heads X wk))) (RefStage.heads X wv) (ix4 b 1 i d) := fun d => by
    rw [attnV_hi]
    refine head_rel pad _ _ _ _ _ _ b 1 hpad (fun i d => ?_) (fun j d => ?_) (fun j d => ?_) i d
    · refine Eq.trans ?_ (key i (64 + d.val) (by omega) wq 1 d fun c => ?_)
      · pointwise
      · rw [← hq]; congr 2
    · refine Eq.trans ?_ (key ⟨j.val, by omega⟩ (192 + d.val) (by omega) wk 1 d fun c => ?_)
      · pointwise
      · rw [← hk]; congr 2; exact Fin.ext (by simp; omega)
    · refine Eq.trans ?_ (key ⟨j.val, by omega⟩ (320 + d.val) (by omega) wv 1 d fun c => ?_)
      · pointwise
      · rw [← hv]; congr 2; exact Fin.ext (by simp; omega)
  by_cases hc : c.val < 64
  · refine (lo ⟨c.val, hc⟩).trans (congrArg _ (congrArg₂ (fun u v => ix4 b u i v) (Fin.ext ?_) (Fin.ext ?_)))
    · show 0 = c.val / 64; omega
    · show c.val = c.val % 64; omega
  · have hcc := c.isLt
    have ec : c = ⟨64 + (⟨c.val - 64, by omega⟩ : Fin 64).val, by show 64 + (c.val - 64) < 128; omega⟩ := Fin.ext (by show c.val = 64 + (c.val - 64); omega)
    refine (congrArg (fun c => attnV (qkvV (F := Ideal) x w) (ix2 i c)) ec).trans ((hi ⟨c.val - 64, by omega⟩).trans (congrArg _ (congrArg₂ (fun u v => ix4 b u i v) (Fin.ext ?_) (Fin.ext ?_))))
    · show 1 = c.val / 64; omega
    · show c.val - 64 = c.val % 64; omega

/-! ## The other stages -/

theorem ln_rel (X : R3) (G B : FVec Ideal Cert.ReferenceIdeal.S128 .f32) (x : FVec Ideal S256x128 .f32) (g c : FVec Ideal S1x1x128 .f32) (b : Fin 256)
    (hx : ∀ i j, x (ix2 i j) = X (ix3 b i j)) (hg : ∀ j, g (ix3 0 0 j) = G (ix1 j)) (hc : ∀ j, c (ix3 0 0 j) = B (ix1 j)) (i : Fin 256) (j : Fin 128) :
    lnV (F := Ideal) x g c (ix2 i j) = RefStage.norm X (RefStage.mean X) G B (ix3 b i j) := by
  have hm : meanV x (ix2 i 0) = RefStage.mean X (ix3 b i 0) := by
    rw [meanV_apply, RefStage.mean_apply]; simp only [hx]
  have hd : ∀ j, devV x (ix2 i j) = X (ix3 b i j) - RefStage.mean X (ix3 b i 0) := fun j => by rw [devV_apply, hm, hx]
  have hv : meanV (mulf (devV x) (devV x)) (ix2 i 0)
      = Ideal.div (∑ c : Fin 128, (X (ix3 b i c) - RefStage.mean X (ix3 b i 0)) * (X (ix3 b i c) - RefStage.mean X (ix3 b i 0))) (Ideal.ofBits .f32 0x43000000#32) := by
    rw [meanV_apply]
    refine congrArg (Ideal.div · _) (Finset.sum_congr rfl fun k _ => ?_)
    show devV x (ix2 i k) * devV x (ix2 i k) = _
    rw [hd]
  rw [lnV_apply, RefStage.norm_apply, hv, hd, hg, hc, mul_rsqrt _ _ (div_128_nonneg _ (Finset.sum_nonneg fun k _ => sq_nonneg' _))]

theorem ff_rel (X : R3) (W1 : FVec Ideal Cert.ReferenceIdeal.S128x512 .f32) (C1 : FVec Ideal Cert.ReferenceIdeal.S512 .f32) (W2 : FVec Ideal Cert.ReferenceIdeal.S512x128 .f32) (C2 : FVec Ideal Cert.ReferenceIdeal.S128 .f32)
    (x : FVec Ideal S256x128 .f32) (w1 : FVec Ideal S1x128x512 .f32) (c1 : FVec Ideal S1x1x512 .f32) (w2 : FVec Ideal S1x512x128 .f32) (c2 : FVec Ideal S1x1x128 .f32) (b : Fin 256)
    (hx : ∀ i j, x (ix2 i j) = X (ix3 b i j)) (h1 : ∀ c k, w1 (ix3 0 c k) = W1 (ix2 c k)) (h2 : ∀ k, c1 (ix3 0 0 k) = C1 (ix1 k))
    (h3 : ∀ k j, w2 (ix3 0 k j) = W2 (ix2 k j)) (h4 : ∀ j, c2 (ix3 0 0 j) = C2 (ix1 j)) (i : Fin 256) (j : Fin 128) :
    ffV (F := Ideal) x w1 c1 w2 c2 (ix2 i j) = RefStage.feed X W1 C1 W2 C2 (ix3 b i j) := by
  rw [ffV_apply, RefStage.feed_apply]
  simp only [hx, h1, h2, h3, h4]

theorem pool_rel (X : R3) (x : FVec Ideal S256x128 .f32) (b : Fin 256) (hx : ∀ i j, x (ix2 i j) = X (ix3 b i j)) (j : Fin 128) :
    poolV (F := Ideal) x (ix2 0 j) = RefStage.pooled X (ix2 b j) := by
  rw [poolV_apply, RefStage.pooled_apply, div_256]
  simp only [hx]

/-- A whole layer of the reference's. -/
def layer (pad : IVec Cert.ReferenceIdeal.S256x1x1x256 1) (X : R3) (wq wk wv Wo : FVec Ideal Cert.ReferenceIdeal.S128x128 .f32) (G1 B1 : FVec Ideal Cert.ReferenceIdeal.S128 .f32)
    (W1 : FVec Ideal Cert.ReferenceIdeal.S128x512 .f32) (C1 : FVec Ideal Cert.ReferenceIdeal.S512 .f32) (W2 : FVec Ideal Cert.ReferenceIdeal.S512x128 .f32) (C2 G2 B2 : FVec Ideal Cert.ReferenceIdeal.S128 .f32) : R3 :=
  let A := RefStage.project (RefStage.attend pad (RefStage.expS (RefStage.scores pad (RefStage.heads X wq) (RefStage.heads X wk))) (RefStage.heads X wv)) Wo X
  let N := RefStage.norm A (RefStage.mean A) G1 B1
  let H := RefStage.feed N W1 C1 W2 C2
  RefStage.norm H (RefStage.mean H) G2 B2

end Cert.Proof.Rel

end
-- ==== Proof.IdealGlobRel.lean ====
/- The context kernel's passes over the table's chunks give the reference's context. -/
module

public import proofs.«01_k».proof.Proof.IdealGlobStage
public import proofs.«01_k».proof.Proof.IdealGlobWp
public import proofs.«01_k».proof.Proof.IdealRel

@[expose] public section

set_option maxRecDepth 16384

noncomputable section

namespace Cert.Proof.Rel

open Cert.KernelIdeal Cert.KernelIdeal.Gen Cert.Proof.KernelIdeal
open Cert.Proof.RefStage (bot_eq fold_bot fold_bot')
open Idealize.ShloMosaic Idealize.ShloMosaic.TcCoe Idealize.SL.Sem

theorem mask_bot : (Named.named (F := Ideal) κ "mask" (φ := .f32) 0xF149F2CA#32) = (⊥ : EReal) := rfl

theorem foldl_max {ι : Type} (l : List ι) (f : ι → EReal) (a x : EReal) : l.foldl (fun a c => max a (f c)) a ≤ x ↔ a ≤ x ∧ ∀ c ∈ l, f c ≤ x := by
  induction l generalizing a with
  | nil => simp
  | cons c l ih => rw [List.foldl_cons, ih]; simp [and_assoc]

theorem foldl_add' {ι : Type} (l : List ι) (f : ι → EReal) (a : EReal) : l.foldl (fun a c => a + f c) a = a + (l.map f).sum := by
  induction l generalizing a with
  | nil => simp
  | cons c l ih => rw [List.foldl_cons, ih, List.map_cons, List.sum_cons, add_assoc]

theorem foldl_read {ι σ : Type} (l : List ι) (g : σ → ι → σ) (p : σ → EReal) (h : EReal → ι → EReal) (e : ∀ s c, p (g s c) = h (p s) c) (s : σ) :
    p (l.foldl g s) = l.foldl h (p s) := by
  induction l generalizing s with
  | nil => rfl
  | cons c l ih => rw [List.foldl_cons, List.foldl_cons, ih, e]

theorem chunks_all : chunks = List.finRange 20 := by decide

theorem chunk_read (T : FVec Ideal S20480x128 .f32) (c : Fin 20) (a : Fin 1024) (k : Fin 128) :
    (fun j => T ((chunkR c).emb j) : FVec Ideal S1024x128 .f32) (ix2 a k) = T (ix2 ⟨c.val * 1024 + a.val, by omega⟩ k) := by
  refine congrArg T (funext fun d => Fin.ext ?_)
  fin_cases d
  · show 1024 * c.val + 1 * a.val = c.val * 1024 + a.val; omega
  · show 0 + 1 * k.val = k.val; omega

theorem maskG_apply (s : FVec Ideal S128x1024 .f32) (i : Fin 128) (j : Fin 1024) : maskG s (ix2 i j) = if 544 ≤ j.val then ⊥ else s (ix2 i j) := by
  have hw : IntOp.cmpi .sge (BitVec.ofNat 32 j.val) 544#32 = if 544 ≤ j.val then 1#1 else 0#1 := by
    have hj := j.isLt
    show BitVec.ofBool (decide ((544#32 : BitVec 32).toInt ≤ (BitVec.ofNat 32 j.val).toInt)) = _
    have e : (BitVec.ofNat 32 j.val).toInt = j.val := by
      rw [BitVec.toInt_eq_toNat_cond, BitVec.toNat_ofNat, Nat.mod_eq_of_lt (by omega), if_pos (by omega)]
    rw [e, show (544#32 : BitVec 32).toInt = 544 from by decide]
    by_cases h : 544 ≤ j.val
    · rw [if_pos h, decide_eq_true (by omega)]; rfl
    · rw [if_neg h, decide_eq_false (by omega)]; rfl
  have e : maskG s (ix2 i j) = Scalar.select (IntOp.cmpi .sge (BitVec.ofNat 32 j.val) 544#32) (Named.named (F := Ideal) κ "mask" (φ := .f32) 0xF149F2CA#32) (s (ix2 i j)) := by
    pointwise [maskG]
  rw [e, hw, mask_bot]
  by_cases h : 544 ≤ j.val
  · rw [if_pos h, if_pos h, Scalar.select, if_pos (by decide)]
  · rw [if_neg h, if_neg h, Scalar.select, if_neg (by decide)]

/-- A table row's place among the padded ones. -/
def tableRow (k : Fin 20000) : Fin 20480 := ⟨k.val, Nat.lt_trans k.isLt (of_decide_eq_true rfl)⟩

theorem exp_nonneg (x : EReal) : 0 ≤ Ideal.exp x := by
  induction x with
  | bot => exact le_rfl
  | top => exact le_top
  | coe r => exact EReal.coe_nonneg.mpr (Real.exp_pos r).le

theorem ofBits_one : Ideal.ofBits .f32 0x3F800000#32 = 1 := by
  simp [Ideal.ofBits, Ideal.ieee, -EReal.coe_mul]
  norm_num

/-- Weights divided by their sum before a product or after it: the same, for all nonnegative weights. -/
theorem normalized {n : ℕ} (e t : Fin n → EReal) (he : ∀ k, 0 ≤ e k) :
    ∑ k, e k * Ideal.div (Ideal.ofBits .f32 0x3F800000#32) (∑ k, e k) * t k = (∑ k, e k * t k) * Ideal.div (Ideal.ofBits .f32 0x3F800000#32) (∑ k, e k) := by
  by_cases h : ∑ k, e k = 0
  · have hz : ∀ k, e k = 0 := fun k => (Finset.sum_eq_zero_iff_of_nonneg fun k _ => he k).mp h k (Finset.mem_univ k)
    simp [hz]
  · have hd : Ideal.div (Ideal.ofBits .f32 0x3F800000#32) (∑ k, e k) = (∑ k, e k)⁻¹ := by rw [Ideal.div, if_neg h, ofBits_one, one_mul]
    have h0 : 0 ≤ (∑ k, e k)⁻¹ := EReal.inv_nonneg_of_nonneg (Finset.sum_nonneg fun k _ => he k)
    rw [hd]
    generalize hr : (∑ k, e k)⁻¹ = r at h0
    have ht : r ≠ ⊤ := hr ▸ (EReal.inv_lt_top _).ne
    have key : ∀ s : Finset (Fin n), ∑ k ∈ s, e k * r * t k = (∑ k ∈ s, e k * t k) * r := fun s => by
      induction s using Finset.induction_on with
      | empty => simp
      | insert a s ha ih => rw [Finset.sum_insert ha, Finset.sum_insert ha, ih, EReal.right_distrib_of_nonneg_of_ne_top h0 ht, mul_right_comm]
    exact key _

section
variable (T : FVec Ideal S20480x128 .f32) (Tr : FVec Ideal Cert.ReferenceIdeal.S20000x128 .f32) (q : FVec Ideal S128x128 .f32)
  (S : FVec Ideal Cert.ReferenceIdeal.S256x20000 .f32) (i : Fin 128) (b : Fin 256)
  (hT : ∀ (k : Fin 20000) c, T (ix2 (tableRow k) c) = Tr (ix2 k c))
  (hS : ∀ k, S (ix2 b k) = ∑ c : Fin 128, q (ix2 i c) * Tr (ix2 k c))
include hT hS

/-- A chunk's score is the reference's, the padding rows' minus infinity. -/
theorem score_rel (c : Fin 20) (j : Fin 1024) :
    scoreC (F := Ideal) c q (fun y => T ((chunkR c).emb y)) (ix2 i j) = if h : c.val * 1024 + j.val < 20000 then S (ix2 b ⟨c.val * 1024 + j.val, h⟩) else ⊥ := by
  have base : ∀ h : c.val * 1024 + j.val < 20000, scoreG (F := Ideal) q (fun y => T ((chunkR c).emb y)) (ix2 i j) = S (ix2 b ⟨c.val * 1024 + j.val, h⟩) := fun h => by
    rw [scoreG_apply, hS]
    exact Finset.sum_congr rfl fun k _ => congrArg _ ((chunk_read T c j k).trans (hT ⟨_, h⟩ k))
  have hj := j.isLt
  have hc := c.isLt
  unfold scoreC
  by_cases h19 : c.val = 19
  · rw [if_pos h19, maskG_apply]
    by_cases h : 544 ≤ j.val
    · rw [if_pos h, dif_neg (by omega)]
    · rw [if_neg h, dif_pos (by omega)]; exact base _
  · rw [if_neg h19, dif_pos (by omega)]; exact base _

theorem top_rel : topG (F := Ideal) q T (ix2 i 0) = ⨆ k : Fin 20000, S (ix2 b k) := by
  have e : topG (F := Ideal) q T (ix2 i 0) = chunks.foldl (fun a c => max a (⨆ j : Fin 1024, scoreC (F := Ideal) c q (fun y => T ((chunkR c).emb y)) (ix2 i j))) ⊥ := by
    unfold topG
    refine foldl_read chunks _ (fun s : FVec Ideal S128x1 .f32 => s (ix2 i 0)) _ (fun s c => ?_) _
    show maxG s _ (ix2 i 0) = _
    rw [maxG_apply, fold_bot]
  rw [e]
  refine le_antisymm ((foldl_max _ _ _ _).mpr ⟨bot_le, fun c _ => iSup_le fun j => ?_⟩) (iSup_le fun k => ?_)
  · rw [score_rel T Tr q S i b hT hS]
    split_ifs with h
    · exact le_iSup (fun k => S (ix2 b k)) _
    · exact bot_le
  · have hk := k.isLt
    have h := ((foldl_max chunks (fun c => ⨆ j : Fin 1024, scoreC (F := Ideal) c q (fun y => T ((chunkR c).emb y)) (ix2 i j)) ⊥ _).mp le_rfl).2
      ⟨k.val / 1024, by omega⟩ (by rw [chunks_all]; exact List.mem_finRange _)
    refine le_trans (le_trans (le_of_eq ?_) (le_iSup _ (⟨k.val % 1024, Nat.mod_lt _ (by decide)⟩ : Fin 1024))) h
    rw [score_rel T Tr q S i b hT hS, dif_pos (by show k.val / 1024 * 1024 + k.val % 1024 < 20000; omega)]
    exact congrArg (fun k => S (ix2 b k)) (Fin.ext (by show k.val = k.val / 1024 * 1024 + k.val % 1024; omega))

/-- A chunk's weight is the reference's, the padding rows' zero. -/
theorem weight_rel (c : Fin 20) (j : Fin 1024) :
    expG (topG (F := Ideal) q T) (scoreC (F := Ideal) c q (fun y => T ((chunkR c).emb y))) (ix2 i j)
      = if h : c.val * 1024 + j.val < 20000 then RefStage.expT S (RefStage.topT S) (ix2 b ⟨c.val * 1024 + j.val, h⟩) else 0 := by
  rw [expG_apply, top_rel T Tr q S i b hT hS, score_rel T Tr q S i b hT hS]
  split_ifs with h
  · rw [RefStage.expT_apply, RefStage.topT_apply]
  · rw [EReal.bot_sub, Ideal.exp_bot]

omit hT hS in
/-- A sum over the chunks is a sum over the table. -/
theorem sum_chunks (f : Fin 20480 → EReal) (g : Fin 20000 → EReal) (h1 : ∀ k : Fin 20000, f ⟨k.val, by omega⟩ = g k) (h2 : ∀ k : Fin 20480, 20000 ≤ k.val → f k = 0) :
    (chunks.map fun c => ∑ j : Fin 1024, f ⟨c.val * 1024 + j.val, by omega⟩).sum = ∑ k, g k := by
  rw [chunks_all, ← Fin.sum_univ_def, ← sum_tail (by decide) f g h1 h2]
  exact (Fin.sum_univ_tiles 20 1024 rfl f).symm

theorem den_rel : (sumsG (F := Ideal) q T (topG q T)).1 (ix2 i 0) = ∑ k : Fin 20000, RefStage.expT S (RefStage.topT S) (ix2 b k) := by
  have e : (sumsG (F := Ideal) q T (topG q T)).1 (ix2 i 0)
      = chunks.foldl (fun a c => a + ∑ j : Fin 1024, expG (topG (F := Ideal) q T) (scoreC (F := Ideal) c q (fun y => T ((chunkR c).emb y))) (ix2 i j)) (Ideal.ofBits .f32 0#32) := by
    unfold sumsG
    refine foldl_read chunks _ (fun s : FVec Ideal S128x1 .f32 × FVec Ideal S128x128 .f32 => s.1 (ix2 i 0)) _ (fun s c => ?_) _
    show denG s.1 _ (ix2 i 0) = _
    rw [denG_apply]
  rw [e, foldl_add', show Ideal.ofBits .f32 0#32 = 0 from by simp [Ideal.ofBits, Ideal.ieee], zero_add,
    ← sum_chunks (fun k => if h : k.val < 20000 then RefStage.expT S (RefStage.topT S) (ix2 b ⟨k.val, h⟩) else 0) _ (fun k => dif_pos k.isLt) (fun k hk => dif_neg (by omega))]
  refine congrArg List.sum (List.map_congr_left fun c _ => Finset.sum_congr rfl fun j _ => ?_)
  exact weight_rel T Tr q S i b hT hS c j

theorem ctx_rel (d : Fin 128) : (sumsG (F := Ideal) q T (topG q T)).2 (ix2 i d) = ∑ k : Fin 20000, RefStage.expT S (RefStage.topT S) (ix2 b k) * Tr (ix2 k d) := by
  have e : (sumsG (F := Ideal) q T (topG q T)).2 (ix2 i d)
      = chunks.foldl (fun a c => a + ∑ j : Fin 1024, expG (topG (F := Ideal) q T) (scoreC (F := Ideal) c q (fun y => T ((chunkR c).emb y))) (ix2 i j) * T (ix2 ⟨c.val * 1024 + j.val, by omega⟩ d)) (Ideal.ofBits .f32 0#32) := by
    unfold sumsG
    refine foldl_read chunks _ (fun s : FVec Ideal S128x1 .f32 × FVec Ideal S128x128 .f32 => s.2 (ix2 i d)) _ (fun s c => ?_) _
    show ctxG s.2 _ _ (ix2 i d) = _
    rw [ctxG_apply]
    exact congrArg _ (Finset.sum_congr rfl fun j _ => congrArg _ (chunk_read T c j d))
  rw [e, foldl_add', show Ideal.ofBits .f32 0#32 = 0 from by simp [Ideal.ofBits, Ideal.ieee], zero_add,
    ← sum_chunks (fun k => (if h : k.val < 20000 then RefStage.expT S (RefStage.topT S) (ix2 b ⟨k.val, h⟩) else 0) * T (ix2 k d)) _
      (fun k => by rw [dif_pos k.isLt]; exact congrArg _ (hT k d)) (fun k hk => by rw [dif_neg (by omega), zero_mul])]
  refine congrArg List.sum (List.map_congr_left fun c _ => Finset.sum_congr rfl fun j _ => ?_)
  rw [weight_rel T Tr q S i b hT hS c j]

/-- The context is the reference's. -/
theorem context_rel (d : Fin 128) : contextG (F := Ideal) q T (ix2 i d) = RefStage.contextT (RefStage.expT S (RefStage.topT S)) Tr (ix2 b d) := by
  unfold contextG
  rw [quotG_apply, den_rel T Tr q S i b hT hS, ctx_rel T Tr q S i b hT hS, RefStage.contextT_apply]
  simp only [RefStage.attenT_apply]
  exact (normalized _ _ fun k => by rw [RefStage.expT_apply]; exact exp_nonneg _).symm

end

end Cert.Proof.Rel

end
-- ==== Proof.RefEq.lean ====
/- The reference's result, stage by stage. -/
module

public import proofs.«01_k».proof.Proof.Gen.ReferenceIdeal.Run
public import proofs.«01_k».proof.Proof.IdealRel

@[expose] public section

set_option maxRecDepth 16384

noncomputable section

namespace Cert.Proof.RefEq

open Cert.ReferenceIdeal Cert.ReferenceIdeal.Gen Cert.ReferenceIdeal.Value
open Cert.Proof.RefStage
open Idealize.ShloMosaic Idealize.ShloMosaic.TcCoe Idealize.SL.Sem

/-- A layer's slice of each stacked weight. -/
def sqr : Fin 2 → FVec Ideal S2x128x128 .f32 → FVec Ideal S128x128 .f32
  | 0, w => shapeCast S128x128 (extractStridedSlice S1x128x128 ![0, 0, 0] w slices_S2x128x128_S1x128x128_0_0_0) shapeCasts_S1x128x128_S128x128
  | 1, w => shapeCast S128x128 (extractStridedSlice S1x128x128 ![1, 0, 0] w slices_S2x128x128_S1x128x128_1_0_0) shapeCasts_S1x128x128_S128x128
def vec : Fin 2 → FVec Ideal S2x128 .f32 → FVec Ideal S128 .f32
  | 0, w => shapeCast S128 (extractStridedSlice S1x128 ![0, 0] w slices_S2x128_S1x128_0_0) shapeCasts_S1x128_S128
  | 1, w => shapeCast S128 (extractStridedSlice S1x128 ![1, 0] w slices_S2x128_S1x128_1_0) shapeCasts_S1x128_S128
def wide : Fin 2 → FVec Ideal S2x128x512 .f32 → FVec Ideal S128x512 .f32
  | 0, w => shapeCast S128x512 (extractStridedSlice S1x128x512 ![0, 0, 0] w slices_S2x128x512_S1x128x512_0_0_0) shapeCasts_S1x128x512_S128x512
  | 1, w => shapeCast S128x512 (extractStridedSlice S1x128x512 ![1, 0, 0] w slices_S2x128x512_S1x128x512_1_0_0) shapeCasts_S1x128x512_S128x512
def wvec : Fin 2 → FVec Ideal S2x512 .f32 → FVec Ideal S512 .f32
  | 0, w => shapeCast S512 (extractStridedSlice S1x512 ![0, 0] w slices_S2x512_S1x512_0_0) shapeCasts_S1x512_S512
  | 1, w => shapeCast S512 (extractStridedSlice S1x512 ![1, 0] w slices_S2x512_S1x512_1_0) shapeCasts_S1x512_S512
def tall : Fin 2 → FVec Ideal S2x512x128 .f32 → FVec Ideal S512x128 .f32
  | 0, w => shapeCast S512x128 (extractStridedSlice S1x512x128 ![0, 0, 0] w slices_S2x512x128_S1x512x128_0_0_0) shapeCasts_S1x512x128_S512x128
  | 1, w => shapeCast S512x128 (extractStridedSlice S1x512x128 ![1, 0, 0] w slices_S2x512x128_S1x512x128_1_0_0) shapeCasts_S1x512x128_S512x128

theorem sqr_apply (l : Fin 2) (w) (i j : Fin 128) : sqr l w (ix2 i j) = w (ix3 l i j) := by
  fin_cases l <;> pointwise [sqr]
theorem vec_apply (l : Fin 2) (w) (j : Fin 128) : vec l w (ix1 j) = w (ix2 l j) := by
  fin_cases l <;> pointwise [vec]
theorem wide_apply (l : Fin 2) (w) (i : Fin 128) (j : Fin 512) : wide l w (ix2 i j) = w (ix3 l i j) := by
  fin_cases l <;> pointwise [wide]
theorem wvec_apply (l : Fin 2) (w) (j : Fin 512) : wvec l w (ix1 j) = w (ix2 l j) := by
  fin_cases l <;> pointwise [wvec]
theorem tall_apply (l : Fin 2) (w) (i : Fin 512) (j : Fin 128) : tall l w (ix2 i j) = w (ix3 l i j) := by
  fin_cases l <;> pointwise [tall]

/-- Layer `l` at the stacked weights. -/
def lay (V : Valuation τ sig (Elt Ideal)) (l : Fin 2) (X : FVec Ideal S256x256x128 .f32) : FVec Ideal S256x256x128 .f32 :=
  Rel.layer (res_main_v37 V) X (sqr l (V (Proc.devRef .tc main_arg10))) (sqr l (V (Proc.devRef .tc main_arg11))) (sqr l (V (Proc.devRef .tc main_arg12)))
    (sqr l (V (Proc.devRef .tc main_arg13))) (vec l (V (Proc.devRef .tc main_arg14))) (vec l (V (Proc.devRef .tc main_arg15)))
    (wide l (V (Proc.devRef .tc main_arg16))) (wvec l (V (Proc.devRef .tc main_arg17))) (tall l (V (Proc.devRef .tc main_arg18)))
    (vec l (V (Proc.devRef .tc main_arg19))) (vec l (V (Proc.devRef .tc main_arg20))) (vec l (V (Proc.devRef .tc main_arg21)))

variable (V : Valuation τ sig (Elt Ideal))

theorem v56_eq : res_main_v56 V = scores (res_main_v37 V) (heads (res_main_v35 V) (sqr 0 (V (Proc.devRef .tc main_arg10)))) (heads (res_main_v35 V) (sqr 0 (V (Proc.devRef .tc main_arg11)))) := rfl
theorem v63_eq : res_main_v63 V = expS (res_main_v56 V) := rfl
theorem v75_eq : res_main_v75 V = project (attend (res_main_v37 V) (res_main_v63 V) (heads (res_main_v35 V) (sqr 0 (V (Proc.devRef .tc main_arg12))))) (sqr 0 (V (Proc.devRef .tc main_arg13))) (res_main_v35 V) := rfl
theorem v83_eq : res_main_v83 V = mean (res_main_v75 V) := rfl
theorem v105_eq : res_main_v105 V = norm (res_main_v75 V) (res_main_v83 V) (vec 0 (V (Proc.devRef .tc main_arg14))) (vec 0 (V (Proc.devRef .tc main_arg15))) := rfl
theorem v124_eq : res_main_v124 V = feed (res_main_v105 V) (wide 0 (V (Proc.devRef .tc main_arg16))) (wvec 0 (V (Proc.devRef .tc main_arg17))) (tall 0 (V (Proc.devRef .tc main_arg18))) (vec 0 (V (Proc.devRef .tc main_arg19))) := rfl
theorem v132_eq : res_main_v132 V = mean (res_main_v124 V) := rfl
theorem v154_eq : res_main_v154 V = norm (res_main_v124 V) (res_main_v132 V) (vec 0 (V (Proc.devRef .tc main_arg20))) (vec 0 (V (Proc.devRef .tc main_arg21))) := rfl
theorem v173_eq : res_main_v173 V = scores (res_main_v37 V) (heads (res_main_v154 V) (sqr 1 (V (Proc.devRef .tc main_arg10)))) (heads (res_main_v154 V) (sqr 1 (V (Proc.devRef .tc main_arg11)))) := rfl
theorem v180_eq : res_main_v180 V = expS (res_main_v173 V) := rfl
theorem v192_eq : res_main_v192 V = project (attend (res_main_v37 V) (res_main_v180 V) (heads (res_main_v154 V) (sqr 1 (V (Proc.devRef .tc main_arg12))))) (sqr 1 (V (Proc.devRef .tc main_arg13))) (res_main_v154 V) := rfl
theorem v200_eq : res_main_v200 V = mean (res_main_v192 V) := rfl
theorem v222_eq : res_main_v222 V = norm (res_main_v192 V) (res_main_v200 V) (vec 1 (V (Proc.devRef .tc main_arg14))) (vec 1 (V (Proc.devRef .tc main_arg15))) := rfl
theorem v241_eq : res_main_v241 V = feed (res_main_v222 V) (wide 1 (V (Proc.devRef .tc main_arg16))) (wvec 1 (V (Proc.devRef .tc main_arg17))) (tall 1 (V (Proc.devRef .tc main_arg18))) (vec 1 (V (Proc.devRef .tc main_arg19))) := rfl
theorem v249_eq : res_main_v249 V = mean (res_main_v241 V) := rfl
theorem v288_eq : res_main_v288 V = expT (res_main_v283 V) (topT (res_main_v283 V)) := rfl
theorem v306_eq : res_main_v306 V = classify (pooled (norm (res_main_v241 V) (res_main_v249 V) (vec 1 (V (Proc.devRef .tc main_arg20))) (vec 1 (V (Proc.devRef .tc main_arg21)))))
    (contextT (res_main_v288 V) (V (Proc.devRef .tc main_arg1))) (V (Proc.devRef .tc main_arg22)) (V (Proc.devRef .tc main_arg23)) (V (Proc.devRef .tc main_arg24)) (V (Proc.devRef .tc main_arg25)) := rfl
theorem v310_eq : res_main_v310 V = shiftZ (res_main_v306 V) (topZ (res_main_v306 V)) := rfl

theorem layer0_eq : res_main_v154 V = lay V 0 (res_main_v35 V) := by
  rw [v154_eq, v132_eq, v124_eq, v105_eq, v83_eq, v75_eq, v63_eq, v56_eq]; rfl

theorem layer1_eq : norm (res_main_v241 V) (res_main_v249 V) (vec 1 (V (Proc.devRef .tc main_arg20))) (vec 1 (V (Proc.devRef .tc main_arg21))) = lay V 1 (res_main_v154 V) := by
  rw [v249_eq, v241_eq, v222_eq, v200_eq, v192_eq, v180_eq, v173_eq]; rfl

end Cert.Proof.RefEq

end
-- ==== Proof.RefGather.lean ====
/- A gather of a table's rows, read at an index. -/
module

public import Idealize.ShloMosaic.Lib.Pointwise

@[expose] public section

noncomputable section

namespace Cert.Proof.RefGather

open Idealize.ShloMosaic

variable {α : Type}

/-- Rows of a table at a matrix of row numbers. -/
abbrev rows3 (N C A B : Nat) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Rows of a table at a list of row numbers. -/
abbrev rows2 (N C A : Nat) (wf : GatherDims.WF ⟨2, ![N, C]⟩ ⟨2, ![A, 1]⟩ ⟨2, ![A, C]⟩ [1] [0] [] [0] [] 1 ![1, C]) :
    GatherDims ⟨2, ![N, C]⟩ ⟨2, ![A, 1]⟩ ⟨2, ![A, C]⟩ where
  offsetDims := [1]
  collapsedSliceDims := [0]
  operandBatchingDims := []
  startIndicesBatchingDims := []
  startIndexMap := [0]
  indexVectorDim := 1
  sliceSizes := ![1, C]
  wf := wf

theorem rows3_apply {N C A B : Nat} (hN : 0 < N) (wf) (x : (⟨2, ![N, C]⟩ : Shape).Idx → α) (idx : IVec ⟨3, ![A, B, 1]⟩ 32) (a : Fin A) (b : Fin B) (c : Fin C) :
    Host.gather (rows3 N C A B wf) x idx (ix3 a b c) = x (ix2 ⟨min (idx (ix3 a b 0)).toInt.toNat (N - 1), by omega⟩ c) := by
  unfold Host.gather
  congr 1
  funext k
  refine Fin.ext ?_
  show (rows3 N C A B wf).start (ix3 a b c) idx k + (rows3 N C A B wf).batchCoord (ix3 a b c) k + (rows3 N C A B wf).offCoord (ix3 a b c) k = _
  rw [GatherDims.batchCoord_eq_zero _ _ _ List.not_mem_nil]
  have h01 : k = 0 ∨ k = 1 := by
    match k with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3 N C A B wf).startIndexMap from List.mem_singleton.mpr rfl)]
    have hsi : (rows3 N C A B wf).siIdx (ix3 a b c) ⟨List.idxOf (0 : Fin 2) (rows3 N C A B wf).startIndexMap,
        List.idxOf_lt_length_iff.2 (List.mem_singleton.mpr rfl)⟩ = ix3 a b 0 := by
      funext d; refine Fin.ext ?_
      match d with
      | ⟨0, _⟩ => rfl
      | ⟨1, _⟩ => rfl
      | ⟨2, _⟩ => rfl
    rw [hsi]
    rfl
  · unfold GatherDims.start
    rw [dif_neg (show (1 : Fin 2) ∉ (rows3 N C A B wf).startIndexMap from fun h => by simp at h)]
    unfold GatherDims.offCoord
    rw [dif_pos ((GatherDims.mem_sKept _ _).mpr ⟨fun h => by simp at h, List.not_mem_nil⟩)]
    simp only [Nat.add_zero, Nat.zero_add]
    rfl

theorem rows2_apply {N C A : Nat} (hN : 0 < N) (wf) (x : (⟨2, ![N, C]⟩ : Shape).Idx → α) (idx : IVec ⟨2, ![A, 1]⟩ 32) (a : Fin A) (c : Fin C) :
    Host.gather (rows2 N C A wf) x idx (ix2 a c) = x (ix2 ⟨min (idx (ix2 a 0)).toInt.toNat (N - 1), by omega⟩ c) := by
  unfold Host.gather
  congr 1
  funext k
  refine Fin.ext ?_
  show (rows2 N C A wf).start (ix2 a c) idx k + (rows2 N C A wf).batchCoord (ix2 a c) k + (rows2 N C A wf).offCoord (ix2 a c) k = _
  rw [GatherDims.batchCoord_eq_zero _ _ _ List.not_mem_nil]
  have h01 : k = 0 ∨ k = 1 := by
    match k with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2 N C A wf).startIndexMap from List.mem_singleton.mpr rfl)]
    have hsi : (rows2 N C A wf).siIdx (ix2 a c) ⟨List.idxOf (0 : Fin 2) (rows2 N C A wf).startIndexMap,
        List.idxOf_lt_length_iff.2 (List.mem_singleton.mpr rfl)⟩ = ix2 a 0 := by
      funext d; refine Fin.ext ?_
      match d with
      | ⟨0, _⟩ => rfl
      | ⟨1, _⟩ => rfl
    rw [hsi]
    rfl
  · unfold GatherDims.start
    rw [dif_neg (show (1 : Fin 2) ∉ (rows2 N C A wf).startIndexMap from fun h => by simp at h)]
    unfold GatherDims.offCoord
    rw [dif_pos ((GatherDims.mem_sKept _ _).mpr ⟨fun h => by simp at h, List.not_mem_nil⟩)]
    simp only [Nat.add_zero, Nat.zero_add]
    rfl

/-- A row number in range, possibly wrapped, is its own row. -/
theorem row_of {N : ℕ} (w k : BitVec 32) (h : 0 ≤ w.toInt ∧ w.toInt < N) (hN : N < 2 ^ 31) :
    min (Scalar.select (IntOp.cmpi .slt w 0#32) (IntOp.addi w k) w).toInt.toNat (N - 1) = w.toNat := by
  have hs : IntOp.cmpi .slt w 0#32 = 0#1 := by
    show BitVec.ofBool (decide (w.toInt < (0#32 : BitVec 32).toInt)) = 0#1
    rw [show (0#32 : BitVec 32).toInt = 0 from by decide, decide_eq_false (by omega)]; rfl
  rw [hs, Scalar.select, if_neg (by decide)]
  have := BitVec.toInt_eq_toNat_cond w
  have hx := w.isLt
  split_ifs at this <;> omega

end Cert.Proof.RefGather

end
-- ==== Proof.RefRead.lean ====
/- The reference's padding, embedding and context scores, read at an index. -/
module

public import proofs.«01_k».proof.Proof.RefEq
public import proofs.«01_k».proof.Proof.RefGather
public import proofs.«01_k».proof.Proof.Precond

@[expose] public section

set_option maxRecDepth 16384

noncomputable section

namespace Cert.Proof.RefEq

open Cert.ReferenceIdeal Cert.ReferenceIdeal.Gen Cert.ReferenceIdeal.Value
open Cert.Proof.RefStage
open Idealize.ShloMosaic Idealize.ShloMosaic.TcCoe Idealize.SL.Sem

/-- Row numbers, wrapped when negative, as a gather takes them. -/
def wrap3 (k : BitVec 32) (x : IVec S256x256 32) : IVec S256x256x1 32 :=
  broadcastInDim S256x256x1 ![0, 1] bcast_S256x256_S256x256x1_0_1 (select (cmpi .slt x (broadcastInDim S256x256 ![] bcast_S_S256x256 (constantI S_ 32 0#32))) (addi x (broadcastInDim S256x256 ![] bcast_S_S256x256 (constantI S_ 32 k))) x)
def wrap2 (k : BitVec 32) (x : IVec S256 32) : IVec S256x1 32 :=
  broadcastInDim S256x1 ![0] bcast_S256_S256x1_0 (select (cmpi .slt x (broadcastInDim S256 ![] bcast_S_S256 (constantI S_ 32 0#32))) (addi x (broadcastInDim S256 ![] bcast_S_S256 (constantI S_ 32 k))) x)
theorem wrap3_apply (k : BitVec 32) (x : IVec S256x256 32) (b i : Fin 256) :
    wrap3 k x (ix3 b i 0) = Scalar.select (IntOp.cmpi .slt (x (ix2 b i)) 0#32) (IntOp.addi (x (ix2 b i)) k) (x (ix2 b i)) := by
  pointwise [wrap3]
theorem wrap2_apply (k : BitVec 32) (x : IVec S256 32) (b : Fin 256) :
    wrap2 k x (ix2 b 0) = Scalar.select (IntOp.cmpi .slt (x (ix1 b)) 0#32) (IntOp.addi (x (ix1 b)) k) (x (ix1 b)) := by
  pointwise [wrap2]

/-- The grid rows, padded visits' zero. -/
def cells (ok : IVec S256x256 1) (x : FVec Ideal S256x256x128 .f32) : FVec Ideal S256x256x128 .f32 :=
  select (broadcastInDim S256x256x128 ![0, 1, 2] bcast_S256x256x1_S256x256x128_0_1_2 (broadcastInDim S256x256x1 ![0, 1] bcast_S256x256_S256x256x1_0_1 ok)) x (broadcastInDim S256x256x128 ![] bcast_S_S256x256x128 (constant S_ .f32 0x00000000#32))
theorem cells_apply (ok : IVec S256x256 1) (x : FVec Ideal S256x256x128 .f32) (b i : Fin 256) (j : Fin 128) :
    cells ok x (ix3 b i j) = Scalar.select (ok (ix2 b i)) (x (ix3 b i j)) 0 := by
  pointwise [cells]

/-- The three parts side by side, and their embedding. -/
def joined (x : FVec Ideal S256x256x128 .f32) (t s : FVec Ideal S256x256x32 .f32) : FVec Ideal S256x256x192 .f32 :=
  concatenate S256x256x192 2 [⟨S256x256x128, x⟩, ⟨S256x256x32, t⟩, ⟨S256x256x32, s⟩] concatenates_S256x256x128_S256x256x32_S256x256x32_S256x256x192_d2
def embed (z : FVec Ideal S256x256x192 .f32) (w : FVec Ideal S192x128 .f32) (b : FVec Ideal S128 .f32) (p : FVec Ideal S256x128 .f32) : FVec Ideal S256x256x128 .f32 :=
  addf (Host.tanh (addf (Host.dotGeneral dot_S256x256x192_S192x128_S256x256x128_2_0_01_1_n_n none z w) (broadcastInDim S256x256x128 ![0, 1, 2] bcast_S1x1x128_S256x256x128_0_1_2 (broadcastInDim S1x1x128 ![2] bcast_S128_S1x1x128_2 b)))) (broadcastInDim S256x256x128 ![0, 1, 2] bcast_S1x256x128_S256x256x128_0_1_2 (broadcastInDim S1x256x128 ![1, 2] bcast_S256x128_S1x256x128_1_2 p))
theorem embed_apply (z : FVec Ideal S256x256x192 .f32) (w : FVec Ideal S192x128 .f32) (c : FVec Ideal S128 .f32) (p : FVec Ideal S256x128 .f32) (b i : Fin 256) (j : Fin 128) :
    embed z w c p (ix3 b i j) = Ideal.tanh ((∑ k : Fin 192, z (ix3 b i k) * w (ix2 k j)) + c (ix1 j)) + p (ix2 i j) := by
  pointwise [embed]
theorem joined_0 (x : FVec Ideal S256x256x128 .f32) (t s : FVec Ideal S256x256x32 .f32) (b i : Fin 256) (k : Fin 128) : joined x t s (ix3 b i ⟨k.val, by omega⟩) = x (ix3 b i k) := by
  pointwise [joined]
theorem joined_1 (x : FVec Ideal S256x256x128 .f32) (t s : FVec Ideal S256x256x32 .f32) (b i : Fin 256) (k : Fin 32) : joined x t s (ix3 b i ⟨128 + k.val, by omega⟩) = t (ix3 b i k) := by
  pointwise [joined]
theorem joined_2 (x : FVec Ideal S256x256x128 .f32) (t s : FVec Ideal S256x256x32 .f32) (b i : Fin 256) (k : Fin 32) : joined x t s (ix3 b i ⟨160 + k.val, by omega⟩) = s (ix3 b i k) := by
  pointwise [joined]
  rw [dif_neg (by omega), dif_neg (by omega)]
  exact congrArg (fun r => s (ix3 b i r)) (Fin.ext (by show 160 + k.val - 128 - 32 = k.val; omega))

/-- The rows a gather takes. -/
def gridR (g : FVec Ideal S8192x128 .f32) (i : IVec S256x256x1 32) : FVec Ideal S256x256x128 .f32 := Host.gather gather_S8192x128_S256x256x1_S256x256x128_2_0_n_n_0_2_1128 g i
def timeR (g : FVec Ideal S125x32 .f32) (i : IVec S256x256x1 32) : FVec Ideal S256x256x32 .f32 := Host.gather gather_S125x32_S256x256x1_S256x256x32_2_0_n_n_0_2_132 g i
def stateR (g : FVec Ideal S10x32 .f32) (i : IVec S256x256x1 32) : FVec Ideal S256x256x32 .f32 := Host.gather gather_S10x32_S256x256x1_S256x256x32_2_0_n_n_0_2_132 g i
def trajR (g : FVec Ideal S20000x128 .f32) (i : IVec S256x1 32) : FVec Ideal S256x128 .f32 := Host.gather gather_S20000x128_S256x1_S256x128_1_0_n_n_0_1_1128 g i

theorem gridR_apply (g : FVec Ideal S8192x128 .f32) (x : IVec S256x256 32) (b i : Fin 256) (j : Fin 128) (h : 0 ≤ (x (ix2 b i)).toInt ∧ (x (ix2 b i)).toInt < (8192 : ℕ)) (hn : (x (ix2 b i)).toNat < 8192) :
    gridR g (wrap3 8192#32 x) (ix3 b i j) = g (ix2 ⟨(x (ix2 b i)).toNat, hn⟩ j) :=
  (RefGather.rows3_apply (by decide) _ g _ b i j).trans (congrArg (fun r => g (ix2 r j)) (Fin.ext (by
    show min (wrap3 8192#32 x (ix3 b i 0)).toInt.toNat (8192 - 1) = _
    rw [wrap3_apply, RefGather.row_of _ _ h (by norm_num)])))
theorem timeR_apply (g : FVec Ideal S125x32 .f32) (x : IVec S256x256 32) (b i : Fin 256) (j : Fin 32) (h : 0 ≤ (x (ix2 b i)).toInt ∧ (x (ix2 b i)).toInt < (125 : ℕ)) (hn : (x (ix2 b i)).toNat < 125) :
    timeR g (wrap3 125#32 x) (ix3 b i j) = g (ix2 ⟨(x (ix2 b i)).toNat, hn⟩ j) :=
  (RefGather.rows3_apply (by decide) _ g _ b i j).trans (congrArg (fun r => g (ix2 r j)) (Fin.ext (by
    show min (wrap3 125#32 x (ix3 b i 0)).toInt.toNat (125 - 1) = _
    rw [wrap3_apply, RefGather.row_of _ _ h (by norm_num)])))
theorem stateR_apply (g : FVec Ideal S10x32 .f32) (x : IVec S256x256 32) (b i : Fin 256) (j : Fin 32) (h : 0 ≤ (x (ix2 b i)).toInt ∧ (x (ix2 b i)).toInt < (10 : ℕ)) (hn : (x (ix2 b i)).toNat < 10) :
    stateR g (wrap3 10#32 x) (ix3 b i j) = g (ix2 ⟨(x (ix2 b i)).toNat, hn⟩ j) :=
  (RefGather.rows3_apply (by decide) _ g _ b i j).trans (congrArg (fun r => g (ix2 r j)) (Fin.ext (by
    show min (wrap3 10#32 x (ix3 b i 0)).toInt.toNat (10 - 1) = _
    rw [wrap3_apply, RefGather.row_of _ _ h (by norm_num)])))
theorem trajR_apply (g : FVec Ideal S20000x128 .f32) (x : IVec S256 32) (b : Fin 256) (j : Fin 128) (h : 0 ≤ (x (ix1 b)).toInt ∧ (x (ix1 b)).toInt < (20000 : ℕ)) (hn : (x (ix1 b)).toNat < 20000) :
    trajR g (wrap2 20000#32 x) (ix2 b j) = g (ix2 ⟨(x (ix1 b)).toNat, hn⟩ j) :=
  (RefGather.rows2_apply (by decide) _ g _ b j).trans (congrArg (fun r => g (ix2 r j)) (Fin.ext (by
    show min (wrap2 20000#32 x (ix2 b 0)).toInt.toNat (20000 - 1) = _
    rw [wrap2_apply, RefGather.row_of _ _ h (by norm_num)])))

def scoresT (q : FVec Ideal S256x128 .f32) (t : FVec Ideal S20000x128 .f32) : FVec Ideal S256x20000 .f32 :=
  Host.dotGeneral dot_S256x128_S128x20000_S256x20000_1_0_0_1_n_n none q (transpose S128x20000 [1, 0] t transposes_S20000x128_S128x20000_1_0)
theorem scoresT_apply (q : FVec Ideal S256x128 .f32) (t : FVec Ideal S20000x128 .f32) (b : Fin 256) (k : Fin 20000) :
    scoresT q t (ix2 b k) = ∑ c : Fin 128, q (ix2 b c) * t (ix2 k c) := by
  pointwise [scoresT]

variable (V : Valuation τ sig (Elt Ideal))

theorem v283_eq : res_main_v283 V = scoresT (trajR (V (Proc.devRef .tc main_arg1)) (wrap2 20000#32 (V (Proc.devRef .tc main_arg5)))) (V (Proc.devRef .tc main_arg1)) := rfl
theorem v35_eq : res_main_v35 V = embed (joined (cells (res_main_v1 V) (gridR (V (Proc.devRef .tc main_arg0)) (wrap3 8192#32 (res_main_v4 V))))
    (timeR (V (Proc.devRef .tc main_arg6)) (wrap3 125#32 (V (Proc.devRef .tc main_arg3)))) (stateR (V (Proc.devRef .tc main_arg7)) (wrap3 10#32 (V (Proc.devRef .tc main_arg4)))))
    (V (Proc.devRef .tc main_arg8)) (V (Proc.devRef .tc main_arg9)) (fun i => FloatOps.ofBits .f32 (lit0 (S256x128.rowMajor i))) := rfl

theorem v1_apply (b i : Fin 256) : res_main_v1 V (ix2 b i) = IntOp.cmpi .sge ((V (Proc.devRef .tc main_arg2) : IVec S256x256 32) (ix2 b i)) 0#32 := by
  pointwise [res_main_v1]
theorem v4_apply (b i : Fin 256) : res_main_v4 V (ix2 b i) = IntOp.maxsi ((V (Proc.devRef .tc main_arg2) : IVec S256x256 32) (ix2 b i)) 0#32 := by
  pointwise [res_main_v4]
def keyPad (ok : IVec S256x256 1) : IVec S256x1x1x256 1 := broadcastInDim S256x1x1x256 ![0, 3] bcast_S256x256_S256x1x1x256_0_3 (noti ok)
theorem keyPad_apply (ok : IVec S256x256 1) (b j : Fin 256) : keyPad ok (ix4 b 0 0 j) = ~~~ (ok (ix2 b j)) := by
  pointwise [keyPad]
theorem v37_eq : res_main_v37 V = keyPad (res_main_v1 V) := rfl

end Cert.Proof.RefEq

end
-- ==== Proof.IdealAgree.lean ====
/- The idealized kernel's result is the reference's, element by element. -/
module

public import proofs.«01_k».proof.Proof.IdealEntryVal
public import proofs.«01_k».proof.Proof.IdealGlobRel
public import proofs.«01_k».proof.Proof.RefRead
public import Idealize.ShloMosaic.Lib.Tactic

@[expose] public section

set_option maxRecDepth 16384

noncomputable section

namespace Cert.Proof.Rel

open Cert.KernelIdeal Cert.KernelIdeal.Gen Cert.Proof.KernelIdeal
open Cert.ReferenceIdeal.Value
open Idealize.ShloMosaic Idealize.ShloMosaic.TcCoe Idealize.SL.Sem

attribute [local irreducible] entry0 entry1

/-- A layer of the kernel's is one of the reference's. -/
theorem layer_rel (pad : IVec Cert.ReferenceIdeal.S256x1x1x256 1) (X : R3) (wq wk wv Wo : FVec Ideal Cert.ReferenceIdeal.S128x128 .f32) (G1 B1 : FVec Ideal Cert.ReferenceIdeal.S128 .f32)
    (W1 : FVec Ideal Cert.ReferenceIdeal.S128x512 .f32) (C1 : FVec Ideal Cert.ReferenceIdeal.S512 .f32) (W2 : FVec Ideal Cert.ReferenceIdeal.S512x128 .f32) (C2 G2 B2 : FVec Ideal Cert.ReferenceIdeal.S128 .f32)
    (x : FVec Ideal S256x128 .f32) (w : FVec Ideal S1x128x384 .f32) (wo : FVec Ideal S1x128x128 .f32) (g1 b1 : FVec Ideal S1x1x128 .f32)
    (w1 : FVec Ideal S1x128x512 .f32) (c1 : FVec Ideal S1x1x512 .f32) (w2 : FVec Ideal S1x512x128 .f32) (c2 g2 b2 : FVec Ideal S1x1x128 .f32) (b : Fin 256)
    (hpad : ∀ j : Fin 256, pad (ix4 b 0 0 j) = if j.val < 192 then 0#1 else 1#1)
    (hx : ∀ i j, x (ix2 i j) = X (ix3 b i j)) (hq : ∀ (c j : Fin 128), w (ix3 0 c ⟨j.val, by omega⟩) = wq (ix2 c j))
    (hk : ∀ (c j : Fin 128), w (ix3 0 c ⟨128 + j.val, by omega⟩) = wk (ix2 c j)) (hv : ∀ (c j : Fin 128), w (ix3 0 c ⟨256 + j.val, by omega⟩) = wv (ix2 c j))
    (ho : ∀ c j, wo (ix3 0 c j) = Wo (ix2 c j)) (hg1 : ∀ j, g1 (ix3 0 0 j) = G1 (ix1 j)) (hb1 : ∀ j, b1 (ix3 0 0 j) = B1 (ix1 j))
    (h1 : ∀ c k, w1 (ix3 0 c k) = W1 (ix2 c k)) (h2 : ∀ k, c1 (ix3 0 0 k) = C1 (ix1 k)) (h3 : ∀ k j, w2 (ix3 0 k j) = W2 (ix2 k j)) (h4 : ∀ j, c2 (ix3 0 0 j) = C2 (ix1 j))
    (hg2 : ∀ j, g2 (ix3 0 0 j) = G2 (ix1 j)) (hb2 : ∀ j, b2 (ix3 0 0 j) = B2 (ix1 j)) (i : Fin 256) (j : Fin 128) :
    lnV (F := Ideal) (ffV (lnV (attV x w wo) g1 b1) w1 c1 w2 c2) g2 b2 (ix2 i j) = layer pad X wq wk wv Wo G1 B1 W1 C1 W2 C2 G2 B2 (ix3 b i j) :=
  ln_rel _ _ _ _ _ _ b (fun i j => ff_rel _ _ _ _ _ _ _ _ _ _ b (fun i j => ln_rel _ _ _ _ _ _ b
    (fun i j => att_rel pad X wq wk wv Wo x w wo b hpad hx hq hk hv ho i j) hg1 hb1 i j) h1 h2 h3 h4 i j) hg2 hb2 i j

theorem lay_emb (p q : ℕ) (l : Fin 2) (a : Fin p) (j : Fin q) :
    (Rect.unit (s := ⟨3, ![2, p, q]⟩) ![l.val, 0, 0] (⟨3, ![1, p, q]⟩ : Shape).size (lay_inb p q l)).emb (ix3 0 a j) = ix3 l a j := by
  funext d; apply Fin.ext; fin_cases d
  · show l.val + 1 * 0 = l.val; omega
  · show 0 + 1 * a.val = a.val; omega
  · show 0 + 1 * j.val = j.val; omega
theorem all_emb (p q : ℕ) (h : ∀ a, (![0, 0] : Fin 2 → ℕ) a + (⟨2, ![p, q]⟩ : Shape).size a ≤ (⟨2, ![p, q]⟩ : Shape).size a) (a : Fin p) (j : Fin q) :
    (Rect.unit (s := ⟨2, ![p, q]⟩) ![0, 0] (⟨2, ![p, q]⟩ : Shape).size h).emb (ix2 a j) = ix2 a j := by
  funext d; apply Fin.ext; fin_cases d
  · show 0 + 1 * a.val = a.val; omega
  · show 0 + 1 * j.val = j.val; omega
theorem rows_emb (p n q : ℕ) (r : ℕ) (h : ∀ a, (![r, 0] : Fin 2 → ℕ) a + (⟨2, ![n, q]⟩ : Shape).size a ≤ (⟨2, ![p, q]⟩ : Shape).size a) (a : Fin n) (j : Fin q) (ha : r + a.val < p) :
    (Rect.unit (s := ⟨2, ![p, q]⟩) ![r, 0] (⟨2, ![n, q]⟩ : Shape).size h).emb (ix2 a j) = ix2 ⟨r + a.val, ha⟩ j := by
  funext d; apply Fin.ext; fin_cases d
  · show r + 1 * a.val = r + a.val; omega
  · show 0 + 1 * j.val = j.val; omega

/-- The word of visit `i` of batch row `8 n + r`. -/
theorem word_eq (idx : S256x256.Idx → BitVec 32) (n : ℕ) (r : Fin 8) (b i : Fin 256) (hb : b.val = 8 * n + r.val) :
    wordAt idx (8 * n + (256 * r.val + i.val) / 256) ((256 * r.val + i.val) % 256) = idx (ix2 b i) := by
  have h1 : (256 * r.val + i.val) / 256 = r.val := by omega
  have h2 : (256 * r.val + i.val) % 256 = i.val := by omega
  have h3 : (⟨(8 * n + r.val) % 256, Nat.mod_lt _ (by decide)⟩ : Fin 256) = b := Fin.ext (by show (8 * n + r.val) % 256 = b.val; omega)
  have h4 : (⟨i.val % 256, Nat.mod_lt _ (by decide)⟩ : Fin 256) = i := Fin.ext (by show i.val % 256 = i.val; omega)
  unfold wordAt
  rw [← ix2_eq_valueIdx]
  simp only [h1, h2, h3, h4]

theorem gatE_eq (idx : S256x256.Idx → BitVec 32) (grid : FVec Ideal S8192x128 .f32) (n : ℕ) (r : Fin 8) (b i : Fin 256) (hb : b.val = 8 * n + r.val) (k : Fin 128) :
    gatE (F := Ideal) idx grid n (ix2 ⟨256 * r.val + i.val, by omega⟩ k) = if i.val < 192 then grid (ix2 (erow (idx (ix2 b i))) k) else 0 := by
  have h2 : (256 * r.val + i.val) % 256 = i.val := by omega
  show (if (256 * r.val + i.val) % 256 < 192 then grid (ValueIdx.ix2 (erow (wordAt idx (8 * n + (256 * r.val + i.val) / 256) ((256 * r.val + i.val) % 256))) k) else Ideal.ofBits .f32 0#32) = _
  rw [word_eq idx n r b i hb, h2, ← ix2_eq_valueIdx, show Ideal.ofBits .f32 0#32 = 0 from by simp [Ideal.ofBits, Ideal.ieee]]

theorem gatT_eq (idx : S256x256.Idx → BitVec 32) (ctab : FVec Ideal S1256x64 .f32) (n : ℕ) (r : Fin 8) (b i : Fin 256) (hb : b.val = 8 * n + r.val) (k : Fin 64) :
    gatT (F := Ideal) idx ctab n (ix2 ⟨256 * r.val + i.val, by omega⟩ k) = ctab (ix2 (trow (idx (ix2 b i))) k) := by
  show ctab (ValueIdx.ix2 (trow (wordAt idx (8 * n + (256 * r.val + i.val) / 256) ((256 * r.val + i.val) % 256))) k) = _
  rw [word_eq idx n r b i hb, ← ix2_eq_valueIdx]

theorem low_part (s x : ℕ) (hx : x < 1250) : (s * 2048 + x) % 2048 % 1256 = x := by
  rw [Nat.mul_add_mod', Nat.mod_eq_of_lt (a := x) (by omega), Nat.mod_eq_of_lt (by omega)]
theorem high_part (s x : ℕ) (hs : s < 8192) (hx : x < 1250) : (s * 2048 + x) / 2048 % 8192 = s := by
  rw [Nat.add_comm, Nat.add_mul_div_right _ _ (by decide), Nat.div_eq_of_lt (by omega), Nat.zero_add, Nat.mod_eq_of_lt hs]
theorem maxsi_nonneg {x : BitVec 32} (h : 0 ≤ x.toInt) : IntOp.maxsi x 0#32 = x := by
  unfold IntOp.maxsi
  split_ifs with h'
  · rfl
  · refine BitVec.eq_of_toInt_eq (le_antisymm (by simpa using h) (not_lt.mp fun hl => h' ?_))
    exact decide_eq_true hl
theorem not_one {z : BitVec 1} (h : ¬ z = 1#1) : ~~~z = 1#1 := by revert h; revert z; decide

/-- The two programs' arguments are equal. -/
structure Agrees (V : Valuation Cert.ReferenceIdeal.τ Cert.ReferenceIdeal.sig (Elt Ideal)) (m : (ℓ : Loc nD τ sig) → Buf (Elt Ideal) ℓ) (c : Dev nD) : Prop where
  a0 : (V (Proc.devRef .tc Cert.ReferenceIdeal.main_arg0) : FVec Ideal S8192x128 .f32) = m ((c.tc : Thread nD τ).loc main_arg0)
  a1 : (V (Proc.devRef .tc Cert.ReferenceIdeal.main_arg1) : FVec Ideal S20000x128 .f32) = m ((c.tc : Thread nD τ).loc main_arg1)
  a2 : (V (Proc.devRef .tc Cert.ReferenceIdeal.main_arg2) : IVec S256x256 32) = m ((c.tc : Thread nD τ).loc main_arg2)
  a3 : (V (Proc.devRef .tc Cert.ReferenceIdeal.main_arg3) : IVec S256x256 32) = m ((c.tc : Thread nD τ).loc main_arg3)
  a4 : (V (Proc.devRef .tc Cert.ReferenceIdeal.main_arg4) : IVec S256x256 32) = m ((c.tc : Thread nD τ).loc main_arg4)
  a5 : (V (Proc.devRef .tc Cert.ReferenceIdeal.main_arg5) : IVec S256 32) = m ((c.tc : Thread nD τ).loc main_arg5)
  a6 : (V (Proc.devRef .tc Cert.ReferenceIdeal.main_arg6) : FVec Ideal S125x32 .f32) = m ((c.tc : Thread nD τ).loc main_arg6)
  a7 : (V (Proc.devRef .tc Cert.ReferenceIdeal.main_arg7) : FVec Ideal S10x32 .f32) = m ((c.tc : Thread nD τ).loc main_arg7)
  a8 : (V (Proc.devRef .tc Cert.ReferenceIdeal.main_arg8) : FVec Ideal S192x128 .f32) = m ((c.tc : Thread nD τ).loc main_arg8)
  a9 : (V (Proc.devRef .tc Cert.ReferenceIdeal.main_arg9) : FVec Ideal S128 .f32) = m ((c.tc : Thread nD τ).loc main_arg9)
  a10 : (V (Proc.devRef .tc Cert.ReferenceIdeal.main_arg10) : FVec Ideal S2x128x128 .f32) = m ((c.tc : Thread nD τ).loc main_arg10)
  a11 : (V (Proc.devRef .tc Cert.ReferenceIdeal.main_arg11) : FVec Ideal S2x128x128 .f32) = m ((c.tc : Thread nD τ).loc main_arg11)
  a12 : (V (Proc.devRef .tc Cert.ReferenceIdeal.main_arg12) : FVec Ideal S2x128x128 .f32) = m ((c.tc : Thread nD τ).loc main_arg12)
  a13 : (V (Proc.devRef .tc Cert.ReferenceIdeal.main_arg13) : FVec Ideal S2x128x128 .f32) = m ((c.tc : Thread nD τ).loc main_arg13)
  a14 : (V (Proc.devRef .tc Cert.ReferenceIdeal.main_arg14) : FVec Ideal S2x128 .f32) = m ((c.tc : Thread nD τ).loc main_arg14)
  a15 : (V (Proc.devRef .tc Cert.ReferenceIdeal.main_arg15) : FVec Ideal S2x128 .f32) = m ((c.tc : Thread nD τ).loc main_arg15)
  a16 : (V (Proc.devRef .tc Cert.ReferenceIdeal.main_arg16) : FVec Ideal S2x128x512 .f32) = m ((c.tc : Thread nD τ).loc main_arg16)
  a17 : (V (Proc.devRef .tc Cert.ReferenceIdeal.main_arg17) : FVec Ideal S2x512 .f32) = m ((c.tc : Thread nD τ).loc main_arg17)
  a18 : (V (Proc.devRef .tc Cert.ReferenceIdeal.main_arg18) : FVec Ideal S2x512x128 .f32) = m ((c.tc : Thread nD τ).loc main_arg18)
  a19 : (V (Proc.devRef .tc Cert.ReferenceIdeal.main_arg19) : FVec Ideal S2x128 .f32) = m ((c.tc : Thread nD τ).loc main_arg19)
  a20 : (V (Proc.devRef .tc Cert.ReferenceIdeal.main_arg20) : FVec Ideal S2x128 .f32) = m ((c.tc : Thread nD τ).loc main_arg20)
  a21 : (V (Proc.devRef .tc Cert.ReferenceIdeal.main_arg21) : FVec Ideal S2x128 .f32) = m ((c.tc : Thread nD τ).loc main_arg21)
  a22 : (V (Proc.devRef .tc Cert.ReferenceIdeal.main_arg22) : FVec Ideal S256x128 .f32) = m ((c.tc : Thread nD τ).loc main_arg22)
  a23 : (V (Proc.devRef .tc Cert.ReferenceIdeal.main_arg23) : FVec Ideal S128 .f32) = m ((c.tc : Thread nD τ).loc main_arg23)
  a24 : (V (Proc.devRef .tc Cert.ReferenceIdeal.main_arg24) : FVec Ideal S128x200 .f32) = m ((c.tc : Thread nD τ).loc main_arg24)
  a25 : (V (Proc.devRef .tc Cert.ReferenceIdeal.main_arg25) : FVec Ideal S200 .f32) = m ((c.tc : Thread nD τ).loc main_arg25)

variable (V : Valuation Cert.ReferenceIdeal.τ Cert.ReferenceIdeal.sig (Elt Ideal)) (m : (ℓ : Loc nD τ sig) → Buf (Elt Ideal) ℓ) (c : Dev nD)
  (hA : Agrees V m c) (hR : InRange m c)
include hA hR

theorem pad_rel (b j : Fin 256) : res_main_v37 V (ix4 b 0 0 j) = if j.val < 192 then 0#1 else 1#1 := by
  have hv := hR.visit (ix2 b j)
  rw [RefEq.v37_eq, RefEq.keyPad_apply, RefEq.v1_apply, hA.a2]
  by_cases h : j.val < 192
  · rw [if_pos h, sge_of (hv.cell h).1]; rfl
  · have e := neg_toNat (hv.padded (by show 192 ≤ j.val; omega))
    rw [if_neg h]
    exact not_one e

theorem lay_rel (l : Fin 2) (X : R3) (x : FVec Ideal S256x128 .f32) (n : ℕ) (b : Fin 256) (hx : ∀ i j, x (ix2 i j) = X (ix3 b i j)) (i : Fin 256) (j : Fin 128) :
    ((R0.vals (entry0 m) c).gat n).layOf l x (ix2 i j) = RefEq.lay V l X (ix3 b i j) := by
  have rd : ∀ (w : FVec Ideal S2x128x384 .f32) (a : Fin 128) (j : Fin 384), (fun y => w ((layQ l).emb y)) (ix3 0 a j) = w (ix3 l a j) := fun w a j => congrArg w (lay_emb 128 384 l a j)
  have rv : ∀ (w : FVec Ideal S2x1x128 .f32) (j : Fin 128), (fun y => w ((layV l).emb y)) (ix3 0 0 j) = w (ix3 l 0 j) := fun w j => congrArg w (lay_emb 1 128 l 0 j)
  unfold EncVals.layOf RefEq.lay
  refine layer_rel _ X _ _ _ _ _ _ _ _ _ _ _ _ x _ _ _ _ _ _ _ _ _ _ b (pad_rel V m c hA hR b) hx ?_ ?_ ?_ ?_ ?_ ?_ ?_ ?_ ?_ ?_ ?_ ?_ i j
  · intro a j
    refine (rd (entry0 m c main_v16) a ⟨j.val, by omega⟩).trans ?_
    rw [e_v16, qkvW_0, RefEq.sqr_apply, hA.a10]
  · intro a j
    refine (rd (entry0 m c main_v16) a ⟨128 + j.val, by omega⟩).trans ?_
    rw [e_v16, qkvW_1, RefEq.sqr_apply, hA.a11]
  · intro a j
    refine (rd (entry0 m c main_v16) a ⟨256 + j.val, by omega⟩).trans ?_
    rw [e_v16, qkvW_2, RefEq.sqr_apply, hA.a12]
  · intro a j
    refine (congrArg (entry0 m c main_arg13 : FVec Ideal S2x128x128 .f32) (lay_emb 128 128 l a j)).trans ?_
    rw [RefEq.sqr_apply, hA.a13]
    exact congrFun (e_arg13 m c) _
  · intro j
    refine (rv (entry0 m c main_v20) j).trans ?_
    rw [e_v20, flatL_apply, RefEq.vec_apply, hA.a14]
  · intro j
    refine (rv (entry0 m c main_v21) j).trans ?_
    rw [e_v21, flatL_apply, RefEq.vec_apply, hA.a15]
  · intro a j
    refine (congrArg (entry0 m c main_arg16 : FVec Ideal S2x128x512 .f32) (lay_emb 128 512 l a j)).trans ?_
    rw [RefEq.wide_apply, hA.a16]
    exact congrFun (e_arg16 m c) _
  · intro j
    refine (congrArg (entry0 m c main_v22 : FVec Ideal S2x1x512 .f32) (lay_emb 1 512 l 0 j)).trans ?_
    rw [e_v22, flatU_apply, RefEq.wvec_apply, hA.a17]
  · intro a j
    refine (congrArg (entry0 m c main_arg18 : FVec Ideal S2x512x128 .f32) (lay_emb 512 128 l a j)).trans ?_
    rw [RefEq.tall_apply, hA.a18]
    exact congrFun (e_arg18 m c) _
  · intro j
    refine (rv (entry0 m c main_v23) j).trans ?_
    rw [e_v23, flatL_apply, RefEq.vec_apply, hA.a19]
  · intro j
    refine (rv (entry0 m c main_v24) j).trans ?_
    rw [e_v24, flatL_apply, RefEq.vec_apply, hA.a20]
  · intro j
    refine (rv (entry0 m c main_v25) j).trans ?_
    rw [e_v25, flatL_apply, RefEq.vec_apply, hA.a21]

omit hA in
theorem nat_ranges (b i : Fin 256) : ((m ((c.tc : Thread nD τ).loc main_arg3) : IVec S256x256 32) (ix2 b i)).toNat < 125 ∧ ((m ((c.tc : Thread nD τ).loc main_arg4) : IVec S256x256 32) (ix2 b i)).toNat < 10 :=
  ⟨toNat_of_range (n := 125) (by norm_num) (hR.visit (ix2 b i)).time, toNat_of_range (n := 10) (by norm_num) (hR.visit (ix2 b i)).state⟩

omit hA in
/-- The joint table's row of a visit. -/
theorem trow_eq (b i : Fin 256) : (trow ((entry0 m c main_v8 : IVec S256x256 32) (ix2 b i))).val = ((m ((c.tc : Thread nD τ).loc main_arg3) : IVec S256x256 32) (ix2 b i)).toNat * 10 + ((m ((c.tc : Thread nD τ).loc main_arg4) : IVec S256x256 32) (ix2 b i)).toNat := by
  obtain ⟨ht, hk⟩ := nat_ranges m c hR b i
  have hv := hR.visit (ix2 b i)
  show BitVec.toNat _ % 2048 % 1256 = _
  rw [entry0_words]
  by_cases h : i.val < 192
  · rw [packed_toNat (toNat_of_range (n := 8192) (by norm_num) (hv.cell h)) ht hk (hv.cell h).1]
    exact low_part _ _ (by omega)
  · rw [packed_toNat_pad ht hk (hv.padded (by show 192 ≤ i.val; omega))]
    exact (congrArg (· % 2048 % 1256) (by rw [Nat.zero_mul, Nat.zero_add])).trans (low_part 0 _ (by omega))
omit hA in
/-- The grid row of a visit. -/
theorem erow_eq (b i : Fin 256) (h : i.val < 192) : (erow ((entry0 m c main_v8 : IVec S256x256 32) (ix2 b i))).val = ((m ((c.tc : Thread nD τ).loc main_arg2) : IVec S256x256 32) (ix2 b i)).toNat := by
  obtain ⟨ht, hk⟩ := nat_ranges m c hR b i
  have hv := hR.visit (ix2 b i)
  have hs := toNat_of_range (n := 8192) (by norm_num) (hv.cell h)
  show BitVec.toNat _ / 2048 % 8192 = _
  rw [entry0_words, packed_toNat hs ht hk (hv.cell h).1]
  exact high_part _ _ hs (by omega)

theorem cell_rel (n : ℕ) (r : Fin 8) (b i : Fin 256) (hb : b.val = 8 * n + r.val) (k : Fin 128) :
    gatE (F := Ideal) (entry0 m c main_v8) (entry0 m c main_arg0) n (ix2 ⟨256 * r.val + i.val, by omega⟩ k)
      = RefEq.cells (res_main_v1 V) (RefEq.gridR (V (Proc.devRef .tc Cert.ReferenceIdeal.main_arg0)) (RefEq.wrap3 8192#32 (res_main_v4 V))) (ix3 b i k) := by
  have hv := hR.visit (ix2 b i)
  rw [gatE_eq _ _ n r b i hb, RefEq.cells_apply, RefEq.v1_apply, hA.a2]
  by_cases h : i.val < 192
  · have hs := hv.cell h
    have e4 : res_main_v4 V (ix2 b i) = (m ((c.tc : Thread nD τ).loc main_arg2) : IVec S256x256 32) (ix2 b i) := by
      rw [RefEq.v4_apply, hA.a2]
      exact maxsi_nonneg hs.1
    have hn : (res_main_v4 V (ix2 b i)).toNat < 8192 := by rw [e4]; exact toNat_of_range (n := 8192) (by norm_num) hs
    rw [if_pos h, sge_of hs.1, RefEq.gridR_apply _ _ b i k (by rw [e4]; exact hs) hn, hA.a0, Scalar.select, if_pos (by decide)]
    refine (congrFun (e_arg0 m c) _).trans (congrArg (fun r => (m ((c.tc : Thread nD τ).loc main_arg0) : FVec Ideal S8192x128 .f32) (ix2 r k)) (Fin.ext ?_))
    rw [erow_eq m c hR b i h]
    show _ = (res_main_v4 V (ix2 b i)).toNat
    rw [e4]
  · rw [if_neg h]
    exact (if_neg (neg_toNat (hv.padded (by show 192 ≤ i.val; omega)))).symm

theorem time_rel (n : ℕ) (r : Fin 8) (b i : Fin 256) (hb : b.val = 8 * n + r.val) (k : Fin 64) :
    gatT (F := Ideal) (entry0 m c main_v8) (entry0 m c main_v15) n (ix2 ⟨256 * r.val + i.val, by omega⟩ k)
      = RefEq.joined (RefEq.cells (res_main_v1 V) (RefEq.gridR (V (Proc.devRef .tc Cert.ReferenceIdeal.main_arg0)) (RefEq.wrap3 8192#32 (res_main_v4 V))))
          (RefEq.timeR (V (Proc.devRef .tc Cert.ReferenceIdeal.main_arg6)) (RefEq.wrap3 125#32 (V (Proc.devRef .tc Cert.ReferenceIdeal.main_arg3))))
          (RefEq.stateR (V (Proc.devRef .tc Cert.ReferenceIdeal.main_arg7)) (RefEq.wrap3 10#32 (V (Proc.devRef .tc Cert.ReferenceIdeal.main_arg4)))) (ix3 b i ⟨128 + k.val, by omega⟩) := by
  have hv := hR.visit (ix2 b i)
  obtain ⟨ht, hk⟩ := nat_ranges m c hR b i
  have er : trow ((entry0 m c main_v8 : IVec S256x256 32) (ix2 b i)) = ⟨((m ((c.tc : Thread nD τ).loc main_arg3) : IVec S256x256 32) (ix2 b i)).toNat * 10 + ((m ((c.tc : Thread nD τ).loc main_arg4) : IVec S256x256 32) (ix2 b i)).toNat, by omega⟩ :=
    Fin.ext (trow_eq m c hR b i)
  rw [gatT_eq _ _ n r b i hb, er, e_v15]
  refine (jointW_apply _ ⟨_, by omega⟩ k).trans ?_
  by_cases h : k.val < 32
  · refine (pairW_0 _ _ _ ⟨k.val, h⟩).trans <| (timesW_apply _ ⟨_, ht⟩ ⟨_, hk⟩ ⟨k.val, h⟩).trans <| Eq.trans ?_ (RefEq.joined_1 _ _ _ b i ⟨k.val, h⟩).symm
    rw [RefEq.timeR_apply _ _ b i _ (by rw [hA.a3]; exact hv.time) (by rw [hA.a3]; exact ht)]
    simp only [hA.a3, hA.a6]
  · have ek : k = ⟨32 + (⟨k.val - 32, by omega⟩ : Fin 32).val, by show 32 + (k.val - 32) < 64; omega⟩ := Fin.ext (by show k.val = 32 + (k.val - 32); omega)
    have ek' : (⟨128 + k.val, by omega⟩ : Fin 192) = ⟨160 + (⟨k.val - 32, by omega⟩ : Fin 32).val, by show 160 + (k.val - 32) < 192; omega⟩ := Fin.ext (by show 128 + k.val = 160 + (k.val - 32); omega)
    refine ((congrArg (fun k => pairW _ _ (ix2 _ k)) ek).trans (pairW_1 _ _ _ ⟨k.val - 32, by omega⟩)).trans <| (statesW_apply _ ⟨_, ht⟩ ⟨_, hk⟩ _).trans <| Eq.trans ?_
      ((congrArg (fun k => RefEq.joined _ _ _ (ix3 b i k)) ek').trans (RefEq.joined_2 _ _ _ b i _)).symm
    rw [RefEq.stateR_apply _ _ b i _ (by rw [hA.a4]; exact hv.state) (by rw [hA.a4]; exact hk)]
    simp only [hA.a4, hA.a7]

omit hA hR in
theorem position_eq : Cert.KernelIdeal.lit0 = Cert.ReferenceIdeal.lit0 := by sl_kernel_rfl

/-- The embedded visits are the reference's. -/
theorem emb_rel (n : ℕ) (r : Fin 8) (b : Fin 256) (hb : b.val = 8 * n + r.val) (i : Fin 256) (j : Fin 128) :
    ((R0.vals (entry0 m) c).gat n).embOf r (ix2 i j) = res_main_v35 V (ix3 b i j) := by
  unfold EncVals.embOf
  rw [RefEq.v35_eq, RefEq.embed_apply]
  refine (embV_apply _ _ _ _ _ _ i j).trans ?_
  refine congrArg₂ (· + ·) (congrArg Ideal.tanh (congrArg₂ (· + ·) ?_ ?_)) ?_
  · refine Eq.trans ?_ (Fin.sum_univ_add (a := 128) (b := 64) _).symm
    refine congrArg₂ (· + ·) (Finset.sum_congr rfl fun k _ => congrArg₂ (· * ·) ?_ ?_) (Finset.sum_congr rfl fun k _ => congrArg₂ (· * ·) ?_ ?_)
    · refine (congrArg (gatE (F := Ideal) (entry0 m c main_v8) (entry0 m c main_arg0) n) (rows_emb 2048 256 128 (256 * r.val) (rowsE_inb r) i k (by omega))).trans ?_
      exact (cell_rel V m c hA hR n r b i hb k).trans (RefEq.joined_0 _ _ _ b i k).symm
    · refine (congrArg (entry0 m c main_v17 : FVec Ideal S128x128 .f32) (all_emb 128 128 inb_S128x128_S128x128_0_0 k j)).trans ?_
      rw [e_v17, lowW_apply, hA.a8]; rfl
    · refine (congrArg (gatT (F := Ideal) (entry0 m c main_v8) (entry0 m c main_v15) n) (rows_emb 2048 256 64 (256 * r.val) (rowsT_inb r) i k (by omega))).trans ?_
      exact time_rel V m c hA hR n r b i hb k
    · refine (congrArg (entry0 m c main_v18 : FVec Ideal S64x128 .f32) (all_emb 64 128 inb_S64x128_S64x128_0_0 k j)).trans ?_
      rw [e_v18, highW_apply, hA.a8]; rfl
  · refine (congrArg (entry0 m c main_v19 : FVec Ideal S1x128 .f32) (all_emb 1 128 inb_S1x128_S1x128_0_0 0 j)).trans ?_
    rw [e_v19, flat128_apply, hA.a9]
  · refine (congrArg (entry0 m c main_cst : FVec Ideal S256x128 .f32) (all_emb 256 128 inb_S256x128_S256x128_0_0 i j)).trans ?_
    rw [e_cst]
    exact congrArg (fun f : Fin 32768 → BitVec 32 => FloatOps.ofBits (F := Ideal) .f32 (f (S256x128.rowMajor (ix2 i j)))) position_eq

/-- The encoder's result: the reference's pooled rows. -/
theorem pooled_rel (b : Fin 256) (j : Fin 128) :
    (R0.result (entry0 m) c : FVec Ideal S256x128 .f32) (ix2 b j) = RefStage.pooled (RefEq.lay V 1 (RefEq.lay V 0 (res_main_v35 V))) (ix2 b j) := by
  have hb : b.val = 8 * (b.val / 8) + b.val % 8 := by omega
  show ((R0.vals (entry0 m) c).gat (b.val / 8)).rowOf ⟨b.val % 8, Nat.mod_lt _ (by decide)⟩ (ValueIdx.ix2 ⟨0, Nat.one_pos⟩ j) = _
  rw [← ix2_eq_valueIdx]
  unfold EncVals.rowOf
  exact pool_rel _ _ b (fun i j => lay_rel V m c hA hR 1 _ _ _ b (fun i j => lay_rel V m c hA hR 0 _ _ _ b
    (fun i j => emb_rel V m c hA hR (b.val / 8) ⟨b.val % 8, Nat.mod_lt _ (by decide)⟩ b hb i j) i j) i j) j

omit hA hR in
/-- Two rows side by side. -/
theorem cat_rel (p q : FVec Ideal S128x128 .f32) (P Q : FVec Ideal Cert.ReferenceIdeal.S256x128 .f32) (i : Fin 128) (b : Fin 256)
    (hp : ∀ j, p (ix2 i j) = P (ix2 b j)) (hq : ∀ j, q (ix2 i j) = Q (ix2 b j)) (k : Fin 256) :
    concatenate S128x256 1 [⟨S128x128, p⟩, ⟨S128x128, q⟩] concatenates_S128x128_S128x128_S128x256_d1 (ix2 i k)
      = concatenate Cert.ReferenceIdeal.S256x256 1 [⟨Cert.ReferenceIdeal.S256x128, P⟩, ⟨Cert.ReferenceIdeal.S256x128, Q⟩] Cert.ReferenceIdeal.Gen.concatenates_S256x128_S256x128_S256x256_d1 (ix2 b k) := by
  have e1 : concatenate S128x256 1 [⟨S128x128, p⟩, ⟨S128x128, q⟩] concatenates_S128x128_S128x128_S128x256_d1 (ix2 i k)
      = if h : k.val < 128 then p (ix2 i ⟨k.val, h⟩) else q (ix2 i ⟨k.val - 128, by omega⟩) := by
    pointwise []
  have e2 : concatenate Cert.ReferenceIdeal.S256x256 1 [⟨Cert.ReferenceIdeal.S256x128, P⟩, ⟨Cert.ReferenceIdeal.S256x128, Q⟩] Cert.ReferenceIdeal.Gen.concatenates_S256x128_S256x128_S256x256_d1 (ix2 b k)
      = if h : k.val < 128 then P (ix2 b ⟨k.val, h⟩) else Q (ix2 b ⟨k.val - 128, by omega⟩) := by
    pointwise []
  rw [e1, e2]
  split_ifs
  · exact hp _
  · exact hq _

/-- The queries' rows are the reference's. -/
theorem query_rel (n : ℕ) (i : Fin 128) (b : Fin 256) (hb : b.val = 128 * n + i.val) (k : Fin 128) :
    gatG (F := Ideal) (entry1 m c main_arg5) (entry1 m c main_v27) n (ix2 i k)
      = RefEq.trajR (V (Proc.devRef .tc Cert.ReferenceIdeal.main_arg1)) (RefEq.wrap2 20000#32 (V (Proc.devRef .tc Cert.ReferenceIdeal.main_arg5))) (ix2 b k) := by
  have hr := hR.row (ix1 b)
  have hn : ((m ((c.tc : Thread nD τ).loc main_arg5) : IVec S256 32) (ix1 b)).toNat < 20000 := toNat_of_range (n := 20000) (by norm_num) hr
  have ew : wordG (entry1 m c main_arg5) (128 * n + i.val) = (m ((c.tc : Thread nD τ).loc main_arg5) : IVec S256 32) (ix1 b) := by
    unfold wordG
    rw [entry1_words, ← ix1_eq_valueIdx]
    exact congrArg (fun r => (m ((c.tc : Thread nD τ).loc main_arg5) : IVec S256 32) (ix1 r)) (Fin.ext (by show (128 * n + i.val) % 256 = b.val; omega))
  rw [RefEq.trajR_apply _ _ b k (by rw [hA.a5]; exact hr) (by rw [hA.a5]; exact hn)]
  show (entry1 m c main_v27 : FVec Ideal S20480x128 .f32) (ValueIdx.ix2 (qrow (wordG (entry1 m c main_arg5) (128 * n + i.val))) k) = _
  rw [ew, ← ix2_eq_valueIdx, e_v27]
  have eq : qrow ((m ((c.tc : Thread nD τ).loc main_arg5) : IVec S256 32) (ix1 b)) = ⟨((m ((c.tc : Thread nD τ).loc main_arg5) : IVec S256 32) (ix1 b)).toNat, by omega⟩ := Fin.ext (by show BitVec.toNat _ % 20480 = BitVec.toNat _; omega)
  rw [eq]
  refine (padW_apply _ ⟨_, hn⟩ k).trans ?_
  simp only [hA.a1, hA.a5]

/-- The class scores are the reference's. -/
theorem logit_rel (n : ℕ) (i : Fin 128) (b : Fin 256) (hb : b.val = 128 * n + i.val) (j : Fin 200) :
    logitG (F := Ideal) (hidG (R1.poolAt (entry1 m c main_v26) n) (contextG (F := Ideal) (gatG (F := Ideal) (entry1 m c main_arg5) (entry1 m c main_v27) n) (entry1 m c main_v27)) (entry1 m c main_arg22) (entry1 m c main_v28))
        (entry1 m c main_arg24) (entry1 m c main_v29) (ix2 i j) = res_main_v306 V (ix2 b j) := by
  rw [RefEq.v306_eq, RefStage.classify_apply, logitG_apply, e_v29, flat200_apply, hA.a25, e1_arg24, hA.a24]
  refine congrArg (· + _) (Finset.sum_congr rfl fun k _ => congrArg (· * _) ?_)
  rw [hidG_apply, e_v28, flat128_apply, hA.a23, e1_arg22, hA.a22]
  refine congrArg (fun z => max (z + _) 0) (Finset.sum_congr rfl fun d _ => congrArg (· * _) (cat_rel _ _ _ _ i b (fun j => ?_) (fun j => ?_) d))
  · show (entry1 m c main_v26 : FVec Ideal S256x128 .f32) (ValueIdx.ix2 ⟨(128 * n + i.val) % 256, Nat.mod_lt _ (by decide)⟩ j) = _
    rw [← ix2_eq_valueIdx, e_v26, RefEq.layer1_eq, RefEq.layer0_eq, ← pooled_rel V m c hA hR]
    exact congrArg (fun r => (R0.result (entry0 m) c : FVec Ideal S256x128 .f32) (ix2 r j)) (Fin.ext (by show (128 * n + i.val) % 256 = b.val; omega))
  · rw [RefEq.v288_eq]
    refine context_rel _ _ _ _ i b (fun k d => ?_) (fun k => ?_) j
    · rw [e_v27, hA.a1]; exact padW_apply _ k d
    · rw [RefEq.v283_eq, RefEq.scoresT_apply]
      exact Finset.sum_congr rfl fun d _ => congrArg (· * _) (query_rel V m c hA hR n i b hb d).symm

/-- The result is the reference's. -/
theorem result_rel (b : Fin 256) (j : Fin 200) :
    (R1.result (entry1 m) c : FVec Ideal S256x200 .f32) (ix2 b j) = RefStage.lsmZ (res_main_v310 V) (ix2 b j) := by
  have hb : b.val = 128 * (b.val / 128) + (⟨b.val % 128, Nat.mod_lt _ (by decide)⟩ : Fin 128).val := by show b.val = 128 * (b.val / 128) + b.val % 128; omega
  have key : ∀ j, shiftG (F := Ideal) (logitG (F := Ideal) (hidG (F := Ideal) (R1.poolAt (entry1 m c main_v26) (b.val / 128)) (contextG (F := Ideal) (gatG (F := Ideal) (entry1 m c main_arg5) (entry1 m c main_v27) (b.val / 128)) (entry1 m c main_v27)) (entry1 m c main_arg22) (entry1 m c main_v28))
        (entry1 m c main_arg24) (entry1 m c main_v29)) (ix2 ⟨b.val % 128, Nat.mod_lt _ (by decide)⟩ j) = res_main_v310 V (ix2 b j) := fun j => by
    rw [RefEq.v310_eq, RefStage.shiftZ_apply, RefStage.topZ_apply, shiftG_apply, RefStage.fold_bot]
    simp only [logit_rel V m c hA hR (b.val / 128) ⟨b.val % 128, Nat.mod_lt _ (by decide)⟩ b hb]
  show lsmG (F := Ideal) (logitG (F := Ideal) (hidG (F := Ideal) (R1.poolAt (entry1 m c main_v26) (b.val / 128)) (contextG (F := Ideal) (gatG (F := Ideal) (entry1 m c main_arg5) (entry1 m c main_v27) (b.val / 128)) (entry1 m c main_v27)) (entry1 m c main_arg22) (entry1 m c main_v28))
        (entry1 m c main_arg24) (entry1 m c main_v29)) (ValueIdx.ix2 ⟨b.val % 128, Nat.mod_lt _ (by decide)⟩ j) = _
  rw [← ix2_eq_valueIdx, lsmG_apply, RefStage.lsmZ_apply]
  simp only [key]

end Cert.Proof.Rel

end
-- ==== Proof.Algebraic.lean ====
/- From equal arguments the two programs end with equal results. -/
module

public import proofs.«01_k».proof.Defs
public import proofs.«01_k».proof.Proof.IdealFrame
public import proofs.«01_k».proof.Proof.IdealAgree
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn

@[expose] public section

noncomputable section

namespace Cert.Proof

open Idealize.ShloMosaic Idealize.ShloMosaic.TcCoe Idealize.SL Idealize.SL.Sem
open Cert.Proof.KernelIdeal

attribute [local instance] Cert.KernelIdeal.Gen.facts Cert.ReferenceIdeal.Gen.facts Cert.Pre_drawn.Gen.facts
attribute [local irreducible] entry0 entry1 R1.result

theorem algebraic : Cert.algebraic_KernelIdeal_ReferenceIdeal := fun m g m' g' hd hagree => by
  have hR : ∀ c, InRange m c := inRange (F := Ideal) hd
  refine ⟨fun c => R1.result (entry1 m) c, ?_, ?_⟩
  · refine (θ_run Cert.KernelIdeal.defs _ _).mono (fun r hf c => ?_) (run_main m g (good0 m hR) (good1 m hR))
    have h := hf.1
    exact ⟨at_end h c Cert.KernelIdeal.main_v30 (by decide) (V10_v30 m c),
      at_end h c Cert.KernelIdeal.main_arg0 (by decide) (Cert.KernelIdeal.Gen.V10_main_arg0 m (outs m) c),
      at_end h c Cert.KernelIdeal.main_arg1 (by decide) (Cert.KernelIdeal.Gen.V10_main_arg1 m (outs m) c),
      at_end h c Cert.KernelIdeal.main_arg2 (by decide) (Cert.KernelIdeal.Gen.V10_main_arg2 m (outs m) c),
      at_end h c Cert.KernelIdeal.main_arg3 (by decide) (Cert.KernelIdeal.Gen.V10_main_arg3 m (outs m) c),
      at_end h c Cert.KernelIdeal.main_arg4 (by decide) (Cert.KernelIdeal.Gen.V10_main_arg4 m (outs m) c),
      at_end h c Cert.KernelIdeal.main_arg5 (by decide) (Cert.KernelIdeal.Gen.V10_main_arg5 m (outs m) c),
      at_end h c Cert.KernelIdeal.main_arg6 (by decide) (Cert.KernelIdeal.Gen.V10_main_arg6 m (outs m) c),
      at_end h c Cert.KernelIdeal.main_arg7 (by decide) (Cert.KernelIdeal.Gen.V10_main_arg7 m (outs m) c),
      at_end h c Cert.KernelIdeal.main_arg8 (by decide) (Cert.KernelIdeal.Gen.V10_main_arg8 m (outs m) c),
      at_end h c Cert.KernelIdeal.main_arg9 (by decide) (Cert.KernelIdeal.Gen.V10_main_arg9 m (outs m) c),
      at_end h c Cert.KernelIdeal.main_arg10 (by decide) (Cert.KernelIdeal.Gen.V10_main_arg10 m (outs m) c),
      at_end h c Cert.KernelIdeal.main_arg11 (by decide) (Cert.KernelIdeal.Gen.V10_main_arg11 m (outs m) c),
      at_end h c Cert.KernelIdeal.main_arg12 (by decide) (Cert.KernelIdeal.Gen.V10_main_arg12 m (outs m) c),
      at_end h c Cert.KernelIdeal.main_arg13 (by decide) (Cert.KernelIdeal.Gen.V10_main_arg13 m (outs m) c),
      at_end h c Cert.KernelIdeal.main_arg14 (by decide) (Cert.KernelIdeal.Gen.V10_main_arg14 m (outs m) c),
      at_end h c Cert.KernelIdeal.main_arg15 (by decide) (Cert.KernelIdeal.Gen.V10_main_arg15 m (outs m) c),
      at_end h c Cert.KernelIdeal.main_arg16 (by decide) (Cert.KernelIdeal.Gen.V10_main_arg16 m (outs m) c),
      at_end h c Cert.KernelIdeal.main_arg17 (by decide) (Cert.KernelIdeal.Gen.V10_main_arg17 m (outs m) c),
      at_end h c Cert.KernelIdeal.main_arg18 (by decide) (Cert.KernelIdeal.Gen.V10_main_arg18 m (outs m) c),
      at_end h c Cert.KernelIdeal.main_arg19 (by decide) (Cert.KernelIdeal.Gen.V10_main_arg19 m (outs m) c),
      at_end h c Cert.KernelIdeal.main_arg20 (by decide) (Cert.KernelIdeal.Gen.V10_main_arg20 m (outs m) c),
      at_end h c Cert.KernelIdeal.main_arg21 (by decide) (Cert.KernelIdeal.Gen.V10_main_arg21 m (outs m) c),
      at_end h c Cert.KernelIdeal.main_arg22 (by decide) (Cert.KernelIdeal.Gen.V10_main_arg22 m (outs m) c),
      at_end h c Cert.KernelIdeal.main_arg23 (by decide) (Cert.KernelIdeal.Gen.V10_main_arg23 m (outs m) c),
      at_end h c Cert.KernelIdeal.main_arg24 (by decide) (Cert.KernelIdeal.Gen.V10_main_arg24 m (outs m) c),
      at_end h c Cert.KernelIdeal.main_arg25 (by decide) (Cert.KernelIdeal.Gen.V10_main_arg25 m (outs m) c)⟩
  · refine (θ_run Cert.ReferenceIdeal.defs _ _).mono (fun r hf c => ⟨(hf c).1.trans ?_, (hf c).2⟩) (Cert.ReferenceIdeal.Value.run (F := Ideal) m' g')
    obtain ⟨h0, h1, h2, h3, h4, h5, h6, h7, h8, h9, h10, h11, h12, h13, h14, h15, h16, h17, h18, h19, h20, h21, h22, h23, h24, h25⟩ := hagree c
    have hA : Rel.Agrees (StableHlo.launchContents m' c) m c := ⟨h0, h1, h2, h3, h4, h5, h6, h7, h8, h9, h10, h11, h12, h13, h14, h15, h16, h17, h18, h19, h20, h21, h22, h23, h24, h25⟩
    funext y
    obtain ⟨b, j, rfl⟩ : ∃ b j, y = ix2 b j := ⟨_, _, eq_ix2 y⟩
    refine Eq.trans ?_ (Rel.result_rel (StableHlo.launchContents m' c) m c hA (hR c) b j).symm
    generalize Cert.ReferenceIdeal.Value.res_main_v310 (StableHlo.launchContents m' c) = z
    rfl

end Cert.Proof

end
-- ==== Proof.lean ====
/- The claims: the frames of the kernel, of the idealized kernel and of the reference, the meaning of the named mask, and the equality of the idealized kernel's result with the reference's. -/
module

public import proofs.«01_k».proof.Defs
public import proofs.«01_k».proof.Proof.BitFrame
public import proofs.«01_k».proof.Proof.IdealFrame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_drawn

@[expose] public section

noncomputable section

namespace Cert.Proof

open Idealize.ShloMosaic Idealize.SL Idealize.SL.Sem

attribute [local instance] Cert.Kernel.Gen.facts Cert.KernelIdeal.Gen.facts Cert.ReferenceIdeal.Gen.facts Cert.Pre_drawn.Gen.facts

theorem ideal_frame : Cert.quiescent_KernelIdeal := Cert.Proof.KernelIdeal.framed (F := Ideal)

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem mask_named : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Pre_drawn.Gen.facts,
  Cert.Proof.BitFrame.framed, ideal_frame, reference_frame, mask_named, algebraic⟩

end Cert.Proof

end
